-- ==== Defs.lean ====
def Pre_Fox (m : (ℓ : Loc Cert.Fox.nD Cert.Fox.τ Cert.Fox.sig) → Buf (Elt Bits) ℓ) : Prop :=
  True

def Pre_FoxIdeal (m : (ℓ : Loc Cert.FoxIdeal.nD Cert.FoxIdeal.τ Cert.FoxIdeal.sig) → Buf (Elt Ideal) ℓ) : Prop :=
  True

def Pre_FoxIdeal_finite [hPre_finite : Cert.Pre_finite.Facts] (m : (ℓ : Loc Cert.FoxIdeal.nD Cert.FoxIdeal.τ Cert.FoxIdeal.sig) → Buf (Elt Ideal) ℓ) : Prop :=
  ∀ c : Dev Cert.FoxIdeal.nD,
    (Cert.Pre_finite.fn (F := Ideal) (m ((c.tc : Thread Cert.FoxIdeal.nD Cert.FoxIdeal.τ).loc Cert.FoxIdeal.main_arg0)) (m ((c.tc : Thread Cert.FoxIdeal.nD Cert.FoxIdeal.τ).loc Cert.FoxIdeal.main_arg1)) (m ((c.tc : Thread Cert.FoxIdeal.nD Cert.FoxIdeal.τ).loc Cert.FoxIdeal.main_arg2))).1 = (fun _ => 1#1)
    ∧ (Cert.Pre_finite.fn (F := Ideal) (m ((c.tc : Thread Cert.FoxIdeal.nD Cert.FoxIdeal.τ).loc Cert.FoxIdeal.main_arg0)) (m ((c.tc : Thread Cert.FoxIdeal.nD Cert.FoxIdeal.τ).loc Cert.FoxIdeal.main_arg1)) (m ((c.tc : Thread Cert.FoxIdeal.nD Cert.FoxIdeal.τ).loc Cert.FoxIdeal.main_arg2))).2.1 = (fun _ => 1#1)
    ∧ (Cert.Pre_finite.fn (F := Ideal) (m ((c.tc : Thread Cert.FoxIdeal.nD Cert.FoxIdeal.τ).loc Cert.FoxIdeal.main_arg0)) (m ((c.tc : Thread Cert.FoxIdeal.nD Cert.FoxIdeal.τ).loc Cert.FoxIdeal.main_arg1)) (m ((c.tc : Thread Cert.FoxIdeal.nD Cert.FoxIdeal.τ).loc Cert.FoxIdeal.main_arg2))).2.2 = (fun _ => 1#1)

def Pre_FoxRefIdeal (m : (ℓ : Loc Cert.FoxRefIdeal.nD Cert.FoxRefIdeal.τ Cert.FoxRefIdeal.sig) → Buf (Elt Ideal) ℓ) : Prop :=
  True

def Pre_FoxRefIdeal_finite [hPre_finite : Cert.Pre_finite.Facts] (m : (ℓ : Loc Cert.FoxRefIdeal.nD Cert.FoxRefIdeal.τ Cert.FoxRefIdeal.sig) → Buf (Elt Ideal) ℓ) : Prop :=
  ∀ c : Dev Cert.FoxRefIdeal.nD,
    (Cert.Pre_finite.fn (F := Ideal) (m ((c.tc : Thread Cert.FoxRefIdeal.nD Cert.FoxRefIdeal.τ).loc Cert.FoxRefIdeal.main_arg0)) (m ((c.tc : Thread Cert.FoxRefIdeal.nD Cert.FoxRefIdeal.τ).loc Cert.FoxRefIdeal.main_arg1)) (m ((c.tc : Thread Cert.FoxRefIdeal.nD Cert.FoxRefIdeal.τ).loc Cert.FoxRefIdeal.main_arg2))).1 = (fun _ => 1#1)
    ∧ (Cert.Pre_finite.fn (F := Ideal) (m ((c.tc : Thread Cert.FoxRefIdeal.nD Cert.FoxRefIdeal.τ).loc Cert.FoxRefIdeal.main_arg0)) (m ((c.tc : Thread Cert.FoxRefIdeal.nD Cert.FoxRefIdeal.τ).loc Cert.FoxRefIdeal.main_arg1)) (m ((c.tc : Thread Cert.FoxRefIdeal.nD Cert.FoxRefIdeal.τ).loc Cert.FoxRefIdeal.main_arg2))).2.1 = (fun _ => 1#1)
    ∧ (Cert.Pre_finite.fn (F := Ideal) (m ((c.tc : Thread Cert.FoxRefIdeal.nD Cert.FoxRefIdeal.τ).loc Cert.FoxRefIdeal.main_arg0)) (m ((c.tc : Thread Cert.FoxRefIdeal.nD Cert.FoxRefIdeal.τ).loc Cert.FoxRefIdeal.main_arg1)) (m ((c.tc : Thread Cert.FoxRefIdeal.nD Cert.FoxRefIdeal.τ).loc Cert.FoxRefIdeal.main_arg2))).2.2 = (fun _ => 1#1)

def Pre_RestProj (m : (ℓ : Loc Cert.RestProj.nD Cert.RestProj.τ Cert.RestProj.sig) → Buf (Elt Bits) ℓ) : Prop :=
  True

def Pre_RestProjIdeal (m : (ℓ : Loc Cert.RestProjIdeal.nD Cert.RestProjIdeal.τ Cert.RestProjIdeal.sig) → Buf (Elt Ideal) ℓ) : Prop :=
  True

def Pre_RestProjRefIdeal (m : (ℓ : Loc Cert.RestProjRefIdeal.nD Cert.RestProjRefIdeal.τ Cert.RestProjRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_FoxProj (m : (ℓ : Loc Cert.FoxProj.nD Cert.FoxProj.τ Cert.FoxProj.sig) → Buf (Elt Bits) ℓ) : Prop :=
  True

def Pre_FoxProjIdeal (m : (ℓ : Loc Cert.FoxProjIdeal.nD Cert.FoxProjIdeal.τ Cert.FoxProjIdeal.sig) → Buf (Elt Ideal) ℓ) : Prop :=
  True

def Pre_FoxProjRefIdeal (m : (ℓ : Loc Cert.FoxProjRefIdeal.nD Cert.FoxProjRefIdeal.τ Cert.FoxProjRefIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormRefIdeal (m : (ℓ : Loc Cert.NormRefIdeal.nD Cert.NormRefIdeal.τ Cert.NormRefIdeal.sig) → Buf (Elt Ideal) ℓ) : Prop :=
  True

def Pre_Post (m : (ℓ : Loc Cert.Post.nD Cert.Post.τ Cert.Post.sig) → Buf (Elt Bits) ℓ) : Prop :=
  True

def Pre_PostIdeal (m : (ℓ : Loc Cert.PostIdeal.nD Cert.PostIdeal.τ Cert.PostIdeal.sig) → Buf (Elt Ideal) ℓ) : Prop :=
  True

def Pre_PostRefIdeal (m : (ℓ : Loc Cert.PostRefIdeal.nD Cert.PostRefIdeal.τ Cert.PostRefIdeal.sig) → Buf (Elt Ideal) ℓ) : Prop :=
  True

def Pre_PostLast (m : (ℓ : Loc Cert.PostLast.nD Cert.PostLast.τ Cert.PostLast.sig) → Buf (Elt Bits) ℓ) : Prop :=
  True

def Pre_PostLastIdeal (m : (ℓ : Loc Cert.PostLastIdeal.nD Cert.PostLastIdeal.τ Cert.PostLastIdeal.sig) → Buf (Elt Ideal) ℓ) : Prop :=
  True

def Pre_PostLastRefIdeal (m : (ℓ : Loc Cert.PostLastRefIdeal.nD Cert.PostLastRefIdeal.τ Cert.PostLastRefIdeal.sig) → Buf (Elt Ideal) ℓ) : Prop :=
  True

def Pre_Glu (m : (ℓ : Loc Cert.Glu.nD Cert.Glu.τ Cert.Glu.sig) → Buf (Elt Bits) ℓ) : Prop :=
  True

def Pre_GluIdeal (m : (ℓ : Loc Cert.GluIdeal.nD Cert.GluIdeal.τ Cert.GluIdeal.sig) → Buf (Elt Ideal) ℓ) : Prop :=
  True

def Pre_GluRefIdeal (m : (ℓ : Loc Cert.GluRefIdeal.nD Cert.GluRefIdeal.τ Cert.GluRefIdeal.sig) → Buf (Elt Ideal) ℓ) : Prop :=
  True

def quiescent_Fox [hFox : Cert.Fox.Facts] : Prop :=
  ∀ (m : (ℓ : Loc Cert.Fox.nD Cert.Fox.τ Cert.Fox.sig) → Buf (Elt Bits) ℓ) (g : Dev Cert.Fox.nD → PrngReg), Pre_Fox m →
    θ_run (Cert.Fox.defs (F := Bits)) (onTc (τ := Cert.Fox.τ) (Cert.Fox.main (F := Bits))) ⟨m, fun _ => 0, g⟩ (fun r => (∀ c : Dev Cert.Fox.nD,
      r.2.mem ((c.tc : Thread Cert.Fox.nD Cert.Fox.τ).loc Cert.Fox.main_arg0) = m ((c.tc : Thread Cert.Fox.nD Cert.Fox.τ).loc Cert.Fox.main_arg0)
      ∧ r.2.mem ((c.tc : Thread Cert.Fox.nD Cert.Fox.τ).loc Cert.Fox.main_arg1) = m ((c.tc : Thread Cert.Fox.nD Cert.Fox.τ).loc Cert.Fox.main_arg1)
      ∧ r.2.mem ((c.tc : Thread Cert.Fox.nD Cert.Fox.τ).loc Cert.Fox.main_arg2) = m ((c.tc : Thread Cert.Fox.nD Cert.Fox.τ).loc Cert.Fox.main_arg2))
      ∧ r.2.sem = fun _ => 0)

def quiescent_FoxIdeal [hFoxIdeal : Cert.FoxIdeal.Facts] : Prop :=
  ∀ (m : (ℓ : Loc Cert.FoxIdeal.nD Cert.FoxIdeal.τ Cert.FoxIdeal.sig) → Buf (Elt Ideal) ℓ) (g : Dev Cert.FoxIdeal.nD → PrngReg), Pre_FoxIdeal m →
    θ_run (Cert.FoxIdeal.defs (F := Ideal)) (onTc (τ := Cert.FoxIdeal.τ) (Cert.FoxIdeal.main (F := Ideal))) ⟨m, fun _ => 0, g⟩ (fun r => (∀ c : Dev Cert.FoxIdeal.nD,
      r.2.mem ((c.tc : Thread Cert.FoxIdeal.nD Cert.FoxIdeal.τ).loc Cert.FoxIdeal.main_arg0) = m ((c.tc : Thread Cert.FoxIdeal.nD Cert.FoxIdeal.τ).loc Cert.FoxIdeal.main_arg0)
      ∧ r.2.mem ((c.tc : Thread Cert.FoxIdeal.nD Cert.FoxIdeal.τ).loc Cert.FoxIdeal.main_arg1) = m ((c.tc : Thread Cert.FoxIdeal.nD Cert.FoxIdeal.τ).loc Cert.FoxIdeal.main_arg1)
      ∧ r.2.mem ((c.tc : Thread Cert.FoxIdeal.nD Cert.FoxIdeal.τ).loc Cert.FoxIdeal.main_arg2) = m ((c.tc : Thread Cert.FoxIdeal.nD Cert.FoxIdeal.τ).loc Cert.FoxIdeal.main_arg2))
      ∧ r.2.sem = fun _ => 0)

def quiescent_FoxIdeal_pre_finite [hFoxIdeal : Cert.FoxIdeal.Facts] [hPre_finite : Cert.Pre_finite.Facts] : Prop :=
  ∀ (m : (ℓ : Loc Cert.FoxIdeal.nD Cert.FoxIdeal.τ Cert.FoxIdeal.sig) → Buf (Elt Ideal) ℓ) (g : Dev Cert.FoxIdeal.nD → PrngReg), Pre_FoxIdeal_finite m →
    θ_run (Cert.FoxIdeal.defs (F := Ideal)) (onTc (τ := Cert.FoxIdeal.τ) (Cert.FoxIdeal.main (F := Ideal))) ⟨m, fun _ => 0, g⟩ (fun r => (∀ c : Dev Cert.FoxIdeal.nD,
      r.2.mem ((c.tc : Thread Cert.FoxIdeal.nD Cert.FoxIdeal.τ).loc Cert.FoxIdeal.main_arg0) = m ((c.tc : Thread Cert.FoxIdeal.nD Cert.FoxIdeal.τ).loc Cert.FoxIdeal.main_arg0)
      ∧ r.2.mem ((c.tc : Thread Cert.FoxIdeal.nD Cert.FoxIdeal.τ).loc Cert.FoxIdeal.main_arg1) = m ((c.tc : Thread Cert.FoxIdeal.nD Cert.FoxIdeal.τ).loc Cert.FoxIdeal.main_arg1)
      ∧ r.2.mem ((c.tc : Thread Cert.FoxIdeal.nD Cert.FoxIdeal.τ).loc Cert.FoxIdeal.main_arg2) = m ((c.tc : Thread Cert.FoxIdeal.nD Cert.FoxIdeal.τ).loc Cert.FoxIdeal.main_arg2))
      ∧ r.2.sem = fun _ => 0)

def quiescent_FoxRefIdeal [hFoxRefIdeal : Cert.FoxRefIdeal.Facts] : Prop :=
  ∀ (m : (ℓ : Loc Cert.FoxRefIdeal.nD Cert.FoxRefIdeal.τ Cert.FoxRefIdeal.sig) → Buf (Elt Ideal) ℓ) (g : Dev Cert.FoxRefIdeal.nD → PrngReg), Pre_FoxRefIdeal m →
    θ_run (Cert.FoxRefIdeal.defs (F := Ideal)) (onTc (τ := Cert.FoxRefIdeal.τ) (Cert.FoxRefIdeal.main (F := Ideal))) ⟨m, fun _ => 0, g⟩ (fun r => (∀ c : Dev Cert.FoxRefIdeal.nD,
      r.2.mem ((c.tc : Thread Cert.FoxRefIdeal.nD Cert.FoxRefIdeal.τ).loc Cert.FoxRefIdeal.main_arg0) = m ((c.tc : Thread Cert.FoxRefIdeal.nD Cert.FoxRefIdeal.τ).loc Cert.FoxRefIdeal.main_arg0)
      ∧ r.2.mem ((c.tc : Thread Cert.FoxRefIdeal.nD Cert.FoxRefIdeal.τ).loc Cert.FoxRefIdeal.main_arg1) = m ((c.tc : Thread Cert.FoxRefIdeal.nD Cert.FoxRefIdeal.τ).loc Cert.FoxRefIdeal.main_arg1)
      ∧ r.2.mem ((c.tc : Thread Cert.FoxRefIdeal.nD Cert.FoxRefIdeal.τ).loc Cert.FoxRefIdeal.main_arg2) = m ((c.tc : Thread Cert.FoxRefIdeal.nD Cert.FoxRefIdeal.τ).loc Cert.FoxRefIdeal.main_arg2))
      ∧ r.2.sem = fun _ => 0)

def quiescent_FoxRefIdeal_pre_finite [hFoxRefIdeal : Cert.FoxRefIdeal.Facts] [hPre_finite : Cert.Pre_finite.Facts] : Prop :=
  ∀ (m : (ℓ : Loc Cert.FoxRefIdeal.nD Cert.FoxRefIdeal.τ Cert.FoxRefIdeal.sig) → Buf (Elt Ideal) ℓ) (g : Dev Cert.FoxRefIdeal.nD → PrngReg), Pre_FoxRefIdeal_finite m →
    θ_run (Cert.FoxRefIdeal.defs (F := Ideal)) (onTc (τ := Cert.FoxRefIdeal.τ) (Cert.FoxRefIdeal.main (F := Ideal))) ⟨m, fun _ => 0, g⟩ (fun r => (∀ c : Dev Cert.FoxRefIdeal.nD,
      r.2.mem ((c.tc : Thread Cert.FoxRefIdeal.nD Cert.FoxRefIdeal.τ).loc Cert.FoxRefIdeal.main_arg0) = m ((c.tc : Thread Cert.FoxRefIdeal.nD Cert.FoxRefIdeal.τ).loc Cert.FoxRefIdeal.main_arg0)
      ∧ r.2.mem ((c.tc : Thread Cert.FoxRefIdeal.nD Cert.FoxRefIdeal.τ).loc Cert.FoxRefIdeal.main_arg1) = m ((c.tc : Thread Cert.FoxRefIdeal.nD Cert.FoxRefIdeal.τ).loc Cert.FoxRefIdeal.main_arg1)
      ∧ r.2.mem ((c.tc : Thread Cert.FoxRefIdeal.nD Cert.FoxRefIdeal.τ).loc Cert.FoxRefIdeal.main_arg2) = m ((c.tc : Thread Cert.FoxRefIdeal.nD Cert.FoxRefIdeal.τ).loc Cert.FoxRefIdeal.main_arg2))
      ∧ r.2.sem = fun _ => 0)

def quiescent_RestProj [hRestProj : Cert.RestProj.Facts] : Prop :=
  ∀ (m : (ℓ : Loc Cert.RestProj.nD Cert.RestProj.τ Cert.RestProj.sig) → Buf (Elt Bits) ℓ) (g : Dev Cert.RestProj.nD → PrngReg), Pre_RestProj m →
    θ_run (Cert.RestProj.defs (F := Bits)) (onTc (τ := Cert.RestProj.τ) (Cert.RestProj.main (F := Bits))) ⟨m, fun _ => 0, g⟩ (fun r => (∀ c : Dev Cert.RestProj.nD,
      r.2.mem ((c.tc : Thread Cert.RestProj.nD Cert.RestProj.τ).loc Cert.RestProj.main_arg0) = m ((c.tc : Thread Cert.RestProj.nD Cert.RestProj.τ).loc Cert.RestProj.main_arg0)
      ∧ r.2.mem ((c.tc : Thread Cert.RestProj.nD Cert.RestProj.τ).loc Cert.RestProj.main_arg1) = m ((c.tc : Thread Cert.RestProj.nD Cert.RestProj.τ).loc Cert.RestProj.main_arg1))
      ∧ r.2.sem = fun _ => 0)

def quiescent_RestProjIdeal [hRestProjIdeal : Cert.RestProjIdeal.Facts] : Prop :=
  ∀ (m : (ℓ : Loc Cert.RestProjIdeal.nD Cert.RestProjIdeal.τ Cert.RestProjIdeal.sig) → Buf (Elt Ideal) ℓ) (g : Dev Cert.RestProjIdeal.nD → PrngReg), Pre_RestProjIdeal m →
    θ_run (Cert.RestProjIdeal.defs (F := Ideal)) (onTc (τ := Cert.RestProjIdeal.τ) (Cert.RestProjIdeal.main (F := Ideal))) ⟨m, fun _ => 0, g⟩ (fun r => (∀ c : Dev Cert.RestProjIdeal.nD,
      r.2.mem ((c.tc : Thread Cert.RestProjIdeal.nD Cert.RestProjIdeal.τ).loc Cert.RestProjIdeal.main_arg0) = m ((c.tc : Thread Cert.RestProjIdeal.nD Cert.RestProjIdeal.τ).loc Cert.RestProjIdeal.main_arg0)
      ∧ r.2.mem ((c.tc : Thread Cert.RestProjIdeal.nD Cert.RestProjIdeal.τ).loc Cert.RestProjIdeal.main_arg1) = m ((c.tc : Thread Cert.RestProjIdeal.nD Cert.RestProjIdeal.τ).loc Cert.RestProjIdeal.main_arg1))
      ∧ r.2.sem = fun _ => 0)

def quiescent_RestProjRefIdeal [hRestProjRefIdeal : Cert.RestProjRefIdeal.Facts] : Prop :=
  ∀ (m : (ℓ : Loc Cert.RestProjRefIdeal.nD Cert.RestProjRefIdeal.τ Cert.RestProjRefIdeal.sig) → Buf (Elt Ideal) ℓ) (g : Dev Cert.RestProjRefIdeal.nD → PrngReg), Pre_RestProjRefIdeal m →
    θ_run (Cert.RestProjRefIdeal.defs (F := Ideal)) (onTc (τ := Cert.RestProjRefIdeal.τ) (Cert.RestProjRefIdeal.main (F := Ideal))) ⟨m, fun _ => 0, g⟩ (fun r => (∀ c : Dev Cert.RestProjRefIdeal.nD,
      r.2.mem ((c.tc : Thread Cert.RestProjRefIdeal.nD Cert.RestProjRefIdeal.τ).loc Cert.RestProjRefIdeal.main_arg0) = m ((c.tc : Thread Cert.RestProjRefIdeal.nD Cert.RestProjRefIdeal.τ).loc Cert.RestProjRefIdeal.main_arg0)
      ∧ r.2.mem ((c.tc : Thread Cert.RestProjRefIdeal.nD Cert.RestProjRefIdeal.τ).loc Cert.RestProjRefIdeal.main_arg1) = m ((c.tc : Thread Cert.RestProjRefIdeal.nD Cert.RestProjRefIdeal.τ).loc Cert.RestProjRefIdeal.main_arg1))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3)
      ∧ r.2.mem ((c.tc : Thread Cert.OutProj.nD Cert.OutProj.τ).loc Cert.OutProj.main_arg4) = m ((c.tc : Thread Cert.OutProj.nD Cert.OutProj.τ).loc Cert.OutProj.main_arg4))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
      ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2)
      ∧ r.2.mem ((c.tc : Thread Cert.OutProjRefIdeal.nD Cert.OutProjRefIdeal.τ).loc Cert.OutProjRefIdeal.main_arg3) = m ((c.tc : Thread Cert.OutProjRefIdeal.nD Cert.OutProjRefIdeal.τ).loc Cert.OutProjRefIdeal.main_arg3)
      ∧ r.2.mem ((c.tc : Thread Cert.OutProjRefIdeal.nD Cert.OutProjRefIdeal.τ).loc Cert.OutProjRefIdeal.main_arg4) = m ((c.tc : Thread Cert.OutProjRefIdeal.nD Cert.OutProjRefIdeal.τ).loc Cert.OutProjRefIdeal.main_arg4))
      ∧ r.2.sem = fun _ => 0)

def quiescent_FoxProj [hFoxProj : Cert.FoxProj.Facts] : Prop :=
  ∀ (m : (ℓ : Loc Cert.FoxProj.nD Cert.FoxProj.τ Cert.FoxProj.sig) → Buf (Elt Bits) ℓ) (g : Dev Cert.FoxProj.nD → PrngReg), Pre_FoxProj m →
    θ_run (Cert.FoxProj.defs (F := Bits)) (onTc (τ := Cert.FoxProj.τ) (Cert.FoxProj.main (F := Bits))) ⟨m, fun _ => 0, g⟩ (fun r => (∀ c : Dev Cert.FoxProj.nD,
      r.2.mem ((c.tc : Thread Cert.FoxProj.nD Cert.FoxProj.τ).loc Cert.FoxProj.main_arg0) = m ((c.tc : Thread Cert.FoxProj.nD Cert.FoxProj.τ).loc Cert.FoxProj.main_arg0)
      ∧ r.2.mem ((c.tc : Thread Cert.FoxProj.nD Cert.FoxProj.τ).loc Cert.FoxProj.main_arg1) = m ((c.tc : Thread Cert.FoxProj.nD Cert.FoxProj.τ).loc Cert.FoxProj.main_arg1)
      ∧ r.2.mem ((c.tc : Thread Cert.FoxProj.nD Cert.FoxProj.τ).loc Cert.FoxProj.main_arg2) = m ((c.tc : Thread Cert.FoxProj.nD Cert.FoxProj.τ).loc Cert.FoxProj.main_arg2)
      ∧ r.2.mem ((c.tc : Thread Cert.FoxProj.nD Cert.FoxProj.τ).loc Cert.FoxProj.main_arg3) = m ((c.tc : Thread Cert.FoxProj.nD Cert.FoxProj.τ).loc Cert.FoxProj.main_arg3))
      ∧ r.2.sem = fun _ => 0)

def quiescent_FoxProjIdeal [hFoxProjIdeal : Cert.FoxProjIdeal.Facts] : Prop :=
  ∀ (m : (ℓ : Loc Cert.FoxProjIdeal.nD Cert.FoxProjIdeal.τ Cert.FoxProjIdeal.sig) → Buf (Elt Ideal) ℓ) (g : Dev Cert.FoxProjIdeal.nD → PrngReg), Pre_FoxProjIdeal m →
    θ_run (Cert.FoxProjIdeal.defs (F := Ideal)) (onTc (τ := Cert.FoxProjIdeal.τ) (Cert.FoxProjIdeal.main (F := Ideal))) ⟨m, fun _ => 0, g⟩ (fun r => (∀ c : Dev Cert.FoxProjIdeal.nD,
      r.2.mem ((c.tc : Thread Cert.FoxProjIdeal.nD Cert.FoxProjIdeal.τ).loc Cert.FoxProjIdeal.main_arg0) = m ((c.tc : Thread Cert.FoxProjIdeal.nD Cert.FoxProjIdeal.τ).loc Cert.FoxProjIdeal.main_arg0)
      ∧ r.2.mem ((c.tc : Thread Cert.FoxProjIdeal.nD Cert.FoxProjIdeal.τ).loc Cert.FoxProjIdeal.main_arg1) = m ((c.tc : Thread Cert.FoxProjIdeal.nD Cert.FoxProjIdeal.τ).loc Cert.FoxProjIdeal.main_arg1)
      ∧ r.2.mem ((c.tc : Thread Cert.FoxProjIdeal.nD Cert.FoxProjIdeal.τ).loc Cert.FoxProjIdeal.main_arg2) = m ((c.tc : Thread Cert.FoxProjIdeal.nD Cert.FoxProjIdeal.τ).loc Cert.FoxProjIdeal.main_arg2)
      ∧ r.2.mem ((c.tc : Thread Cert.FoxProjIdeal.nD Cert.FoxProjIdeal.τ).loc Cert.FoxProjIdeal.main_arg3) = m ((c.tc : Thread Cert.FoxProjIdeal.nD Cert.FoxProjIdeal.τ).loc Cert.FoxProjIdeal.main_arg3))
      ∧ r.2.sem = fun _ => 0)

def quiescent_FoxProjRefIdeal [hFoxProjRefIdeal : Cert.FoxProjRefIdeal.Facts] : Prop :=
  ∀ (m : (ℓ : Loc Cert.FoxProjRefIdeal.nD Cert.FoxProjRefIdeal.τ Cert.FoxProjRefIdeal.sig) → Buf (Elt Ideal) ℓ) (g : Dev Cert.FoxProjRefIdeal.nD → PrngReg), Pre_FoxProjRefIdeal m →
    θ_run (Cert.FoxProjRefIdeal.defs (F := Ideal)) (onTc (τ := Cert.FoxProjRefIdeal.τ) (Cert.FoxProjRefIdeal.main (F := Ideal))) ⟨m, fun _ => 0, g⟩ (fun r => (∀ c : Dev Cert.FoxProjRefIdeal.nD,
      r.2.mem ((c.tc : Thread Cert.FoxProjRefIdeal.nD Cert.FoxProjRefIdeal.τ).loc Cert.FoxProjRefIdeal.main_arg0) = m ((c.tc : Thread Cert.FoxProjRefIdeal.nD Cert.FoxProjRefIdeal.τ).loc Cert.FoxProjRefIdeal.main_arg0)
      ∧ r.2.mem ((c.tc : Thread Cert.FoxProjRefIdeal.nD Cert.FoxProjRefIdeal.τ).loc Cert.FoxProjRefIdeal.main_arg1) = m ((c.tc : Thread Cert.FoxProjRefIdeal.nD Cert.FoxProjRefIdeal.τ).loc Cert.FoxProjRefIdeal.main_arg1)
      ∧ r.2.mem ((c.tc : Thread Cert.FoxProjRefIdeal.nD Cert.FoxProjRefIdeal.τ).loc Cert.FoxProjRefIdeal.main_arg2) = m ((c.tc : Thread Cert.FoxProjRefIdeal.nD Cert.FoxProjRefIdeal.τ).loc Cert.FoxProjRefIdeal.main_arg2)
      ∧ r.2.mem ((c.tc : Thread Cert.FoxProjRefIdeal.nD Cert.FoxProjRefIdeal.τ).loc Cert.FoxProjRefIdeal.main_arg3) = m ((c.tc : Thread Cert.FoxProjRefIdeal.nD Cert.FoxProjRefIdeal.τ).loc Cert.FoxProjRefIdeal.main_arg3))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1))
      ∧ r.2.sem = fun _ => 0)

def quiescent_Post [hPost : Cert.Post.Facts] : Prop :=
  ∀ (m : (ℓ : Loc Cert.Post.nD Cert.Post.τ Cert.Post.sig) → Buf (Elt Bits) ℓ) (g : Dev Cert.Post.nD → PrngReg), Pre_Post m →
    θ_run (Cert.Post.defs (F := Bits)) (onTc (τ := Cert.Post.τ) (Cert.Post.main (F := Bits))) ⟨m, fun _ => 0, g⟩ (fun r => (∀ c : Dev Cert.Post.nD,
      r.2.mem ((c.tc : Thread Cert.Post.nD Cert.Post.τ).loc Cert.Post.main_arg0) = m ((c.tc : Thread Cert.Post.nD Cert.Post.τ).loc Cert.Post.main_arg0)
      ∧ r.2.mem ((c.tc : Thread Cert.Post.nD Cert.Post.τ).loc Cert.Post.main_arg1) = m ((c.tc : Thread Cert.Post.nD Cert.Post.τ).loc Cert.Post.main_arg1)
      ∧ r.2.mem ((c.tc : Thread Cert.Post.nD Cert.Post.τ).loc Cert.Post.main_arg2) = m ((c.tc : Thread Cert.Post.nD Cert.Post.τ).loc Cert.Post.main_arg2)
      ∧ r.2.mem ((c.tc : Thread Cert.Post.nD Cert.Post.τ).loc Cert.Post.main_arg3) = m ((c.tc : Thread Cert.Post.nD Cert.Post.τ).loc Cert.Post.main_arg3))
      ∧ r.2.sem = fun _ => 0)

def quiescent_PostIdeal [hPostIdeal : Cert.PostIdeal.Facts] : Prop :=
  ∀ (m : (ℓ : Loc Cert.PostIdeal.nD Cert.PostIdeal.τ Cert.PostIdeal.sig) → Buf (Elt Ideal) ℓ) (g : Dev Cert.PostIdeal.nD → PrngReg), Pre_PostIdeal m →
    θ_run (Cert.PostIdeal.defs (F := Ideal)) (onTc (τ := Cert.PostIdeal.τ) (Cert.PostIdeal.main (F := Ideal))) ⟨m, fun _ => 0, g⟩ (fun r => (∀ c : Dev Cert.PostIdeal.nD,
      r.2.mem ((c.tc : Thread Cert.PostIdeal.nD Cert.PostIdeal.τ).loc Cert.PostIdeal.main_arg0) = m ((c.tc : Thread Cert.PostIdeal.nD Cert.PostIdeal.τ).loc Cert.PostIdeal.main_arg0)
      ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
      ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
      ∧ r.2.mem ((c.tc : Thread Cert.PostIdeal.nD Cert.PostIdeal.τ).loc Cert.PostIdeal.main_arg3) = m ((c.tc : Thread Cert.PostIdeal.nD Cert.PostIdeal.τ).loc Cert.PostIdeal.main_arg3))
      ∧ r.2.sem = fun _ => 0)

def quiescent_PostRefIdeal [hPostRefIdeal : Cert.PostRefIdeal.Facts] : Prop :=
  ∀ (m : (ℓ : Loc Cert.PostRefIdeal.nD Cert.PostRefIdeal.τ Cert.PostRefIdeal.sig) → Buf (Elt Ideal) ℓ) (g : Dev Cert.PostRefIdeal.nD → PrngReg), Pre_PostRefIdeal m →
    θ_run (Cert.PostRefIdeal.defs (F := Ideal)) (onTc (τ := Cert.PostRefIdeal.τ) (Cert.PostRefIdeal.main (F := Ideal))) ⟨m, fun _ => 0, g⟩ (fun r => (∀ c : Dev Cert.PostRefIdeal.nD,
      r.2.mem ((c.tc : Thread Cert.PostRefIdeal.nD Cert.PostRefIdeal.τ).loc Cert.PostRefIdeal.main_arg0) = m ((c.tc : Thread Cert.PostRefIdeal.nD Cert.PostRefIdeal.τ).loc Cert.PostRefIdeal.main_arg0)
      ∧ r.2.mem ((c.tc : Thread Cert.PostRefIdeal.nD Cert.PostRefIdeal.τ).loc Cert.PostRefIdeal.main_arg1) = m ((c.tc : Thread Cert.PostRefIdeal.nD Cert.PostRefIdeal.τ).loc Cert.PostRefIdeal.main_arg1)
      ∧ r.2.mem ((c.tc : Thread Cert.PostRefIdeal.nD Cert.PostRefIdeal.τ).loc Cert.PostRefIdeal.main_arg2) = m ((c.tc : Thread Cert.PostRefIdeal.nD Cert.PostRefIdeal.τ).loc Cert.PostRefIdeal.main_arg2)
      ∧ r.2.mem ((c.tc : Thread Cert.PostRefIdeal.nD Cert.PostRefIdeal.τ).loc Cert.PostRefIdeal.main_arg3) = m ((c.tc : Thread Cert.PostRefIdeal.nD Cert.PostRefIdeal.τ).loc Cert.PostRefIdeal.main_arg3))
      ∧ r.2.sem = fun _ => 0)

def quiescent_PostLast [hPostLast : Cert.PostLast.Facts] : Prop :=
  ∀ (m : (ℓ : Loc Cert.PostLast.nD Cert.PostLast.τ Cert.PostLast.sig) → Buf (Elt Bits) ℓ) (g : Dev Cert.PostLast.nD → PrngReg), Pre_PostLast m →
    θ_run (Cert.PostLast.defs (F := Bits)) (onTc (τ := Cert.PostLast.τ) (Cert.PostLast.main (F := Bits))) ⟨m, fun _ => 0, g⟩ (fun r => (∀ c : Dev Cert.PostLast.nD,
      r.2.mem ((c.tc : Thread Cert.PostLast.nD Cert.PostLast.τ).loc Cert.PostLast.main_arg0) = m ((c.tc : Thread Cert.PostLast.nD Cert.PostLast.τ).loc Cert.PostLast.main_arg0)
      ∧ r.2.mem ((c.tc : Thread Cert.PostLast.nD Cert.PostLast.τ).loc Cert.PostLast.main_arg1) = m ((c.tc : Thread Cert.PostLast.nD Cert.PostLast.τ).loc Cert.PostLast.main_arg1)
      ∧ r.2.mem ((c.tc : Thread Cert.PostLast.nD Cert.PostLast.τ).loc Cert.PostLast.main_arg2) = m ((c.tc : Thread Cert.PostLast.nD Cert.PostLast.τ).loc Cert.PostLast.main_arg2))
      ∧ r.2.sem = fun _ => 0)

def quiescent_PostLastIdeal [hPostLastIdeal : Cert.PostLastIdeal.Facts] : Prop :=
  ∀ (m : (ℓ : Loc Cert.PostLastIdeal.nD Cert.PostLastIdeal.τ Cert.PostLastIdeal.sig) → Buf (Elt Ideal) ℓ) (g : Dev Cert.PostLastIdeal.nD → PrngReg), Pre_PostLastIdeal m →
    θ_run (Cert.PostLastIdeal.defs (F := Ideal)) (onTc (τ := Cert.PostLastIdeal.τ) (Cert.PostLastIdeal.main (F := Ideal))) ⟨m, fun _ => 0, g⟩ (fun r => (∀ c : Dev Cert.PostLastIdeal.nD,
      r.2.mem ((c.tc : Thread Cert.PostLastIdeal.nD Cert.PostLastIdeal.τ).loc Cert.PostLastIdeal.main_arg0) = m ((c.tc : Thread Cert.PostLastIdeal.nD Cert.PostLastIdeal.τ).loc Cert.PostLastIdeal.main_arg0)
      ∧ r.2.mem ((c.tc : Thread Cert.PostLastIdeal.nD Cert.PostLastIdeal.τ).loc Cert.PostLastIdeal.main_arg1) = m ((c.tc : Thread Cert.PostLastIdeal.nD Cert.PostLastIdeal.τ).loc Cert.PostLastIdeal.main_arg1)
      ∧ r.2.mem ((c.tc : Thread Cert.PostLastIdeal.nD Cert.PostLastIdeal.τ).loc Cert.PostLastIdeal.main_arg2) = m ((c.tc : Thread Cert.PostLastIdeal.nD Cert.PostLastIdeal.τ).loc Cert.PostLastIdeal.main_arg2))
      ∧ r.2.sem = fun _ => 0)

def quiescent_PostLastRefIdeal [hPostLastRefIdeal : Cert.PostLastRefIdeal.Facts] : Prop :=
  ∀ (m : (ℓ : Loc Cert.PostLastRefIdeal.nD Cert.PostLastRefIdeal.τ Cert.PostLastRefIdeal.sig) → Buf (Elt Ideal) ℓ) (g : Dev Cert.PostLastRefIdeal.nD → PrngReg), Pre_PostLastRefIdeal m →
    θ_run (Cert.PostLastRefIdeal.defs (F := Ideal)) (onTc (τ := Cert.PostLastRefIdeal.τ) (Cert.PostLastRefIdeal.main (F := Ideal))) ⟨m, fun _ => 0, g⟩ (fun r => (∀ c : Dev Cert.PostLastRefIdeal.nD,
      r.2.mem ((c.tc : Thread Cert.PostLastRefIdeal.nD Cert.PostLastRefIdeal.τ).loc Cert.PostLastRefIdeal.main_arg0) = m ((c.tc : Thread Cert.PostLastRefIdeal.nD Cert.PostLastRefIdeal.τ).loc Cert.PostLastRefIdeal.main_arg0)
      ∧ r.2.mem ((c.tc : Thread Cert.PostLastRefIdeal.nD Cert.PostLastRefIdeal.τ).loc Cert.PostLastRefIdeal.main_arg1) = m ((c.tc : Thread Cert.PostLastRefIdeal.nD Cert.PostLastRefIdeal.τ).loc Cert.PostLastRefIdeal.main_arg1)
      ∧ r.2.mem ((c.tc : Thread Cert.PostLastRefIdeal.nD Cert.PostLastRefIdeal.τ).loc Cert.PostLastRefIdeal.main_arg2) = m ((c.tc : Thread Cert.PostLastRefIdeal.nD Cert.PostLastRefIdeal.τ).loc Cert.PostLastRefIdeal.main_arg2))
      ∧ r.2.sem = fun _ => 0)

def quiescent_Glu [hGlu : Cert.Glu.Facts] : Prop :=
  ∀ (m : (ℓ : Loc Cert.Glu.nD Cert.Glu.τ Cert.Glu.sig) → Buf (Elt Bits) ℓ) (g : Dev Cert.Glu.nD → PrngReg), Pre_Glu m →
    θ_run (Cert.Glu.defs (F := Bits)) (onTc (τ := Cert.Glu.τ) (Cert.Glu.main (F := Bits))) ⟨m, fun _ => 0, g⟩ (fun r => (∀ c : Dev Cert.Glu.nD,
      r.2.mem ((c.tc : Thread Cert.Glu.nD Cert.Glu.τ).loc Cert.Glu.main_arg0) = m ((c.tc : Thread Cert.Glu.nD Cert.Glu.τ).loc Cert.Glu.main_arg0)
      ∧ r.2.mem ((c.tc : Thread Cert.Glu.nD Cert.Glu.τ).loc Cert.Glu.main_arg1) = m ((c.tc : Thread Cert.Glu.nD Cert.Glu.τ).loc Cert.Glu.main_arg1)
      ∧ r.2.mem ((c.tc : Thread Cert.Glu.nD Cert.Glu.τ).loc Cert.Glu.main_arg2) = m ((c.tc : Thread Cert.Glu.nD Cert.Glu.τ).loc Cert.Glu.main_arg2)
      ∧ r.2.mem ((c.tc : Thread Cert.Glu.nD Cert.Glu.τ).loc Cert.Glu.main_arg3) = m ((c.tc : Thread Cert.Glu.nD Cert.Glu.τ).loc Cert.Glu.main_arg3)
      ∧ r.2.mem ((c.tc : Thread Cert.Glu.nD Cert.Glu.τ).loc Cert.Glu.main_arg4) = m ((c.tc : Thread Cert.Glu.nD Cert.Glu.τ).loc Cert.Glu.main_arg4))
      ∧ r.2.sem = fun _ => 0)

def quiescent_GluIdeal [hGluIdeal : Cert.GluIdeal.Facts] : Prop :=
  ∀ (m : (ℓ : Loc Cert.GluIdeal.nD Cert.GluIdeal.τ Cert.GluIdeal.sig) → Buf (Elt Ideal) ℓ) (g : Dev Cert.GluIdeal.nD → PrngReg), Pre_GluIdeal m →
    θ_run (Cert.GluIdeal.defs (F := Ideal)) (onTc (τ := Cert.GluIdeal.τ) (Cert.GluIdeal.main (F := Ideal))) ⟨m, fun _ => 0, g⟩ (fun r => (∀ c : Dev Cert.GluIdeal.nD,
      r.2.mem ((c.tc : Thread Cert.GluIdeal.nD Cert.GluIdeal.τ).loc Cert.GluIdeal.main_arg0) = m ((c.tc : Thread Cert.GluIdeal.nD Cert.GluIdeal.τ).loc Cert.GluIdeal.main_arg0)
      ∧ r.2.mem ((c.tc : Thread Cert.GluIdeal.nD Cert.GluIdeal.τ).loc Cert.GluIdeal.main_arg1) = m ((c.tc : Thread Cert.GluIdeal.nD Cert.GluIdeal.τ).loc Cert.GluIdeal.main_arg1)
      ∧ r.2.mem ((c.tc : Thread Cert.GluIdeal.nD Cert.GluIdeal.τ).loc Cert.GluIdeal.main_arg2) = m ((c.tc : Thread Cert.GluIdeal.nD Cert.GluIdeal.τ).loc Cert.GluIdeal.main_arg2)
      ∧ r.2.mem ((c.tc : Thread Cert.GluIdeal.nD Cert.GluIdeal.τ).loc Cert.GluIdeal.main_arg3) = m ((c.tc : Thread Cert.GluIdeal.nD Cert.GluIdeal.τ).loc Cert.GluIdeal.main_arg3)
      ∧ r.2.mem ((c.tc : Thread Cert.GluIdeal.nD Cert.GluIdeal.τ).loc Cert.GluIdeal.main_arg4) = m ((c.tc : Thread Cert.GluIdeal.nD Cert.GluIdeal.τ).loc Cert.GluIdeal.main_arg4))
      ∧ r.2.sem = fun _ => 0)

def quiescent_GluRefIdeal [hGluRefIdeal : Cert.GluRefIdeal.Facts] : Prop :=
  ∀ (m : (ℓ : Loc Cert.GluRefIdeal.nD Cert.GluRefIdeal.τ Cert.GluRefIdeal.sig) → Buf (Elt Ideal) ℓ) (g : Dev Cert.GluRefIdeal.nD → PrngReg), Pre_GluRefIdeal m →
    θ_run (Cert.GluRefIdeal.defs (F := Ideal)) (onTc (τ := Cert.GluRefIdeal.τ) (Cert.GluRefIdeal.main (F := Ideal))) ⟨m, fun _ => 0, g⟩ (fun r => (∀ c : Dev Cert.GluRefIdeal.nD,
      r.2.mem ((c.tc : Thread Cert.GluRefIdeal.nD Cert.GluRefIdeal.τ).loc Cert.GluRefIdeal.main_arg0) = m ((c.tc : Thread Cert.GluRefIdeal.nD Cert.GluRefIdeal.τ).loc Cert.GluRefIdeal.main_arg0)
      ∧ r.2.mem ((c.tc : Thread Cert.GluRefIdeal.nD Cert.GluRefIdeal.τ).loc Cert.GluRefIdeal.main_arg1) = m ((c.tc : Thread Cert.GluRefIdeal.nD Cert.GluRefIdeal.τ).loc Cert.GluRefIdeal.main_arg1)
      ∧ r.2.mem ((c.tc : Thread Cert.GluRefIdeal.nD Cert.GluRefIdeal.τ).loc Cert.GluRefIdeal.main_arg2) = m ((c.tc : Thread Cert.GluRefIdeal.nD Cert.GluRefIdeal.τ).loc Cert.GluRefIdeal.main_arg2)
      ∧ r.2.mem ((c.tc : Thread Cert.GluRefIdeal.nD Cert.GluRefIdeal.τ).loc Cert.GluRefIdeal.main_arg3) = m ((c.tc : Thread Cert.GluRefIdeal.nD Cert.GluRefIdeal.τ).loc Cert.GluRefIdeal.main_arg3)
      ∧ r.2.mem ((c.tc : Thread Cert.GluRefIdeal.nD Cert.GluRefIdeal.τ).loc Cert.GluRefIdeal.main_arg4) = m ((c.tc : Thread Cert.GluRefIdeal.nD Cert.GluRefIdeal.τ).loc Cert.GluRefIdeal.main_arg4))
      ∧ r.2.sem = fun _ => 0)

def preserves_Fox_FoxIdeal : Prop :=
  IdealRules.named_const.Statement Cert.FoxIdeal.κ "mask" .f32 0xF149F2CA#32 ⊥

def algebraic_FoxIdeal_FoxRefIdeal_pre_finite [hFoxIdeal : Cert.FoxIdeal.Facts] [hFoxRefIdeal : Cert.FoxRefIdeal.Facts] [hPre_finite : Cert.Pre_finite.Facts] : Prop :=
  ∀ (m : (ℓ : Loc Cert.FoxIdeal.nD Cert.FoxIdeal.τ Cert.FoxIdeal.sig) → Buf (Elt Ideal) ℓ) (g : Dev Cert.FoxIdeal.nD → PrngReg)
    (m' : (ℓ : Loc Cert.FoxRefIdeal.nD Cert.FoxRefIdeal.τ Cert.FoxRefIdeal.sig) → Buf (Elt Ideal) ℓ) (g' : Dev Cert.FoxRefIdeal.nD → PrngReg), Pre_FoxIdeal_finite m →
    (∀ c : Dev Cert.FoxIdeal.nD,
      m' ((c.tc : Thread Cert.FoxRefIdeal.nD Cert.FoxRefIdeal.τ).loc Cert.FoxRefIdeal.main_arg0) = m ((c.tc : Thread Cert.FoxIdeal.nD Cert.FoxIdeal.τ).loc Cert.FoxIdeal.main_arg0)
      ∧ m' ((c.tc : Thread Cert.FoxRefIdeal.nD Cert.FoxRefIdeal.τ).loc Cert.FoxRefIdeal.main_arg1) = m ((c.tc : Thread Cert.FoxIdeal.nD Cert.FoxIdeal.τ).loc Cert.FoxIdeal.main_arg1)
      ∧ m' ((c.tc : Thread Cert.FoxRefIdeal.nD Cert.FoxRefIdeal.τ).loc Cert.FoxRefIdeal.main_arg2) = m ((c.tc : Thread Cert.FoxIdeal.nD Cert.FoxIdeal.τ).loc Cert.FoxIdeal.main_arg2)) →
    ∃ (v0 : (c : Dev Cert.FoxIdeal.nD) → Buf (Elt Ideal) ((c.tc : Thread Cert.FoxIdeal.nD Cert.FoxIdeal.τ).loc Cert.FoxIdeal.main_v0)),
      θ_run (Cert.FoxIdeal.defs (F := Ideal)) (onTc (τ := Cert.FoxIdeal.τ) (Cert.FoxIdeal.main (F := Ideal))) ⟨m, fun _ => 0, g⟩ (fun r => ∀ c : Dev Cert.FoxIdeal.nD,
          r.2.mem ((c.tc : Thread Cert.FoxIdeal.nD Cert.FoxIdeal.τ).loc Cert.FoxIdeal.main_v0) = v0 c
          ∧ r.2.mem ((c.tc : Thread Cert.FoxIdeal.nD Cert.FoxIdeal.τ).loc Cert.FoxIdeal.main_arg0) = m ((c.tc : Thread Cert.FoxIdeal.nD Cert.FoxIdeal.τ).loc Cert.FoxIdeal.main_arg0)
          ∧ r.2.mem ((c.tc : Thread Cert.FoxIdeal.nD Cert.FoxIdeal.τ).loc Cert.FoxIdeal.main_arg1) = m ((c.tc : Thread Cert.FoxIdeal.nD Cert.FoxIdeal.τ).loc Cert.FoxIdeal.main_arg1)
          ∧ r.2.mem ((c.tc : Thread Cert.FoxIdeal.nD Cert.FoxIdeal.τ).loc Cert.FoxIdeal.main_arg2) = m ((c.tc : Thread Cert.FoxIdeal.nD Cert.FoxIdeal.τ).loc Cert.FoxIdeal.main_arg2))
      ∧ θ_run (Cert.FoxRefIdeal.defs (F := Ideal)) (onTc (τ := Cert.FoxRefIdeal.τ) (Cert.FoxRefIdeal.main (F := Ideal))) ⟨m', fun _ => 0, g'⟩ (fun r => ∀ c : Dev Cert.FoxRefIdeal.nD,
          r.2.mem ((c.tc : Thread Cert.FoxRefIdeal.nD Cert.FoxRefIdeal.τ).loc Cert.FoxRefIdeal.main_v44) = v0 c
          ∧ r.2.mem ((c.tc : Thread Cert.FoxRefIdeal.nD Cert.FoxRefIdeal.τ).loc Cert.FoxRefIdeal.main_arg0) = m' ((c.tc : Thread Cert.FoxRefIdeal.nD Cert.FoxRefIdeal.τ).loc Cert.FoxRefIdeal.main_arg0)
          ∧ r.2.mem ((c.tc : Thread Cert.FoxRefIdeal.nD Cert.FoxRefIdeal.τ).loc Cert.FoxRefIdeal.main_arg1) = m' ((c.tc : Thread Cert.FoxRefIdeal.nD Cert.FoxRefIdeal.τ).loc Cert.FoxRefIdeal.main_arg1)
          ∧ r.2.mem ((c.tc : Thread Cert.FoxRefIdeal.nD Cert.FoxRefIdeal.τ).loc Cert.FoxRefIdeal.main_arg2) = m' ((c.tc : Thread Cert.FoxRefIdeal.nD Cert.FoxRefIdeal.τ).loc Cert.FoxRefIdeal.main_arg2))

def preserves_RestProj_RestProjIdeal : Prop :=
  True

def algebraic_RestProjIdeal_RestProjRefIdeal [hRestProjIdeal : Cert.RestProjIdeal.Facts] [hRestProjRefIdeal : Cert.RestProjRefIdeal.Facts] : Prop :=
  ∀ (m : (ℓ : Loc Cert.RestProjIdeal.nD Cert.RestProjIdeal.τ Cert.RestProjIdeal.sig) → Buf (Elt Ideal) ℓ) (g : Dev Cert.RestProjIdeal.nD → PrngReg)
    (m' : (ℓ : Loc Cert.RestProjRefIdeal.nD Cert.RestProjRefIdeal.τ Cert.RestProjRefIdeal.sig) → Buf (Elt Ideal) ℓ) (g' : Dev Cert.RestProjRefIdeal.nD → PrngReg), Pre_RestProjIdeal m →
    (∀ c : Dev Cert.RestProjIdeal.nD,
      m' ((c.tc : Thread Cert.RestProjRefIdeal.nD Cert.RestProjRefIdeal.τ).loc Cert.RestProjRefIdeal.main_arg0) = m ((c.tc : Thread Cert.RestProjIdeal.nD Cert.RestProjIdeal.τ).loc Cert.RestProjIdeal.main_arg0)
      ∧ m' ((c.tc : Thread Cert.RestProjRefIdeal.nD Cert.RestProjRefIdeal.τ).loc Cert.RestProjRefIdeal.main_arg1) = m ((c.tc : Thread Cert.RestProjIdeal.nD Cert.RestProjIdeal.τ).loc Cert.RestProjIdeal.main_arg1)) →
    ∃ (v0 : (c : Dev Cert.RestProjIdeal.nD) → Buf (Elt Ideal) ((c.tc : Thread Cert.RestProjIdeal.nD Cert.RestProjIdeal.τ).loc Cert.RestProjIdeal.main_v0)),
      θ_run (Cert.RestProjIdeal.defs (F := Ideal)) (onTc (τ := Cert.RestProjIdeal.τ) (Cert.RestProjIdeal.main (F := Ideal))) ⟨m, fun _ => 0, g⟩ (fun r => ∀ c : Dev Cert.RestProjIdeal.nD,
          r.2.mem ((c.tc : Thread Cert.RestProjIdeal.nD Cert.RestProjIdeal.τ).loc Cert.RestProjIdeal.main_v0) = v0 c
          ∧ r.2.mem ((c.tc : Thread Cert.RestProjIdeal.nD Cert.RestProjIdeal.τ).loc Cert.RestProjIdeal.main_arg0) = m ((c.tc : Thread Cert.RestProjIdeal.nD Cert.RestProjIdeal.τ).loc Cert.RestProjIdeal.main_arg0)
          ∧ r.2.mem ((c.tc : Thread Cert.RestProjIdeal.nD Cert.RestProjIdeal.τ).loc Cert.RestProjIdeal.main_arg1) = m ((c.tc : Thread Cert.RestProjIdeal.nD Cert.RestProjIdeal.τ).loc Cert.RestProjIdeal.main_arg1))
      ∧ θ_run (Cert.RestProjRefIdeal.defs (F := Ideal)) (onTc (τ := Cert.RestProjRefIdeal.τ) (Cert.RestProjRefIdeal.main (F := Ideal))) ⟨m', fun _ => 0, g'⟩ (fun r => ∀ c : Dev Cert.RestProjRefIdeal.nD,
          r.2.mem ((c.tc : Thread Cert.RestProjRefIdeal.nD Cert.RestProjRefIdeal.τ).loc Cert.RestProjRefIdeal.main_v5) = v0 c
          ∧ r.2.mem ((c.tc : Thread Cert.RestProjRefIdeal.nD Cert.RestProjRefIdeal.τ).loc Cert.RestProjRefIdeal.main_arg0) = m' ((c.tc : Thread Cert.RestProjRefIdeal.nD Cert.RestProjRefIdeal.τ).loc Cert.RestProjRefIdeal.main_arg0)
          ∧ r.2.mem ((c.tc : Thread Cert.RestProjRefIdeal.nD Cert.RestProjRefIdeal.τ).loc Cert.RestProjRefIdeal.main_arg1) = m' ((c.tc : Thread Cert.RestProjRefIdeal.nD Cert.RestProjRefIdeal.τ).loc Cert.RestProjRefIdeal.main_arg1))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)
      ∧ m' ((c.tc : Thread Cert.OutProjRefIdeal.nD Cert.OutProjRefIdeal.τ).loc Cert.OutProjRefIdeal.main_arg3) = m ((c.tc : Thread Cert.OutProjIdeal.nD Cert.OutProjIdeal.τ).loc Cert.OutProjIdeal.main_arg3)
      ∧ m' ((c.tc : Thread Cert.OutProjRefIdeal.nD Cert.OutProjRefIdeal.τ).loc Cert.OutProjRefIdeal.main_arg4) = m ((c.tc : Thread Cert.OutProjIdeal.nD Cert.OutProjIdeal.τ).loc Cert.OutProjIdeal.main_arg4)) →
    ∃ (v0 : (c : Dev Cert.OutProjIdeal.nD) → Buf (Elt Ideal) ((c.tc : Thread Cert.OutProjIdeal.nD Cert.OutProjIdeal.τ).loc Cert.OutProjIdeal.main_v0)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v0) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
          ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v9) = v0 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2)
          ∧ r.2.mem ((c.tc : Thread Cert.OutProjRefIdeal.nD Cert.OutProjRefIdeal.τ).loc Cert.OutProjRefIdeal.main_arg3) = m' ((c.tc : Thread Cert.OutProjRefIdeal.nD Cert.OutProjRefIdeal.τ).loc Cert.OutProjRefIdeal.main_arg3)
          ∧ r.2.mem ((c.tc : Thread Cert.OutProjRefIdeal.nD Cert.OutProjRefIdeal.τ).loc Cert.OutProjRefIdeal.main_arg4) = m' ((c.tc : Thread Cert.OutProjRefIdeal.nD Cert.OutProjRefIdeal.τ).loc Cert.OutProjRefIdeal.main_arg4))

def preserves_FoxProj_FoxProjIdeal : Prop :=
  True

def algebraic_FoxProjIdeal_FoxProjRefIdeal [hFoxProjIdeal : Cert.FoxProjIdeal.Facts] [hFoxProjRefIdeal : Cert.FoxProjRefIdeal.Facts] : Prop :=
  ∀ (m : (ℓ : Loc Cert.FoxProjIdeal.nD Cert.FoxProjIdeal.τ Cert.FoxProjIdeal.sig) → Buf (Elt Ideal) ℓ) (g : Dev Cert.FoxProjIdeal.nD → PrngReg)
    (m' : (ℓ : Loc Cert.FoxProjRefIdeal.nD Cert.FoxProjRefIdeal.τ Cert.FoxProjRefIdeal.sig) → Buf (Elt Ideal) ℓ) (g' : Dev Cert.FoxProjRefIdeal.nD → PrngReg), Pre_FoxProjIdeal m →
    (∀ c : Dev Cert.FoxProjIdeal.nD,
      m' ((c.tc : Thread Cert.FoxProjRefIdeal.nD Cert.FoxProjRefIdeal.τ).loc Cert.FoxProjRefIdeal.main_arg0) = m ((c.tc : Thread Cert.FoxProjIdeal.nD Cert.FoxProjIdeal.τ).loc Cert.FoxProjIdeal.main_arg0)
      ∧ m' ((c.tc : Thread Cert.FoxProjRefIdeal.nD Cert.FoxProjRefIdeal.τ).loc Cert.FoxProjRefIdeal.main_arg1) = m ((c.tc : Thread Cert.FoxProjIdeal.nD Cert.FoxProjIdeal.τ).loc Cert.FoxProjIdeal.main_arg1)
      ∧ m' ((c.tc : Thread Cert.FoxProjRefIdeal.nD Cert.FoxProjRefIdeal.τ).loc Cert.FoxProjRefIdeal.main_arg2) = m ((c.tc : Thread Cert.FoxProjIdeal.nD Cert.FoxProjIdeal.τ).loc Cert.FoxProjIdeal.main_arg2)
      ∧ m' ((c.tc : Thread Cert.FoxProjRefIdeal.nD Cert.FoxProjRefIdeal.τ).loc Cert.FoxProjRefIdeal.main_arg3) = m ((c.tc : Thread Cert.FoxProjIdeal.nD Cert.FoxProjIdeal.τ).loc Cert.FoxProjIdeal.main_arg3)) →
    ∃ (v0 : (c : Dev Cert.FoxProjIdeal.nD) → Buf (Elt Ideal) ((c.tc : Thread Cert.FoxProjIdeal.nD Cert.FoxProjIdeal.τ).loc Cert.FoxProjIdeal.main_v0_0)) (v1 : (c : Dev Cert.FoxProjIdeal.nD) → Buf (Elt Ideal) ((c.tc : Thread Cert.FoxProjIdeal.nD Cert.FoxProjIdeal.τ).loc Cert.FoxProjIdeal.main_v0_1)),
      θ_run (Cert.FoxProjIdeal.defs (F := Ideal)) (onTc (τ := Cert.FoxProjIdeal.τ) (Cert.FoxProjIdeal.main (F := Ideal))) ⟨m, fun _ => 0, g⟩ (fun r => ∀ c : Dev Cert.FoxProjIdeal.nD,
          r.2.mem ((c.tc : Thread Cert.FoxProjIdeal.nD Cert.FoxProjIdeal.τ).loc Cert.FoxProjIdeal.main_v0_0) = v0 c
          ∧ r.2.mem ((c.tc : Thread Cert.FoxProjIdeal.nD Cert.FoxProjIdeal.τ).loc Cert.FoxProjIdeal.main_v0_1) = v1 c
          ∧ r.2.mem ((c.tc : Thread Cert.FoxProjIdeal.nD Cert.FoxProjIdeal.τ).loc Cert.FoxProjIdeal.main_arg0) = m ((c.tc : Thread Cert.FoxProjIdeal.nD Cert.FoxProjIdeal.τ).loc Cert.FoxProjIdeal.main_arg0)
          ∧ r.2.mem ((c.tc : Thread Cert.FoxProjIdeal.nD Cert.FoxProjIdeal.τ).loc Cert.FoxProjIdeal.main_arg1) = m ((c.tc : Thread Cert.FoxProjIdeal.nD Cert.FoxProjIdeal.τ).loc Cert.FoxProjIdeal.main_arg1)
          ∧ r.2.mem ((c.tc : Thread Cert.FoxProjIdeal.nD Cert.FoxProjIdeal.τ).loc Cert.FoxProjIdeal.main_arg2) = m ((c.tc : Thread Cert.FoxProjIdeal.nD Cert.FoxProjIdeal.τ).loc Cert.FoxProjIdeal.main_arg2)
          ∧ r.2.mem ((c.tc : Thread Cert.FoxProjIdeal.nD Cert.FoxProjIdeal.τ).loc Cert.FoxProjIdeal.main_arg3) = m ((c.tc : Thread Cert.FoxProjIdeal.nD Cert.FoxProjIdeal.τ).loc Cert.FoxProjIdeal.main_arg3))
      ∧ θ_run (Cert.FoxProjRefIdeal.defs (F := Ideal)) (onTc (τ := Cert.FoxProjRefIdeal.τ) (Cert.FoxProjRefIdeal.main (F := Ideal))) ⟨m', fun _ => 0, g'⟩ (fun r => ∀ c : Dev Cert.FoxProjRefIdeal.nD,
          r.2.mem ((c.tc : Thread Cert.FoxProjRefIdeal.nD Cert.FoxProjRefIdeal.τ).loc Cert.FoxProjRefIdeal.main_v9) = v0 c
          ∧ r.2.mem ((c.tc : Thread Cert.FoxProjRefIdeal.nD Cert.FoxProjRefIdeal.τ).loc Cert.FoxProjRefIdeal.main_v14) = v1 c
          ∧ r.2.mem ((c.tc : Thread Cert.FoxProjRefIdeal.nD Cert.FoxProjRefIdeal.τ).loc Cert.FoxProjRefIdeal.main_arg0) = m' ((c.tc : Thread Cert.FoxProjRefIdeal.nD Cert.FoxProjRefIdeal.τ).loc Cert.FoxProjRefIdeal.main_arg0)
          ∧ r.2.mem ((c.tc : Thread Cert.FoxProjRefIdeal.nD Cert.FoxProjRefIdeal.τ).loc Cert.FoxProjRefIdeal.main_arg1) = m' ((c.tc : Thread Cert.FoxProjRefIdeal.nD Cert.FoxProjRefIdeal.τ).loc Cert.FoxProjRefIdeal.main_arg1)
          ∧ r.2.mem ((c.tc : Thread Cert.FoxProjRefIdeal.nD Cert.FoxProjRefIdeal.τ).loc Cert.FoxProjRefIdeal.main_arg2) = m' ((c.tc : Thread Cert.FoxProjRefIdeal.nD Cert.FoxProjRefIdeal.τ).loc Cert.FoxProjRefIdeal.main_arg2)
          ∧ r.2.mem ((c.tc : Thread Cert.FoxProjRefIdeal.nD Cert.FoxProjRefIdeal.τ).loc Cert.FoxProjRefIdeal.main_arg3) = m' ((c.tc : Thread Cert.FoxProjRefIdeal.nD Cert.FoxProjRefIdeal.τ).loc Cert.FoxProjRefIdeal.main_arg3))

def preserves_Norm_NormIdeal : Prop :=
  True

def algebraic_NormIdeal_NormRefIdeal [hNormIdeal : Cert.NormIdeal.Facts] [hNormRefIdeal : Cert.NormRefIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)) →
    ∃ (v0 : (c : Dev Cert.NormIdeal.nD) → Buf (Elt Ideal) ((c.tc : Thread Cert.NormIdeal.nD Cert.NormIdeal.τ).loc Cert.NormIdeal.main_v1)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v1) = v0 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v13) = v0 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1))

def preserves_Post_PostIdeal : Prop :=
  True

def algebraic_PostIdeal_PostRefIdeal [hPostIdeal : Cert.PostIdeal.Facts] [hPostRefIdeal : Cert.PostRefIdeal.Facts] : Prop :=
  ∀ (m : (ℓ : Loc Cert.PostIdeal.nD Cert.PostIdeal.τ Cert.PostIdeal.sig) → Buf (Elt Ideal) ℓ) (g : Dev Cert.PostIdeal.nD → PrngReg)
    (m' : (ℓ : Loc Cert.PostRefIdeal.nD Cert.PostRefIdeal.τ Cert.PostRefIdeal.sig) → Buf (Elt Ideal) ℓ) (g' : Dev Cert.PostRefIdeal.nD → PrngReg), Pre_PostIdeal m →
    (∀ c : Dev Cert.PostIdeal.nD,
      m' ((c.tc : Thread Cert.PostRefIdeal.nD Cert.PostRefIdeal.τ).loc Cert.PostRefIdeal.main_arg0) = m ((c.tc : Thread Cert.PostIdeal.nD Cert.PostIdeal.τ).loc Cert.PostIdeal.main_arg0)
      ∧ m' ((c.tc : Thread Cert.PostRefIdeal.nD Cert.PostRefIdeal.τ).loc Cert.PostRefIdeal.main_arg1) = m ((c.tc : Thread Cert.PostIdeal.nD Cert.PostIdeal.τ).loc Cert.PostIdeal.main_arg1)
      ∧ m' ((c.tc : Thread Cert.PostRefIdeal.nD Cert.PostRefIdeal.τ).loc Cert.PostRefIdeal.main_arg2) = m ((c.tc : Thread Cert.PostIdeal.nD Cert.PostIdeal.τ).loc Cert.PostIdeal.main_arg2)
      ∧ m' ((c.tc : Thread Cert.PostRefIdeal.nD Cert.PostRefIdeal.τ).loc Cert.PostRefIdeal.main_arg3) = m ((c.tc : Thread Cert.PostIdeal.nD Cert.PostIdeal.τ).loc Cert.PostIdeal.main_arg3)) →
    ∃ (v0 : (c : Dev Cert.PostIdeal.nD) → Buf (Elt Ideal) ((c.tc : Thread Cert.PostIdeal.nD Cert.PostIdeal.τ).loc Cert.PostIdeal.main_v2_0)) (v1 : (c : Dev Cert.PostIdeal.nD) → Buf (Elt Ideal) ((c.tc : Thread Cert.PostIdeal.nD Cert.PostIdeal.τ).loc Cert.PostIdeal.main_v2_1)),
      θ_run (Cert.PostIdeal.defs (F := Ideal)) (onTc (τ := Cert.PostIdeal.τ) (Cert.PostIdeal.main (F := Ideal))) ⟨m, fun _ => 0, g⟩ (fun r => ∀ c : Dev Cert.PostIdeal.nD,
          r.2.mem ((c.tc : Thread Cert.PostIdeal.nD Cert.PostIdeal.τ).loc Cert.PostIdeal.main_v2_0) = v0 c
          ∧ r.2.mem ((c.tc : Thread Cert.PostIdeal.nD Cert.PostIdeal.τ).loc Cert.PostIdeal.main_v2_1) = v1 c
          ∧ r.2.mem ((c.tc : Thread Cert.PostIdeal.nD Cert.PostIdeal.τ).loc Cert.PostIdeal.main_arg0) = m ((c.tc : Thread Cert.PostIdeal.nD Cert.PostIdeal.τ).loc Cert.PostIdeal.main_arg0)
          ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
          ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
          ∧ r.2.mem ((c.tc : Thread Cert.PostIdeal.nD Cert.PostIdeal.τ).loc Cert.PostIdeal.main_arg3) = m ((c.tc : Thread Cert.PostIdeal.nD Cert.PostIdeal.τ).loc Cert.PostIdeal.main_arg3))
      ∧ θ_run (Cert.PostRefIdeal.defs (F := Ideal)) (onTc (τ := Cert.PostRefIdeal.τ) (Cert.PostRefIdeal.main (F := Ideal))) ⟨m', fun _ => 0, g'⟩ (fun r => ∀ c : Dev Cert.PostRefIdeal.nD,
          r.2.mem ((c.tc : Thread Cert.PostRefIdeal.nD Cert.PostRefIdeal.τ).loc Cert.PostRefIdeal.main_v14) = v0 c
          ∧ r.2.mem ((c.tc : Thread Cert.PostRefIdeal.nD Cert.PostRefIdeal.τ).loc Cert.PostRefIdeal.main_v28) = v1 c
          ∧ r.2.mem ((c.tc : Thread Cert.PostRefIdeal.nD Cert.PostRefIdeal.τ).loc Cert.PostRefIdeal.main_arg0) = m' ((c.tc : Thread Cert.PostRefIdeal.nD Cert.PostRefIdeal.τ).loc Cert.PostRefIdeal.main_arg0)
          ∧ r.2.mem ((c.tc : Thread Cert.PostRefIdeal.nD Cert.PostRefIdeal.τ).loc Cert.PostRefIdeal.main_arg1) = m' ((c.tc : Thread Cert.PostRefIdeal.nD Cert.PostRefIdeal.τ).loc Cert.PostRefIdeal.main_arg1)
          ∧ r.2.mem ((c.tc : Thread Cert.PostRefIdeal.nD Cert.PostRefIdeal.τ).loc Cert.PostRefIdeal.main_arg2) = m' ((c.tc : Thread Cert.PostRefIdeal.nD Cert.PostRefIdeal.τ).loc Cert.PostRefIdeal.main_arg2)
          ∧ r.2.mem ((c.tc : Thread Cert.PostRefIdeal.nD Cert.PostRefIdeal.τ).loc Cert.PostRefIdeal.main_arg3) = m' ((c.tc : Thread Cert.PostRefIdeal.nD Cert.PostRefIdeal.τ).loc Cert.PostRefIdeal.main_arg3))

def preserves_PostLast_PostLastIdeal : Prop :=
  True

def algebraic_PostLastIdeal_PostLastRefIdeal [hPostLastIdeal : Cert.PostLastIdeal.Facts] [hPostLastRefIdeal : Cert.PostLastRefIdeal.Facts] : Prop :=
  ∀ (m : (ℓ : Loc Cert.PostLastIdeal.nD Cert.PostLastIdeal.τ Cert.PostLastIdeal.sig) → Buf (Elt Ideal) ℓ) (g : Dev Cert.PostLastIdeal.nD → PrngReg)
    (m' : (ℓ : Loc Cert.PostLastRefIdeal.nD Cert.PostLastRefIdeal.τ Cert.PostLastRefIdeal.sig) → Buf (Elt Ideal) ℓ) (g' : Dev Cert.PostLastRefIdeal.nD → PrngReg), Pre_PostLastIdeal m →
    (∀ c : Dev Cert.PostLastIdeal.nD,
      m' ((c.tc : Thread Cert.PostLastRefIdeal.nD Cert.PostLastRefIdeal.τ).loc Cert.PostLastRefIdeal.main_arg0) = m ((c.tc : Thread Cert.PostLastIdeal.nD Cert.PostLastIdeal.τ).loc Cert.PostLastIdeal.main_arg0)
      ∧ m' ((c.tc : Thread Cert.PostLastRefIdeal.nD Cert.PostLastRefIdeal.τ).loc Cert.PostLastRefIdeal.main_arg1) = m ((c.tc : Thread Cert.PostLastIdeal.nD Cert.PostLastIdeal.τ).loc Cert.PostLastIdeal.main_arg1)
      ∧ m' ((c.tc : Thread Cert.PostLastRefIdeal.nD Cert.PostLastRefIdeal.τ).loc Cert.PostLastRefIdeal.main_arg2) = m ((c.tc : Thread Cert.PostLastIdeal.nD Cert.PostLastIdeal.τ).loc Cert.PostLastIdeal.main_arg2)) →
    ∃ (v0 : (c : Dev Cert.PostLastIdeal.nD) → Buf (Elt Ideal) ((c.tc : Thread Cert.PostLastIdeal.nD Cert.PostLastIdeal.τ).loc Cert.PostLastIdeal.main_v1)),
      θ_run (Cert.PostLastIdeal.defs (F := Ideal)) (onTc (τ := Cert.PostLastIdeal.τ) (Cert.PostLastIdeal.main (F := Ideal))) ⟨m, fun _ => 0, g⟩ (fun r => ∀ c : Dev Cert.PostLastIdeal.nD,
          r.2.mem ((c.tc : Thread Cert.PostLastIdeal.nD Cert.PostLastIdeal.τ).loc Cert.PostLastIdeal.main_v1) = v0 c
          ∧ r.2.mem ((c.tc : Thread Cert.PostLastIdeal.nD Cert.PostLastIdeal.τ).loc Cert.PostLastIdeal.main_arg0) = m ((c.tc : Thread Cert.PostLastIdeal.nD Cert.PostLastIdeal.τ).loc Cert.PostLastIdeal.main_arg0)
          ∧ r.2.mem ((c.tc : Thread Cert.PostLastIdeal.nD Cert.PostLastIdeal.τ).loc Cert.PostLastIdeal.main_arg1) = m ((c.tc : Thread Cert.PostLastIdeal.nD Cert.PostLastIdeal.τ).loc Cert.PostLastIdeal.main_arg1)
          ∧ r.2.mem ((c.tc : Thread Cert.PostLastIdeal.nD Cert.PostLastIdeal.τ).loc Cert.PostLastIdeal.main_arg2) = m ((c.tc : Thread Cert.PostLastIdeal.nD Cert.PostLastIdeal.τ).loc Cert.PostLastIdeal.main_arg2))
      ∧ θ_run (Cert.PostLastRefIdeal.defs (F := Ideal)) (onTc (τ := Cert.PostLastRefIdeal.τ) (Cert.PostLastRefIdeal.main (F := Ideal))) ⟨m', fun _ => 0, g'⟩ (fun r => ∀ c : Dev Cert.PostLastRefIdeal.nD,
          r.2.mem ((c.tc : Thread Cert.PostLastRefIdeal.nD Cert.PostLastRefIdeal.τ).loc Cert.PostLastRefIdeal.main_v14) = v0 c
          ∧ r.2.mem ((c.tc : Thread Cert.PostLastRefIdeal.nD Cert.PostLastRefIdeal.τ).loc Cert.PostLastRefIdeal.main_arg0) = m' ((c.tc : Thread Cert.PostLastRefIdeal.nD Cert.PostLastRefIdeal.τ).loc Cert.PostLastRefIdeal.main_arg0)
          ∧ r.2.mem ((c.tc : Thread Cert.PostLastRefIdeal.nD Cert.PostLastRefIdeal.τ).loc Cert.PostLastRefIdeal.main_arg1) = m' ((c.tc : Thread Cert.PostLastRefIdeal.nD Cert.PostLastRefIdeal.τ).loc Cert.PostLastRefIdeal.main_arg1)
          ∧ r.2.mem ((c.tc : Thread Cert.PostLastRefIdeal.nD Cert.PostLastRefIdeal.τ).loc Cert.PostLastRefIdeal.main_arg2) = m' ((c.tc : Thread Cert.PostLastRefIdeal.nD Cert.PostLastRefIdeal.τ).loc Cert.PostLastRefIdeal.main_arg2))

def preserves_Glu_GluIdeal : Prop :=
  True

def algebraic_GluIdeal_GluRefIdeal [hGluIdeal : Cert.GluIdeal.Facts] [hGluRefIdeal : Cert.GluRefIdeal.Facts] : Prop :=
  ∀ (m : (ℓ : Loc Cert.GluIdeal.nD Cert.GluIdeal.τ Cert.GluIdeal.sig) → Buf (Elt Ideal) ℓ) (g : Dev Cert.GluIdeal.nD → PrngReg)
    (m' : (ℓ : Loc Cert.GluRefIdeal.nD Cert.GluRefIdeal.τ Cert.GluRefIdeal.sig) → Buf (Elt Ideal) ℓ) (g' : Dev Cert.GluRefIdeal.nD → PrngReg), Pre_GluIdeal m →
    (∀ c : Dev Cert.GluIdeal.nD,
      m' ((c.tc : Thread Cert.GluRefIdeal.nD Cert.GluRefIdeal.τ).loc Cert.GluRefIdeal.main_arg0) = m ((c.tc : Thread Cert.GluIdeal.nD Cert.GluIdeal.τ).loc Cert.GluIdeal.main_arg0)
      ∧ m' ((c.tc : Thread Cert.GluRefIdeal.nD Cert.GluRefIdeal.τ).loc Cert.GluRefIdeal.main_arg1) = m ((c.tc : Thread Cert.GluIdeal.nD Cert.GluIdeal.τ).loc Cert.GluIdeal.main_arg1)
      ∧ m' ((c.tc : Thread Cert.GluRefIdeal.nD Cert.GluRefIdeal.τ).loc Cert.GluRefIdeal.main_arg2) = m ((c.tc : Thread Cert.GluIdeal.nD Cert.GluIdeal.τ).loc Cert.GluIdeal.main_arg2)
      ∧ m' ((c.tc : Thread Cert.GluRefIdeal.nD Cert.GluRefIdeal.τ).loc Cert.GluRefIdeal.main_arg3) = m ((c.tc : Thread Cert.GluIdeal.nD Cert.GluIdeal.τ).loc Cert.GluIdeal.main_arg3)
      ∧ m' ((c.tc : Thread Cert.GluRefIdeal.nD Cert.GluRefIdeal.τ).loc Cert.GluRefIdeal.main_arg4) = m ((c.tc : Thread Cert.GluIdeal.nD Cert.GluIdeal.τ).loc Cert.GluIdeal.main_arg4)) →
    ∃ (v0 : (c : Dev Cert.GluIdeal.nD) → Buf (Elt Ideal) ((c.tc : Thread Cert.GluIdeal.nD Cert.GluIdeal.τ).loc Cert.GluIdeal.main_v2)),
      θ_run (Cert.GluIdeal.defs (F := Ideal)) (onTc (τ := Cert.GluIdeal.τ) (Cert.GluIdeal.main (F := Ideal))) ⟨m, fun _ => 0, g⟩ (fun r => ∀ c : Dev Cert.GluIdeal.nD,
          r.2.mem ((c.tc : Thread Cert.GluIdeal.nD Cert.GluIdeal.τ).loc Cert.GluIdeal.main_v2) = v0 c
          ∧ r.2.mem ((c.tc : Thread Cert.GluIdeal.nD Cert.GluIdeal.τ).loc Cert.GluIdeal.main_arg0) = m ((c.tc : Thread Cert.GluIdeal.nD Cert.GluIdeal.τ).loc Cert.GluIdeal.main_arg0)
          ∧ r.2.mem ((c.tc : Thread Cert.GluIdeal.nD Cert.GluIdeal.τ).loc Cert.GluIdeal.main_arg1) = m ((c.tc : Thread Cert.GluIdeal.nD Cert.GluIdeal.τ).loc Cert.GluIdeal.main_arg1)
          ∧ r.2.mem ((c.tc : Thread Cert.GluIdeal.nD Cert.GluIdeal.τ).loc Cert.GluIdeal.main_arg2) = m ((c.tc : Thread Cert.GluIdeal.nD Cert.GluIdeal.τ).loc Cert.GluIdeal.main_arg2)
          ∧ r.2.mem ((c.tc : Thread Cert.GluIdeal.nD Cert.GluIdeal.τ).loc Cert.GluIdeal.main_arg3) = m ((c.tc : Thread Cert.GluIdeal.nD Cert.GluIdeal.τ).loc Cert.GluIdeal.main_arg3)
          ∧ r.2.mem ((c.tc : Thread Cert.GluIdeal.nD Cert.GluIdeal.τ).loc Cert.GluIdeal.main_arg4) = m ((c.tc : Thread Cert.GluIdeal.nD Cert.GluIdeal.τ).loc Cert.GluIdeal.main_arg4))
      ∧ θ_run (Cert.GluRefIdeal.defs (F := Ideal)) (onTc (τ := Cert.GluRefIdeal.τ) (Cert.GluRefIdeal.main (F := Ideal))) ⟨m', fun _ => 0, g'⟩ (fun r => ∀ c : Dev Cert.GluRefIdeal.nD,
          r.2.mem ((c.tc : Thread Cert.GluRefIdeal.nD Cert.GluRefIdeal.τ).loc Cert.GluRefIdeal.main_v38) = v0 c
          ∧ r.2.mem ((c.tc : Thread Cert.GluRefIdeal.nD Cert.GluRefIdeal.τ).loc Cert.GluRefIdeal.main_arg0) = m' ((c.tc : Thread Cert.GluRefIdeal.nD Cert.GluRefIdeal.τ).loc Cert.GluRefIdeal.main_arg0)
          ∧ r.2.mem ((c.tc : Thread Cert.GluRefIdeal.nD Cert.GluRefIdeal.τ).loc Cert.GluRefIdeal.main_arg1) = m' ((c.tc : Thread Cert.GluRefIdeal.nD Cert.GluRefIdeal.τ).loc Cert.GluRefIdeal.main_arg1)
          ∧ r.2.mem ((c.tc : Thread Cert.GluRefIdeal.nD Cert.GluRefIdeal.τ).loc Cert.GluRefIdeal.main_arg2) = m' ((c.tc : Thread Cert.GluRefIdeal.nD Cert.GluRefIdeal.τ).loc Cert.GluRefIdeal.main_arg2)
          ∧ r.2.mem ((c.tc : Thread Cert.GluRefIdeal.nD Cert.GluRefIdeal.τ).loc Cert.GluRefIdeal.main_arg3) = m' ((c.tc : Thread Cert.GluRefIdeal.nD Cert.GluRefIdeal.τ).loc Cert.GluRefIdeal.main_arg3)
          ∧ r.2.mem ((c.tc : Thread Cert.GluRefIdeal.nD Cert.GluRefIdeal.τ).loc Cert.GluRefIdeal.main_arg4) = m' ((c.tc : Thread Cert.GluRefIdeal.nD Cert.GluRefIdeal.τ).loc Cert.GluRefIdeal.main_arg4))

def Claim : Prop :=
  ∃ (hFox : Cert.Fox.Facts) (hFoxIdeal : Cert.FoxIdeal.Facts) (hFoxRefIdeal : Cert.FoxRefIdeal.Facts) (hRestProj : Cert.RestProj.Facts) (hRestProjIdeal : Cert.RestProjIdeal.Facts) (hRestProjRefIdeal : Cert.RestProjRefIdeal.Facts) (hOutProj : Cert.OutProj.Facts) (hOutProjIdeal : Cert.OutProjIdeal.Facts) (hOutProjRefIdeal : Cert.OutProjRefIdeal.Facts) (hFoxProj : Cert.FoxProj.Facts) (hFoxProjIdeal : Cert.FoxProjIdeal.Facts) (hFoxProjRefIdeal : Cert.FoxProjRefIdeal.Facts) (hNorm : Cert.Norm.Facts) (hNormIdeal : Cert.NormIdeal.Facts) (hNormRefIdeal : Cert.NormRefIdeal.Facts) (hPost : Cert.Post.Facts) (hPostIdeal : Cert.PostIdeal.Facts) (hPostRefIdeal : Cert.PostRefIdeal.Facts) (hPostLast : Cert.PostLast.Facts) (hPostLastIdeal : Cert.PostLastIdeal.Facts) (hPostLastRefIdeal : Cert.PostLastRefIdeal.Facts) (hGlu : Cert.Glu.Facts) (hGluIdeal : Cert.GluIdeal.Facts) (hGluRefIdeal : Cert.GluRefIdeal.Facts) (hPre_finite : Cert.Pre_finite.Facts),
    quiescent_Fox (hFox := hFox)
    ∧ quiescent_FoxIdeal (hFoxIdeal := hFoxIdeal)
    ∧ quiescent_FoxIdeal_pre_finite (hFoxIdeal := hFoxIdeal) (hPre_finite := hPre_finite)
    ∧ quiescent_FoxRefIdeal (hFoxRefIdeal := hFoxRefIdeal)
    ∧ quiescent_FoxRefIdeal_pre_finite (hFoxRefIdeal := hFoxRefIdeal) (hPre_finite := hPre_finite)
    ∧ quiescent_RestProj (hRestProj := hRestProj)
    ∧ quiescent_RestProjIdeal (hRestProjIdeal := hRestProjIdeal)
    ∧ quiescent_RestProjRefIdeal (hRestProjRefIdeal := hRestProjRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_FoxProj (hFoxProj := hFoxProj)
    ∧ quiescent_FoxProjIdeal (hFoxProjIdeal := hFoxProjIdeal)
    ∧ quiescent_FoxProjRefIdeal (hFoxProjRefIdeal := hFoxProjRefIdeal)
    ∧ quiescent_Norm (hNorm := hNorm)
    ∧ quiescent_NormIdeal (hNormIdeal := hNormIdeal)
    ∧ quiescent_NormRefIdeal (hNormRefIdeal := hNormRefIdeal)
    ∧ quiescent_Post (hPost := hPost)
    ∧ quiescent_PostIdeal (hPostIdeal := hPostIdeal)
    ∧ quiescent_PostRefIdeal (hPostRefIdeal := hPostRefIdeal)
    ∧ quiescent_PostLast (hPostLast := hPostLast)
    ∧ quiescent_PostLastIdeal (hPostLastIdeal := hPostLastIdeal)
    ∧ quiescent_PostLastRefIdeal (hPostLastRefIdeal := hPostLastRefIdeal)
    ∧ quiescent_Glu (hGlu := hGlu)
    ∧ quiescent_GluIdeal (hGluIdeal := hGluIdeal)
    ∧ quiescent_GluRefIdeal (hGluRefIdeal := hGluRefIdeal)
    ∧ preserves_Fox_FoxIdeal
    ∧ algebraic_FoxIdeal_FoxRefIdeal_pre_finite (hFoxIdeal := hFoxIdeal) (hFoxRefIdeal := hFoxRefIdeal) (hPre_finite := hPre_finite)
    ∧ preserves_RestProj_RestProjIdeal
    ∧ algebraic_RestProjIdeal_RestProjRefIdeal (hRestProjIdeal := hRestProjIdeal) (hRestProjRefIdeal := hRestProjRefIdeal)
    ∧ preserves_OutProj_OutProjIdeal
    ∧ algebraic_OutProjIdeal_OutProjRefIdeal (hOutProjIdeal := hOutProjIdeal) (hOutProjRefIdeal := hOutProjRefIdeal)
    ∧ preserves_FoxProj_FoxProjIdeal
    ∧ algebraic_FoxProjIdeal_FoxProjRefIdeal (hFoxProjIdeal := hFoxProjIdeal) (hFoxProjRefIdeal := hFoxProjRefIdeal)
    ∧ preserves_Norm_NormIdeal
    ∧ algebraic_NormIdeal_NormRefIdeal (hNormIdeal := hNormIdeal) (hNormRefIdeal := hNormRefIdeal)
    ∧ preserves_Post_PostIdeal
    ∧ algebraic_PostIdeal_PostRefIdeal (hPostIdeal := hPostIdeal) (hPostRefIdeal := hPostRefIdeal)
    ∧ preserves_PostLast_PostLastIdeal
    ∧ algebraic_PostLastIdeal_PostLastRefIdeal (hPostLastIdeal := hPostLastIdeal) (hPostLastRefIdeal := hPostLastRefIdeal)
    ∧ preserves_Glu_GluIdeal
    ∧ algebraic_GluIdeal_GluRefIdeal (hGluIdeal := hGluIdeal) (hGluRefIdeal := hGluRefIdeal)
-- ==== Pre_finite.lean ====
abbrev S2x8192x4096 : Shape := ⟨3, ![2, 8192, 4096]⟩
abbrev S2x8x8192x128 : Shape := ⟨4, ![2, 8, 8192, 128]⟩
abbrev S2x8192x2048 : Shape := ⟨3, ![2, 8192, 2048]⟩
abbrev S_ : Shape := ⟨0, ![]⟩

class Facts : Prop where
  bitsLt_bf16_f32 : FTy.bits .bf16 < FTy.bits .f32
  slices_S2x8192x4096_S2x8192x2048_0_0_0 : S2x8192x4096.Slices ![0, 0, 0] S2x8192x2048
  bcast_S_S2x8192x2048 : S_.BroadcastsInDim S2x8192x2048 (![] : Fin 0 → Fin S2x8192x2048.rank)
  bcast_S_S2x8x8192x128 : S_.BroadcastsInDim S2x8x8192x128 (![] : Fin 0 → Fin S2x8x8192x128.rank)

variable [Facts]

def fn {F : FTy → Type} [FloatOps F] (main_arg0 : FVec F S2x8192x4096 .bf16) (main_arg1 : FVec F S2x8x8192x128 .bf16) (main_arg2 : FVec F S2x8x8192x128 .bf16) : IVec S2x8192x2048 1 × IVec S2x8x8192x128 1 × IVec S2x8x8192x128 1 :=
  let main_v0 : FVec F S2x8192x4096 .f32 := (extf .f32 · bitsLt_bf16_f32) main_arg0
  let main_v1 : FVec F S2x8192x2048 .f32 := (extractStridedSlice S2x8192x2048 ![0, 0, 0] · slices_S2x8192x4096_S2x8192x2048_0_0_0) main_v0
  let main_v2 : FVec F S2x8192x2048 .f32 := Host.absf main_v1
  let main_cst : FVec F S_ .f32 := constant S_ .f32 0x7F800000#32
  let main_v3 : FVec F S2x8192x2048 .f32 := broadcastInDim S2x8192x2048 ![] bcast_S_S2x8192x2048 main_cst
  let main_v4 : IVec S2x8192x2048 1 := cmpf .olt main_v2 main_v3
  let main_v5 : FVec F S2x8x8192x128 .f32 := (extf .f32 · bitsLt_bf16_f32) main_arg1
  let main_v6 : FVec F S2x8x8192x128 .f32 := Host.absf main_v5
  let main_cst_0 : FVec F S_ .f32 := constant S_ .f32 0x7F800000#32
  let main_v7 : FVec F S2x8x8192x128 .f32 := broadcastInDim S2x8x8192x128 ![] bcast_S_S2x8x8192x128 main_cst_0
  let main_v8 : IVec S2x8x8192x128 1 := cmpf .olt main_v6 main_v7
  let main_v9 : FVec F S2x8x8192x128 .f32 := (extf .f32 · bitsLt_bf16_f32) main_arg2
  let main_v10 : FVec F S2x8x8192x128 .f32 := Host.absf main_v9
  let main_cst_1 : FVec F S_ .f32 := constant S_ .f32 0x7F800000#32
  let main_v11 : FVec F S2x8x8192x128 .f32 := broadcastInDim S2x8x8192x128 ![] bcast_S_S2x8x8192x128 main_cst_1
  let main_v12 : IVec S2x8x8192x128 1 := cmpf .olt main_v10 main_v11
  (main_v4, main_v8, main_v12)
-- ==== Fox.lean ====
abbrev S2x8192x4096 : Shape := ⟨3, ![2, 8192, 4096]⟩
abbrev S2x8x8192x128 : Shape := ⟨4, ![2, 8, 8192, 128]⟩
abbrev S2x8192x1024 : Shape := ⟨3, ![2, 8192, 1024]⟩
abbrev S1x8192x128 : Shape := ⟨3, ![1, 8192, 128]⟩
abbrev S1x1x8192x128 : Shape := ⟨4, ![1, 1, 8192, 128]⟩
abbrev S2x512x512 : Shape := ⟨3, ![2, 512, 512]⟩
abbrev S512x128 : Shape := ⟨2, ![512, 128]⟩
abbrev S8192x256 : Shape := ⟨2, ![8192, 256]⟩
abbrev S512x512 : Shape := ⟨2, ![512, 512]⟩
abbrev S1x512x128 : Shape := ⟨3, ![1, 512, 128]⟩
abbrev S1x1x512x128 : Shape := ⟨4, ![1, 1, 512, 128]⟩
abbrev S512x256 : Shape := ⟨2, ![512, 256]⟩
abbrev S1x512x512 : Shape := ⟨3, ![1, 512, 512]⟩
abbrev S512 : Shape := ⟨1, ![512]⟩
abbrev S512x1 : Shape := ⟨2, ![512, 1]⟩

abbrev nBuf : Space → Nat
  | .hbm => 4
  | .vmem => 17
  | .smem => 0
  | _ => 0

abbrev bufTy : (tb : Table) → Fin (tcTables nBuf tb) → BufTy
  | .hbm, ⟨0, _⟩ => ⟨S2x8192x4096, .bf16⟩
  | .hbm, ⟨1, _⟩ => ⟨S2x8x8192x128, .bf16⟩
  | .hbm, ⟨2, _⟩ => ⟨S2x8x8192x128, .bf16⟩
  | .hbm, ⟨3, _⟩ => ⟨S2x8192x1024, .bf16⟩
  | .local _ .vmem, ⟨0, _⟩ => ⟨S1x8192x128, .bf16⟩
  | .local _ .vmem, ⟨1, _⟩ => ⟨S1x8192x128, .bf16⟩
  | .local _ .vmem, ⟨2, _⟩ => ⟨S1x1x8192x128, .bf16⟩
  | .local _ .vmem, ⟨3, _⟩ => ⟨S1x1x8192x128, .bf16⟩
  | .local _ .vmem, ⟨4, _⟩ => ⟨S1x8192x128, .bf16⟩
  | .local _ .vmem, ⟨5, _⟩ => ⟨S1x8192x128, .bf16⟩
  | .local _ .vmem, ⟨6, _⟩ => ⟨S1x1x8192x128, .bf16⟩
  | .local _ .vmem, ⟨7, _⟩ => ⟨S1x1x8192x128, .bf16⟩
  | .local _ .vmem, ⟨8, _⟩ => ⟨S1x8192x128, .bf16⟩
  | .local _ .vmem, ⟨9, _⟩ => ⟨S1x8192x128, .bf16⟩
  | .local _ .vmem, ⟨10, _⟩ => ⟨S1x8192x128, .bf16⟩
  | .local _ .vmem, ⟨11, _⟩ => ⟨S1x8192x128, .bf16⟩
  | .local _ .vmem, ⟨12, _⟩ => ⟨S1x8192x128, .bf16⟩
  | .local _ .vmem, ⟨13, _⟩ => ⟨S1x8192x128, .bf16⟩
  | .local _ .vmem, ⟨14, _⟩ => ⟨S2x512x512, .f32⟩
  | .local _ .vmem, ⟨15, _⟩ => ⟨S512x128, .f32⟩
  | .local _ .vmem, ⟨16, _⟩ => ⟨S8192x256, .f32⟩
  | _, _ => ⟨S2x8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 8], ![false, false]⟩

def k0_mult1 : BitVec 32 :=
  let c0_i32 : BitVec 32 := 0#32
  c0_i32
def k0_mult2 : BitVec 32 :=
  let c0_i32_7 : BitVec 32 := 0#32
  c0_i32_7
def k0_mult3 : BitVec 32 :=
  let c0_i32_11 : BitVec 32 := 0#32
  c0_i32_11
def k0_mult4 : BitVec 32 :=
  let c0_i32_14 : BitVec 32 := 0#32
  c0_i32_14
@[reducible] def k0_t1_loop : Scf.Loop 32 :=
  let c0_i32_24 : BitVec 32 := 0#32
  let c17_i32 : BitVec 32 := 17#32
  let v34 : BitVec 32 := Scalar.addi c0_i32_24 c17_i32
  let c1_i32 : BitVec 32 := 1#32
  ⟨c0_i32_24, v34, c1_i32⟩
def k0_mult5 (arg13 : BitVec 32) (arg14 : BitVec 32) : BitVec 32 :=
  let v37 : BitVec 1 := Scalar.cmpi .eq arg14 arg13
  let c1_i32_28 : BitVec 32 := 1#32
  let v38 : BitVec 32 := Scalar.addi arg13 c1_i32_28
  let v39 : BitVec 32 := Scalar.select v37 v38 arg13
  let c15_i32 : BitVec 32 := 15#32
  let v42 : BitVec 32 := Scalar.minsi v39 c15_i32
  let c512_i32 : BitVec 32 := 512#32
  let v43 : BitVec 32 := Scalar.muli v42 c512_i32
  v43

def k0_off1 (arg13 : BitVec 32) (arg14 : BitVec 32) : Fin 3 → Nat :=
  let c0_31 : Index := 0#32
  let v37 : BitVec 1 := Scalar.cmpi .eq arg14 arg13
  let c1_i32_28 : BitVec 32 := 1#32
  let v38 : BitVec 32 := Scalar.addi arg13 c1_i32_28
  let v39 : BitVec 32 := Scalar.select v37 v38 arg13
  let c15_i32 : BitVec 32 := 15#32
  let v42 : BitVec 32 := Scalar.minsi v39 c15_i32
  let c512_i32 : BitVec 32 := 512#32
  let v43 : BitVec 32 := Scalar.muli v42 c512_i32
  let v44 : BitVec 32 := v43
  let v45 : Index := Scalar.indexCast v44
  let c0_32 : Index := 0#32
  ![0, v45.toNat, 0]
def k0_mult6 (arg13 : BitVec 32) (arg14 : BitVec 32) : BitVec 32 :=
  let v37 : BitVec 1 := Scalar.cmpi .eq arg14 arg13
  let c1_i32_28 : BitVec 32 := 1#32
  let v38 : BitVec 32 := Scalar.addi arg13 c1_i32_28
  let v39 : BitVec 32 := Scalar.select v37 v38 arg13
  let c15_i32 : BitVec 32 := 15#32
  let v42 : BitVec 32 := Scalar.minsi v39 c15_i32
  let c512_i32_33 : BitVec 32 := 512#32
  let v48 : BitVec 32 := Scalar.muli v42 c512_i32_33
  v48
def k0_off2 (arg13 : BitVec 32) (arg14 : BitVec 32) : Fin 4 → Nat :=
  let c0_34 : Index := 0#32
  let c0_35 : Index := 0#32
  let v37 : BitVec 1 := Scalar.cmpi .eq arg14 arg13
  let c1_i32_28 : BitVec 32 := 1#32
  let v38 : BitVec 32 := Scalar.addi arg13 c1_i32_28
  let v39 : BitVec 32 := Scalar.select v37 v38 arg13
  let c15_i32 : BitVec 32 := 15#32
  let v42 : BitVec 32 := Scalar.minsi v39 c15_i32
  let c512_i32_33 : BitVec 32 := 512#32
  let v48 : BitVec 32 := Scalar.muli v42 c512_i32_33
  let v49 : BitVec 32 := v48
  let v50 : Index := Scalar.indexCast v49
  let c0_36 : Index := 0#32
  ![0, 0, v50.toNat, 0]
def k0_mult7 (arg13 : BitVec 32) (arg14 : BitVec 32) : BitVec 32 :=
  let v37 : BitVec 1 := Scalar.cmpi .eq arg14 arg13
  let c0_i32_30 : BitVec 32 := 0#32
  let c1_i32_29 : BitVec 32 := 1#32
  let v40 : BitVec 32 := Scalar.addi arg14 c1_i32_29
  let v41 : BitVec 32 := Scalar.select v37 c0_i32_30 v40
  let c512_i32_37 : BitVec 32 := 512#32
  let v54 : BitVec 32 := Scalar.muli v41 c512_i32_37
  v54
def k0_off3 (arg13 : BitVec 32) (arg14 : BitVec 32) : Fin 3 → Nat :=
  let c0_38 : Index := 0#32
  let v37 : BitVec 1 := Scalar.cmpi .eq arg14 arg13
  let c0_i32_30 : BitVec 32 := 0#32
  let c1_i32_29 : BitVec 32 := 1#32
  let v40 : BitVec 32 := Scalar.addi arg14 c1_i32_29
  let v41 : BitVec 32 := Scalar.select v37 c0_i32_30 v40
  let c512_i32_37 : BitVec 32 := 512#32
  let v54 : BitVec 32 := Scalar.muli v41 c512_i32_37
  let v55 : BitVec 32 := v54
  let v56 : Index := Scalar.indexCast v55
  let c0_39 : Index := 0#32
  ![0, v56.toNat, 0]
def k0_mult8 (arg13 : BitVec 32) (arg14 : BitVec 32) : BitVec 32 :=
  let v37 : BitVec 1 := Scalar.cmpi .eq arg14 arg13
  let c0_i32_30 : BitVec 32 := 0#32
  let c1_i32_29 : BitVec 32 := 1#32
  let v40 : BitVec 32 := Scalar.addi arg14 c1_i32_29
  let v41 : BitVec 32 := Scalar.select v37 c0_i32_30 v40
  let c512_i32_40 : BitVec 32 := 512#32
  let v59 : BitVec 32 := Scalar.muli v41 c512_i32_40
  v59
def k0_off4 (arg13 : BitVec 32) (arg14 : BitVec 32) : Fin 4 → Nat :=
  let c0_41 : Index := 0#32
  let c0_42 : Index := 0#32
  let v37 : BitVec 1 := Scalar.cmpi .eq arg14 arg13
  let c0_i32_30 : BitVec 32 := 0#32
  let c1_i32_29 : BitVec 32 := 1#32
  let v40 : BitVec 32 := Scalar.addi arg14 c1_i32_29
  let v41 : BitVec 32 := Scalar.select v37 c0_i32_30 v40
  let c512_i32_40 : BitVec 32 := 512#32
  let v59 : BitVec 32 := Scalar.muli v41 c512_i32_40
  let v60 : BitVec 32 := v59
  let v61 : Index := Scalar.indexCast v60
  let c0_43 : Index := 0#32
  ![0, 0, v61.toNat, 0]
def k0_mult9 (arg14 : BitVec 32) : BitVec 32 :=
  let c512_i32_47 : BitVec 32 := 512#32
  let v69 : BitVec 32 := Scalar.muli arg14 c512_i32_47
  v69
def k0_off5 (arg14 : BitVec 32) : Fin 3 → Nat :=
  let c0_48 : Index := 0#32
  let c512_i32_47 : BitVec 32 := 512#32
  let v69 : BitVec 32 := Scalar.muli arg14 c512_i32_47
  let v70 : BitVec 32 := v69
  let v71 : Index := Scalar.indexCast v70
  let c0_49 : Index := 0#32
  ![0, v71.toNat, 0]
def k0_mult10 (arg13 : BitVec 32) : BitVec 32 :=
  let c512_i32_60 : BitVec 32 := 512#32
  let v97 : BitVec 32 := Scalar.muli arg13 c512_i32_60
  v97

def k0_off6 (arg13 : BitVec 32) : Fin 2 → Nat :=
  let c512_i32_60 : BitVec 32 := 512#32
  let v97 : BitVec 32 := Scalar.muli arg13 c512_i32_60
  let v98 : BitVec 32 := v97
  let v99 : Index := Scalar.indexCast v98
  let c0_61 : Index := 0#32
  ![v99.toNat, 0]
def k0_mult11 (arg13 : BitVec 32) : BitVec 32 :=
  let c512_i32_63 : BitVec 32 := 512#32
  let v105 : BitVec 32 := Scalar.muli arg13 c512_i32_63
  v105

def k0_chk2 (arg13 : BitVec 32) : Prop :=
  (512 ∣ (k0_mult10 arg13).toNat) ∧
  (∀ a, (k0_off6 arg13) a + S512x256.size a ≤ S8192x256.size a) ∧
  (512 ∣ (k0_mult11 arg13).toNat)
theorem k0_mult10_dvd : ∀ (arg13 : BitVec 32) (k0_hw2 : k0_chk2 arg13), 512 ∣ (k0_mult10 arg13).toNat := fun arg13 k0_hw2 => k0_hw2.1
theorem k0_off6_inb : ∀ (arg13 : BitVec 32) (k0_hw2 : k0_chk2 arg13), ∀ a, (k0_off6 arg13) a + S512x256.size a ≤ S8192x256.size a := fun arg13 k0_hw2 => k0_hw2.2.1
theorem k0_mult11_dvd : ∀ (arg13 : BitVec 32) (k0_hw2 : k0_chk2 arg13), 512 ∣ (k0_mult11 arg13).toNat := fun arg13 k0_hw2 => k0_hw2.2.2

def k0_mult12 (arg13 : BitVec 32) (arg14 : BitVec 32) : BitVec 32 :=
  let v37 : BitVec 1 := Scalar.cmpi .eq arg14 arg13
  let c0_i32_30 : BitVec 32 := 0#32
  let c1_i32_29 : BitVec 32 := 1#32
  let v40 : BitVec 32 := Scalar.addi arg14 c1_i32_29
  let v41 : BitVec 32 := Scalar.select v37 c0_i32_30 v40
  let c1_i32_28 : BitVec 32 := 1#32
  let v38 : BitVec 32 := Scalar.addi arg13 c1_i32_28
  let v39 : BitVec 32 := Scalar.select v37 v38 arg13
  let v114 : BitVec 1 := Scalar.cmpi .eq v41 v39
  let c1_i32_67 : BitVec 32 := 1#32
  let v115 : BitVec 32 := Scalar.addi v39 c1_i32_67
  let v116 : BitVec 32 := Scalar.select v114 v115 v39
  let c15_i32_70 : BitVec 32 := 15#32
  let v119 : BitVec 32 := Scalar.minsi v116 c15_i32_70
  let c512_i32_71 : BitVec 32 := 512#32
  let v120 : BitVec 32 := Scalar.muli v119 c512_i32_71
  v120
def k0_off7 (arg13 : BitVec 32) (arg14 : BitVec 32) : Fin 3 → Nat :=
  let c0_72 : Index := 0#32
  let v37 : BitVec 1 := Scalar.cmpi .eq arg14 arg13
  let c0_i32_30 : BitVec 32 := 0#32
  let c1_i32_29 : BitVec 32 := 1#32
  let v40 : BitVec 32 := Scalar.addi arg14 c1_i32_29
  let v41 : BitVec 32 := Scalar.select v37 c0_i32_30 v40
  let c1_i32_28 : BitVec 32 := 1#32
  let v38 : BitVec 32 := Scalar.addi arg13 c1_i32_28
  let v39 : BitVec 32 := Scalar.select v37 v38 arg13
  let v114 : BitVec 1 := Scalar.cmpi .eq v41 v39
  let c1_i32_67 : BitVec 32 := 1#32
  let v115 : BitVec 32 := Scalar.addi v39 c1_i32_67
  let v116 : BitVec 32 := Scalar.select v114 v115 v39
  let c15_i32_70 : BitVec 32 := 15#32
  let v119 : BitVec 32 := Scalar.minsi v116 c15_i32_70
  let c512_i32_71 : BitVec 32 := 512#32
  let v120 : BitVec 32 := Scalar.muli v119 c512_i32_71
  let v121 : BitVec 32 := v120
  let v122 : Index := Scalar.indexCast v121
  let c0_73 : Index := 0#32
  ![0, v122.toNat, 0]
def k0_mult13 (arg13 : BitVec 32) (arg14 : BitVec 32) : BitVec 32 :=
  let v37 : BitVec 1 := Scalar.cmpi .eq arg14 arg13
  let c0_i32_30 : BitVec 32 := 0#32
  let c1_i32_29 : BitVec 32 := 1#32
  let v40 : BitVec 32 := Scalar.addi arg14 c1_i32_29
  let v41 : BitVec 32 := Scalar.select v37 c0_i32_30 v40
  let c1_i32_28 : BitVec 32 := 1#32
  let v38 : BitVec 32 := Scalar.addi arg13 c1_i32_28
  let v39 : BitVec 32 := Scalar.select v37 v38 arg13
  let v114 : BitVec 1 := Scalar.cmpi .eq v41 v39
  let c1_i32_67 : BitVec 32 := 1#32
  let v115 : BitVec 32 := Scalar.addi v39 c1_i32_67
  let v116 : BitVec 32 := Scalar.select v114 v115 v39
  let c15_i32_70 : BitVec 32 := 15#32
  let v119 : BitVec 32 := Scalar.minsi v116 c15_i32_70
  let c512_i32_74 : BitVec 32 := 512#32
  let v125 : BitVec 32 := Scalar.muli v119 c512_i32_74
  v125
def k0_off8 (arg13 : BitVec 32) (arg14 : BitVec 32) : Fin 4 → Nat :=
  let c0_75 : Index := 0#32
  let c0_76 : Index := 0#32
  let v37 : BitVec 1 := Scalar.cmpi .eq arg14 arg13
  let c0_i32_30 : BitVec 32 := 0#32
  let c1_i32_29 : BitVec 32 := 1#32
  let v40 : BitVec 32 := Scalar.addi arg14 c1_i32_29
  let v41 : BitVec 32 := Scalar.select v37 c0_i32_30 v40
  let c1_i32_28 : BitVec 32 := 1#32
  let v38 : BitVec 32 := Scalar.addi arg13 c1_i32_28
  let v39 : BitVec 32 := Scalar.select v37 v38 arg13
  let v114 : BitVec 1 := Scalar.cmpi .eq v41 v39
  let c1_i32_67 : BitVec 32 := 1#32
  let v115 : BitVec 32 := Scalar.addi v39 c1_i32_67
  let v116 : BitVec 32 := Scalar.select v114 v115 v39
  let c15_i32_70 : BitVec 32 := 15#32
  let v119 : BitVec 32 := Scalar.minsi v116 c15_i32_70
  let c512_i32_74 : BitVec 32 := 512#32
  let v125 : BitVec 32 := Scalar.muli v119 c512_i32_74
  let v126 : BitVec 32 := v125
  let v127 : Index := Scalar.indexCast v126
  let c0_77 : Index := 0#32
  ![0, 0, v127.toNat, 0]
def k0_mult14 (arg13 : BitVec 32) (arg14 : BitVec 32) : BitVec 32 :=
  let v37 : BitVec 1 := Scalar.cmpi .eq arg14 arg13
  let c0_i32_30 : BitVec 32 := 0#32
  let c1_i32_29 : BitVec 32 := 1#32
  let v40 : BitVec 32 := Scalar.addi arg14 c1_i32_29
  let v41 : BitVec 32 := Scalar.select v37 c0_i32_30 v40
  let c1_i32_28 : BitVec 32 := 1#32
  let v38 : BitVec 32 := Scalar.addi arg13 c1_i32_28
  let v39 : BitVec 32 := Scalar.select v37 v38 arg13
  let v114 : BitVec 1 := Scalar.cmpi .eq v41 v39
  let c0_i32_69 : BitVec 32 := 0#32
  let c1_i32_68 : BitVec 32 := 1#32
  let v117 : BitVec 32 := Scalar.addi v41 c1_i32_68
  let v118 : BitVec 32 := Scalar.select v114 c0_i32_69 v117
  let c512_i32_78 : BitVec 32 := 512#32
  let v131 : BitVec 32 := Scalar.muli v118 c512_i32_78
  v131
def k0_off9 (arg13 : BitVec 32) (arg14 : BitVec 32) : Fin 3 → Nat :=
  let c0_79 : Index := 0#32
  let v37 : BitVec 1 := Scalar.cmpi .eq arg14 arg13
  let c0_i32_30 : BitVec 32 := 0#32
  let c1_i32_29 : BitVec 32 := 1#32
  let v40 : BitVec 32 := Scalar.addi arg14 c1_i32_29
  let v41 : BitVec 32 := Scalar.select v37 c0_i32_30 v40
  let c1_i32_28 : BitVec 32 := 1#32
  let v38 : BitVec 32 := Scalar.addi arg13 c1_i32_28
  let v39 : BitVec 32 := Scalar.select v37 v38 arg13
  let v114 : BitVec 1 := Scalar.cmpi .eq v41 v39
  let c0_i32_69 : BitVec 32 := 0#32
  let c1_i32_68 : BitVec 32 := 1#32
  let v117 : BitVec 32 := Scalar.addi v41 c1_i32_68
  let v118 : BitVec 32 := Scalar.select v114 c0_i32_69 v117
  let c512_i32_78 : BitVec 32 := 512#32
  let v131 : BitVec 32 := Scalar.muli v118 c512_i32_78
  let v132 : BitVec 32 := v131
  let v133 : Index := Scalar.indexCast v132
  let c0_80 : Index := 0#32
  ![0, v133.toNat, 0]
def k0_mult15 (arg13 : BitVec 32) (arg14 : BitVec 32) : BitVec 32 :=
  let v37 : BitVec 1 := Scalar.cmpi .eq arg14 arg13
  let c0_i32_30 : BitVec 32 := 0#32
  let c1_i32_29 : BitVec 32 := 1#32
  let v40 : BitVec 32 := Scalar.addi arg14 c1_i32_29
  let v41 : BitVec 32 := Scalar.select v37 c0_i32_30 v40
  let c1_i32_28 : BitVec 32 := 1#32
  let v38 : BitVec 32 := Scalar.addi arg13 c1_i32_28
  let v39 : BitVec 32 := Scalar.select v37 v38 arg13
  let v114 : BitVec 1 := Scalar.cmpi .eq v41 v39
  let c0_i32_69 : BitVec 32 := 0#32
  let c1_i32_68 : BitVec 32 := 1#32
  let v117 : BitVec 32 := Scalar.addi v41 c1_i32_68
  let v118 : BitVec 32 := Scalar.select v114 c0_i32_69 v117
  let c512_i32_81 : BitVec 32 := 512#32
  let v136 : BitVec 32 := Scalar.muli v118 c512_i32_81
  v136
def k0_off10 (arg13 : BitVec 32) (arg14 : BitVec 32) : Fin 4 → Nat :=
  let c0_82 : Index := 0#32
  let c0_83 : Index := 0#32
  let v37 : BitVec 1 := Scalar.cmpi .eq arg14 arg13
  let c0_i32_30 : BitVec 32 := 0#32
  let c1_i32_29 : BitVec 32 := 1#32
  let v40 : BitVec 32 := Scalar.addi arg14 c1_i32_29
  let v41 : BitVec 32 := Scalar.select v37 c0_i32_30 v40
  let c1_i32_28 : BitVec 32 := 1#32
  let v38 : BitVec 32 := Scalar.addi arg13 c1_i32_28
  let v39 : BitVec 32 := Scalar.select v37 v38 arg13
  let v114 : BitVec 1 := Scalar.cmpi .eq v41 v39
  let c0_i32_69 : BitVec 32 := 0#32
  let c1_i32_68 : BitVec 32 := 1#32
  let v117 : BitVec 32 := Scalar.addi v41 c1_i32_68
  let v118 : BitVec 32 := Scalar.select v114 c0_i32_69 v117
  let c512_i32_81 : BitVec 32 := 512#32
  let v136 : BitVec 32 := Scalar.muli v118 c512_i32_81
  let v137 : BitVec 32 := v136
  let v138 : Index := Scalar.indexCast v137
  let c0_84 : Index := 0#32
  ![0, 0, v138.toNat, 0]
def k0_mult16 (arg13 : BitVec 32) (arg14 : BitVec 32) : BitVec 32 :=
  let v37 : BitVec 1 := Scalar.cmpi .eq arg14 arg13
  let c0_i32_30 : BitVec 32 := 0#32
  let c1_i32_29 : BitVec 32 := 1#32
  let v40 : BitVec 32 := Scalar.addi arg14 c1_i32_29
  let v41 : BitVec 32 := Scalar.select v37 c0_i32_30 v40
  let c512_i32_89 : BitVec 32 := 512#32
  let v146 : BitVec 32 := Scalar.muli v41 c512_i32_89
  v146
def k0_mult17 (arg13 : BitVec 32) (arg14 : BitVec 32) : BitVec 32 :=
  let v37 : BitVec 1 := Scalar.cmpi .eq arg14 arg13
  let c1_i32_28 : BitVec 32 := 1#32
  let v38 : BitVec 32 := Scalar.addi arg13 c1_i32_28
  let v39 : BitVec 32 := Scalar.select v37 v38 arg13
  let c512_i32_102 : BitVec 32 := 512#32
  let v174 : BitVec 32 := Scalar.muli v39 c512_i32_102
  v174
def k0_off11 (arg13 : BitVec 32) (arg14 : BitVec 32) : Fin 2 → Nat :=
  let v37 : BitVec 1 := Scalar.cmpi .eq arg14 arg13
  let c1_i32_28 : BitVec 32 := 1#32
  let v38 : BitVec 32 := Scalar.addi arg13 c1_i32_28
  let v39 : BitVec 32 := Scalar.select v37 v38 arg13
  let c512_i32_102 : BitVec 32 := 512#32
  let v174 : BitVec 32 := Scalar.muli v39 c512_i32_102
  let v175 : BitVec 32 := v174
  let v176 : Index := Scalar.indexCast v175
  let c0_103 : Index := 0#32
  ![v176.toNat, 0]
def k0_mult18 (arg13 : BitVec 32) (arg14 : BitVec 32) : BitVec 32 :=
  let v37 : BitVec 1 := Scalar.cmpi .eq arg14 arg13
  let c1_i32_28 : BitVec 32 := 1#32
  let v38 : BitVec 32 := Scalar.addi arg13 c1_i32_28
  let v39 : BitVec 32 := Scalar.select v37 v38 arg13
  let c512_i32_105 : BitVec 32 := 512#32
  let v182 : BitVec 32 := Scalar.muli v39 c512_i32_105
  v182
def k0_mult19 (arg13 : BitVec 32) (arg14 : BitVec 32) : BitVec 32 :=
  let v37 : BitVec 1 := Scalar.cmpi .eq arg14 arg13
  let c0_i32_30 : BitVec 32 := 0#32
  let c1_i32_29 : BitVec 32 := 1#32
  let v40 : BitVec 32 := Scalar.addi arg14 c1_i32_29
  let v41 : BitVec 32 := Scalar.select v37 c0_i32_30 v40
  let c1_i32_28 : BitVec 32 := 1#32
  let v38 : BitVec 32 := Scalar.addi arg13 c1_i32_28
  let v39 : BitVec 32 := Scalar.select v37 v38 arg13
  let v114 : BitVec 1 := Scalar.cmpi .eq v41 v39
  let c0_i32_69 : BitVec 32 := 0#32
  let c1_i32_68 : BitVec 32 := 1#32
  let v117 : BitVec 32 := Scalar.addi v41 c1_i32_68
  let v118 : BitVec 32 := Scalar.select v114 c0_i32_69 v117
  let c1_i32_67 : BitVec 32 := 1#32
  let v115 : BitVec 32 := Scalar.addi v39 c1_i32_67
  let v116 : BitVec 32 := Scalar.select v114 v115 v39
  let v191 : BitVec 1 := Scalar.cmpi .eq v118 v116
  let c1_i32_109 : BitVec 32 := 1#32
  let v192 : BitVec 32 := Scalar.addi v116 c1_i32_109
  let v193 : BitVec 32 := Scalar.select v191 v192 v116
  let c15_i32_112 : BitVec 32 := 15#32
  let v196 : BitVec 32 := Scalar.minsi v193 c15_i32_112
  let c512_i32_113 : BitVec 32 := 512#32
  let v197 : BitVec 32 := Scalar.muli v196 c512_i32_113
  v197
def k0_off12 (arg13 : BitVec 32) (arg14 : BitVec 32) : Fin 3 → Nat :=
  let c0_114 : Index := 0#32
  let v37 : BitVec 1 := Scalar.cmpi .eq arg14 arg13
  let c0_i32_30 : BitVec 32 := 0#32
  let c1_i32_29 : BitVec 32 := 1#32
  let v40 : BitVec 32 := Scalar.addi arg14 c1_i32_29
  let v41 : BitVec 32 := Scalar.select v37 c0_i32_30 v40
  let c1_i32_28 : BitVec 32 := 1#32
  let v38 : BitVec 32 := Scalar.addi arg13 c1_i32_28
  let v39 : BitVec 32 := Scalar.select v37 v38 arg13
  let v114 : BitVec 1 := Scalar.cmpi .eq v41 v39
  let c0_i32_69 : BitVec 32 := 0#32
  let c1_i32_68 : BitVec 32 := 1#32
  let v117 : BitVec 32 := Scalar.addi v41 c1_i32_68
  let v118 : BitVec 32 := Scalar.select v114 c0_i32_69 v117
  let c1_i32_67 : BitVec 32 := 1#32
  let v115 : BitVec 32 := Scalar.addi v39 c1_i32_67
  let v116 : BitVec 32 := Scalar.select v114 v115 v39
  let v191 : BitVec 1 := Scalar.cmpi .eq v118 v116
  let c1_i32_109 : BitVec 32 := 1#32
  let v192 : BitVec 32 := Scalar.addi v116 c1_i32_109
  let v193 : BitVec 32 := Scalar.select v191 v192 v116
  let c15_i32_112 : BitVec 32 := 15#32
  let v196 : BitVec 32 := Scalar.minsi v193 c15_i32_112
  let c512_i32_113 : BitVec 32 := 512#32
  let v197 : BitVec 32 := Scalar.muli v196 c512_i32_113
  let v198 : BitVec 32 := v197
  let v199 : Index := Scalar.indexCast v198
  let c0_115 : Index := 0#32
  ![0, v199.toNat, 0]
def k0_mult20 (arg13 : BitVec 32) (arg14 : BitVec 32) : BitVec 32 :=
  let v37 : BitVec 1 := Scalar.cmpi .eq arg14 arg13
  let c0_i32_30 : BitVec 32 := 0#32
  let c1_i32_29 : BitVec 32 := 1#32
  let v40 : BitVec 32 := Scalar.addi arg14 c1_i32_29
  let v41 : BitVec 32 := Scalar.select v37 c0_i32_30 v40
  let c1_i32_28 : BitVec 32 := 1#32
  let v38 : BitVec 32 := Scalar.addi arg13 c1_i32_28
  let v39 : BitVec 32 := Scalar.select v37 v38 arg13
  let v114 : BitVec 1 := Scalar.cmpi .eq v41 v39
  let c0_i32_69 : BitVec 32 := 0#32
  let c1_i32_68 : BitVec 32 := 1#32
  let v117 : BitVec 32 := Scalar.addi v41 c1_i32_68
  let v118 : BitVec 32 := Scalar.select v114 c0_i32_69 v117
  let c1_i32_67 : BitVec 32 := 1#32
  let v115 : BitVec 32 := Scalar.addi v39 c1_i32_67
  let v116 : BitVec 32 := Scalar.select v114 v115 v39
  let v191 : BitVec 1 := Scalar.cmpi .eq v118 v116
  let c1_i32_109 : BitVec 32 := 1#32
  let v192 : BitVec 32 := Scalar.addi v116 c1_i32_109
  let v193 : BitVec 32 := Scalar.select v191 v192 v116
  let c15_i32_112 : BitVec 32 := 15#32
  let v196 : BitVec 32 := Scalar.minsi v193 c15_i32_112
  let c512_i32_116 : BitVec 32 := 512#32
  let v202 : BitVec 32 := Scalar.muli v196 c512_i32_116
  v202
def k0_off13 (arg13 : BitVec 32) (arg14 : BitVec 32) : Fin 4 → Nat :=
  let c0_117 : Index := 0#32
  let c0_118 : Index := 0#32
  let v37 : BitVec 1 := Scalar.cmpi .eq arg14 arg13
  let c0_i32_30 : BitVec 32 := 0#32
  let c1_i32_29 : BitVec 32 := 1#32
  let v40 : BitVec 32 := Scalar.addi arg14 c1_i32_29
  let v41 : BitVec 32 := Scalar.select v37 c0_i32_30 v40
  let c1_i32_28 : BitVec 32 := 1#32
  let v38 : BitVec 32 := Scalar.addi arg13 c1_i32_28
  let v39 : BitVec 32 := Scalar.select v37 v38 arg13
  let v114 : BitVec 1 := Scalar.cmpi .eq v41 v39
  let c0_i32_69 : BitVec 32 := 0#32
  let c1_i32_68 : BitVec 32 := 1#32
  let v117 : BitVec 32 := Scalar.addi v41 c1_i32_68
  let v118 : BitVec 32 := Scalar.select v114 c0_i32_69 v117
  let c1_i32_67 : BitVec 32 := 1#32
  let v115 : BitVec 32 := Scalar.addi v39 c1_i32_67
  let v116 : BitVec 32 := Scalar.select v114 v115 v39
  let v191 : BitVec 1 := Scalar.cmpi .eq v118 v116
  let c1_i32_109 : BitVec 32 := 1#32
  let v192 : BitVec 32 := Scalar.addi v116 c1_i32_109
  let v193 : BitVec 32 := Scalar.select v191 v192 v116
  let c15_i32_112 : BitVec 32 := 15#32
  let v196 : BitVec 32 := Scalar.minsi v193 c15_i32_112
  let c512_i32_116 : BitVec 32 := 512#32
  let v202 : BitVec 32 := Scalar.muli v196 c512_i32_116
  let v203 : BitVec 32 := v202
  let v204 : Index := Scalar.indexCast v203
  let c0_119 : Index := 0#32
  ![0, 0, v204.toNat, 0]
def k0_mult21 (arg13 : BitVec 32) (arg14 : BitVec 32) : BitVec 32 :=
  let v37 : BitVec 1 := Scalar.cmpi .eq arg14 arg13
  let c0_i32_30 : BitVec 32 := 0#32
  let c1_i32_29 : BitVec 32 := 1#32
  let v40 : BitVec 32 := Scalar.addi arg14 c1_i32_29
  let v41 : BitVec 32 := Scalar.select v37 c0_i32_30 v40
  let c1_i32_28 : BitVec 32 := 1#32
  let v38 : BitVec 32 := Scalar.addi arg13 c1_i32_28
  let v39 : BitVec 32 := Scalar.select v37 v38 arg13
  let v114 : BitVec 1 := Scalar.cmpi .eq v41 v39
  let c0_i32_69 : BitVec 32 := 0#32
  let c1_i32_68 : BitVec 32 := 1#32
  let v117 : BitVec 32 := Scalar.addi v41 c1_i32_68
  let v118 : BitVec 32 := Scalar.select v114 c0_i32_69 v117
  let c1_i32_67 : BitVec 32 := 1#32
  let v115 : BitVec 32 := Scalar.addi v39 c1_i32_67
  let v116 : BitVec 32 := Scalar.select v114 v115 v39
  let v191 : BitVec 1 := Scalar.cmpi .eq v118 v116
  let c0_i32_111 : BitVec 32 := 0#32
  let c1_i32_110 : BitVec 32 := 1#32
  let v194 : BitVec 32 := Scalar.addi v118 c1_i32_110
  let v195 : BitVec 32 := Scalar.select v191 c0_i32_111 v194
  let c512_i32_120 : BitVec 32 := 512#32
  let v208 : BitVec 32 := Scalar.muli v195 c512_i32_120
  v208
def k0_off14 (arg13 : BitVec 32) (arg14 : BitVec 32) : Fin 3 → Nat :=
  let c0_121 : Index := 0#32
  let v37 : BitVec 1 := Scalar.cmpi .eq arg14 arg13
  let c0_i32_30 : BitVec 32 := 0#32
  let c1_i32_29 : BitVec 32 := 1#32
  let v40 : BitVec 32 := Scalar.addi arg14 c1_i32_29
  let v41 : BitVec 32 := Scalar.select v37 c0_i32_30 v40
  let c1_i32_28 : BitVec 32 := 1#32
  let v38 : BitVec 32 := Scalar.addi arg13 c1_i32_28
  let v39 : BitVec 32 := Scalar.select v37 v38 arg13
  let v114 : BitVec 1 := Scalar.cmpi .eq v41 v39
  let c0_i32_69 : BitVec 32 := 0#32
  let c1_i32_68 : BitVec 32 := 1#32
  let v117 : BitVec 32 := Scalar.addi v41 c1_i32_68
  let v118 : BitVec 32 := Scalar.select v114 c0_i32_69 v117
  let c1_i32_67 : BitVec 32 := 1#32
  let v115 : BitVec 32 := Scalar.addi v39 c1_i32_67
  let v116 : BitVec 32 := Scalar.select v114 v115 v39
  let v191 : BitVec 1 := Scalar.cmpi .eq v118 v116
  let c0_i32_111 : BitVec 32 := 0#32
  let c1_i32_110 : BitVec 32 := 1#32
  let v194 : BitVec 32 := Scalar.addi v118 c1_i32_110
  let v195 : BitVec 32 := Scalar.select v191 c0_i32_111 v194
  let c512_i32_120 : BitVec 32 := 512#32
  let v208 : BitVec 32 := Scalar.muli v195 c512_i32_120
  let v209 : BitVec 32 := v208
  let v210 : Index := Scalar.indexCast v209
  let c0_122 : Index := 0#32
  ![0, v210.toNat, 0]
def k0_mult22 (arg13 : BitVec 32) (arg14 : BitVec 32) : BitVec 32 :=
  let v37 : BitVec 1 := Scalar.cmpi .eq arg14 arg13
  let c0_i32_30 : BitVec 32 := 0#32
  let c1_i32_29 : BitVec 32 := 1#32
  let v40 : BitVec 32 := Scalar.addi arg14 c1_i32_29
  let v41 : BitVec 32 := Scalar.select v37 c0_i32_30 v40
  let c1_i32_28 : BitVec 32 := 1#32
  let v38 : BitVec 32 := Scalar.addi arg13 c1_i32_28
  let v39 : BitVec 32 := Scalar.select v37 v38 arg13
  let v114 : BitVec 1 := Scalar.cmpi .eq v41 v39
  let c0_i32_69 : BitVec 32 := 0#32
  let c1_i32_68 : BitVec 32 := 1#32
  let v117 : BitVec 32 := Scalar.addi v41 c1_i32_68
  let v118 : BitVec 32 := Scalar.select v114 c0_i32_69 v117
  let c1_i32_67 : BitVec 32 := 1#32
  let v115 : BitVec 32 := Scalar.addi v39 c1_i32_67
  let v116 : BitVec 32 := Scalar.select v114 v115 v39
  let v191 : BitVec 1 := Scalar.cmpi .eq v118 v116
  let c0_i32_111 : BitVec 32 := 0#32
  let c1_i32_110 : BitVec 32 := 1#32
  let v194 : BitVec 32 := Scalar.addi v118 c1_i32_110
  let v195 : BitVec 32 := Scalar.select v191 c0_i32_111 v194
  let c512_i32_123 : BitVec 32 := 512#32
  let v213 : BitVec 32 := Scalar.muli v195 c512_i32_123
  v213
def k0_off15 (arg13 : BitVec 32) (arg14 : BitVec 32) : Fin 4 → Nat :=
  let c0_124 : Index := 0#32
  let c0_125 : Index := 0#32
  let v37 : BitVec 1 := Scalar.cmpi .eq arg14 arg13
  let c0_i32_30 : BitVec 32 := 0#32
  let c1_i32_29 : BitVec 32 := 1#32
  let v40 : BitVec 32 := Scalar.addi arg14 c1_i32_29
  let v41 : BitVec 32 := Scalar.select v37 c0_i32_30 v40
  let c1_i32_28 : BitVec 32 := 1#32
  let v38 : BitVec 32 := Scalar.addi arg13 c1_i32_28
  let v39 : BitVec 32 := Scalar.select v37 v38 arg13
  let v114 : BitVec 1 := Scalar.cmpi .eq v41 v39
  let c0_i32_69 : BitVec 32 := 0#32
  let c1_i32_68 : BitVec 32 := 1#32
  let v117 : BitVec 32 := Scalar.addi v41 c1_i32_68
  let v118 : BitVec 32 := Scalar.select v114 c0_i32_69 v117
  let c1_i32_67 : BitVec 32 := 1#32
  let v115 : BitVec 32 := Scalar.addi v39 c1_i32_67
  let v116 : BitVec 32 := Scalar.select v114 v115 v39
  let v191 : BitVec 1 := Scalar.cmpi .eq v118 v116
  let c0_i32_111 : BitVec 32 := 0#32
  let c1_i32_110 : BitVec 32 := 1#32
  let v194 : BitVec 32 := Scalar.addi v118 c1_i32_110
  let v195 : BitVec 32 := Scalar.select v191 c0_i32_111 v194
  let c512_i32_123 : BitVec 32 := 512#32
  let v213 : BitVec 32 := Scalar.muli v195 c512_i32_123
  let v214 : BitVec 32 := v213
  let v215 : Index := Scalar.indexCast v214
  let c0_126 : Index := 0#32
  ![0, 0, v215.toNat, 0]
def k0_mult23 (arg13 : BitVec 32) (arg14 : BitVec 32) : BitVec 32 :=
  let v37 : BitVec 1 := Scalar.cmpi .eq arg14 arg13
  let c0_i32_30 : BitVec 32 := 0#32
  let c1_i32_29 : BitVec 32 := 1#32
  let v40 : BitVec 32 := Scalar.addi arg14 c1_i32_29
  let v41 : BitVec 32 := Scalar.select v37 c0_i32_30 v40
  let c1_i32_28 : BitVec 32 := 1#32
  let v38 : BitVec 32 := Scalar.addi arg13 c1_i32_28
  let v39 : BitVec 32 := Scalar.select v37 v38 arg13
  let v114 : BitVec 1 := Scalar.cmpi .eq v41 v39
  let c0_i32_69 : BitVec 32 := 0#32
  let c1_i32_68 : BitVec 32 := 1#32
  let v117 : BitVec 32 := Scalar.addi v41 c1_i32_68
  let v118 : BitVec 32 := Scalar.select v114 c0_i32_69 v117
  let c512_i32_131 : BitVec 32 := 512#32
  let v223 : BitVec 32 := Scalar.muli v118 c512_i32_131
  v223
def k0_mult24 (arg13 : BitVec 32) (arg14 : BitVec 32) : BitVec 32 :=
  let v37 : BitVec 1 := Scalar.cmpi .eq arg14 arg13
  let c0_i32_30 : BitVec 32 := 0#32
  let c1_i32_29 : BitVec 32 := 1#32
  let v40 : BitVec 32 := Scalar.addi arg14 c1_i32_29
  let v41 : BitVec 32 := Scalar.select v37 c0_i32_30 v40
  let c1_i32_28 : BitVec 32 := 1#32
  let v38 : BitVec 32 := Scalar.addi arg13 c1_i32_28
  let v39 : BitVec 32 := Scalar.select v37 v38 arg13
  let v114 : BitVec 1 := Scalar.cmpi .eq v41 v39
  let c1_i32_67 : BitVec 32 := 1#32
  let v115 : BitVec 32 := Scalar.addi v39 c1_i32_67
  let v116 : BitVec 32 := Scalar.select v114 v115 v39
  let c512_i32_144 : BitVec 32 := 512#32
  let v251 : BitVec 32 := Scalar.muli v116 c512_i32_144
  v251
def k0_off16 (arg13 : BitVec 32) (arg14 : BitVec 32) : Fin 2 → Nat :=
  let v37 : BitVec 1 := Scalar.cmpi .eq arg14 arg13
  let c0_i32_30 : BitVec 32 := 0#32
  let c1_i32_29 : BitVec 32 := 1#32
  let v40 : BitVec 32 := Scalar.addi arg14 c1_i32_29
  let v41 : BitVec 32 := Scalar.select v37 c0_i32_30 v40
  let c1_i32_28 : BitVec 32 := 1#32
  let v38 : BitVec 32 := Scalar.addi arg13 c1_i32_28
  let v39 : BitVec 32 := Scalar.select v37 v38 arg13
  let v114 : BitVec 1 := Scalar.cmpi .eq v41 v39
  let c1_i32_67 : BitVec 32 := 1#32
  let v115 : BitVec 32 := Scalar.addi v39 c1_i32_67
  let v116 : BitVec 32 := Scalar.select v114 v115 v39
  let c512_i32_144 : BitVec 32 := 512#32
  let v251 : BitVec 32 := Scalar.muli v116 c512_i32_144
  let v252 : BitVec 32 := v251
  let v253 : Index := Scalar.indexCast v252
  let c0_145 : Index := 0#32
  ![v253.toNat, 0]
def k0_mult25 (arg13 : BitVec 32) (arg14 : BitVec 32) : BitVec 32 :=
  let v37 : BitVec 1 := Scalar.cmpi .eq arg14 arg13
  let c0_i32_30 : BitVec 32 := 0#32
  let c1_i32_29 : BitVec 32 := 1#32
  let v40 : BitVec 32 := Scalar.addi arg14 c1_i32_29
  let v41 : BitVec 32 := Scalar.select v37 c0_i32_30 v40
  let c1_i32_28 : BitVec 32 := 1#32
  let v38 : BitVec 32 := Scalar.addi arg13 c1_i32_28
  let v39 : BitVec 32 := Scalar.select v37 v38 arg13
  let v114 : BitVec 1 := Scalar.cmpi .eq v41 v39
  let c1_i32_67 : BitVec 32 := 1#32
  let v115 : BitVec 32 := Scalar.addi v39 c1_i32_67
  let v116 : BitVec 32 := Scalar.select v114 v115 v39
  let c512_i32_147 : BitVec 32 := 512#32
  let v259 : BitVec 32 := Scalar.muli v116 c512_i32_147
  v259
def k0_mult26 (arg13 : BitVec 32) (arg14 : BitVec 32) : BitVec 32 :=
  let v37 : BitVec 1 := Scalar.cmpi .eq arg14 arg13
  let c0_i32_30 : BitVec 32 := 0#32
  let c1_i32_29 : BitVec 32 := 1#32
  let v40 : BitVec 32 := Scalar.addi arg14 c1_i32_29
  let v41 : BitVec 32 := Scalar.select v37 c0_i32_30 v40
  let c1_i32_28 : BitVec 32 := 1#32
  let v38 : BitVec 32 := Scalar.addi arg13 c1_i32_28
  let v39 : BitVec 32 := Scalar.select v37 v38 arg13
  let v114 : BitVec 1 := Scalar.cmpi .eq v41 v39
  let c0_i32_69 : BitVec 32 := 0#32
  let c1_i32_68 : BitVec 32 := 1#32
  let v117 : BitVec 32 := Scalar.addi v41 c1_i32_68
  let v118 : BitVec 32 := Scalar.select v114 c0_i32_69 v117
  let c1_i32_67 : BitVec 32 := 1#32
  let v115 : BitVec 32 := Scalar.addi v39 c1_i32_67
  let v116 : BitVec 32 := Scalar.select v114 v115 v39
  let v191 : BitVec 1 := Scalar.cmpi .eq v118 v116
  let c0_i32_111 : BitVec 32 := 0#32
  let c1_i32_110 : BitVec 32 := 1#32
  let v194 : BitVec 32 := Scalar.addi v118 c1_i32_110
  let v195 : BitVec 32 := Scalar.select v191 c0_i32_111 v194
  let c1_i32_109 : BitVec 32 := 1#32
  let v192 : BitVec 32 := Scalar.addi v116 c1_i32_109
  let v193 : BitVec 32 := Scalar.select v191 v192 v116
  let v268 : BitVec 1 := Scalar.cmpi .eq v195 v193
  let c1_i32_151 : BitVec 32 := 1#32
  let v269 : BitVec 32 := Scalar.addi v193 c1_i32_151
  let v270 : BitVec 32 := Scalar.select v268 v269 v193
  let c15_i32_154 : BitVec 32 := 15#32
  let v273 : BitVec 32 := Scalar.minsi v270 c15_i32_154
  let c512_i32_155 : BitVec 32 := 512#32
  let v274 : BitVec 32 := Scalar.muli v273 c512_i32_155
  v274
def k0_off17 (arg13 : BitVec 32) (arg14 : BitVec 32) : Fin 3 → Nat :=
  let c0_156 : Index := 0#32
  let v37 : BitVec 1 := Scalar.cmpi .eq arg14 arg13
  let c0_i32_30 : BitVec 32 := 0#32
  let c1_i32_29 : BitVec 32 := 1#32
  let v40 : BitVec 32 := Scalar.addi arg14 c1_i32_29
  let v41 : BitVec 32 := Scalar.select v37 c0_i32_30 v40
  let c1_i32_28 : BitVec 32 := 1#32
  let v38 : BitVec 32 := Scalar.addi arg13 c1_i32_28
  let v39 : BitVec 32 := Scalar.select v37 v38 arg13
  let v114 : BitVec 1 := Scalar.cmpi .eq v41 v39
  let c0_i32_69 : BitVec 32 := 0#32
  let c1_i32_68 : BitVec 32 := 1#32
  let v117 : BitVec 32 := Scalar.addi v41 c1_i32_68
  let v118 : BitVec 32 := Scalar.select v114 c0_i32_69 v117
  let c1_i32_67 : BitVec 32 := 1#32
  let v115 : BitVec 32 := Scalar.addi v39 c1_i32_67
  let v116 : BitVec 32 := Scalar.select v114 v115 v39
  let v191 : BitVec 1 := Scalar.cmpi .eq v118 v116
  let c0_i32_111 : BitVec 32 := 0#32
  let c1_i32_110 : BitVec 32 := 1#32
  let v194 : BitVec 32 := Scalar.addi v118 c1_i32_110
  let v195 : BitVec 32 := Scalar.select v191 c0_i32_111 v194
  let c1_i32_109 : BitVec 32 := 1#32
  let v192 : BitVec 32 := Scalar.addi v116 c1_i32_109
  let v193 : BitVec 32 := Scalar.select v191 v192 v116
  let v268 : BitVec 1 := Scalar.cmpi .eq v195 v193
  let c1_i32_151 : BitVec 32 := 1#32
  let v269 : BitVec 32 := Scalar.addi v193 c1_i32_151
  let v270 : BitVec 32 := Scalar.select v268 v269 v193
  let c15_i32_154 : BitVec 32 := 15#32
  let v273 : BitVec 32 := Scalar.minsi v270 c15_i32_154
  let c512_i32_155 : BitVec 32 := 512#32
  let v274 : BitVec 32 := Scalar.muli v273 c512_i32_155
  let v275 : BitVec 32 := v274
  let v276 : Index := Scalar.indexCast v275
  let c0_157 : Index := 0#32
  ![0, v276.toNat, 0]
def k0_mult27 (arg13 : BitVec 32) (arg14 : BitVec 32) : BitVec 32 :=
  let v37 : BitVec 1 := Scalar.cmpi .eq arg14 arg13
  let c0_i32_30 : BitVec 32 := 0#32
  let c1_i32_29 : BitVec 32 := 1#32
  let v40 : BitVec 32 := Scalar.addi arg14 c1_i32_29
  let v41 : BitVec 32 := Scalar.select v37 c0_i32_30 v40
  let c1_i32_28 : BitVec 32 := 1#32
  let v38 : BitVec 32 := Scalar.addi arg13 c1_i32_28
  let v39 : BitVec 32 := Scalar.select v37 v38 arg13
  let v114 : BitVec 1 := Scalar.cmpi .eq v41 v39
  let c0_i32_69 : BitVec 32 := 0#32
  let c1_i32_68 : BitVec 32 := 1#32
  let v117 : BitVec 32 := Scalar.addi v41 c1_i32_68
  let v118 : BitVec 32 := Scalar.select v114 c0_i32_69 v117
  let c1_i32_67 : BitVec 32 := 1#32
  let v115 : BitVec 32 := Scalar.addi v39 c1_i32_67
  let v116 : BitVec 32 := Scalar.select v114 v115 v39
  let v191 : BitVec 1 := Scalar.cmpi .eq v118 v116
  let c0_i32_111 : BitVec 32 := 0#32
  let c1_i32_110 : BitVec 32 := 1#32
  let v194 : BitVec 32 := Scalar.addi v118 c1_i32_110
  let v195 : BitVec 32 := Scalar.select v191 c0_i32_111 v194
  let c1_i32_109 : BitVec 32 := 1#32
  let v192 : BitVec 32 := Scalar.addi v116 c1_i32_109
  let v193 : BitVec 32 := Scalar.select v191 v192 v116
  let v268 : BitVec 1 := Scalar.cmpi .eq v195 v193
  let c1_i32_151 : BitVec 32 := 1#32
  let v269 : BitVec 32 := Scalar.addi v193 c1_i32_151
  let v270 : BitVec 32 := Scalar.select v268 v269 v193
  let c15_i32_154 : BitVec 32 := 15#32
  let v273 : BitVec 32 := Scalar.minsi v270 c15_i32_154
  let c512_i32_158 : BitVec 32 := 512#32
  let v279 : BitVec 32 := Scalar.muli v273 c512_i32_158
  v279
def k0_off18 (arg13 : BitVec 32) (arg14 : BitVec 32) : Fin 4 → Nat :=
  let c0_159 : Index := 0#32
  let c0_160 : Index := 0#32
  let v37 : BitVec 1 := Scalar.cmpi .eq arg14 arg13
  let c0_i32_30 : BitVec 32 := 0#32
  let c1_i32_29 : BitVec 32 := 1#32
  let v40 : BitVec 32 := Scalar.addi arg14 c1_i32_29
  let v41 : BitVec 32 := Scalar.select v37 c0_i32_30 v40
  let c1_i32_28 : BitVec 32 := 1#32
  let v38 : BitVec 32 := Scalar.addi arg13 c1_i32_28
  let v39 : BitVec 32 := Scalar.select v37 v38 arg13
  let v114 : BitVec 1 := Scalar.cmpi .eq v41 v39
  let c0_i32_69 : BitVec 32 := 0#32
  let c1_i32_68 : BitVec 32 := 1#32
  let v117 : BitVec 32 := Scalar.addi v41 c1_i32_68
  let v118 : BitVec 32 := Scalar.select v114 c0_i32_69 v117
  let c1_i32_67 : BitVec 32 := 1#32
  let v115 : BitVec 32 := Scalar.addi v39 c1_i32_67
  let v116 : BitVec 32 := Scalar.select v114 v115 v39
  let v191 : BitVec 1 := Scalar.cmpi .eq v118 v116
  let c0_i32_111 : BitVec 32 := 0#32
  let c1_i32_110 : BitVec 32 := 1#32
  let v194 : BitVec 32 := Scalar.addi v118 c1_i32_110
  let v195 : BitVec 32 := Scalar.select v191 c0_i32_111 v194
  let c1_i32_109 : BitVec 32 := 1#32
  let v192 : BitVec 32 := Scalar.addi v116 c1_i32_109
  let v193 : BitVec 32 := Scalar.select v191 v192 v116
  let v268 : BitVec 1 := Scalar.cmpi .eq v195 v193
  let c1_i32_151 : BitVec 32 := 1#32
  let v269 : BitVec 32 := Scalar.addi v193 c1_i32_151
  let v270 : BitVec 32 := Scalar.select v268 v269 v193
  let c15_i32_154 : BitVec 32 := 15#32
  let v273 : BitVec 32 := Scalar.minsi v270 c15_i32_154
  let c512_i32_158 : BitVec 32 := 512#32
  let v279 : BitVec 32 := Scalar.muli v273 c512_i32_158
  let v280 : BitVec 32 := v279
  let v281 : Index := Scalar.indexCast v280
  let c0_161 : Index := 0#32
  ![0, 0, v281.toNat, 0]
def k0_mult28 (arg13 : BitVec 32) (arg14 : BitVec 32) : BitVec 32 :=
  let v37 : BitVec 1 := Scalar.cmpi .eq arg14 arg13
  let c0_i32_30 : BitVec 32 := 0#32
  let c1_i32_29 : BitVec 32 := 1#32
  let v40 : BitVec 32 := Scalar.addi arg14 c1_i32_29
  let v41 : BitVec 32 := Scalar.select v37 c0_i32_30 v40
  let c1_i32_28 : BitVec 32 := 1#32
  let v38 : BitVec 32 := Scalar.addi arg13 c1_i32_28
  let v39 : BitVec 32 := Scalar.select v37 v38 arg13
  let v114 : BitVec 1 := Scalar.cmpi .eq v41 v39
  let c0_i32_69 : BitVec 32 := 0#32
  let c1_i32_68 : BitVec 32 := 1#32
  let v117 : BitVec 32 := Scalar.addi v41 c1_i32_68
  let v118 : BitVec 32 := Scalar.select v114 c0_i32_69 v117
  let c1_i32_67 : BitVec 32 := 1#32
  let v115 : BitVec 32 := Scalar.addi v39 c1_i32_67
  let v116 : BitVec 32 := Scalar.select v114 v115 v39
  let v191 : BitVec 1 := Scalar.cmpi .eq v118 v116
  let c0_i32_111 : BitVec 32 := 0#32
  let c1_i32_110 : BitVec 32 := 1#32
  let v194 : BitVec 32 := Scalar.addi v118 c1_i32_110
  let v195 : BitVec 32 := Scalar.select v191 c0_i32_111 v194
  let c1_i32_109 : BitVec 32 := 1#32
  let v192 : BitVec 32 := Scalar.addi v116 c1_i32_109
  let v193 : BitVec 32 := Scalar.select v191 v192 v116
  let v268 : BitVec 1 := Scalar.cmpi .eq v195 v193
  let c0_i32_153 : BitVec 32 := 0#32
  let c1_i32_152 : BitVec 32 := 1#32
  let v271 : BitVec 32 := Scalar.addi v195 c1_i32_152
  let v272 : BitVec 32 := Scalar.select v268 c0_i32_153 v271
  let c512_i32_162 : BitVec 32 := 512#32
  let v285 : BitVec 32 := Scalar.muli v272 c512_i32_162
  v285
def k0_off19 (arg13 : BitVec 32) (arg14 : BitVec 32) : Fin 3 → Nat :=
  let c0_163 : Index := 0#32
  let v37 : BitVec 1 := Scalar.cmpi .eq arg14 arg13
  let c0_i32_30 : BitVec 32 := 0#32
  let c1_i32_29 : BitVec 32 := 1#32
  let v40 : BitVec 32 := Scalar.addi arg14 c1_i32_29
  let v41 : BitVec 32 := Scalar.select v37 c0_i32_30 v40
  let c1_i32_28 : BitVec 32 := 1#32
  let v38 : BitVec 32 := Scalar.addi arg13 c1_i32_28
  let v39 : BitVec 32 := Scalar.select v37 v38 arg13
  let v114 : BitVec 1 := Scalar.cmpi .eq v41 v39
  let c0_i32_69 : BitVec 32 := 0#32
  let c1_i32_68 : BitVec 32 := 1#32
  let v117 : BitVec 32 := Scalar.addi v41 c1_i32_68
  let v118 : BitVec 32 := Scalar.select v114 c0_i32_69 v117
  let c1_i32_67 : BitVec 32 := 1#32
  let v115 : BitVec 32 := Scalar.addi v39 c1_i32_67
  let v116 : BitVec 32 := Scalar.select v114 v115 v39
  let v191 : BitVec 1 := Scalar.cmpi .eq v118 v116
  let c0_i32_111 : BitVec 32 := 0#32
  let c1_i32_110 : BitVec 32 := 1#32
  let v194 : BitVec 32 := Scalar.addi v118 c1_i32_110
  let v195 : BitVec 32 := Scalar.select v191 c0_i32_111 v194
  let c1_i32_109 : BitVec 32 := 1#32
  let v192 : BitVec 32 := Scalar.addi v116 c1_i32_109
  let v193 : BitVec 32 := Scalar.select v191 v192 v116
  let v268 : BitVec 1 := Scalar.cmpi .eq v195 v193
  let c0_i32_153 : BitVec 32 := 0#32
  let c1_i32_152 : BitVec 32 := 1#32
  let v271 : BitVec 32 := Scalar.addi v195 c1_i32_152
  let v272 : BitVec 32 := Scalar.select v268 c0_i32_153 v271
  let c512_i32_162 : BitVec 32 := 512#32
  let v285 : BitVec 32 := Scalar.muli v272 c512_i32_162
  let v286 : BitVec 32 := v285
  let v287 : Index := Scalar.indexCast v286
  let c0_164 : Index := 0#32
  ![0, v287.toNat, 0]
def k0_mult29 (arg13 : BitVec 32) (arg14 : BitVec 32) : BitVec 32 :=
  let v37 : BitVec 1 := Scalar.cmpi .eq arg14 arg13
  let c0_i32_30 : BitVec 32 := 0#32
  let c1_i32_29 : BitVec 32 := 1#32
  let v40 : BitVec 32 := Scalar.addi arg14 c1_i32_29
  let v41 : BitVec 32 := Scalar.select v37 c0_i32_30 v40
  let c1_i32_28 : BitVec 32 := 1#32
  let v38 : BitVec 32 := Scalar.addi arg13 c1_i32_28
  let v39 : BitVec 32 := Scalar.select v37 v38 arg13
  let v114 : BitVec 1 := Scalar.cmpi .eq v41 v39
  let c0_i32_69 : BitVec 32 := 0#32
  let c1_i32_68 : BitVec 32 := 1#32
  let v117 : BitVec 32 := Scalar.addi v41 c1_i32_68
  let v118 : BitVec 32 := Scalar.select v114 c0_i32_69 v117
  let c1_i32_67 : BitVec 32 := 1#32
  let v115 : BitVec 32 := Scalar.addi v39 c1_i32_67
  let v116 : BitVec 32 := Scalar.select v114 v115 v39
  let v191 : BitVec 1 := Scalar.cmpi .eq v118 v116
  let c0_i32_111 : BitVec 32 := 0#32
  let c1_i32_110 : BitVec 32 := 1#32
  let v194 : BitVec 32 := Scalar.addi v118 c1_i32_110
  let v195 : BitVec 32 := Scalar.select v191 c0_i32_111 v194
  let c1_i32_109 : BitVec 32 := 1#32
  let v192 : BitVec 32 := Scalar.addi v116 c1_i32_109
  let v193 : BitVec 32 := Scalar.select v191 v192 v116
  let v268 : BitVec 1 := Scalar.cmpi .eq v195 v193
  let c0_i32_153 : BitVec 32 := 0#32
  let c1_i32_152 : BitVec 32 := 1#32
  let v271 : BitVec 32 := Scalar.addi v195 c1_i32_152
  let v272 : BitVec 32 := Scalar.select v268 c0_i32_153 v271
  let c512_i32_165 : BitVec 32 := 512#32
  let v290 : BitVec 32 := Scalar.muli v272 c512_i32_165
  v290
def k0_off20 (arg13 : BitVec 32) (arg14 : BitVec 32) : Fin 4 → Nat :=
  let c0_166 : Index := 0#32
  let c0_167 : Index := 0#32
  let v37 : BitVec 1 := Scalar.cmpi .eq arg14 arg13
  let c0_i32_30 : BitVec 32 := 0#32
  let c1_i32_29 : BitVec 32 := 1#32
  let v40 : BitVec 32 := Scalar.addi arg14 c1_i32_29
  let v41 : BitVec 32 := Scalar.select v37 c0_i32_30 v40
  let c1_i32_28 : BitVec 32 := 1#32
  let v38 : BitVec 32 := Scalar.addi arg13 c1_i32_28
  let v39 : BitVec 32 := Scalar.select v37 v38 arg13
  let v114 : BitVec 1 := Scalar.cmpi .eq v41 v39
  let c0_i32_69 : BitVec 32 := 0#32
  let c1_i32_68 : BitVec 32 := 1#32
  let v117 : BitVec 32 := Scalar.addi v41 c1_i32_68
  let v118 : BitVec 32 := Scalar.select v114 c0_i32_69 v117
  let c1_i32_67 : BitVec 32 := 1#32
  let v115 : BitVec 32 := Scalar.addi v39 c1_i32_67
  let v116 : BitVec 32 := Scalar.select v114 v115 v39
  let v191 : BitVec 1 := Scalar.cmpi .eq v118 v116
  let c0_i32_111 : BitVec 32 := 0#32
  let c1_i32_110 : BitVec 32 := 1#32
  let v194 : BitVec 32 := Scalar.addi v118 c1_i32_110
  let v195 : BitVec 32 := Scalar.select v191 c0_i32_111 v194
  let c1_i32_109 : BitVec 32 := 1#32
  let v192 : BitVec 32 := Scalar.addi v116 c1_i32_109
  let v193 : BitVec 32 := Scalar.select v191 v192 v116
  let v268 : BitVec 1 := Scalar.cmpi .eq v195 v193
  let c0_i32_153 : BitVec 32 := 0#32
  let c1_i32_152 : BitVec 32 := 1#32
  let v271 : BitVec 32 := Scalar.addi v195 c1_i32_152
  let v272 : BitVec 32 := Scalar.select v268 c0_i32_153 v271
  let c512_i32_165 : BitVec 32 := 512#32
  let v290 : BitVec 32 := Scalar.muli v272 c512_i32_165
  let v291 : BitVec 32 := v290
  let v292 : Index := Scalar.indexCast v291
  let c0_168 : Index := 0#32
  ![0, 0, v292.toNat, 0]
def k0_mult30 (arg13 : BitVec 32) (arg14 : BitVec 32) : BitVec 32 :=
  let v37 : BitVec 1 := Scalar.cmpi .eq arg14 arg13
  let c0_i32_30 : BitVec 32 := 0#32
  let c1_i32_29 : BitVec 32 := 1#32
  let v40 : BitVec 32 := Scalar.addi arg14 c1_i32_29
  let v41 : BitVec 32 := Scalar.select v37 c0_i32_30 v40
  let c1_i32_28 : BitVec 32 := 1#32
  let v38 : BitVec 32 := Scalar.addi arg13 c1_i32_28
  let v39 : BitVec 32 := Scalar.select v37 v38 arg13
  let v114 : BitVec 1 := Scalar.cmpi .eq v41 v39
  let c0_i32_69 : BitVec 32 := 0#32
  let c1_i32_68 : BitVec 32 := 1#32
  let v117 : BitVec 32 := Scalar.addi v41 c1_i32_68
  let v118 : BitVec 32 := Scalar.select v114 c0_i32_69 v117
  let c1_i32_67 : BitVec 32 := 1#32
  let v115 : BitVec 32 := Scalar.addi v39 c1_i32_67
  let v116 : BitVec 32 := Scalar.select v114 v115 v39
  let v191 : BitVec 1 := Scalar.cmpi .eq v118 v116
  let c0_i32_111 : BitVec 32 := 0#32
  let c1_i32_110 : BitVec 32 := 1#32
  let v194 : BitVec 32 := Scalar.addi v118 c1_i32_110
  let v195 : BitVec 32 := Scalar.select v191 c0_i32_111 v194
  let c512_i32_173 : BitVec 32 := 512#32
  let v300 : BitVec 32 := Scalar.muli v195 c512_i32_173
  v300
def k0_mult31 (arg13 : BitVec 32) (arg14 : BitVec 32) : BitVec 32 :=
  let v37 : BitVec 1 := Scalar.cmpi .eq arg14 arg13
  let c0_i32_30 : BitVec 32 := 0#32
  let c1_i32_29 : BitVec 32 := 1#32
  let v40 : BitVec 32 := Scalar.addi arg14 c1_i32_29
  let v41 : BitVec 32 := Scalar.select v37 c0_i32_30 v40
  let c1_i32_28 : BitVec 32 := 1#32
  let v38 : BitVec 32 := Scalar.addi arg13 c1_i32_28
  let v39 : BitVec 32 := Scalar.select v37 v38 arg13
  let v114 : BitVec 1 := Scalar.cmpi .eq v41 v39
  let c0_i32_69 : BitVec 32 := 0#32
  let c1_i32_68 : BitVec 32 := 1#32
  let v117 : BitVec 32 := Scalar.addi v41 c1_i32_68
  let v118 : BitVec 32 := Scalar.select v114 c0_i32_69 v117
  let c1_i32_67 : BitVec 32 := 1#32
  let v115 : BitVec 32 := Scalar.addi v39 c1_i32_67
  let v116 : BitVec 32 := Scalar.select v114 v115 v39
  let v191 : BitVec 1 := Scalar.cmpi .eq v118 v116
  let c1_i32_109 : BitVec 32 := 1#32
  let v192 : BitVec 32 := Scalar.addi v116 c1_i32_109
  let v193 : BitVec 32 := Scalar.select v191 v192 v116
  let c512_i32_186 : BitVec 32 := 512#32
  let v328 : BitVec 32 := Scalar.muli v193 c512_i32_186
  v328
def k0_off21 (arg13 : BitVec 32) (arg14 : BitVec 32) : Fin 2 → Nat :=
  let v37 : BitVec 1 := Scalar.cmpi .eq arg14 arg13
  let c0_i32_30 : BitVec 32 := 0#32
  let c1_i32_29 : BitVec 32 := 1#32
  let v40 : BitVec 32 := Scalar.addi arg14 c1_i32_29
  let v41 : BitVec 32 := Scalar.select v37 c0_i32_30 v40
  let c1_i32_28 : BitVec 32 := 1#32
  let v38 : BitVec 32 := Scalar.addi arg13 c1_i32_28
  let v39 : BitVec 32 := Scalar.select v37 v38 arg13
  let v114 : BitVec 1 := Scalar.cmpi .eq v41 v39
  let c0_i32_69 : BitVec 32 := 0#32
  let c1_i32_68 : BitVec 32 := 1#32
  let v117 : BitVec 32 := Scalar.addi v41 c1_i32_68
  let v118 : BitVec 32 := Scalar.select v114 c0_i32_69 v117
  let c1_i32_67 : BitVec 32 := 1#32
  let v115 : BitVec 32 := Scalar.addi v39 c1_i32_67
  let v116 : BitVec 32 := Scalar.select v114 v115 v39
  let v191 : BitVec 1 := Scalar.cmpi .eq v118 v116
  let c1_i32_109 : BitVec 32 := 1#32
  let v192 : BitVec 32 := Scalar.addi v116 c1_i32_109
  let v193 : BitVec 32 := Scalar.select v191 v192 v116
  let c512_i32_186 : BitVec 32 := 512#32
  let v328 : BitVec 32 := Scalar.muli v193 c512_i32_186
  let v329 : BitVec 32 := v328
  let v330 : Index := Scalar.indexCast v329
  let c0_187 : Index := 0#32
  ![v330.toNat, 0]
def k0_mult32 (arg13 : BitVec 32) (arg14 : BitVec 32) : BitVec 32 :=
  let v37 : BitVec 1 := Scalar.cmpi .eq arg14 arg13
  let c0_i32_30 : BitVec 32 := 0#32
  let c1_i32_29 : BitVec 32 := 1#32
  let v40 : BitVec 32 := Scalar.addi arg14 c1_i32_29
  let v41 : BitVec 32 := Scalar.select v37 c0_i32_30 v40
  let c1_i32_28 : BitVec 32 := 1#32
  let v38 : BitVec 32 := Scalar.addi arg13 c1_i32_28
  let v39 : BitVec 32 := Scalar.select v37 v38 arg13
  let v114 : BitVec 1 := Scalar.cmpi .eq v41 v39
  let c0_i32_69 : BitVec 32 := 0#32
  let c1_i32_68 : BitVec 32 := 1#32
  let v117 : BitVec 32 := Scalar.addi v41 c1_i32_68
  let v118 : BitVec 32 := Scalar.select v114 c0_i32_69 v117
  let c1_i32_67 : BitVec 32 := 1#32
  let v115 : BitVec 32 := Scalar.addi v39 c1_i32_67
  let v116 : BitVec 32 := Scalar.select v114 v115 v39
  let v191 : BitVec 1 := Scalar.cmpi .eq v118 v116
  let c1_i32_109 : BitVec 32 := 1#32
  let v192 : BitVec 32 := Scalar.addi v116 c1_i32_109
  let v193 : BitVec 32 := Scalar.select v191 v192 v116
  let c512_i32_189 : BitVec 32 := 512#32
  let v336 : BitVec 32 := Scalar.muli v193 c512_i32_189
  v336
def k0_mult33 (arg13 : BitVec 32) (arg14 : BitVec 32) : BitVec 32 :=
  let v37 : BitVec 1 := Scalar.cmpi .eq arg14 arg13
  let c0_i32_30 : BitVec 32 := 0#32
  let c1_i32_29 : BitVec 32 := 1#32
  let v40 : BitVec 32 := Scalar.addi arg14 c1_i32_29
  let v41 : BitVec 32 := Scalar.select v37 c0_i32_30 v40
  let c1_i32_28 : BitVec 32 := 1#32
  let v38 : BitVec 32 := Scalar.addi arg13 c1_i32_28
  let v39 : BitVec 32 := Scalar.select v37 v38 arg13
  let v114 : BitVec 1 := Scalar.cmpi .eq v41 v39
  let c0_i32_69 : BitVec 32 := 0#32
  let c1_i32_68 : BitVec 32 := 1#32
  let v117 : BitVec 32 := Scalar.addi v41 c1_i32_68
  let v118 : BitVec 32 := Scalar.select v114 c0_i32_69 v117
  let c1_i32_67 : BitVec 32 := 1#32
  let v115 : BitVec 32 := Scalar.addi v39 c1_i32_67
  let v116 : BitVec 32 := Scalar.select v114 v115 v39
  let v191 : BitVec 1 := Scalar.cmpi .eq v118 v116
  let c0_i32_111 : BitVec 32 := 0#32
  let c1_i32_110 : BitVec 32 := 1#32
  let v194 : BitVec 32 := Scalar.addi v118 c1_i32_110
  let v195 : BitVec 32 := Scalar.select v191 c0_i32_111 v194
  let c1_i32_109 : BitVec 32 := 1#32
  let v192 : BitVec 32 := Scalar.addi v116 c1_i32_109
  let v193 : BitVec 32 := Scalar.select v191 v192 v116
  let v268 : BitVec 1 := Scalar.cmpi .eq v195 v193
  let c0_i32_153 : BitVec 32 := 0#32
  let c1_i32_152 : BitVec 32 := 1#32
  let v271 : BitVec 32 := Scalar.addi v195 c1_i32_152
  let v272 : BitVec 32 := Scalar.select v268 c0_i32_153 v271
  let c1_i32_151 : BitVec 32 := 1#32
  let v269 : BitVec 32 := Scalar.addi v193 c1_i32_151
  let v270 : BitVec 32 := Scalar.select v268 v269 v193
  let v345 : BitVec 1 := Scalar.cmpi .eq v272 v270
  let c1_i32_193 : BitVec 32 := 1#32
  let v346 : BitVec 32 := Scalar.addi v270 c1_i32_193
  let v347 : BitVec 32 := Scalar.select v345 v346 v270
  let c15_i32_196 : BitVec 32 := 15#32
  let v350 : BitVec 32 := Scalar.minsi v347 c15_i32_196
  let c512_i32_197 : BitVec 32 := 512#32
  let v351 : BitVec 32 := Scalar.muli v350 c512_i32_197
  v351
def k0_off22 (arg13 : BitVec 32) (arg14 : BitVec 32) : Fin 3 → Nat :=
  let c0_198 : Index := 0#32
  let v37 : BitVec 1 := Scalar.cmpi .eq arg14 arg13
  let c0_i32_30 : BitVec 32 := 0#32
  let c1_i32_29 : BitVec 32 := 1#32
  let v40 : BitVec 32 := Scalar.addi arg14 c1_i32_29
  let v41 : BitVec 32 := Scalar.select v37 c0_i32_30 v40
  let c1_i32_28 : BitVec 32 := 1#32
  let v38 : BitVec 32 := Scalar.addi arg13 c1_i32_28
  let v39 : BitVec 32 := Scalar.select v37 v38 arg13
  let v114 : BitVec 1 := Scalar.cmpi .eq v41 v39
  let c0_i32_69 : BitVec 32 := 0#32
  let c1_i32_68 : BitVec 32 := 1#32
  let v117 : BitVec 32 := Scalar.addi v41 c1_i32_68
  let v118 : BitVec 32 := Scalar.select v114 c0_i32_69 v117
  let c1_i32_67 : BitVec 32 := 1#32
  let v115 : BitVec 32 := Scalar.addi v39 c1_i32_67
  let v116 : BitVec 32 := Scalar.select v114 v115 v39
  let v191 : BitVec 1 := Scalar.cmpi .eq v118 v116
  let c0_i32_111 : BitVec 32 := 0#32
  let c1_i32_110 : BitVec 32 := 1#32
  let v194 : BitVec 32 := Scalar.addi v118 c1_i32_110
  let v195 : BitVec 32 := Scalar.select v191 c0_i32_111 v194
  let c1_i32_109 : BitVec 32 := 1#32
  let v192 : BitVec 32 := Scalar.addi v116 c1_i32_109
  let v193 : BitVec 32 := Scalar.select v191 v192 v116
  let v268 : BitVec 1 := Scalar.cmpi .eq v195 v193
  let c0_i32_153 : BitVec 32 := 0#32
  let c1_i32_152 : BitVec 32 := 1#32
  let v271 : BitVec 32 := Scalar.addi v195 c1_i32_152
  let v272 : BitVec 32 := Scalar.select v268 c0_i32_153 v271
  let c1_i32_151 : BitVec 32 := 1#32
  let v269 : BitVec 32 := Scalar.addi v193 c1_i32_151
  let v270 : BitVec 32 := Scalar.select v268 v269 v193
  let v345 : BitVec 1 := Scalar.cmpi .eq v272 v270
  let c1_i32_193 : BitVec 32 := 1#32
  let v346 : BitVec 32 := Scalar.addi v270 c1_i32_193
  let v347 : BitVec 32 := Scalar.select v345 v346 v270
  let c15_i32_196 : BitVec 32 := 15#32
  let v350 : BitVec 32 := Scalar.minsi v347 c15_i32_196
  let c512_i32_197 : BitVec 32 := 512#32
  let v351 : BitVec 32 := Scalar.muli v350 c512_i32_197
  let v352 : BitVec 32 := v351
  let v353 : Index := Scalar.indexCast v352
  let c0_199 : Index := 0#32
  ![0, v353.toNat, 0]
def k0_mult34 (arg13 : BitVec 32) (arg14 : BitVec 32) : BitVec 32 :=
  let v37 : BitVec 1 := Scalar.cmpi .eq arg14 arg13
  let c0_i32_30 : BitVec 32 := 0#32
  let c1_i32_29 : BitVec 32 := 1#32
  let v40 : BitVec 32 := Scalar.addi arg14 c1_i32_29
  let v41 : BitVec 32 := Scalar.select v37 c0_i32_30 v40
  let c1_i32_28 : BitVec 32 := 1#32
  let v38 : BitVec 32 := Scalar.addi arg13 c1_i32_28
  let v39 : BitVec 32 := Scalar.select v37 v38 arg13
  let v114 : BitVec 1 := Scalar.cmpi .eq v41 v39
  let c0_i32_69 : BitVec 32 := 0#32
  let c1_i32_68 : BitVec 32 := 1#32
  let v117 : BitVec 32 := Scalar.addi v41 c1_i32_68
  let v118 : BitVec 32 := Scalar.select v114 c0_i32_69 v117
  let c1_i32_67 : BitVec 32 := 1#32
  let v115 : BitVec 32 := Scalar.addi v39 c1_i32_67
  let v116 : BitVec 32 := Scalar.select v114 v115 v39
  let v191 : BitVec 1 := Scalar.cmpi .eq v118 v116
  let c0_i32_111 : BitVec 32 := 0#32
  let c1_i32_110 : BitVec 32 := 1#32
  let v194 : BitVec 32 := Scalar.addi v118 c1_i32_110
  let v195 : BitVec 32 := Scalar.select v191 c0_i32_111 v194
  let c1_i32_109 : BitVec 32 := 1#32
  let v192 : BitVec 32 := Scalar.addi v116 c1_i32_109
  let v193 : BitVec 32 := Scalar.select v191 v192 v116
  let v268 : BitVec 1 := Scalar.cmpi .eq v195 v193
  let c0_i32_153 : BitVec 32 := 0#32
  let c1_i32_152 : BitVec 32 := 1#32
  let v271 : BitVec 32 := Scalar.addi v195 c1_i32_152
  let v272 : BitVec 32 := Scalar.select v268 c0_i32_153 v271
  let c1_i32_151 : BitVec 32 := 1#32
  let v269 : BitVec 32 := Scalar.addi v193 c1_i32_151
  let v270 : BitVec 32 := Scalar.select v268 v269 v193
  let v345 : BitVec 1 := Scalar.cmpi .eq v272 v270
  let c1_i32_193 : BitVec 32 := 1#32
  let v346 : BitVec 32 := Scalar.addi v270 c1_i32_193
  let v347 : BitVec 32 := Scalar.select v345 v346 v270
  let c15_i32_196 : BitVec 32 := 15#32
  let v350 : BitVec 32 := Scalar.minsi v347 c15_i32_196
  let c512_i32_200 : BitVec 32 := 512#32
  let v356 : BitVec 32 := Scalar.muli v350 c512_i32_200
  v356
def k0_off23 (arg13 : BitVec 32) (arg14 : BitVec 32) : Fin 4 → Nat :=
  let c0_201 : Index := 0#32
  let c0_202 : Index := 0#32
  let v37 : BitVec 1 := Scalar.cmpi .eq arg14 arg13
  let c0_i32_30 : BitVec 32 := 0#32
  let c1_i32_29 : BitVec 32 := 1#32
  let v40 : BitVec 32 := Scalar.addi arg14 c1_i32_29
  let v41 : BitVec 32 := Scalar.select v37 c0_i32_30 v40
  let c1_i32_28 : BitVec 32 := 1#32
  let v38 : BitVec 32 := Scalar.addi arg13 c1_i32_28
  let v39 : BitVec 32 := Scalar.select v37 v38 arg13
  let v114 : BitVec 1 := Scalar.cmpi .eq v41 v39
  let c0_i32_69 : BitVec 32 := 0#32
  let c1_i32_68 : BitVec 32 := 1#32
  let v117 : BitVec 32 := Scalar.addi v41 c1_i32_68
  let v118 : BitVec 32 := Scalar.select v114 c0_i32_69 v117
  let c1_i32_67 : BitVec 32 := 1#32
  let v115 : BitVec 32 := Scalar.addi v39 c1_i32_67
  let v116 : BitVec 32 := Scalar.select v114 v115 v39
  let v191 : BitVec 1 := Scalar.cmpi .eq v118 v116
  let c0_i32_111 : BitVec 32 := 0#32
  let c1_i32_110 : BitVec 32 := 1#32
  let v194 : BitVec 32 := Scalar.addi v118 c1_i32_110
  let v195 : BitVec 32 := Scalar.select v191 c0_i32_111 v194
  let c1_i32_109 : BitVec 32 := 1#32
  let v192 : BitVec 32 := Scalar.addi v116 c1_i32_109
  let v193 : BitVec 32 := Scalar.select v191 v192 v116
  let v268 : BitVec 1 := Scalar.cmpi .eq v195 v193
  let c0_i32_153 : BitVec 32 := 0#32
  let c1_i32_152 : BitVec 32 := 1#32
  let v271 : BitVec 32 := Scalar.addi v195 c1_i32_152
  let v272 : BitVec 32 := Scalar.select v268 c0_i32_153 v271
  let c1_i32_151 : BitVec 32 := 1#32
  let v269 : BitVec 32 := Scalar.addi v193 c1_i32_151
  let v270 : BitVec 32 := Scalar.select v268 v269 v193
  let v345 : BitVec 1 := Scalar.cmpi .eq v272 v270
  let c1_i32_193 : BitVec 32 := 1#32
  let v346 : BitVec 32 := Scalar.addi v270 c1_i32_193
  let v347 : BitVec 32 := Scalar.select v345 v346 v270
  let c15_i32_196 : BitVec 32 := 15#32
  let v350 : BitVec 32 := Scalar.minsi v347 c15_i32_196
  let c512_i32_200 : BitVec 32 := 512#32
  let v356 : BitVec 32 := Scalar.muli v350 c512_i32_200
  let v357 : BitVec 32 := v356
  let v358 : Index := Scalar.indexCast v357
  let c0_203 : Index := 0#32
  ![0, 0, v358.toNat, 0]
def k0_mult35 (arg13 : BitVec 32) (arg14 : BitVec 32) : BitVec 32 :=
  let v37 : BitVec 1 := Scalar.cmpi .eq arg14 arg13
  let c0_i32_30 : BitVec 32 := 0#32
  let c1_i32_29 : BitVec 32 := 1#32
  let v40 : BitVec 32 := Scalar.addi arg14 c1_i32_29
  let v41 : BitVec 32 := Scalar.select v37 c0_i32_30 v40
  let c1_i32_28 : BitVec 32 := 1#32
  let v38 : BitVec 32 := Scalar.addi arg13 c1_i32_28
  let v39 : BitVec 32 := Scalar.select v37 v38 arg13
  let v114 : BitVec 1 := Scalar.cmpi .eq v41 v39
  let c0_i32_69 : BitVec 32 := 0#32
  let c1_i32_68 : BitVec 32 := 1#32
  let v117 : BitVec 32 := Scalar.addi v41 c1_i32_68
  let v118 : BitVec 32 := Scalar.select v114 c0_i32_69 v117
  let c1_i32_67 : BitVec 32 := 1#32
  let v115 : BitVec 32 := Scalar.addi v39 c1_i32_67
  let v116 : BitVec 32 := Scalar.select v114 v115 v39
  let v191 : BitVec 1 := Scalar.cmpi .eq v118 v116
  let c0_i32_111 : BitVec 32 := 0#32
  let c1_i32_110 : BitVec 32 := 1#32
  let v194 : BitVec 32 := Scalar.addi v118 c1_i32_110
  let v195 : BitVec 32 := Scalar.select v191 c0_i32_111 v194
  let c1_i32_109 : BitVec 32 := 1#32
  let v192 : BitVec 32 := Scalar.addi v116 c1_i32_109
  let v193 : BitVec 32 := Scalar.select v191 v192 v116
  let v268 : BitVec 1 := Scalar.cmpi .eq v195 v193
  let c0_i32_153 : BitVec 32 := 0#32
  let c1_i32_152 : BitVec 32 := 1#32
  let v271 : BitVec 32 := Scalar.addi v195 c1_i32_152
  let v272 : BitVec 32 := Scalar.select v268 c0_i32_153 v271
  let c1_i32_151 : BitVec 32 := 1#32
  let v269 : BitVec 32 := Scalar.addi v193 c1_i32_151
  let v270 : BitVec 32 := Scalar.select v268 v269 v193
  let v345 : BitVec 1 := Scalar.cmpi .eq v272 v270
  let c0_i32_195 : BitVec 32 := 0#32
  let c1_i32_194 : BitVec 32 := 1#32
  let v348 : BitVec 32 := Scalar.addi v272 c1_i32_194
  let v349 : BitVec 32 := Scalar.select v345 c0_i32_195 v348
  let c512_i32_204 : BitVec 32 := 512#32
  let v362 : BitVec 32 := Scalar.muli v349 c512_i32_204
  v362
def k0_off24 (arg13 : BitVec 32) (arg14 : BitVec 32) : Fin 3 → Nat :=
  let c0_205 : Index := 0#32
  let v37 : BitVec 1 := Scalar.cmpi .eq arg14 arg13
  let c0_i32_30 : BitVec 32 := 0#32
  let c1_i32_29 : BitVec 32 := 1#32
  let v40 : BitVec 32 := Scalar.addi arg14 c1_i32_29
  let v41 : BitVec 32 := Scalar.select v37 c0_i32_30 v40
  let c1_i32_28 : BitVec 32 := 1#32
  let v38 : BitVec 32 := Scalar.addi arg13 c1_i32_28
  let v39 : BitVec 32 := Scalar.select v37 v38 arg13
  let v114 : BitVec 1 := Scalar.cmpi .eq v41 v39
  let c0_i32_69 : BitVec 32 := 0#32
  let c1_i32_68 : BitVec 32 := 1#32
  let v117 : BitVec 32 := Scalar.addi v41 c1_i32_68
  let v118 : BitVec 32 := Scalar.select v114 c0_i32_69 v117
  let c1_i32_67 : BitVec 32 := 1#32
  let v115 : BitVec 32 := Scalar.addi v39 c1_i32_67
  let v116 : BitVec 32 := Scalar.select v114 v115 v39
  let v191 : BitVec 1 := Scalar.cmpi .eq v118 v116
  let c0_i32_111 : BitVec 32 := 0#32
  let c1_i32_110 : BitVec 32 := 1#32
  let v194 : BitVec 32 := Scalar.addi v118 c1_i32_110
  let v195 : BitVec 32 := Scalar.select v191 c0_i32_111 v194
  let c1_i32_109 : BitVec 32 := 1#32
  let v192 : BitVec 32 := Scalar.addi v116 c1_i32_109
  let v193 : BitVec 32 := Scalar.select v191 v192 v116
  let v268 : BitVec 1 := Scalar.cmpi .eq v195 v193
  let c0_i32_153 : BitVec 32 := 0#32
  let c1_i32_152 : BitVec 32 := 1#32
  let v271 : BitVec 32 := Scalar.addi v195 c1_i32_152
  let v272 : BitVec 32 := Scalar.select v268 c0_i32_153 v271
  let c1_i32_151 : BitVec 32 := 1#32
  let v269 : BitVec 32 := Scalar.addi v193 c1_i32_151
  let v270 : BitVec 32 := Scalar.select v268 v269 v193
  let v345 : BitVec 1 := Scalar.cmpi .eq v272 v270
  let c0_i32_195 : BitVec 32 := 0#32
  let c1_i32_194 : BitVec 32 := 1#32
  let v348 : BitVec 32 := Scalar.addi v272 c1_i32_194
  let v349 : BitVec 32 := Scalar.select v345 c0_i32_195 v348
  let c512_i32_204 : BitVec 32 := 512#32
  let v362 : BitVec 32 := Scalar.muli v349 c512_i32_204
  let v363 : BitVec 32 := v362
  let v364 : Index := Scalar.indexCast v363
  let c0_206 : Index := 0#32
  ![0, v364.toNat, 0]
def k0_mult36 (arg13 : BitVec 32) (arg14 : BitVec 32) : BitVec 32 :=
  let v37 : BitVec 1 := Scalar.cmpi .eq arg14 arg13
  let c0_i32_30 : BitVec 32 := 0#32
  let c1_i32_29 : BitVec 32 := 1#32
  let v40 : BitVec 32 := Scalar.addi arg14 c1_i32_29
  let v41 : BitVec 32 := Scalar.select v37 c0_i32_30 v40
  let c1_i32_28 : BitVec 32 := 1#32
  let v38 : BitVec 32 := Scalar.addi arg13 c1_i32_28
  let v39 : BitVec 32 := Scalar.select v37 v38 arg13
  let v114 : BitVec 1 := Scalar.cmpi .eq v41 v39
  let c0_i32_69 : BitVec 32 := 0#32
  let c1_i32_68 : BitVec 32 := 1#32
  let v117 : BitVec 32 := Scalar.addi v41 c1_i32_68
  let v118 : BitVec 32 := Scalar.select v114 c0_i32_69 v117
  let c1_i32_67 : BitVec 32 := 1#32
  let v115 : BitVec 32 := Scalar.addi v39 c1_i32_67
  let v116 : BitVec 32 := Scalar.select v114 v115 v39
  let v191 : BitVec 1 := Scalar.cmpi .eq v118 v116
  let c0_i32_111 : BitVec 32 := 0#32
  let c1_i32_110 : BitVec 32 := 1#32
  let v194 : BitVec 32 := Scalar.addi v118 c1_i32_110
  let v195 : BitVec 32 := Scalar.select v191 c0_i32_111 v194
  let c1_i32_109 : BitVec 32 := 1#32
  let v192 : BitVec 32 := Scalar.addi v116 c1_i32_109
  let v193 : BitVec 32 := Scalar.select v191 v192 v116
  let v268 : BitVec 1 := Scalar.cmpi .eq v195 v193
  let c0_i32_153 : BitVec 32 := 0#32
  let c1_i32_152 : BitVec 32 := 1#32
  let v271 : BitVec 32 := Scalar.addi v195 c1_i32_152
  let v272 : BitVec 32 := Scalar.select v268 c0_i32_153 v271
  let c1_i32_151 : BitVec 32 := 1#32
  let v269 : BitVec 32 := Scalar.addi v193 c1_i32_151
  let v270 : BitVec 32 := Scalar.select v268 v269 v193
  let v345 : BitVec 1 := Scalar.cmpi .eq v272 v270
  let c0_i32_195 : BitVec 32 := 0#32
  let c1_i32_194 : BitVec 32 := 1#32
  let v348 : BitVec 32 := Scalar.addi v272 c1_i32_194
  let v349 : BitVec 32 := Scalar.select v345 c0_i32_195 v348
  let c512_i32_207 : BitVec 32 := 512#32
  let v367 : BitVec 32 := Scalar.muli v349 c512_i32_207
  v367
def k0_off25 (arg13 : BitVec 32) (arg14 : BitVec 32) : Fin 4 → Nat :=
  let c0_208 : Index := 0#32
  let c0_209 : Index := 0#32
  let v37 : BitVec 1 := Scalar.cmpi .eq arg14 arg13
  let c0_i32_30 : BitVec 32 := 0#32
  let c1_i32_29 : BitVec 32 := 1#32
  let v40 : BitVec 32 := Scalar.addi arg14 c1_i32_29
  let v41 : BitVec 32 := Scalar.select v37 c0_i32_30 v40
  let c1_i32_28 : BitVec 32 := 1#32
  let v38 : BitVec 32 := Scalar.addi arg13 c1_i32_28
  let v39 : BitVec 32 := Scalar.select v37 v38 arg13
  let v114 : BitVec 1 := Scalar.cmpi .eq v41 v39
  let c0_i32_69 : BitVec 32 := 0#32
  let c1_i32_68 : BitVec 32 := 1#32
  let v117 : BitVec 32 := Scalar.addi v41 c1_i32_68
  let v118 : BitVec 32 := Scalar.select v114 c0_i32_69 v117
  let c1_i32_67 : BitVec 32 := 1#32
  let v115 : BitVec 32 := Scalar.addi v39 c1_i32_67
  let v116 : BitVec 32 := Scalar.select v114 v115 v39
  let v191 : BitVec 1 := Scalar.cmpi .eq v118 v116
  let c0_i32_111 : BitVec 32 := 0#32
  let c1_i32_110 : BitVec 32 := 1#32
  let v194 : BitVec 32 := Scalar.addi v118 c1_i32_110
  let v195 : BitVec 32 := Scalar.select v191 c0_i32_111 v194
  let c1_i32_109 : BitVec 32 := 1#32
  let v192 : BitVec 32 := Scalar.addi v116 c1_i32_109
  let v193 : BitVec 32 := Scalar.select v191 v192 v116
  let v268 : BitVec 1 := Scalar.cmpi .eq v195 v193
  let c0_i32_153 : BitVec 32 := 0#32
  let c1_i32_152 : BitVec 32 := 1#32
  let v271 : BitVec 32 := Scalar.addi v195 c1_i32_152
  let v272 : BitVec 32 := Scalar.select v268 c0_i32_153 v271
  let c1_i32_151 : BitVec 32 := 1#32
  let v269 : BitVec 32 := Scalar.addi v193 c1_i32_151
  let v270 : BitVec 32 := Scalar.select v268 v269 v193
  let v345 : BitVec 1 := Scalar.cmpi .eq v272 v270
  let c0_i32_195 : BitVec 32 := 0#32
  let c1_i32_194 : BitVec 32 := 1#32
  let v348 : BitVec 32 := Scalar.addi v272 c1_i32_194
  let v349 : BitVec 32 := Scalar.select v345 c0_i32_195 v348
  let c512_i32_207 : BitVec 32 := 512#32
  let v367 : BitVec 32 := Scalar.muli v349 c512_i32_207
  let v368 : BitVec 32 := v367
  let v369 : Index := Scalar.indexCast v368
  let c0_210 : Index := 0#32
  ![0, 0, v369.toNat, 0]
def k0_mult37 (arg13 : BitVec 32) (arg14 : BitVec 32) : BitVec 32 :=
  let v37 : BitVec 1 := Scalar.cmpi .eq arg14 arg13
  let c0_i32_30 : BitVec 32 := 0#32
  let c1_i32_29 : BitVec 32 := 1#32
  let v40 : BitVec 32 := Scalar.addi arg14 c1_i32_29
  let v41 : BitVec 32 := Scalar.select v37 c0_i32_30 v40
  let c1_i32_28 : BitVec 32 := 1#32
  let v38 : BitVec 32 := Scalar.addi arg13 c1_i32_28
  let v39 : BitVec 32 := Scalar.select v37 v38 arg13
  let v114 : BitVec 1 := Scalar.cmpi .eq v41 v39
  let c0_i32_69 : BitVec 32 := 0#32
  let c1_i32_68 : BitVec 32 := 1#32
  let v117 : BitVec 32 := Scalar.addi v41 c1_i32_68
  let v118 : BitVec 32 := Scalar.select v114 c0_i32_69 v117
  let c1_i32_67 : BitVec 32 := 1#32
  let v115 : BitVec 32 := Scalar.addi v39 c1_i32_67
  let v116 : BitVec 32 := Scalar.select v114 v115 v39
  let v191 : BitVec 1 := Scalar.cmpi .eq v118 v116
  let c0_i32_111 : BitVec 32 := 0#32
  let c1_i32_110 : BitVec 32 := 1#32
  let v194 : BitVec 32 := Scalar.addi v118 c1_i32_110
  let v195 : BitVec 32 := Scalar.select v191 c0_i32_111 v194
  let c1_i32_109 : BitVec 32 := 1#32
  let v192 : BitVec 32 := Scalar.addi v116 c1_i32_109
  let v193 : BitVec 32 := Scalar.select v191 v192 v116
  let v268 : BitVec 1 := Scalar.cmpi .eq v195 v193
  let c0_i32_153 : BitVec 32 := 0#32
  let c1_i32_152 : BitVec 32 := 1#32
  let v271 : BitVec 32 := Scalar.addi v195 c1_i32_152
  let v272 : BitVec 32 := Scalar.select v268 c0_i32_153 v271
  let c512_i32_215 : BitVec 32 := 512#32
  let v377 : BitVec 32 := Scalar.muli v272 c512_i32_215
  v377
def k0_mult38 (arg13 : BitVec 32) (arg14 : BitVec 32) : BitVec 32 :=
  let v37 : BitVec 1 := Scalar.cmpi .eq arg14 arg13
  let c0_i32_30 : BitVec 32 := 0#32
  let c1_i32_29 : BitVec 32 := 1#32
  let v40 : BitVec 32 := Scalar.addi arg14 c1_i32_29
  let v41 : BitVec 32 := Scalar.select v37 c0_i32_30 v40
  let c1_i32_28 : BitVec 32 := 1#32
  let v38 : BitVec 32 := Scalar.addi arg13 c1_i32_28
  let v39 : BitVec 32 := Scalar.select v37 v38 arg13
  let v114 : BitVec 1 := Scalar.cmpi .eq v41 v39
  let c0_i32_69 : BitVec 32 := 0#32
  let c1_i32_68 : BitVec 32 := 1#32
  let v117 : BitVec 32 := Scalar.addi v41 c1_i32_68
  let v118 : BitVec 32 := Scalar.select v114 c0_i32_69 v117
  let c1_i32_67 : BitVec 32 := 1#32
  let v115 : BitVec 32 := Scalar.addi v39 c1_i32_67
  let v116 : BitVec 32 := Scalar.select v114 v115 v39
  let v191 : BitVec 1 := Scalar.cmpi .eq v118 v116
  let c0_i32_111 : BitVec 32 := 0#32
  let c1_i32_110 : BitVec 32 := 1#32
  let v194 : BitVec 32 := Scalar.addi v118 c1_i32_110
  let v195 : BitVec 32 := Scalar.select v191 c0_i32_111 v194
  let c1_i32_109 : BitVec 32 := 1#32
  let v192 : BitVec 32 := Scalar.addi v116 c1_i32_109
  let v193 : BitVec 32 := Scalar.select v191 v192 v116
  let v268 : BitVec 1 := Scalar.cmpi .eq v195 v193
  let c1_i32_151 : BitVec 32 := 1#32
  let v269 : BitVec 32 := Scalar.addi v193 c1_i32_151
  let v270 : BitVec 32 := Scalar.select v268 v269 v193
  let c512_i32_228 : BitVec 32 := 512#32
  let v405 : BitVec 32 := Scalar.muli v270 c512_i32_228
  v405
def k0_off26 (arg13 : BitVec 32) (arg14 : BitVec 32) : Fin 2 → Nat :=
  let v37 : BitVec 1 := Scalar.cmpi .eq arg14 arg13
  let c0_i32_30 : BitVec 32 := 0#32
  let c1_i32_29 : BitVec 32 := 1#32
  let v40 : BitVec 32 := Scalar.addi arg14 c1_i32_29
  let v41 : BitVec 32 := Scalar.select v37 c0_i32_30 v40
  let c1_i32_28 : BitVec 32 := 1#32
  let v38 : BitVec 32 := Scalar.addi arg13 c1_i32_28
  let v39 : BitVec 32 := Scalar.select v37 v38 arg13
  let v114 : BitVec 1 := Scalar.cmpi .eq v41 v39
  let c0_i32_69 : BitVec 32 := 0#32
  let c1_i32_68 : BitVec 32 := 1#32
  let v117 : BitVec 32 := Scalar.addi v41 c1_i32_68
  let v118 : BitVec 32 := Scalar.select v114 c0_i32_69 v117
  let c1_i32_67 : BitVec 32 := 1#32
  let v115 : BitVec 32 := Scalar.addi v39 c1_i32_67
  let v116 : BitVec 32 := Scalar.select v114 v115 v39
  let v191 : BitVec 1 := Scalar.cmpi .eq v118 v116
  let c0_i32_111 : BitVec 32 := 0#32
  let c1_i32_110 : BitVec 32 := 1#32
  let v194 : BitVec 32 := Scalar.addi v118 c1_i32_110
  let v195 : BitVec 32 := Scalar.select v191 c0_i32_111 v194
  let c1_i32_109 : BitVec 32 := 1#32
  let v192 : BitVec 32 := Scalar.addi v116 c1_i32_109
  let v193 : BitVec 32 := Scalar.select v191 v192 v116
  let v268 : BitVec 1 := Scalar.cmpi .eq v195 v193
  let c1_i32_151 : BitVec 32 := 1#32
  let v269 : BitVec 32 := Scalar.addi v193 c1_i32_151
  let v270 : BitVec 32 := Scalar.select v268 v269 v193
  let c512_i32_228 : BitVec 32 := 512#32
  let v405 : BitVec 32 := Scalar.muli v270 c512_i32_228
  let v406 : BitVec 32 := v405
  let v407 : Index := Scalar.indexCast v406
  let c0_229 : Index := 0#32
  ![v407.toNat, 0]
def k0_mult39 (arg13 : BitVec 32) (arg14 : BitVec 32) : BitVec 32 :=
  let v37 : BitVec 1 := Scalar.cmpi .eq arg14 arg13
  let c0_i32_30 : BitVec 32 := 0#32
  let c1_i32_29 : BitVec 32 := 1#32
  let v40 : BitVec 32 := Scalar.addi arg14 c1_i32_29
  let v41 : BitVec 32 := Scalar.select v37 c0_i32_30 v40
  let c1_i32_28 : BitVec 32 := 1#32
  let v38 : BitVec 32 := Scalar.addi arg13 c1_i32_28
  let v39 : BitVec 32 := Scalar.select v37 v38 arg13
  let v114 : BitVec 1 := Scalar.cmpi .eq v41 v39
  let c0_i32_69 : BitVec 32 := 0#32
  let c1_i32_68 : BitVec 32 := 1#32
  let v117 : BitVec 32 := Scalar.addi v41 c1_i32_68
  let v118 : BitVec 32 := Scalar.select v114 c0_i32_69 v117
  let c1_i32_67 : BitVec 32 := 1#32
  let v115 : BitVec 32 := Scalar.addi v39 c1_i32_67
  let v116 : BitVec 32 := Scalar.select v114 v115 v39
  let v191 : BitVec 1 := Scalar.cmpi .eq v118 v116
  let c0_i32_111 : BitVec 32 := 0#32
  let c1_i32_110 : BitVec 32 := 1#32
  let v194 : BitVec 32 := Scalar.addi v118 c1_i32_110
  let v195 : BitVec 32 := Scalar.select v191 c0_i32_111 v194
  let c1_i32_109 : BitVec 32 := 1#32
  let v192 : BitVec 32 := Scalar.addi v116 c1_i32_109
  let v193 : BitVec 32 := Scalar.select v191 v192 v116
  let v268 : BitVec 1 := Scalar.cmpi .eq v195 v193
  let c1_i32_151 : BitVec 32 := 1#32
  let v269 : BitVec 32 := Scalar.addi v193 c1_i32_151
  let v270 : BitVec 32 := Scalar.select v268 v269 v193
  let c512_i32_231 : BitVec 32 := 512#32
  let v413 : BitVec 32 := Scalar.muli v270 c512_i32_231
  v413
def k0_mult40 (arg13 : BitVec 32) (arg14 : BitVec 32) : BitVec 32 :=
  let v37 : BitVec 1 := Scalar.cmpi .eq arg14 arg13
  let c0_i32_30 : BitVec 32 := 0#32
  let c1_i32_29 : BitVec 32 := 1#32
  let v40 : BitVec 32 := Scalar.addi arg14 c1_i32_29
  let v41 : BitVec 32 := Scalar.select v37 c0_i32_30 v40
  let c1_i32_28 : BitVec 32 := 1#32
  let v38 : BitVec 32 := Scalar.addi arg13 c1_i32_28
  let v39 : BitVec 32 := Scalar.select v37 v38 arg13
  let v114 : BitVec 1 := Scalar.cmpi .eq v41 v39
  let c0_i32_69 : BitVec 32 := 0#32
  let c1_i32_68 : BitVec 32 := 1#32
  let v117 : BitVec 32 := Scalar.addi v41 c1_i32_68
  let v118 : BitVec 32 := Scalar.select v114 c0_i32_69 v117
  let c1_i32_67 : BitVec 32 := 1#32
  let v115 : BitVec 32 := Scalar.addi v39 c1_i32_67
  let v116 : BitVec 32 := Scalar.select v114 v115 v39
  let v191 : BitVec 1 := Scalar.cmpi .eq v118 v116
  let c0_i32_111 : BitVec 32 := 0#32
  let c1_i32_110 : BitVec 32 := 1#32
  let v194 : BitVec 32 := Scalar.addi v118 c1_i32_110
  let v195 : BitVec 32 := Scalar.select v191 c0_i32_111 v194
  let c1_i32_109 : BitVec 32 := 1#32
  let v192 : BitVec 32 := Scalar.addi v116 c1_i32_109
  let v193 : BitVec 32 := Scalar.select v191 v192 v116
  let v268 : BitVec 1 := Scalar.cmpi .eq v195 v193
  let c0_i32_153 : BitVec 32 := 0#32
  let c1_i32_152 : BitVec 32 := 1#32
  let v271 : BitVec 32 := Scalar.addi v195 c1_i32_152
  let v272 : BitVec 32 := Scalar.select v268 c0_i32_153 v271
  let c1_i32_151 : BitVec 32 := 1#32
  let v269 : BitVec 32 := Scalar.addi v193 c1_i32_151
  let v270 : BitVec 32 := Scalar.select v268 v269 v193
  let v345 : BitVec 1 := Scalar.cmpi .eq v272 v270
  let c0_i32_195 : BitVec 32 := 0#32
  let c1_i32_194 : BitVec 32 := 1#32
  let v348 : BitVec 32 := Scalar.addi v272 c1_i32_194
  let v349 : BitVec 32 := Scalar.select v345 c0_i32_195 v348
  let c1_i32_193 : BitVec 32 := 1#32
  let v346 : BitVec 32 := Scalar.addi v270 c1_i32_193
  let v347 : BitVec 32 := Scalar.select v345 v346 v270
  let v422 : BitVec 1 := Scalar.cmpi .eq v349 v347
  let c1_i32_235 : BitVec 32 := 1#32
  let v423 : BitVec 32 := Scalar.addi v347 c1_i32_235
  let v424 : BitVec 32 := Scalar.select v422 v423 v347
  let c15_i32_238 : BitVec 32 := 15#32
  let v427 : BitVec 32 := Scalar.minsi v424 c15_i32_238
  let c512_i32_239 : BitVec 32 := 512#32
  let v428 : BitVec 32 := Scalar.muli v427 c512_i32_239
  v428
def k0_off27 (arg13 : BitVec 32) (arg14 : BitVec 32) : Fin 3 → Nat :=
  let c0_240 : Index := 0#32
  let v37 : BitVec 1 := Scalar.cmpi .eq arg14 arg13
  let c0_i32_30 : BitVec 32 := 0#32
  let c1_i32_29 : BitVec 32 := 1#32
  let v40 : BitVec 32 := Scalar.addi arg14 c1_i32_29
  let v41 : BitVec 32 := Scalar.select v37 c0_i32_30 v40
  let c1_i32_28 : BitVec 32 := 1#32
  let v38 : BitVec 32 := Scalar.addi arg13 c1_i32_28
  let v39 : BitVec 32 := Scalar.select v37 v38 arg13
  let v114 : BitVec 1 := Scalar.cmpi .eq v41 v39
  let c0_i32_69 : BitVec 32 := 0#32
  let c1_i32_68 : BitVec 32 := 1#32
  let v117 : BitVec 32 := Scalar.addi v41 c1_i32_68
  let v118 : BitVec 32 := Scalar.select v114 c0_i32_69 v117
  let c1_i32_67 : BitVec 32 := 1#32
  let v115 : BitVec 32 := Scalar.addi v39 c1_i32_67
  let v116 : BitVec 32 := Scalar.select v114 v115 v39
  let v191 : BitVec 1 := Scalar.cmpi .eq v118 v116
  let c0_i32_111 : BitVec 32 := 0#32
  let c1_i32_110 : BitVec 32 := 1#32
  let v194 : BitVec 32 := Scalar.addi v118 c1_i32_110
  let v195 : BitVec 32 := Scalar.select v191 c0_i32_111 v194
  let c1_i32_109 : BitVec 32 := 1#32
  let v192 : BitVec 32 := Scalar.addi v116 c1_i32_109
  let v193 : BitVec 32 := Scalar.select v191 v192 v116
  let v268 : BitVec 1 := Scalar.cmpi .eq v195 v193
  let c0_i32_153 : BitVec 32 := 0#32
  let c1_i32_152 : BitVec 32 := 1#32
  let v271 : BitVec 32 := Scalar.addi v195 c1_i32_152
  let v272 : BitVec 32 := Scalar.select v268 c0_i32_153 v271
  let c1_i32_151 : BitVec 32 := 1#32
  let v269 : BitVec 32 := Scalar.addi v193 c1_i32_151
  let v270 : BitVec 32 := Scalar.select v268 v269 v193
  let v345 : BitVec 1 := Scalar.cmpi .eq v272 v270
  let c0_i32_195 : BitVec 32 := 0#32
  let c1_i32_194 : BitVec 32 := 1#32
  let v348 : BitVec 32 := Scalar.addi v272 c1_i32_194
  let v349 : BitVec 32 := Scalar.select v345 c0_i32_195 v348
  let c1_i32_193 : BitVec 32 := 1#32
  let v346 : BitVec 32 := Scalar.addi v270 c1_i32_193
  let v347 : BitVec 32 := Scalar.select v345 v346 v270
  let v422 : BitVec 1 := Scalar.cmpi .eq v349 v347
  let c1_i32_235 : BitVec 32 := 1#32
  let v423 : BitVec 32 := Scalar.addi v347 c1_i32_235
  let v424 : BitVec 32 := Scalar.select v422 v423 v347
  let c15_i32_238 : BitVec 32 := 15#32
  let v427 : BitVec 32 := Scalar.minsi v424 c15_i32_238
  let c512_i32_239 : BitVec 32 := 512#32
  let v428 : BitVec 32 := Scalar.muli v427 c512_i32_239
  let v429 : BitVec 32 := v428
  let v430 : Index := Scalar.indexCast v429
  let c0_241 : Index := 0#32
  ![0, v430.toNat, 0]
def k0_mult41 (arg13 : BitVec 32) (arg14 : BitVec 32) : BitVec 32 :=
  let v37 : BitVec 1 := Scalar.cmpi .eq arg14 arg13
  let c0_i32_30 : BitVec 32 := 0#32
  let c1_i32_29 : BitVec 32 := 1#32
  let v40 : BitVec 32 := Scalar.addi arg14 c1_i32_29
  let v41 : BitVec 32 := Scalar.select v37 c0_i32_30 v40
  let c1_i32_28 : BitVec 32 := 1#32
  let v38 : BitVec 32 := Scalar.addi arg13 c1_i32_28
  let v39 : BitVec 32 := Scalar.select v37 v38 arg13
  let v114 : BitVec 1 := Scalar.cmpi .eq v41 v39
  let c0_i32_69 : BitVec 32 := 0#32
  let c1_i32_68 : BitVec 32 := 1#32
  let v117 : BitVec 32 := Scalar.addi v41 c1_i32_68
  let v118 : BitVec 32 := Scalar.select v114 c0_i32_69 v117
  let c1_i32_67 : BitVec 32 := 1#32
  let v115 : BitVec 32 := Scalar.addi v39 c1_i32_67
  let v116 : BitVec 32 := Scalar.select v114 v115 v39
  let v191 : BitVec 1 := Scalar.cmpi .eq v118 v116
  let c0_i32_111 : BitVec 32 := 0#32
  let c1_i32_110 : BitVec 32 := 1#32
  let v194 : BitVec 32 := Scalar.addi v118 c1_i32_110
  let v195 : BitVec 32 := Scalar.select v191 c0_i32_111 v194
  let c1_i32_109 : BitVec 32 := 1#32
  let v192 : BitVec 32 := Scalar.addi v116 c1_i32_109
  let v193 : BitVec 32 := Scalar.select v191 v192 v116
  let v268 : BitVec 1 := Scalar.cmpi .eq v195 v193
  let c0_i32_153 : BitVec 32 := 0#32
  let c1_i32_152 : BitVec 32 := 1#32
  let v271 : BitVec 32 := Scalar.addi v195 c1_i32_152
  let v272 : BitVec 32 := Scalar.select v268 c0_i32_153 v271
  let c1_i32_151 : BitVec 32 := 1#32
  let v269 : BitVec 32 := Scalar.addi v193 c1_i32_151
  let v270 : BitVec 32 := Scalar.select v268 v269 v193
  let v345 : BitVec 1 := Scalar.cmpi .eq v272 v270
  let c0_i32_195 : BitVec 32 := 0#32
  let c1_i32_194 : BitVec 32 := 1#32
  let v348 : BitVec 32 := Scalar.addi v272 c1_i32_194
  let v349 : BitVec 32 := Scalar.select v345 c0_i32_195 v348
  let c1_i32_193 : BitVec 32 := 1#32
  let v346 : BitVec 32 := Scalar.addi v270 c1_i32_193
  let v347 : BitVec 32 := Scalar.select v345 v346 v270
  let v422 : BitVec 1 := Scalar.cmpi .eq v349 v347
  let c1_i32_235 : BitVec 32 := 1#32
  let v423 : BitVec 32 := Scalar.addi v347 c1_i32_235
  let v424 : BitVec 32 := Scalar.select v422 v423 v347
  let c15_i32_238 : BitVec 32 := 15#32
  let v427 : BitVec 32 := Scalar.minsi v424 c15_i32_238
  let c512_i32_242 : BitVec 32 := 512#32
  let v433 : BitVec 32 := Scalar.muli v427 c512_i32_242
  v433
def k0_off28 (arg13 : BitVec 32) (arg14 : BitVec 32) : Fin 4 → Nat :=
  let c0_243 : Index := 0#32
  let c0_244 : Index := 0#32
  let v37 : BitVec 1 := Scalar.cmpi .eq arg14 arg13
  let c0_i32_30 : BitVec 32 := 0#32
  let c1_i32_29 : BitVec 32 := 1#32
  let v40 : BitVec 32 := Scalar.addi arg14 c1_i32_29
  let v41 : BitVec 32 := Scalar.select v37 c0_i32_30 v40
  let c1_i32_28 : BitVec 32 := 1#32
  let v38 : BitVec 32 := Scalar.addi arg13 c1_i32_28
  let v39 : BitVec 32 := Scalar.select v37 v38 arg13
  let v114 : BitVec 1 := Scalar.cmpi .eq v41 v39
  let c0_i32_69 : BitVec 32 := 0#32
  let c1_i32_68 : BitVec 32 := 1#32
  let v117 : BitVec 32 := Scalar.addi v41 c1_i32_68
  let v118 : BitVec 32 := Scalar.select v114 c0_i32_69 v117
  let c1_i32_67 : BitVec 32 := 1#32
  let v115 : BitVec 32 := Scalar.addi v39 c1_i32_67
  let v116 : BitVec 32 := Scalar.select v114 v115 v39
  let v191 : BitVec 1 := Scalar.cmpi .eq v118 v116
  let c0_i32_111 : BitVec 32 := 0#32
  let c1_i32_110 : BitVec 32 := 1#32
  let v194 : BitVec 32 := Scalar.addi v118 c1_i32_110
  let v195 : BitVec 32 := Scalar.select v191 c0_i32_111 v194
  let c1_i32_109 : BitVec 32 := 1#32
  let v192 : BitVec 32 := Scalar.addi v116 c1_i32_109
  let v193 : BitVec 32 := Scalar.select v191 v192 v116
  let v268 : BitVec 1 := Scalar.cmpi .eq v195 v193
  let c0_i32_153 : BitVec 32 := 0#32
  let c1_i32_152 : BitVec 32 := 1#32
  let v271 : BitVec 32 := Scalar.addi v195 c1_i32_152
  let v272 : BitVec 32 := Scalar.select v268 c0_i32_153 v271
  let c1_i32_151 : BitVec 32 := 1#32
  let v269 : BitVec 32 := Scalar.addi v193 c1_i32_151
  let v270 : BitVec 32 := Scalar.select v268 v269 v193
  let v345 : BitVec 1 := Scalar.cmpi .eq v272 v270
  let c0_i32_195 : BitVec 32 := 0#32
  let c1_i32_194 : BitVec 32 := 1#32
  let v348 : BitVec 32 := Scalar.addi v272 c1_i32_194
  let v349 : BitVec 32 := Scalar.select v345 c0_i32_195 v348
  let c1_i32_193 : BitVec 32 := 1#32
  let v346 : BitVec 32 := Scalar.addi v270 c1_i32_193
  let v347 : BitVec 32 := Scalar.select v345 v346 v270
  let v422 : BitVec 1 := Scalar.cmpi .eq v349 v347
  let c1_i32_235 : BitVec 32 := 1#32
  let v423 : BitVec 32 := Scalar.addi v347 c1_i32_235
  let v424 : BitVec 32 := Scalar.select v422 v423 v347
  let c15_i32_238 : BitVec 32 := 15#32
  let v427 : BitVec 32 := Scalar.minsi v424 c15_i32_238
  let c512_i32_242 : BitVec 32 := 512#32
  let v433 : BitVec 32 := Scalar.muli v427 c512_i32_242
  let v434 : BitVec 32 := v433
  let v435 : Index := Scalar.indexCast v434
  let c0_245 : Index := 0#32
  ![0, 0, v435.toNat, 0]
def k0_mult42 (arg13 : BitVec 32) (arg14 : BitVec 32) : BitVec 32 :=
  let v37 : BitVec 1 := Scalar.cmpi .eq arg14 arg13
  let c0_i32_30 : BitVec 32 := 0#32
  let c1_i32_29 : BitVec 32 := 1#32
  let v40 : BitVec 32 := Scalar.addi arg14 c1_i32_29
  let v41 : BitVec 32 := Scalar.select v37 c0_i32_30 v40
  let c1_i32_28 : BitVec 32 := 1#32
  let v38 : BitVec 32 := Scalar.addi arg13 c1_i32_28
  let v39 : BitVec 32 := Scalar.select v37 v38 arg13
  let v114 : BitVec 1 := Scalar.cmpi .eq v41 v39
  let c0_i32_69 : BitVec 32 := 0#32
  let c1_i32_68 : BitVec 32 := 1#32
  let v117 : BitVec 32 := Scalar.addi v41 c1_i32_68
  let v118 : BitVec 32 := Scalar.select v114 c0_i32_69 v117
  let c1_i32_67 : BitVec 32 := 1#32
  let v115 : BitVec 32 := Scalar.addi v39 c1_i32_67
  let v116 : BitVec 32 := Scalar.select v114 v115 v39
  let v191 : BitVec 1 := Scalar.cmpi .eq v118 v116
  let c0_i32_111 : BitVec 32 := 0#32
  let c1_i32_110 : BitVec 32 := 1#32
  let v194 : BitVec 32 := Scalar.addi v118 c1_i32_110
  let v195 : BitVec 32 := Scalar.select v191 c0_i32_111 v194
  let c1_i32_109 : BitVec 32 := 1#32
  let v192 : BitVec 32 := Scalar.addi v116 c1_i32_109
  let v193 : BitVec 32 := Scalar.select v191 v192 v116
  let v268 : BitVec 1 := Scalar.cmpi .eq v195 v193
  let c0_i32_153 : BitVec 32 := 0#32
  let c1_i32_152 : BitVec 32 := 1#32
  let v271 : BitVec 32 := Scalar.addi v195 c1_i32_152
  let v272 : BitVec 32 := Scalar.select v268 c0_i32_153 v271
  let c1_i32_151 : BitVec 32 := 1#32
  let v269 : BitVec 32 := Scalar.addi v193 c1_i32_151
  let v270 : BitVec 32 := Scalar.select v268 v269 v193
  let v345 : BitVec 1 := Scalar.cmpi .eq v272 v270
  let c0_i32_195 : BitVec 32 := 0#32
  let c1_i32_194 : BitVec 32 := 1#32
  let v348 : BitVec 32 := Scalar.addi v272 c1_i32_194
  let v349 : BitVec 32 := Scalar.select v345 c0_i32_195 v348
  let c1_i32_193 : BitVec 32 := 1#32
  let v346 : BitVec 32 := Scalar.addi v270 c1_i32_193
  let v347 : BitVec 32 := Scalar.select v345 v346 v270
  let v422 : BitVec 1 := Scalar.cmpi .eq v349 v347
  let c0_i32_237 : BitVec 32 := 0#32
  let c1_i32_236 : BitVec 32 := 1#32
  let v425 : BitVec 32 := Scalar.addi v349 c1_i32_236
  let v426 : BitVec 32 := Scalar.select v422 c0_i32_237 v425
  let c512_i32_246 : BitVec 32 := 512#32
  let v439 : BitVec 32 := Scalar.muli v426 c512_i32_246
  v439
def k0_off29 (arg13 : BitVec 32) (arg14 : BitVec 32) : Fin 3 → Nat :=
  let c0_247 : Index := 0#32
  let v37 : BitVec 1 := Scalar.cmpi .eq arg14 arg13
  let c0_i32_30 : BitVec 32 := 0#32
  let c1_i32_29 : BitVec 32 := 1#32
  let v40 : BitVec 32 := Scalar.addi arg14 c1_i32_29
  let v41 : BitVec 32 := Scalar.select v37 c0_i32_30 v40
  let c1_i32_28 : BitVec 32 := 1#32
  let v38 : BitVec 32 := Scalar.addi arg13 c1_i32_28
  let v39 : BitVec 32 := Scalar.select v37 v38 arg13
  let v114 : BitVec 1 := Scalar.cmpi .eq v41 v39
  let c0_i32_69 : BitVec 32 := 0#32
  let c1_i32_68 : BitVec 32 := 1#32
  let v117 : BitVec 32 := Scalar.addi v41 c1_i32_68
  let v118 : BitVec 32 := Scalar.select v114 c0_i32_69 v117
  let c1_i32_67 : BitVec 32 := 1#32
  let v115 : BitVec 32 := Scalar.addi v39 c1_i32_67
  let v116 : BitVec 32 := Scalar.select v114 v115 v39
  let v191 : BitVec 1 := Scalar.cmpi .eq v118 v116
  let c0_i32_111 : BitVec 32 := 0#32
  let c1_i32_110 : BitVec 32 := 1#32
  let v194 : BitVec 32 := Scalar.addi v118 c1_i32_110
  let v195 : BitVec 32 := Scalar.select v191 c0_i32_111 v194
  let c1_i32_109 : BitVec 32 := 1#32
  let v192 : BitVec 32 := Scalar.addi v116 c1_i32_109
  let v193 : BitVec 32 := Scalar.select v191 v192 v116
  let v268 : BitVec 1 := Scalar.cmpi .eq v195 v193
  let c0_i32_153 : BitVec 32 := 0#32
  let c1_i32_152 : BitVec 32 := 1#32
  let v271 : BitVec 32 := Scalar.addi v195 c1_i32_152
  let v272 : BitVec 32 := Scalar.select v268 c0_i32_153 v271
  let c1_i32_151 : BitVec 32 := 1#32
  let v269 : BitVec 32 := Scalar.addi v193 c1_i32_151
  let v270 : BitVec 32 := Scalar.select v268 v269 v193
  let v345 : BitVec 1 := Scalar.cmpi .eq v272 v270
  let c0_i32_195 : BitVec 32 := 0#32
  let c1_i32_194 : BitVec 32 := 1#32
  let v348 : BitVec 32 := Scalar.addi v272 c1_i32_194
  let v349 : BitVec 32 := Scalar.select v345 c0_i32_195 v348
  let c1_i32_193 : BitVec 32 := 1#32
  let v346 : BitVec 32 := Scalar.addi v270 c1_i32_193
  let v347 : BitVec 32 := Scalar.select v345 v346 v270
  let v422 : BitVec 1 := Scalar.cmpi .eq v349 v347
  let c0_i32_237 : BitVec 32 := 0#32
  let c1_i32_236 : BitVec 32 := 1#32
  let v425 : BitVec 32 := Scalar.addi v349 c1_i32_236
  let v426 : BitVec 32 := Scalar.select v422 c0_i32_237 v425
  let c512_i32_246 : BitVec 32 := 512#32
  let v439 : BitVec 32 := Scalar.muli v426 c512_i32_246
  let v440 : BitVec 32 := v439
  let v441 : Index := Scalar.indexCast v440
  let c0_248 : Index := 0#32
  ![0, v441.toNat, 0]
def k0_mult43 (arg13 : BitVec 32) (arg14 : BitVec 32) : BitVec 32 :=
  let v37 : BitVec 1 := Scalar.cmpi .eq arg14 arg13
  let c0_i32_30 : BitVec 32 := 0#32
  let c1_i32_29 : BitVec 32 := 1#32
  let v40 : BitVec 32 := Scalar.addi arg14 c1_i32_29
  let v41 : BitVec 32 := Scalar.select v37 c0_i32_30 v40
  let c1_i32_28 : BitVec 32 := 1#32
  let v38 : BitVec 32 := Scalar.addi arg13 c1_i32_28
  let v39 : BitVec 32 := Scalar.select v37 v38 arg13
  let v114 : BitVec 1 := Scalar.cmpi .eq v41 v39
  let c0_i32_69 : BitVec 32 := 0#32
  let c1_i32_68 : BitVec 32 := 1#32
  let v117 : BitVec 32 := Scalar.addi v41 c1_i32_68
  let v118 : BitVec 32 := Scalar.select v114 c0_i32_69 v117
  let c1_i32_67 : BitVec 32 := 1#32
  let v115 : BitVec 32 := Scalar.addi v39 c1_i32_67
  let v116 : BitVec 32 := Scalar.select v114 v115 v39
  let v191 : BitVec 1 := Scalar.cmpi .eq v118 v116
  let c0_i32_111 : BitVec 32 := 0#32
  let c1_i32_110 : BitVec 32 := 1#32
  let v194 : BitVec 32 := Scalar.addi v118 c1_i32_110
  let v195 : BitVec 32 := Scalar.select v191 c0_i32_111 v194
  let c1_i32_109 : BitVec 32 := 1#32
  let v192 : BitVec 32 := Scalar.addi v116 c1_i32_109
  let v193 : BitVec 32 := Scalar.select v191 v192 v116
  let v268 : BitVec 1 := Scalar.cmpi .eq v195 v193
  let c0_i32_153 : BitVec 32 := 0#32
  let c1_i32_152 : BitVec 32 := 1#32
  let v271 : BitVec 32 := Scalar.addi v195 c1_i32_152
  let v272 : BitVec 32 := Scalar.select v268 c0_i32_153 v271
  let c1_i32_151 : BitVec 32 := 1#32
  let v269 : BitVec 32 := Scalar.addi v193 c1_i32_151
  let v270 : BitVec 32 := Scalar.select v268 v269 v193
  let v345 : BitVec 1 := Scalar.cmpi .eq v272 v270
  let c0_i32_195 : BitVec 32 := 0#32
  let c1_i32_194 : BitVec 32 := 1#32
  let v348 : BitVec 32 := Scalar.addi v272 c1_i32_194
  let v349 : BitVec 32 := Scalar.select v345 c0_i32_195 v348
  let c1_i32_193 : BitVec 32 := 1#32
  let v346 : BitVec 32 := Scalar.addi v270 c1_i32_193
  let v347 : BitVec 32 := Scalar.select v345 v346 v270
  let v422 : BitVec 1 := Scalar.cmpi .eq v349 v347
  let c0_i32_237 : BitVec 32 := 0#32
  let c1_i32_236 : BitVec 32 := 1#32
  let v425 : BitVec 32 := Scalar.addi v349 c1_i32_236
  let v426 : BitVec 32 := Scalar.select v422 c0_i32_237 v425
  let c512_i32_249 : BitVec 32 := 512#32
  let v444 : BitVec 32 := Scalar.muli v426 c512_i32_249
  v444
def k0_off30 (arg13 : BitVec 32) (arg14 : BitVec 32) : Fin 4 → Nat :=
  let c0_250 : Index := 0#32
  let c0_251 : Index := 0#32
  let v37 : BitVec 1 := Scalar.cmpi .eq arg14 arg13
  let c0_i32_30 : BitVec 32 := 0#32
  let c1_i32_29 : BitVec 32 := 1#32
  let v40 : BitVec 32 := Scalar.addi arg14 c1_i32_29
  let v41 : BitVec 32 := Scalar.select v37 c0_i32_30 v40
  let c1_i32_28 : BitVec 32 := 1#32
  let v38 : BitVec 32 := Scalar.addi arg13 c1_i32_28
  let v39 : BitVec 32 := Scalar.select v37 v38 arg13
  let v114 : BitVec 1 := Scalar.cmpi .eq v41 v39
  let c0_i32_69 : BitVec 32 := 0#32
  let c1_i32_68 : BitVec 32 := 1#32
  let v117 : BitVec 32 := Scalar.addi v41 c1_i32_68
  let v118 : BitVec 32 := Scalar.select v114 c0_i32_69 v117
  let c1_i32_67 : BitVec 32 := 1#32
  let v115 : BitVec 32 := Scalar.addi v39 c1_i32_67
  let v116 : BitVec 32 := Scalar.select v114 v115 v39
  let v191 : BitVec 1 := Scalar.cmpi .eq v118 v116
  let c0_i32_111 : BitVec 32 := 0#32
  let c1_i32_110 : BitVec 32 := 1#32
  let v194 : BitVec 32 := Scalar.addi v118 c1_i32_110
  let v195 : BitVec 32 := Scalar.select v191 c0_i32_111 v194
  let c1_i32_109 : BitVec 32 := 1#32
  let v192 : BitVec 32 := Scalar.addi v116 c1_i32_109
  let v193 : BitVec 32 := Scalar.select v191 v192 v116
  let v268 : BitVec 1 := Scalar.cmpi .eq v195 v193
  let c0_i32_153 : BitVec 32 := 0#32
  let c1_i32_152 : BitVec 32 := 1#32
  let v271 : BitVec 32 := Scalar.addi v195 c1_i32_152
  let v272 : BitVec 32 := Scalar.select v268 c0_i32_153 v271
  let c1_i32_151 : BitVec 32 := 1#32
  let v269 : BitVec 32 := Scalar.addi v193 c1_i32_151
  let v270 : BitVec 32 := Scalar.select v268 v269 v193
  let v345 : BitVec 1 := Scalar.cmpi .eq v272 v270
  let c0_i32_195 : BitVec 32 := 0#32
  let c1_i32_194 : BitVec 32 := 1#32
  let v348 : BitVec 32 := Scalar.addi v272 c1_i32_194
  let v349 : BitVec 32 := Scalar.select v345 c0_i32_195 v348
  let c1_i32_193 : BitVec 32 := 1#32
  let v346 : BitVec 32 := Scalar.addi v270 c1_i32_193
  let v347 : BitVec 32 := Scalar.select v345 v346 v270
  let v422 : BitVec 1 := Scalar.cmpi .eq v349 v347
  let c0_i32_237 : BitVec 32 := 0#32
  let c1_i32_236 : BitVec 32 := 1#32
  let v425 : BitVec 32 := Scalar.addi v349 c1_i32_236
  let v426 : BitVec 32 := Scalar.select v422 c0_i32_237 v425
  let c512_i32_249 : BitVec 32 := 512#32
  let v444 : BitVec 32 := Scalar.muli v426 c512_i32_249
  let v445 : BitVec 32 := v444
  let v446 : Index := Scalar.indexCast v445
  let c0_252 : Index := 0#32
  ![0, 0, v446.toNat, 0]
def k0_mult44 (arg13 : BitVec 32) (arg14 : BitVec 32) : BitVec 32 :=
  let v37 : BitVec 1 := Scalar.cmpi .eq arg14 arg13
  let c0_i32_30 : BitVec 32 := 0#32
  let c1_i32_29 : BitVec 32 := 1#32
  let v40 : BitVec 32 := Scalar.addi arg14 c1_i32_29
  let v41 : BitVec 32 := Scalar.select v37 c0_i32_30 v40
  let c1_i32_28 : BitVec 32 := 1#32
  let v38 : BitVec 32 := Scalar.addi arg13 c1_i32_28
  let v39 : BitVec 32 := Scalar.select v37 v38 arg13
  let v114 : BitVec 1 := Scalar.cmpi .eq v41 v39
  let c0_i32_69 : BitVec 32 := 0#32
  let c1_i32_68 : BitVec 32 := 1#32
  let v117 : BitVec 32 := Scalar.addi v41 c1_i32_68
  let v118 : BitVec 32 := Scalar.select v114 c0_i32_69 v117
  let c1_i32_67 : BitVec 32 := 1#32
  let v115 : BitVec 32 := Scalar.addi v39 c1_i32_67
  let v116 : BitVec 32 := Scalar.select v114 v115 v39
  let v191 : BitVec 1 := Scalar.cmpi .eq v118 v116
  let c0_i32_111 : BitVec 32 := 0#32
  let c1_i32_110 : BitVec 32 := 1#32
  let v194 : BitVec 32 := Scalar.addi v118 c1_i32_110
  let v195 : BitVec 32 := Scalar.select v191 c0_i32_111 v194
  let c1_i32_109 : BitVec 32 := 1#32
  let v192 : BitVec 32 := Scalar.addi v116 c1_i32_109
  let v193 : BitVec 32 := Scalar.select v191 v192 v116
  let v268 : BitVec 1 := Scalar.cmpi .eq v195 v193
  let c0_i32_153 : BitVec 32 := 0#32
  let c1_i32_152 : BitVec 32 := 1#32
  let v271 : BitVec 32 := Scalar.addi v195 c1_i32_152
  let v272 : BitVec 32 := Scalar.select v268 c0_i32_153 v271
  let c1_i32_151 : BitVec 32 := 1#32
  let v269 : BitVec 32 := Scalar.addi v193 c1_i32_151
  let v270 : BitVec 32 := Scalar.select v268 v269 v193
  let v345 : BitVec 1 := Scalar.cmpi .eq v272 v270
  let c0_i32_195 : BitVec 32 := 0#32
  let c1_i32_194 : BitVec 32 := 1#32
  let v348 : BitVec 32 := Scalar.addi v272 c1_i32_194
  let v349 : BitVec 32 := Scalar.select v345 c0_i32_195 v348
  let c512_i32_257 : BitVec 32 := 512#32
  let v454 : BitVec 32 := Scalar.muli v349 c512_i32_257
  v454
def k0_mult45 (arg13 : BitVec 32) (arg14 : BitVec 32) : BitVec 32 :=
  let v37 : BitVec 1 := Scalar.cmpi .eq arg14 arg13
  let c0_i32_30 : BitVec 32 := 0#32
  let c1_i32_29 : BitVec 32 := 1#32
  let v40 : BitVec 32 := Scalar.addi arg14 c1_i32_29
  let v41 : BitVec 32 := Scalar.select v37 c0_i32_30 v40
  let c1_i32_28 : BitVec 32 := 1#32
  let v38 : BitVec 32 := Scalar.addi arg13 c1_i32_28
  let v39 : BitVec 32 := Scalar.select v37 v38 arg13
  let v114 : BitVec 1 := Scalar.cmpi .eq v41 v39
  let c0_i32_69 : BitVec 32 := 0#32
  let c1_i32_68 : BitVec 32 := 1#32
  let v117 : BitVec 32 := Scalar.addi v41 c1_i32_68
  let v118 : BitVec 32 := Scalar.select v114 c0_i32_69 v117
  let c1_i32_67 : BitVec 32 := 1#32
  let v115 : BitVec 32 := Scalar.addi v39 c1_i32_67
  let v116 : BitVec 32 := Scalar.select v114 v115 v39
  let v191 : BitVec 1 := Scalar.cmpi .eq v118 v116
  let c0_i32_111 : BitVec 32 := 0#32
  let c1_i32_110 : BitVec 32 := 1#32
  let v194 : BitVec 32 := Scalar.addi v118 c1_i32_110
  let v195 : BitVec 32 := Scalar.select v191 c0_i32_111 v194
  let c1_i32_109 : BitVec 32 := 1#32
  let v192 : BitVec 32 := Scalar.addi v116 c1_i32_109
  let v193 : BitVec 32 := Scalar.select v191 v192 v116
  let v268 : BitVec 1 := Scalar.cmpi .eq v195 v193
  let c0_i32_153 : BitVec 32 := 0#32
  let c1_i32_152 : BitVec 32 := 1#32
  let v271 : BitVec 32 := Scalar.addi v195 c1_i32_152
  let v272 : BitVec 32 := Scalar.select v268 c0_i32_153 v271
  let c1_i32_151 : BitVec 32 := 1#32
  let v269 : BitVec 32 := Scalar.addi v193 c1_i32_151
  let v270 : BitVec 32 := Scalar.select v268 v269 v193
  let v345 : BitVec 1 := Scalar.cmpi .eq v272 v270
  let c1_i32_193 : BitVec 32 := 1#32
  let v346 : BitVec 32 := Scalar.addi v270 c1_i32_193
  let v347 : BitVec 32 := Scalar.select v345 v346 v270
  let c512_i32_270 : BitVec 32 := 512#32
  let v482 : BitVec 32 := Scalar.muli v347 c512_i32_270
  v482
def k0_off31 (arg13 : BitVec 32) (arg14 : BitVec 32) : Fin 2 → Nat :=
  let v37 : BitVec 1 := Scalar.cmpi .eq arg14 arg13
  let c0_i32_30 : BitVec 32 := 0#32
  let c1_i32_29 : BitVec 32 := 1#32
  let v40 : BitVec 32 := Scalar.addi arg14 c1_i32_29
  let v41 : BitVec 32 := Scalar.select v37 c0_i32_30 v40
  let c1_i32_28 : BitVec 32 := 1#32
  let v38 : BitVec 32 := Scalar.addi arg13 c1_i32_28
  let v39 : BitVec 32 := Scalar.select v37 v38 arg13
  let v114 : BitVec 1 := Scalar.cmpi .eq v41 v39
  let c0_i32_69 : BitVec 32 := 0#32
  let c1_i32_68 : BitVec 32 := 1#32
  let v117 : BitVec 32 := Scalar.addi v41 c1_i32_68
  let v118 : BitVec 32 := Scalar.select v114 c0_i32_69 v117
  let c1_i32_67 : BitVec 32 := 1#32
  let v115 : BitVec 32 := Scalar.addi v39 c1_i32_67
  let v116 : BitVec 32 := Scalar.select v114 v115 v39
  let v191 : BitVec 1 := Scalar.cmpi .eq v118 v116
  let c0_i32_111 : BitVec 32 := 0#32
  let c1_i32_110 : BitVec 32 := 1#32
  let v194 : BitVec 32 := Scalar.addi v118 c1_i32_110
  let v195 : BitVec 32 := Scalar.select v191 c0_i32_111 v194
  let c1_i32_109 : BitVec 32 := 1#32
  let v192 : BitVec 32 := Scalar.addi v116 c1_i32_109
  let v193 : BitVec 32 := Scalar.select v191 v192 v116
  let v268 : BitVec 1 := Scalar.cmpi .eq v195 v193
  let c0_i32_153 : BitVec 32 := 0#32
  let c1_i32_152 : BitVec 32 := 1#32
  let v271 : BitVec 32 := Scalar.addi v195 c1_i32_152
  let v272 : BitVec 32 := Scalar.select v268 c0_i32_153 v271
  let c1_i32_151 : BitVec 32 := 1#32
  let v269 : BitVec 32 := Scalar.addi v193 c1_i32_151
  let v270 : BitVec 32 := Scalar.select v268 v269 v193
  let v345 : BitVec 1 := Scalar.cmpi .eq v272 v270
  let c1_i32_193 : BitVec 32 := 1#32
  let v346 : BitVec 32 := Scalar.addi v270 c1_i32_193
  let v347 : BitVec 32 := Scalar.select v345 v346 v270
  let c512_i32_270 : BitVec 32 := 512#32
  let v482 : BitVec 32 := Scalar.muli v347 c512_i32_270
  let v483 : BitVec 32 := v482
  let v484 : Index := Scalar.indexCast v483
  let c0_271 : Index := 0#32
  ![v484.toNat, 0]
def k0_mult46 (arg13 : BitVec 32) (arg14 : BitVec 32) : BitVec 32 :=
  let v37 : BitVec 1 := Scalar.cmpi .eq arg14 arg13
  let c0_i32_30 : BitVec 32 := 0#32
  let c1_i32_29 : BitVec 32 := 1#32
  let v40 : BitVec 32 := Scalar.addi arg14 c1_i32_29
  let v41 : BitVec 32 := Scalar.select v37 c0_i32_30 v40
  let c1_i32_28 : BitVec 32 := 1#32
  let v38 : BitVec 32 := Scalar.addi arg13 c1_i32_28
  let v39 : BitVec 32 := Scalar.select v37 v38 arg13
  let v114 : BitVec 1 := Scalar.cmpi .eq v41 v39
  let c0_i32_69 : BitVec 32 := 0#32
  let c1_i32_68 : BitVec 32 := 1#32
  let v117 : BitVec 32 := Scalar.addi v41 c1_i32_68
  let v118 : BitVec 32 := Scalar.select v114 c0_i32_69 v117
  let c1_i32_67 : BitVec 32 := 1#32
  let v115 : BitVec 32 := Scalar.addi v39 c1_i32_67
  let v116 : BitVec 32 := Scalar.select v114 v115 v39
  let v191 : BitVec 1 := Scalar.cmpi .eq v118 v116
  let c0_i32_111 : BitVec 32 := 0#32
  let c1_i32_110 : BitVec 32 := 1#32
  let v194 : BitVec 32 := Scalar.addi v118 c1_i32_110
  let v195 : BitVec 32 := Scalar.select v191 c0_i32_111 v194
  let c1_i32_109 : BitVec 32 := 1#32
  let v192 : BitVec 32 := Scalar.addi v116 c1_i32_109
  let v193 : BitVec 32 := Scalar.select v191 v192 v116
  let v268 : BitVec 1 := Scalar.cmpi .eq v195 v193
  let c0_i32_153 : BitVec 32 := 0#32
  let c1_i32_152 : BitVec 32 := 1#32
  let v271 : BitVec 32 := Scalar.addi v195 c1_i32_152
  let v272 : BitVec 32 := Scalar.select v268 c0_i32_153 v271
  let c1_i32_151 : BitVec 32 := 1#32
  let v269 : BitVec 32 := Scalar.addi v193 c1_i32_151
  let v270 : BitVec 32 := Scalar.select v268 v269 v193
  let v345 : BitVec 1 := Scalar.cmpi .eq v272 v270
  let c1_i32_193 : BitVec 32 := 1#32
  let v346 : BitVec 32 := Scalar.addi v270 c1_i32_193
  let v347 : BitVec 32 := Scalar.select v345 v346 v270
  let c512_i32_273 : BitVec 32 := 512#32
  let v490 : BitVec 32 := Scalar.muli v347 c512_i32_273
  v490
def k0_mult47 (arg13 : BitVec 32) (arg14 : BitVec 32) : BitVec 32 :=
  let v37 : BitVec 1 := Scalar.cmpi .eq arg14 arg13
  let c0_i32_30 : BitVec 32 := 0#32
  let c1_i32_29 : BitVec 32 := 1#32
  let v40 : BitVec 32 := Scalar.addi arg14 c1_i32_29
  let v41 : BitVec 32 := Scalar.select v37 c0_i32_30 v40
  let c1_i32_28 : BitVec 32 := 1#32
  let v38 : BitVec 32 := Scalar.addi arg13 c1_i32_28
  let v39 : BitVec 32 := Scalar.select v37 v38 arg13
  let v114 : BitVec 1 := Scalar.cmpi .eq v41 v39
  let c0_i32_69 : BitVec 32 := 0#32
  let c1_i32_68 : BitVec 32 := 1#32
  let v117 : BitVec 32 := Scalar.addi v41 c1_i32_68
  let v118 : BitVec 32 := Scalar.select v114 c0_i32_69 v117
  let c1_i32_67 : BitVec 32 := 1#32
  let v115 : BitVec 32 := Scalar.addi v39 c1_i32_67
  let v116 : BitVec 32 := Scalar.select v114 v115 v39
  let v191 : BitVec 1 := Scalar.cmpi .eq v118 v116
  let c0_i32_111 : BitVec 32 := 0#32
  let c1_i32_110 : BitVec 32 := 1#32
  let v194 : BitVec 32 := Scalar.addi v118 c1_i32_110
  let v195 : BitVec 32 := Scalar.select v191 c0_i32_111 v194
  let c1_i32_109 : BitVec 32 := 1#32
  let v192 : BitVec 32 := Scalar.addi v116 c1_i32_109
  let v193 : BitVec 32 := Scalar.select v191 v192 v116
  let v268 : BitVec 1 := Scalar.cmpi .eq v195 v193
  let c0_i32_153 : BitVec 32 := 0#32
  let c1_i32_152 : BitVec 32 := 1#32
  let v271 : BitVec 32 := Scalar.addi v195 c1_i32_152
  let v272 : BitVec 32 := Scalar.select v268 c0_i32_153 v271
  let c1_i32_151 : BitVec 32 := 1#32
  let v269 : BitVec 32 := Scalar.addi v193 c1_i32_151
  let v270 : BitVec 32 := Scalar.select v268 v269 v193
  let v345 : BitVec 1 := Scalar.cmpi .eq v272 v270
  let c0_i32_195 : BitVec 32 := 0#32
  let c1_i32_194 : BitVec 32 := 1#32
  let v348 : BitVec 32 := Scalar.addi v272 c1_i32_194
  let v349 : BitVec 32 := Scalar.select v345 c0_i32_195 v348
  let c1_i32_193 : BitVec 32 := 1#32
  let v346 : BitVec 32 := Scalar.addi v270 c1_i32_193
  let v347 : BitVec 32 := Scalar.select v345 v346 v270
  let v422 : BitVec 1 := Scalar.cmpi .eq v349 v347
  let c0_i32_237 : BitVec 32 := 0#32
  let c1_i32_236 : BitVec 32 := 1#32
  let v425 : BitVec 32 := Scalar.addi v349 c1_i32_236
  let v426 : BitVec 32 := Scalar.select v422 c0_i32_237 v425
  let c1_i32_235 : BitVec 32 := 1#32
  let v423 : BitVec 32 := Scalar.addi v347 c1_i32_235
  let v424 : BitVec 32 := Scalar.select v422 v423 v347
  let v499 : BitVec 1 := Scalar.cmpi .eq v426 v424
  let c1_i32_277 : BitVec 32 := 1#32
  let v500 : BitVec 32 := Scalar.addi v424 c1_i32_277
  let v501 : BitVec 32 := Scalar.select v499 v500 v424
  let c15_i32_280 : BitVec 32 := 15#32
  let v504 : BitVec 32 := Scalar.minsi v501 c15_i32_280
  let c512_i32_281 : BitVec 32 := 512#32
  let v505 : BitVec 32 := Scalar.muli v504 c512_i32_281
  v505
def k0_off32 (arg13 : BitVec 32) (arg14 : BitVec 32) : Fin 3 → Nat :=
  let c0_282 : Index := 0#32
  let v37 : BitVec 1 := Scalar.cmpi .eq arg14 arg13
  let c0_i32_30 : BitVec 32 := 0#32
  let c1_i32_29 : BitVec 32 := 1#32
  let v40 : BitVec 32 := Scalar.addi arg14 c1_i32_29
  let v41 : BitVec 32 := Scalar.select v37 c0_i32_30 v40
  let c1_i32_28 : BitVec 32 := 1#32
  let v38 : BitVec 32 := Scalar.addi arg13 c1_i32_28
  let v39 : BitVec 32 := Scalar.select v37 v38 arg13
  let v114 : BitVec 1 := Scalar.cmpi .eq v41 v39
  let c0_i32_69 : BitVec 32 := 0#32
  let c1_i32_68 : BitVec 32 := 1#32
  let v117 : BitVec 32 := Scalar.addi v41 c1_i32_68
  let v118 : BitVec 32 := Scalar.select v114 c0_i32_69 v117
  let c1_i32_67 : BitVec 32 := 1#32
  let v115 : BitVec 32 := Scalar.addi v39 c1_i32_67
  let v116 : BitVec 32 := Scalar.select v114 v115 v39
  let v191 : BitVec 1 := Scalar.cmpi .eq v118 v116
  let c0_i32_111 : BitVec 32 := 0#32
  let c1_i32_110 : BitVec 32 := 1#32
  let v194 : BitVec 32 := Scalar.addi v118 c1_i32_110
  let v195 : BitVec 32 := Scalar.select v191 c0_i32_111 v194
  let c1_i32_109 : BitVec 32 := 1#32
  let v192 : BitVec 32 := Scalar.addi v116 c1_i32_109
  let v193 : BitVec 32 := Scalar.select v191 v192 v116
  let v268 : BitVec 1 := Scalar.cmpi .eq v195 v193
  let c0_i32_153 : BitVec 32 := 0#32
  let c1_i32_152 : BitVec 32 := 1#32
  let v271 : BitVec 32 := Scalar.addi v195 c1_i32_152
  let v272 : BitVec 32 := Scalar.select v268 c0_i32_153 v271
  let c1_i32_151 : BitVec 32 := 1#32
  let v269 : BitVec 32 := Scalar.addi v193 c1_i32_151
  let v270 : BitVec 32 := Scalar.select v268 v269 v193
  let v345 : BitVec 1 := Scalar.cmpi .eq v272 v270
  let c0_i32_195 : BitVec 32 := 0#32
  let c1_i32_194 : BitVec 32 := 1#32
  let v348 : BitVec 32 := Scalar.addi v272 c1_i32_194
  let v349 : BitVec 32 := Scalar.select v345 c0_i32_195 v348
  let c1_i32_193 : BitVec 32 := 1#32
  let v346 : BitVec 32 := Scalar.addi v270 c1_i32_193
  let v347 : BitVec 32 := Scalar.select v345 v346 v270
  let v422 : BitVec 1 := Scalar.cmpi .eq v349 v347
  let c0_i32_237 : BitVec 32 := 0#32
  let c1_i32_236 : BitVec 32 := 1#32
  let v425 : BitVec 32 := Scalar.addi v349 c1_i32_236
  let v426 : BitVec 32 := Scalar.select v422 c0_i32_237 v425
  let c1_i32_235 : BitVec 32 := 1#32
  let v423 : BitVec 32 := Scalar.addi v347 c1_i32_235
  let v424 : BitVec 32 := Scalar.select v422 v423 v347
  let v499 : BitVec 1 := Scalar.cmpi .eq v426 v424
  let c1_i32_277 : BitVec 32 := 1#32
  let v500 : BitVec 32 := Scalar.addi v424 c1_i32_277
  let v501 : BitVec 32 := Scalar.select v499 v500 v424
  let c15_i32_280 : BitVec 32 := 15#32
  let v504 : BitVec 32 := Scalar.minsi v501 c15_i32_280
  let c512_i32_281 : BitVec 32 := 512#32
  let v505 : BitVec 32 := Scalar.muli v504 c512_i32_281
  let v506 : BitVec 32 := v505
  let v507 : Index := Scalar.indexCast v506
  let c0_283 : Index := 0#32
  ![0, v507.toNat, 0]
def k0_mult48 (arg13 : BitVec 32) (arg14 : BitVec 32) : BitVec 32 :=
  let v37 : BitVec 1 := Scalar.cmpi .eq arg14 arg13
  let c0_i32_30 : BitVec 32 := 0#32
  let c1_i32_29 : BitVec 32 := 1#32
  let v40 : BitVec 32 := Scalar.addi arg14 c1_i32_29
  let v41 : BitVec 32 := Scalar.select v37 c0_i32_30 v40
  let c1_i32_28 : BitVec 32 := 1#32
  let v38 : BitVec 32 := Scalar.addi arg13 c1_i32_28
  let v39 : BitVec 32 := Scalar.select v37 v38 arg13
  let v114 : BitVec 1 := Scalar.cmpi .eq v41 v39
  let c0_i32_69 : BitVec 32 := 0#32
  let c1_i32_68 : BitVec 32 := 1#32
  let v117 : BitVec 32 := Scalar.addi v41 c1_i32_68
  let v118 : BitVec 32 := Scalar.select v114 c0_i32_69 v117
  let c1_i32_67 : BitVec 32 := 1#32
  let v115 : BitVec 32 := Scalar.addi v39 c1_i32_67
  let v116 : BitVec 32 := Scalar.select v114 v115 v39
  let v191 : BitVec 1 := Scalar.cmpi .eq v118 v116
  let c0_i32_111 : BitVec 32 := 0#32
  let c1_i32_110 : BitVec 32 := 1#32
  let v194 : BitVec 32 := Scalar.addi v118 c1_i32_110
  let v195 : BitVec 32 := Scalar.select v191 c0_i32_111 v194
  let c1_i32_109 : BitVec 32 := 1#32
  let v192 : BitVec 32 := Scalar.addi v116 c1_i32_109
  let v193 : BitVec 32 := Scalar.select v191 v192 v116
  let v268 : BitVec 1 := Scalar.cmpi .eq v195 v193
  let c0_i32_153 : BitVec 32 := 0#32
  let c1_i32_152 : BitVec 32 := 1#32
  let v271 : BitVec 32 := Scalar.addi v195 c1_i32_152
  let v272 : BitVec 32 := Scalar.select v268 c0_i32_153 v271
  let c1_i32_151 : BitVec 32 := 1#32
  let v269 : BitVec 32 := Scalar.addi v193 c1_i32_151
  let v270 : BitVec 32 := Scalar.select v268 v269 v193
  let v345 : BitVec 1 := Scalar.cmpi .eq v272 v270
  let c0_i32_195 : BitVec 32 := 0#32
  let c1_i32_194 : BitVec 32 := 1#32
  let v348 : BitVec 32 := Scalar.addi v272 c1_i32_194
  let v349 : BitVec 32 := Scalar.select v345 c0_i32_195 v348
  let c1_i32_193 : BitVec 32 := 1#32
  let v346 : BitVec 32 := Scalar.addi v270 c1_i32_193
  let v347 : BitVec 32 := Scalar.select v345 v346 v270
  let v422 : BitVec 1 := Scalar.cmpi .eq v349 v347
  let c0_i32_237 : BitVec 32 := 0#32
  let c1_i32_236 : BitVec 32 := 1#32
  let v425 : BitVec 32 := Scalar.addi v349 c1_i32_236
  let v426 : BitVec 32 := Scalar.select v422 c0_i32_237 v425
  let c1_i32_235 : BitVec 32 := 1#32
  let v423 : BitVec 32 := Scalar.addi v347 c1_i32_235
  let v424 : BitVec 32 := Scalar.select v422 v423 v347
  let v499 : BitVec 1 := Scalar.cmpi .eq v426 v424
  let c1_i32_277 : BitVec 32 := 1#32
  let v500 : BitVec 32 := Scalar.addi v424 c1_i32_277
  let v501 : BitVec 32 := Scalar.select v499 v500 v424
  let c15_i32_280 : BitVec 32 := 15#32
  let v504 : BitVec 32 := Scalar.minsi v501 c15_i32_280
  let c512_i32_284 : BitVec 32 := 512#32
  let v510 : BitVec 32 := Scalar.muli v504 c512_i32_284
  v510
def k0_off33 (arg13 : BitVec 32) (arg14 : BitVec 32) : Fin 4 → Nat :=
  let c0_285 : Index := 0#32
  let c0_286 : Index := 0#32
  let v37 : BitVec 1 := Scalar.cmpi .eq arg14 arg13
  let c0_i32_30 : BitVec 32 := 0#32
  let c1_i32_29 : BitVec 32 := 1#32
  let v40 : BitVec 32 := Scalar.addi arg14 c1_i32_29
  let v41 : BitVec 32 := Scalar.select v37 c0_i32_30 v40
  let c1_i32_28 : BitVec 32 := 1#32
  let v38 : BitVec 32 := Scalar.addi arg13 c1_i32_28
  let v39 : BitVec 32 := Scalar.select v37 v38 arg13
  let v114 : BitVec 1 := Scalar.cmpi .eq v41 v39
  let c0_i32_69 : BitVec 32 := 0#32
  let c1_i32_68 : BitVec 32 := 1#32
  let v117 : BitVec 32 := Scalar.addi v41 c1_i32_68
  let v118 : BitVec 32 := Scalar.select v114 c0_i32_69 v117
  let c1_i32_67 : BitVec 32 := 1#32
  let v115 : BitVec 32 := Scalar.addi v39 c1_i32_67
  let v116 : BitVec 32 := Scalar.select v114 v115 v39
  let v191 : BitVec 1 := Scalar.cmpi .eq v118 v116
  let c0_i32_111 : BitVec 32 := 0#32
  let c1_i32_110 : BitVec 32 := 1#32
  let v194 : BitVec 32 := Scalar.addi v118 c1_i32_110
  let v195 : BitVec 32 := Scalar.select v191 c0_i32_111 v194
  let c1_i32_109 : BitVec 32 := 1#32
  let v192 : BitVec 32 := Scalar.addi v116 c1_i32_109
  let v193 : BitVec 32 := Scalar.select v191 v192 v116
  let v268 : BitVec 1 := Scalar.cmpi .eq v195 v193
  let c0_i32_153 : BitVec 32 := 0#32
  let c1_i32_152 : BitVec 32 := 1#32
  let v271 : BitVec 32 := Scalar.addi v195 c1_i32_152
  let v272 : BitVec 32 := Scalar.select v268 c0_i32_153 v271
  let c1_i32_151 : BitVec 32 := 1#32
  let v269 : BitVec 32 := Scalar.addi v193 c1_i32_151
  let v270 : BitVec 32 := Scalar.select v268 v269 v193
  let v345 : BitVec 1 := Scalar.cmpi .eq v272 v270
  let c0_i32_195 : BitVec 32 := 0#32
  let c1_i32_194 : BitVec 32 := 1#32
  let v348 : BitVec 32 := Scalar.addi v272 c1_i32_194
  let v349 : BitVec 32 := Scalar.select v345 c0_i32_195 v348
  let c1_i32_193 : BitVec 32 := 1#32
  let v346 : BitVec 32 := Scalar.addi v270 c1_i32_193
  let v347 : BitVec 32 := Scalar.select v345 v346 v270
  let v422 : BitVec 1 := Scalar.cmpi .eq v349 v347
  let c0_i32_237 : BitVec 32 := 0#32
  let c1_i32_236 : BitVec 32 := 1#32
  let v425 : BitVec 32 := Scalar.addi v349 c1_i32_236
  let v426 : BitVec 32 := Scalar.select v422 c0_i32_237 v425
  let c1_i32_235 : BitVec 32 := 1#32
  let v423 : BitVec 32 := Scalar.addi v347 c1_i32_235
  let v424 : BitVec 32 := Scalar.select v422 v423 v347
  let v499 : BitVec 1 := Scalar.cmpi .eq v426 v424
  let c1_i32_277 : BitVec 32 := 1#32
  let v500 : BitVec 32 := Scalar.addi v424 c1_i32_277
  let v501 : BitVec 32 := Scalar.select v499 v500 v424
  let c15_i32_280 : BitVec 32 := 15#32
  let v504 : BitVec 32 := Scalar.minsi v501 c15_i32_280
  let c512_i32_284 : BitVec 32 := 512#32
  let v510 : BitVec 32 := Scalar.muli v504 c512_i32_284
  let v511 : BitVec 32 := v510
  let v512 : Index := Scalar.indexCast v511
  let c0_287 : Index := 0#32
  ![0, 0, v512.toNat, 0]
def k0_mult49 (arg13 : BitVec 32) (arg14 : BitVec 32) : BitVec 32 :=
  let v37 : BitVec 1 := Scalar.cmpi .eq arg14 arg13
  let c0_i32_30 : BitVec 32 := 0#32
  let c1_i32_29 : BitVec 32 := 1#32
  let v40 : BitVec 32 := Scalar.addi arg14 c1_i32_29
  let v41 : BitVec 32 := Scalar.select v37 c0_i32_30 v40
  let c1_i32_28 : BitVec 32 := 1#32
  let v38 : BitVec 32 := Scalar.addi arg13 c1_i32_28
  let v39 : BitVec 32 := Scalar.select v37 v38 arg13
  let v114 : BitVec 1 := Scalar.cmpi .eq v41 v39
  let c0_i32_69 : BitVec 32 := 0#32
  let c1_i32_68 : BitVec 32 := 1#32
  let v117 : BitVec 32 := Scalar.addi v41 c1_i32_68
  let v118 : BitVec 32 := Scalar.select v114 c0_i32_69 v117
  let c1_i32_67 : BitVec 32 := 1#32
  let v115 : BitVec 32 := Scalar.addi v39 c1_i32_67
  let v116 : BitVec 32 := Scalar.select v114 v115 v39
  let v191 : BitVec 1 := Scalar.cmpi .eq v118 v116
  let c0_i32_111 : BitVec 32 := 0#32
  let c1_i32_110 : BitVec 32 := 1#32
  let v194 : BitVec 32 := Scalar.addi v118 c1_i32_110
  let v195 : BitVec 32 := Scalar.select v191 c0_i32_111 v194
  let c1_i32_109 : BitVec 32 := 1#32
  let v192 : BitVec 32 := Scalar.addi v116 c1_i32_109
  let v193 : BitVec 32 := Scalar.select v191 v192 v116
  let v268 : BitVec 1 := Scalar.cmpi .eq v195 v193
  let c0_i32_153 : BitVec 32 := 0#32
  let c1_i32_152 : BitVec 32 := 1#32
  let v271 : BitVec 32 := Scalar.addi v195 c1_i32_152
  let v272 : BitVec 32 := Scalar.select v268 c0_i32_153 v271
  let c1_i32_151 : BitVec 32 := 1#32
  let v269 : BitVec 32 := Scalar.addi v193 c1_i32_151
  let v270 : BitVec 32 := Scalar.select v268 v269 v193
  let v345 : BitVec 1 := Scalar.cmpi .eq v272 v270
  let c0_i32_195 : BitVec 32 := 0#32
  let c1_i32_194 : BitVec 32 := 1#32
  let v348 : BitVec 32 := Scalar.addi v272 c1_i32_194
  let v349 : BitVec 32 := Scalar.select v345 c0_i32_195 v348
  let c1_i32_193 : BitVec 32 := 1#32
  let v346 : BitVec 32 := Scalar.addi v270 c1_i32_193
  let v347 : BitVec 32 := Scalar.select v345 v346 v270
  let v422 : BitVec 1 := Scalar.cmpi .eq v349 v347
  let c0_i32_237 : BitVec 32 := 0#32
  let c1_i32_236 : BitVec 32 := 1#32
  let v425 : BitVec 32 := Scalar.addi v349 c1_i32_236
  let v426 : BitVec 32 := Scalar.select v422 c0_i32_237 v425
  let c1_i32_235 : BitVec 32 := 1#32
  let v423 : BitVec 32 := Scalar.addi v347 c1_i32_235
  let v424 : BitVec 32 := Scalar.select v422 v423 v347
  let v499 : BitVec 1 := Scalar.cmpi .eq v426 v424
  let c0_i32_279 : BitVec 32 := 0#32
  let c1_i32_278 : BitVec 32 := 1#32
  let v502 : BitVec 32 := Scalar.addi v426 c1_i32_278
  let v503 : BitVec 32 := Scalar.select v499 c0_i32_279 v502
  let c512_i32_288 : BitVec 32 := 512#32
  let v516 : BitVec 32 := Scalar.muli v503 c512_i32_288
  v516
def k0_off34 (arg13 : BitVec 32) (arg14 : BitVec 32) : Fin 3 → Nat :=
  let c0_289 : Index := 0#32
  let v37 : BitVec 1 := Scalar.cmpi .eq arg14 arg13
  let c0_i32_30 : BitVec 32 := 0#32
  let c1_i32_29 : BitVec 32 := 1#32
  let v40 : BitVec 32 := Scalar.addi arg14 c1_i32_29
  let v41 : BitVec 32 := Scalar.select v37 c0_i32_30 v40
  let c1_i32_28 : BitVec 32 := 1#32
  let v38 : BitVec 32 := Scalar.addi arg13 c1_i32_28
  let v39 : BitVec 32 := Scalar.select v37 v38 arg13
  let v114 : BitVec 1 := Scalar.cmpi .eq v41 v39
  let c0_i32_69 : BitVec 32 := 0#32
  let c1_i32_68 : BitVec 32 := 1#32
  let v117 : BitVec 32 := Scalar.addi v41 c1_i32_68
  let v118 : BitVec 32 := Scalar.select v114 c0_i32_69 v117
  let c1_i32_67 : BitVec 32 := 1#32
  let v115 : BitVec 32 := Scalar.addi v39 c1_i32_67
  let v116 : BitVec 32 := Scalar.select v114 v115 v39
  let v191 : BitVec 1 := Scalar.cmpi .eq v118 v116
  let c0_i32_111 : BitVec 32 := 0#32
  let c1_i32_110 : BitVec 32 := 1#32
  let v194 : BitVec 32 := Scalar.addi v118 c1_i32_110
  let v195 : BitVec 32 := Scalar.select v191 c0_i32_111 v194
  let c1_i32_109 : BitVec 32 := 1#32
  let v192 : BitVec 32 := Scalar.addi v116 c1_i32_109
  let v193 : BitVec 32 := Scalar.select v191 v192 v116
  let v268 : BitVec 1 := Scalar.cmpi .eq v195 v193
  let c0_i32_153 : BitVec 32 := 0#32
  let c1_i32_152 : BitVec 32 := 1#32
  let v271 : BitVec 32 := Scalar.addi v195 c1_i32_152
  let v272 : BitVec 32 := Scalar.select v268 c0_i32_153 v271
  let c1_i32_151 : BitVec 32 := 1#32
  let v269 : BitVec 32 := Scalar.addi v193 c1_i32_151
  let v270 : BitVec 32 := Scalar.select v268 v269 v193
  let v345 : BitVec 1 := Scalar.cmpi .eq v272 v270
  let c0_i32_195 : BitVec 32 := 0#32
  let c1_i32_194 : BitVec 32 := 1#32
  let v348 : BitVec 32 := Scalar.addi v272 c1_i32_194
  let v349 : BitVec 32 := Scalar.select v345 c0_i32_195 v348
  let c1_i32_193 : BitVec 32 := 1#32
  let v346 : BitVec 32 := Scalar.addi v270 c1_i32_193
  let v347 : BitVec 32 := Scalar.select v345 v346 v270
  let v422 : BitVec 1 := Scalar.cmpi .eq v349 v347
  let c0_i32_237 : BitVec 32 := 0#32
  let c1_i32_236 : BitVec 32 := 1#32
  let v425 : BitVec 32 := Scalar.addi v349 c1_i32_236
  let v426 : BitVec 32 := Scalar.select v422 c0_i32_237 v425
  let c1_i32_235 : BitVec 32 := 1#32
  let v423 : BitVec 32 := Scalar.addi v347 c1_i32_235
  let v424 : BitVec 32 := Scalar.select v422 v423 v347
  let v499 : BitVec 1 := Scalar.cmpi .eq v426 v424
  let c0_i32_279 : BitVec 32 := 0#32
  let c1_i32_278 : BitVec 32 := 1#32
  let v502 : BitVec 32 := Scalar.addi v426 c1_i32_278
  let v503 : BitVec 32 := Scalar.select v499 c0_i32_279 v502
  let c512_i32_288 : BitVec 32 := 512#32
  let v516 : BitVec 32 := Scalar.muli v503 c512_i32_288
  let v517 : BitVec 32 := v516
  let v518 : Index := Scalar.indexCast v517
  let c0_290 : Index := 0#32
  ![0, v518.toNat, 0]
def k0_mult50 (arg13 : BitVec 32) (arg14 : BitVec 32) : BitVec 32 :=
  let v37 : BitVec 1 := Scalar.cmpi .eq arg14 arg13
  let c0_i32_30 : BitVec 32 := 0#32
  let c1_i32_29 : BitVec 32 := 1#32
  let v40 : BitVec 32 := Scalar.addi arg14 c1_i32_29
  let v41 : BitVec 32 := Scalar.select v37 c0_i32_30 v40
  let c1_i32_28 : BitVec 32 := 1#32
  let v38 : BitVec 32 := Scalar.addi arg13 c1_i32_28
  let v39 : BitVec 32 := Scalar.select v37 v38 arg13
  let v114 : BitVec 1 := Scalar.cmpi .eq v41 v39
  let c0_i32_69 : BitVec 32 := 0#32
  let c1_i32_68 : BitVec 32 := 1#32
  let v117 : BitVec 32 := Scalar.addi v41 c1_i32_68
  let v118 : BitVec 32 := Scalar.select v114 c0_i32_69 v117
  let c1_i32_67 : BitVec 32 := 1#32
  let v115 : BitVec 32 := Scalar.addi v39 c1_i32_67
  let v116 : BitVec 32 := Scalar.select v114 v115 v39
  let v191 : BitVec 1 := Scalar.cmpi .eq v118 v116
  let c0_i32_111 : BitVec 32 := 0#32
  let c1_i32_110 : BitVec 32 := 1#32
  let v194 : BitVec 32 := Scalar.addi v118 c1_i32_110
  let v195 : BitVec 32 := Scalar.select v191 c0_i32_111 v194
  let c1_i32_109 : BitVec 32 := 1#32
  let v192 : BitVec 32 := Scalar.addi v116 c1_i32_109
  let v193 : BitVec 32 := Scalar.select v191 v192 v116
  let v268 : BitVec 1 := Scalar.cmpi .eq v195 v193
  let c0_i32_153 : BitVec 32 := 0#32
  let c1_i32_152 : BitVec 32 := 1#32
  let v271 : BitVec 32 := Scalar.addi v195 c1_i32_152
  let v272 : BitVec 32 := Scalar.select v268 c0_i32_153 v271
  let c1_i32_151 : BitVec 32 := 1#32
  let v269 : BitVec 32 := Scalar.addi v193 c1_i32_151
  let v270 : BitVec 32 := Scalar.select v268 v269 v193
  let v345 : BitVec 1 := Scalar.cmpi .eq v272 v270
  let c0_i32_195 : BitVec 32 := 0#32
  let c1_i32_194 : BitVec 32 := 1#32
  let v348 : BitVec 32 := Scalar.addi v272 c1_i32_194
  let v349 : BitVec 32 := Scalar.select v345 c0_i32_195 v348
  let c1_i32_193 : BitVec 32 := 1#32
  let v346 : BitVec 32 := Scalar.addi v270 c1_i32_193
  let v347 : BitVec 32 := Scalar.select v345 v346 v270
  let v422 : BitVec 1 := Scalar.cmpi .eq v349 v347
  let c0_i32_237 : BitVec 32 := 0#32
  let c1_i32_236 : BitVec 32 := 1#32
  let v425 : BitVec 32 := Scalar.addi v349 c1_i32_236
  let v426 : BitVec 32 := Scalar.select v422 c0_i32_237 v425
  let c1_i32_235 : BitVec 32 := 1#32
  let v423 : BitVec 32 := Scalar.addi v347 c1_i32_235
  let v424 : BitVec 32 := Scalar.select v422 v423 v347
  let v499 : BitVec 1 := Scalar.cmpi .eq v426 v424
  let c0_i32_279 : BitVec 32 := 0#32
  let c1_i32_278 : BitVec 32 := 1#32
  let v502 : BitVec 32 := Scalar.addi v426 c1_i32_278
  let v503 : BitVec 32 := Scalar.select v499 c0_i32_279 v502
  let c512_i32_291 : BitVec 32 := 512#32
  let v521 : BitVec 32 := Scalar.muli v503 c512_i32_291
  v521
def k0_off35 (arg13 : BitVec 32) (arg14 : BitVec 32) : Fin 4 → Nat :=
  let c0_292 : Index := 0#32
  let c0_293 : Index := 0#32
  let v37 : BitVec 1 := Scalar.cmpi .eq arg14 arg13
  let c0_i32_30 : BitVec 32 := 0#32
  let c1_i32_29 : BitVec 32 := 1#32
  let v40 : BitVec 32 := Scalar.addi arg14 c1_i32_29
  let v41 : BitVec 32 := Scalar.select v37 c0_i32_30 v40
  let c1_i32_28 : BitVec 32 := 1#32
  let v38 : BitVec 32 := Scalar.addi arg13 c1_i32_28
  let v39 : BitVec 32 := Scalar.select v37 v38 arg13
  let v114 : BitVec 1 := Scalar.cmpi .eq v41 v39
  let c0_i32_69 : BitVec 32 := 0#32
  let c1_i32_68 : BitVec 32 := 1#32
  let v117 : BitVec 32 := Scalar.addi v41 c1_i32_68
  let v118 : BitVec 32 := Scalar.select v114 c0_i32_69 v117
  let c1_i32_67 : BitVec 32 := 1#32
  let v115 : BitVec 32 := Scalar.addi v39 c1_i32_67
  let v116 : BitVec 32 := Scalar.select v114 v115 v39
  let v191 : BitVec 1 := Scalar.cmpi .eq v118 v116
  let c0_i32_111 : BitVec 32 := 0#32
  let c1_i32_110 : BitVec 32 := 1#32
  let v194 : BitVec 32 := Scalar.addi v118 c1_i32_110
  let v195 : BitVec 32 := Scalar.select v191 c0_i32_111 v194
  let c1_i32_109 : BitVec 32 := 1#32
  let v192 : BitVec 32 := Scalar.addi v116 c1_i32_109
  let v193 : BitVec 32 := Scalar.select v191 v192 v116
  let v268 : BitVec 1 := Scalar.cmpi .eq v195 v193
  let c0_i32_153 : BitVec 32 := 0#32
  let c1_i32_152 : BitVec 32 := 1#32
  let v271 : BitVec 32 := Scalar.addi v195 c1_i32_152
  let v272 : BitVec 32 := Scalar.select v268 c0_i32_153 v271
  let c1_i32_151 : BitVec 32 := 1#32
  let v269 : BitVec 32 := Scalar.addi v193 c1_i32_151
  let v270 : BitVec 32 := Scalar.select v268 v269 v193
  let v345 : BitVec 1 := Scalar.cmpi .eq v272 v270
  let c0_i32_195 : BitVec 32 := 0#32
  let c1_i32_194 : BitVec 32 := 1#32
  let v348 : BitVec 32 := Scalar.addi v272 c1_i32_194
  let v349 : BitVec 32 := Scalar.select v345 c0_i32_195 v348
  let c1_i32_193 : BitVec 32 := 1#32
  let v346 : BitVec 32 := Scalar.addi v270 c1_i32_193
  let v347 : BitVec 32 := Scalar.select v345 v346 v270
  let v422 : BitVec 1 := Scalar.cmpi .eq v349 v347
  let c0_i32_237 : BitVec 32 := 0#32
  let c1_i32_236 : BitVec 32 := 1#32
  let v425 : BitVec 32 := Scalar.addi v349 c1_i32_236
  let v426 : BitVec 32 := Scalar.select v422 c0_i32_237 v425
  let c1_i32_235 : BitVec 32 := 1#32
  let v423 : BitVec 32 := Scalar.addi v347 c1_i32_235
  let v424 : BitVec 32 := Scalar.select v422 v423 v347
  let v499 : BitVec 1 := Scalar.cmpi .eq v426 v424
  let c0_i32_279 : BitVec 32 := 0#32
  let c1_i32_278 : BitVec 32 := 1#32
  let v502 : BitVec 32 := Scalar.addi v426 c1_i32_278
  let v503 : BitVec 32 := Scalar.select v499 c0_i32_279 v502
  let c512_i32_291 : BitVec 32 := 512#32
  let v521 : BitVec 32 := Scalar.muli v503 c512_i32_291
  let v522 : BitVec 32 := v521
  let v523 : Index := Scalar.indexCast v522
  let c0_294 : Index := 0#32
  ![0, 0, v523.toNat, 0]
def k0_mult51 (arg13 : BitVec 32) (arg14 : BitVec 32) : BitVec 32 :=
  let v37 : BitVec 1 := Scalar.cmpi .eq arg14 arg13
  let c0_i32_30 : BitVec 32 := 0#32
  let c1_i32_29 : BitVec 32 := 1#32
  let v40 : BitVec 32 := Scalar.addi arg14 c1_i32_29
  let v41 : BitVec 32 := Scalar.select v37 c0_i32_30 v40
  let c1_i32_28 : BitVec 32 := 1#32
  let v38 : BitVec 32 := Scalar.addi arg13 c1_i32_28
  let v39 : BitVec 32 := Scalar.select v37 v38 arg13
  let v114 : BitVec 1 := Scalar.cmpi .eq v41 v39
  let c0_i32_69 : BitVec 32 := 0#32
  let c1_i32_68 : BitVec 32 := 1#32
  let v117 : BitVec 32 := Scalar.addi v41 c1_i32_68
  let v118 : BitVec 32 := Scalar.select v114 c0_i32_69 v117
  let c1_i32_67 : BitVec 32 := 1#32
  let v115 : BitVec 32 := Scalar.addi v39 c1_i32_67
  let v116 : BitVec 32 := Scalar.select v114 v115 v39
  let v191 : BitVec 1 := Scalar.cmpi .eq v118 v116
  let c0_i32_111 : BitVec 32 := 0#32
  let c1_i32_110 : BitVec 32 := 1#32
  let v194 : BitVec 32 := Scalar.addi v118 c1_i32_110
  let v195 : BitVec 32 := Scalar.select v191 c0_i32_111 v194
  let c1_i32_109 : BitVec 32 := 1#32
  let v192 : BitVec 32 := Scalar.addi v116 c1_i32_109
  let v193 : BitVec 32 := Scalar.select v191 v192 v116
  let v268 : BitVec 1 := Scalar.cmpi .eq v195 v193
  let c0_i32_153 : BitVec 32 := 0#32
  let c1_i32_152 : BitVec 32 := 1#32
  let v271 : BitVec 32 := Scalar.addi v195 c1_i32_152
  let v272 : BitVec 32 := Scalar.select v268 c0_i32_153 v271
  let c1_i32_151 : BitVec 32 := 1#32
  let v269 : BitVec 32 := Scalar.addi v193 c1_i32_151
  let v270 : BitVec 32 := Scalar.select v268 v269 v193
  let v345 : BitVec 1 := Scalar.cmpi .eq v272 v270
  let c0_i32_195 : BitVec 32 := 0#32
  let c1_i32_194 : BitVec 32 := 1#32
  let v348 : BitVec 32 := Scalar.addi v272 c1_i32_194
  let v349 : BitVec 32 := Scalar.select v345 c0_i32_195 v348
  let c1_i32_193 : BitVec 32 := 1#32
  let v346 : BitVec 32 := Scalar.addi v270 c1_i32_193
  let v347 : BitVec 32 := Scalar.select v345 v346 v270
  let v422 : BitVec 1 := Scalar.cmpi .eq v349 v347
  let c0_i32_237 : BitVec 32 := 0#32
  let c1_i32_236 : BitVec 32 := 1#32
  let v425 : BitVec 32 := Scalar.addi v349 c1_i32_236
  let v426 : BitVec 32 := Scalar.select v422 c0_i32_237 v425
  let c512_i32_299 : BitVec 32 := 512#32
  let v531 : BitVec 32 := Scalar.muli v426 c512_i32_299
  v531
def k0_mult52 (arg13 : BitVec 32) (arg14 : BitVec 32) : BitVec 32 :=
  let v37 : BitVec 1 := Scalar.cmpi .eq arg14 arg13
  let c0_i32_30 : BitVec 32 := 0#32
  let c1_i32_29 : BitVec 32 := 1#32
  let v40 : BitVec 32 := Scalar.addi arg14 c1_i32_29
  let v41 : BitVec 32 := Scalar.select v37 c0_i32_30 v40
  let c1_i32_28 : BitVec 32 := 1#32
  let v38 : BitVec 32 := Scalar.addi arg13 c1_i32_28
  let v39 : BitVec 32 := Scalar.select v37 v38 arg13
  let v114 : BitVec 1 := Scalar.cmpi .eq v41 v39
  let c0_i32_69 : BitVec 32 := 0#32
  let c1_i32_68 : BitVec 32 := 1#32
  let v117 : BitVec 32 := Scalar.addi v41 c1_i32_68
  let v118 : BitVec 32 := Scalar.select v114 c0_i32_69 v117
  let c1_i32_67 : BitVec 32 := 1#32
  let v115 : BitVec 32 := Scalar.addi v39 c1_i32_67
  let v116 : BitVec 32 := Scalar.select v114 v115 v39
  let v191 : BitVec 1 := Scalar.cmpi .eq v118 v116
  let c0_i32_111 : BitVec 32 := 0#32
  let c1_i32_110 : BitVec 32 := 1#32
  let v194 : BitVec 32 := Scalar.addi v118 c1_i32_110
  let v195 : BitVec 32 := Scalar.select v191 c0_i32_111 v194
  let c1_i32_109 : BitVec 32 := 1#32
  let v192 : BitVec 32 := Scalar.addi v116 c1_i32_109
  let v193 : BitVec 32 := Scalar.select v191 v192 v116
  let v268 : BitVec 1 := Scalar.cmpi .eq v195 v193
  let c0_i32_153 : BitVec 32 := 0#32
  let c1_i32_152 : BitVec 32 := 1#32
  let v271 : BitVec 32 := Scalar.addi v195 c1_i32_152
  let v272 : BitVec 32 := Scalar.select v268 c0_i32_153 v271
  let c1_i32_151 : BitVec 32 := 1#32
  let v269 : BitVec 32 := Scalar.addi v193 c1_i32_151
  let v270 : BitVec 32 := Scalar.select v268 v269 v193
  let v345 : BitVec 1 := Scalar.cmpi .eq v272 v270
  let c0_i32_195 : BitVec 32 := 0#32
  let c1_i32_194 : BitVec 32 := 1#32
  let v348 : BitVec 32 := Scalar.addi v272 c1_i32_194
  let v349 : BitVec 32 := Scalar.select v345 c0_i32_195 v348
  let c1_i32_193 : BitVec 32 := 1#32
  let v346 : BitVec 32 := Scalar.addi v270 c1_i32_193
  let v347 : BitVec 32 := Scalar.select v345 v346 v270
  let v422 : BitVec 1 := Scalar.cmpi .eq v349 v347
  let c1_i32_235 : BitVec 32 := 1#32
  let v423 : BitVec 32 := Scalar.addi v347 c1_i32_235
  let v424 : BitVec 32 := Scalar.select v422 v423 v347
  let c512_i32_312 : BitVec 32 := 512#32
  let v559 : BitVec 32 := Scalar.muli v424 c512_i32_312
  v559
def k0_off36 (arg13 : BitVec 32) (arg14 : BitVec 32) : Fin 2 → Nat :=
  let v37 : BitVec 1 := Scalar.cmpi .eq arg14 arg13
  let c0_i32_30 : BitVec 32 := 0#32
  let c1_i32_29 : BitVec 32 := 1#32
  let v40 : BitVec 32 := Scalar.addi arg14 c1_i32_29
  let v41 : BitVec 32 := Scalar.select v37 c0_i32_30 v40
  let c1_i32_28 : BitVec 32 := 1#32
  let v38 : BitVec 32 := Scalar.addi arg13 c1_i32_28
  let v39 : BitVec 32 := Scalar.select v37 v38 arg13
  let v114 : BitVec 1 := Scalar.cmpi .eq v41 v39
  let c0_i32_69 : BitVec 32 := 0#32
  let c1_i32_68 : BitVec 32 := 1#32
  let v117 : BitVec 32 := Scalar.addi v41 c1_i32_68
  let v118 : BitVec 32 := Scalar.select v114 c0_i32_69 v117
  let c1_i32_67 : BitVec 32 := 1#32
  let v115 : BitVec 32 := Scalar.addi v39 c1_i32_67
  let v116 : BitVec 32 := Scalar.select v114 v115 v39
  let v191 : BitVec 1 := Scalar.cmpi .eq v118 v116
  let c0_i32_111 : BitVec 32 := 0#32
  let c1_i32_110 : BitVec 32 := 1#32
  let v194 : BitVec 32 := Scalar.addi v118 c1_i32_110
  let v195 : BitVec 32 := Scalar.select v191 c0_i32_111 v194
  let c1_i32_109 : BitVec 32 := 1#32
  let v192 : BitVec 32 := Scalar.addi v116 c1_i32_109
  let v193 : BitVec 32 := Scalar.select v191 v192 v116
  let v268 : BitVec 1 := Scalar.cmpi .eq v195 v193
  let c0_i32_153 : BitVec 32 := 0#32
  let c1_i32_152 : BitVec 32 := 1#32
  let v271 : BitVec 32 := Scalar.addi v195 c1_i32_152
  let v272 : BitVec 32 := Scalar.select v268 c0_i32_153 v271
  let c1_i32_151 : BitVec 32 := 1#32
  let v269 : BitVec 32 := Scalar.addi v193 c1_i32_151
  let v270 : BitVec 32 := Scalar.select v268 v269 v193
  let v345 : BitVec 1 := Scalar.cmpi .eq v272 v270
  let c0_i32_195 : BitVec 32 := 0#32
  let c1_i32_194 : BitVec 32 := 1#32
  let v348 : BitVec 32 := Scalar.addi v272 c1_i32_194
  let v349 : BitVec 32 := Scalar.select v345 c0_i32_195 v348
  let c1_i32_193 : BitVec 32 := 1#32
  let v346 : BitVec 32 := Scalar.addi v270 c1_i32_193
  let v347 : BitVec 32 := Scalar.select v345 v346 v270
  let v422 : BitVec 1 := Scalar.cmpi .eq v349 v347
  let c1_i32_235 : BitVec 32 := 1#32
  let v423 : BitVec 32 := Scalar.addi v347 c1_i32_235
  let v424 : BitVec 32 := Scalar.select v422 v423 v347
  let c512_i32_312 : BitVec 32 := 512#32
  let v559 : BitVec 32 := Scalar.muli v424 c512_i32_312
  let v560 : BitVec 32 := v559
  let v561 : Index := Scalar.indexCast v560
  let c0_313 : Index := 0#32
  ![v561.toNat, 0]
def k0_mult53 (arg13 : BitVec 32) (arg14 : BitVec 32) : BitVec 32 :=
  let v37 : BitVec 1 := Scalar.cmpi .eq arg14 arg13
  let c0_i32_30 : BitVec 32 := 0#32
  let c1_i32_29 : BitVec 32 := 1#32
  let v40 : BitVec 32 := Scalar.addi arg14 c1_i32_29
  let v41 : BitVec 32 := Scalar.select v37 c0_i32_30 v40
  let c1_i32_28 : BitVec 32 := 1#32
  let v38 : BitVec 32 := Scalar.addi arg13 c1_i32_28
  let v39 : BitVec 32 := Scalar.select v37 v38 arg13
  let v114 : BitVec 1 := Scalar.cmpi .eq v41 v39
  let c0_i32_69 : BitVec 32 := 0#32
  let c1_i32_68 : BitVec 32 := 1#32
  let v117 : BitVec 32 := Scalar.addi v41 c1_i32_68
  let v118 : BitVec 32 := Scalar.select v114 c0_i32_69 v117
  let c1_i32_67 : BitVec 32 := 1#32
  let v115 : BitVec 32 := Scalar.addi v39 c1_i32_67
  let v116 : BitVec 32 := Scalar.select v114 v115 v39
  let v191 : BitVec 1 := Scalar.cmpi .eq v118 v116
  let c0_i32_111 : BitVec 32 := 0#32
  let c1_i32_110 : BitVec 32 := 1#32
  let v194 : BitVec 32 := Scalar.addi v118 c1_i32_110
  let v195 : BitVec 32 := Scalar.select v191 c0_i32_111 v194
  let c1_i32_109 : BitVec 32 := 1#32
  let v192 : BitVec 32 := Scalar.addi v116 c1_i32_109
  let v193 : BitVec 32 := Scalar.select v191 v192 v116
  let v268 : BitVec 1 := Scalar.cmpi .eq v195 v193
  let c0_i32_153 : BitVec 32 := 0#32
  let c1_i32_152 : BitVec 32 := 1#32
  let v271 : BitVec 32 := Scalar.addi v195 c1_i32_152
  let v272 : BitVec 32 := Scalar.select v268 c0_i32_153 v271
  let c1_i32_151 : BitVec 32 := 1#32
  let v269 : BitVec 32 := Scalar.addi v193 c1_i32_151
  let v270 : BitVec 32 := Scalar.select v268 v269 v193
  let v345 : BitVec 1 := Scalar.cmpi .eq v272 v270
  let c0_i32_195 : BitVec 32 := 0#32
  let c1_i32_194 : BitVec 32 := 1#32
  let v348 : BitVec 32 := Scalar.addi v272 c1_i32_194
  let v349 : BitVec 32 := Scalar.select v345 c0_i32_195 v348
  let c1_i32_193 : BitVec 32 := 1#32
  let v346 : BitVec 32 := Scalar.addi v270 c1_i32_193
  let v347 : BitVec 32 := Scalar.select v345 v346 v270
  let v422 : BitVec 1 := Scalar.cmpi .eq v349 v347
  let c1_i32_235 : BitVec 32 := 1#32
  let v423 : BitVec 32 := Scalar.addi v347 c1_i32_235
  let v424 : BitVec 32 := Scalar.select v422 v423 v347
  let c512_i32_315 : BitVec 32 := 512#32
  let v567 : BitVec 32 := Scalar.muli v424 c512_i32_315
  v567
def k0_mult54 (arg13 : BitVec 32) (arg14 : BitVec 32) : BitVec 32 :=
  let v37 : BitVec 1 := Scalar.cmpi .eq arg14 arg13
  let c0_i32_30 : BitVec 32 := 0#32
  let c1_i32_29 : BitVec 32 := 1#32
  let v40 : BitVec 32 := Scalar.addi arg14 c1_i32_29
  let v41 : BitVec 32 := Scalar.select v37 c0_i32_30 v40
  let c1_i32_28 : BitVec 32 := 1#32
  let v38 : BitVec 32 := Scalar.addi arg13 c1_i32_28
  let v39 : BitVec 32 := Scalar.select v37 v38 arg13
  let v114 : BitVec 1 := Scalar.cmpi .eq v41 v39
  let c0_i32_69 : BitVec 32 := 0#32
  let c1_i32_68 : BitVec 32 := 1#32
  let v117 : BitVec 32 := Scalar.addi v41 c1_i32_68
  let v118 : BitVec 32 := Scalar.select v114 c0_i32_69 v117
  let c1_i32_67 : BitVec 32 := 1#32
  let v115 : BitVec 32 := Scalar.addi v39 c1_i32_67
  let v116 : BitVec 32 := Scalar.select v114 v115 v39
  let v191 : BitVec 1 := Scalar.cmpi .eq v118 v116
  let c0_i32_111 : BitVec 32 := 0#32
  let c1_i32_110 : BitVec 32 := 1#32
  let v194 : BitVec 32 := Scalar.addi v118 c1_i32_110
  let v195 : BitVec 32 := Scalar.select v191 c0_i32_111 v194
  let c1_i32_109 : BitVec 32 := 1#32
  let v192 : BitVec 32 := Scalar.addi v116 c1_i32_109
  let v193 : BitVec 32 := Scalar.select v191 v192 v116
  let v268 : BitVec 1 := Scalar.cmpi .eq v195 v193
  let c0_i32_153 : BitVec 32 := 0#32
  let c1_i32_152 : BitVec 32 := 1#32
  let v271 : BitVec 32 := Scalar.addi v195 c1_i32_152
  let v272 : BitVec 32 := Scalar.select v268 c0_i32_153 v271
  let c1_i32_151 : BitVec 32 := 1#32
  let v269 : BitVec 32 := Scalar.addi v193 c1_i32_151
  let v270 : BitVec 32 := Scalar.select v268 v269 v193
  let v345 : BitVec 1 := Scalar.cmpi .eq v272 v270
  let c0_i32_195 : BitVec 32 := 0#32
  let c1_i32_194 : BitVec 32 := 1#32
  let v348 : BitVec 32 := Scalar.addi v272 c1_i32_194
  let v349 : BitVec 32 := Scalar.select v345 c0_i32_195 v348
  let c1_i32_193 : BitVec 32 := 1#32
  let v346 : BitVec 32 := Scalar.addi v270 c1_i32_193
  let v347 : BitVec 32 := Scalar.select v345 v346 v270
  let v422 : BitVec 1 := Scalar.cmpi .eq v349 v347
  let c0_i32_237 : BitVec 32 := 0#32
  let c1_i32_236 : BitVec 32 := 1#32
  let v425 : BitVec 32 := Scalar.addi v349 c1_i32_236
  let v426 : BitVec 32 := Scalar.select v422 c0_i32_237 v425
  let c1_i32_235 : BitVec 32 := 1#32
  let v423 : BitVec 32 := Scalar.addi v347 c1_i32_235
  let v424 : BitVec 32 := Scalar.select v422 v423 v347
  let v499 : BitVec 1 := Scalar.cmpi .eq v426 v424
  let c0_i32_279 : BitVec 32 := 0#32
  let c1_i32_278 : BitVec 32 := 1#32
  let v502 : BitVec 32 := Scalar.addi v426 c1_i32_278
  let v503 : BitVec 32 := Scalar.select v499 c0_i32_279 v502
  let c1_i32_277 : BitVec 32 := 1#32
  let v500 : BitVec 32 := Scalar.addi v424 c1_i32_277
  let v501 : BitVec 32 := Scalar.select v499 v500 v424
  let v576 : BitVec 1 := Scalar.cmpi .eq v503 v501
  let c1_i32_319 : BitVec 32 := 1#32
  let v577 : BitVec 32 := Scalar.addi v501 c1_i32_319
  let v578 : BitVec 32 := Scalar.select v576 v577 v501
  let c15_i32_322 : BitVec 32 := 15#32
  let v581 : BitVec 32 := Scalar.minsi v578 c15_i32_322
  let c512_i32_323 : BitVec 32 := 512#32
  let v582 : BitVec 32 := Scalar.muli v581 c512_i32_323
  v582
def k0_off37 (arg13 : BitVec 32) (arg14 : BitVec 32) : Fin 3 → Nat :=
  let c0_324 : Index := 0#32
  let v37 : BitVec 1 := Scalar.cmpi .eq arg14 arg13
  let c0_i32_30 : BitVec 32 := 0#32
  let c1_i32_29 : BitVec 32 := 1#32
  let v40 : BitVec 32 := Scalar.addi arg14 c1_i32_29
  let v41 : BitVec 32 := Scalar.select v37 c0_i32_30 v40
  let c1_i32_28 : BitVec 32 := 1#32
  let v38 : BitVec 32 := Scalar.addi arg13 c1_i32_28
  let v39 : BitVec 32 := Scalar.select v37 v38 arg13
  let v114 : BitVec 1 := Scalar.cmpi .eq v41 v39
  let c0_i32_69 : BitVec 32 := 0#32
  let c1_i32_68 : BitVec 32 := 1#32
  let v117 : BitVec 32 := Scalar.addi v41 c1_i32_68
  let v118 : BitVec 32 := Scalar.select v114 c0_i32_69 v117
  let c1_i32_67 : BitVec 32 := 1#32
  let v115 : BitVec 32 := Scalar.addi v39 c1_i32_67
  let v116 : BitVec 32 := Scalar.select v114 v115 v39
  let v191 : BitVec 1 := Scalar.cmpi .eq v118 v116
  let c0_i32_111 : BitVec 32 := 0#32
  let c1_i32_110 : BitVec 32 := 1#32
  let v194 : BitVec 32 := Scalar.addi v118 c1_i32_110
  let v195 : BitVec 32 := Scalar.select v191 c0_i32_111 v194
  let c1_i32_109 : BitVec 32 := 1#32
  let v192 : BitVec 32 := Scalar.addi v116 c1_i32_109
  let v193 : BitVec 32 := Scalar.select v191 v192 v116
  let v268 : BitVec 1 := Scalar.cmpi .eq v195 v193
  let c0_i32_153 : BitVec 32 := 0#32
  let c1_i32_152 : BitVec 32 := 1#32
  let v271 : BitVec 32 := Scalar.addi v195 c1_i32_152
  let v272 : BitVec 32 := Scalar.select v268 c0_i32_153 v271
  let c1_i32_151 : BitVec 32 := 1#32
  let v269 : BitVec 32 := Scalar.addi v193 c1_i32_151
  let v270 : BitVec 32 := Scalar.select v268 v269 v193
  let v345 : BitVec 1 := Scalar.cmpi .eq v272 v270
  let c0_i32_195 : BitVec 32 := 0#32
  let c1_i32_194 : BitVec 32 := 1#32
  let v348 : BitVec 32 := Scalar.addi v272 c1_i32_194
  let v349 : BitVec 32 := Scalar.select v345 c0_i32_195 v348
  let c1_i32_193 : BitVec 32 := 1#32
  let v346 : BitVec 32 := Scalar.addi v270 c1_i32_193
  let v347 : BitVec 32 := Scalar.select v345 v346 v270
  let v422 : BitVec 1 := Scalar.cmpi .eq v349 v347
  let c0_i32_237 : BitVec 32 := 0#32
  let c1_i32_236 : BitVec 32 := 1#32
  let v425 : BitVec 32 := Scalar.addi v349 c1_i32_236
  let v426 : BitVec 32 := Scalar.select v422 c0_i32_237 v425
  let c1_i32_235 : BitVec 32 := 1#32
  let v423 : BitVec 32 := Scalar.addi v347 c1_i32_235
  let v424 : BitVec 32 := Scalar.select v422 v423 v347
  let v499 : BitVec 1 := Scalar.cmpi .eq v426 v424
  let c0_i32_279 : BitVec 32 := 0#32
  let c1_i32_278 : BitVec 32 := 1#32
  let v502 : BitVec 32 := Scalar.addi v426 c1_i32_278
  let v503 : BitVec 32 := Scalar.select v499 c0_i32_279 v502
  let c1_i32_277 : BitVec 32 := 1#32
  let v500 : BitVec 32 := Scalar.addi v424 c1_i32_277
  let v501 : BitVec 32 := Scalar.select v499 v500 v424
  let v576 : BitVec 1 := Scalar.cmpi .eq v503 v501
  let c1_i32_319 : BitVec 32 := 1#32
  let v577 : BitVec 32 := Scalar.addi v501 c1_i32_319
  let v578 : BitVec 32 := Scalar.select v576 v577 v501
  let c15_i32_322 : BitVec 32 := 15#32
  let v581 : BitVec 32 := Scalar.minsi v578 c15_i32_322
  let c512_i32_323 : BitVec 32 := 512#32
  let v582 : BitVec 32 := Scalar.muli v581 c512_i32_323
  let v583 : BitVec 32 := v582
  let v584 : Index := Scalar.indexCast v583
  let c0_325 : Index := 0#32
  ![0, v584.toNat, 0]
def k0_mult55 (arg13 : BitVec 32) (arg14 : BitVec 32) : BitVec 32 :=
  let v37 : BitVec 1 := Scalar.cmpi .eq arg14 arg13
  let c0_i32_30 : BitVec 32 := 0#32
  let c1_i32_29 : BitVec 32 := 1#32
  let v40 : BitVec 32 := Scalar.addi arg14 c1_i32_29
  let v41 : BitVec 32 := Scalar.select v37 c0_i32_30 v40
  let c1_i32_28 : BitVec 32 := 1#32
  let v38 : BitVec 32 := Scalar.addi arg13 c1_i32_28
  let v39 : BitVec 32 := Scalar.select v37 v38 arg13
  let v114 : BitVec 1 := Scalar.cmpi .eq v41 v39
  let c0_i32_69 : BitVec 32 := 0#32
  let c1_i32_68 : BitVec 32 := 1#32
  let v117 : BitVec 32 := Scalar.addi v41 c1_i32_68
  let v118 : BitVec 32 := Scalar.select v114 c0_i32_69 v117
  let c1_i32_67 : BitVec 32 := 1#32
  let v115 : BitVec 32 := Scalar.addi v39 c1_i32_67
  let v116 : BitVec 32 := Scalar.select v114 v115 v39
  let v191 : BitVec 1 := Scalar.cmpi .eq v118 v116
  let c0_i32_111 : BitVec 32 := 0#32
  let c1_i32_110 : BitVec 32 := 1#32
  let v194 : BitVec 32 := Scalar.addi v118 c1_i32_110
  let v195 : BitVec 32 := Scalar.select v191 c0_i32_111 v194
  let c1_i32_109 : BitVec 32 := 1#32
  let v192 : BitVec 32 := Scalar.addi v116 c1_i32_109
  let v193 : BitVec 32 := Scalar.select v191 v192 v116
  let v268 : BitVec 1 := Scalar.cmpi .eq v195 v193
  let c0_i32_153 : BitVec 32 := 0#32
  let c1_i32_152 : BitVec 32 := 1#32
  let v271 : BitVec 32 := Scalar.addi v195 c1_i32_152
  let v272 : BitVec 32 := Scalar.select v268 c0_i32_153 v271
  let c1_i32_151 : BitVec 32 := 1#32
  let v269 : BitVec 32 := Scalar.addi v193 c1_i32_151
  let v270 : BitVec 32 := Scalar.select v268 v269 v193
  let v345 : BitVec 1 := Scalar.cmpi .eq v272 v270
  let c0_i32_195 : BitVec 32 := 0#32
  let c1_i32_194 : BitVec 32 := 1#32
  let v348 : BitVec 32 := Scalar.addi v272 c1_i32_194
  let v349 : BitVec 32 := Scalar.select v345 c0_i32_195 v348
  let c1_i32_193 : BitVec 32 := 1#32
  let v346 : BitVec 32 := Scalar.addi v270 c1_i32_193
  let v347 : BitVec 32 := Scalar.select v345 v346 v270
  let v422 : BitVec 1 := Scalar.cmpi .eq v349 v347
  let c0_i32_237 : BitVec 32 := 0#32
  let c1_i32_236 : BitVec 32 := 1#32
  let v425 : BitVec 32 := Scalar.addi v349 c1_i32_236
  let v426 : BitVec 32 := Scalar.select v422 c0_i32_237 v425
  let c1_i32_235 : BitVec 32 := 1#32
  let v423 : BitVec 32 := Scalar.addi v347 c1_i32_235
  let v424 : BitVec 32 := Scalar.select v422 v423 v347
  let v499 : BitVec 1 := Scalar.cmpi .eq v426 v424
  let c0_i32_279 : BitVec 32 := 0#32
  let c1_i32_278 : BitVec 32 := 1#32
  let v502 : BitVec 32 := Scalar.addi v426 c1_i32_278
  let v503 : BitVec 32 := Scalar.select v499 c0_i32_279 v502
  let c1_i32_277 : BitVec 32 := 1#32
  let v500 : BitVec 32 := Scalar.addi v424 c1_i32_277
  let v501 : BitVec 32 := Scalar.select v499 v500 v424
  let v576 : BitVec 1 := Scalar.cmpi .eq v503 v501
  let c1_i32_319 : BitVec 32 := 1#32
  let v577 : BitVec 32 := Scalar.addi v501 c1_i32_319
  let v578 : BitVec 32 := Scalar.select v576 v577 v501
  let c15_i32_322 : BitVec 32 := 15#32
  let v581 : BitVec 32 := Scalar.minsi v578 c15_i32_322
  let c512_i32_326 : BitVec 32 := 512#32
  let v587 : BitVec 32 := Scalar.muli v581 c512_i32_326
  v587
def k0_off38 (arg13 : BitVec 32) (arg14 : BitVec 32) : Fin 4 → Nat :=
  let c0_327 : Index := 0#32
  let c0_328 : Index := 0#32
  let v37 : BitVec 1 := Scalar.cmpi .eq arg14 arg13
  let c0_i32_30 : BitVec 32 := 0#32
  let c1_i32_29 : BitVec 32 := 1#32
  let v40 : BitVec 32 := Scalar.addi arg14 c1_i32_29
  let v41 : BitVec 32 := Scalar.select v37 c0_i32_30 v40
  let c1_i32_28 : BitVec 32 := 1#32
  let v38 : BitVec 32 := Scalar.addi arg13 c1_i32_28
  let v39 : BitVec 32 := Scalar.select v37 v38 arg13
  let v114 : BitVec 1 := Scalar.cmpi .eq v41 v39
  let c0_i32_69 : BitVec 32 := 0#32
  let c1_i32_68 : BitVec 32 := 1#32
  let v117 : BitVec 32 := Scalar.addi v41 c1_i32_68
  let v118 : BitVec 32 := Scalar.select v114 c0_i32_69 v117
  let c1_i32_67 : BitVec 32 := 1#32
  let v115 : BitVec 32 := Scalar.addi v39 c1_i32_67
  let v116 : BitVec 32 := Scalar.select v114 v115 v39
  let v191 : BitVec 1 := Scalar.cmpi .eq v118 v116
  let c0_i32_111 : BitVec 32 := 0#32
  let c1_i32_110 : BitVec 32 := 1#32
  let v194 : BitVec 32 := Scalar.addi v118 c1_i32_110
  let v195 : BitVec 32 := Scalar.select v191 c0_i32_111 v194
  let c1_i32_109 : BitVec 32 := 1#32
  let v192 : BitVec 32 := Scalar.addi v116 c1_i32_109
  let v193 : BitVec 32 := Scalar.select v191 v192 v116
  let v268 : BitVec 1 := Scalar.cmpi .eq v195 v193
  let c0_i32_153 : BitVec 32 := 0#32
  let c1_i32_152 : BitVec 32 := 1#32
  let v271 : BitVec 32 := Scalar.addi v195 c1_i32_152
  let v272 : BitVec 32 := Scalar.select v268 c0_i32_153 v271
  let c1_i32_151 : BitVec 32 := 1#32
  let v269 : BitVec 32 := Scalar.addi v193 c1_i32_151
  let v270 : BitVec 32 := Scalar.select v268 v269 v193
  let v345 : BitVec 1 := Scalar.cmpi .eq v272 v270
  let c0_i32_195 : BitVec 32 := 0#32
  let c1_i32_194 : BitVec 32 := 1#32
  let v348 : BitVec 32 := Scalar.addi v272 c1_i32_194
  let v349 : BitVec 32 := Scalar.select v345 c0_i32_195 v348
  let c1_i32_193 : BitVec 32 := 1#32
  let v346 : BitVec 32 := Scalar.addi v270 c1_i32_193
  let v347 : BitVec 32 := Scalar.select v345 v346 v270
  let v422 : BitVec 1 := Scalar.cmpi .eq v349 v347
  let c0_i32_237 : BitVec 32 := 0#32
  let c1_i32_236 : BitVec 32 := 1#32
  let v425 : BitVec 32 := Scalar.addi v349 c1_i32_236
  let v426 : BitVec 32 := Scalar.select v422 c0_i32_237 v425
  let c1_i32_235 : BitVec 32 := 1#32
  let v423 : BitVec 32 := Scalar.addi v347 c1_i32_235
  let v424 : BitVec 32 := Scalar.select v422 v423 v347
  let v499 : BitVec 1 := Scalar.cmpi .eq v426 v424
  let c0_i32_279 : BitVec 32 := 0#32
  let c1_i32_278 : BitVec 32 := 1#32
  let v502 : BitVec 32 := Scalar.addi v426 c1_i32_278
  let v503 : BitVec 32 := Scalar.select v499 c0_i32_279 v502
  let c1_i32_277 : BitVec 32 := 1#32
  let v500 : BitVec 32 := Scalar.addi v424 c1_i32_277
  let v501 : BitVec 32 := Scalar.select v499 v500 v424
  let v576 : BitVec 1 := Scalar.cmpi .eq v503 v501
  let c1_i32_319 : BitVec 32 := 1#32
  let v577 : BitVec 32 := Scalar.addi v501 c1_i32_319
  let v578 : BitVec 32 := Scalar.select v576 v577 v501
  let c15_i32_322 : BitVec 32 := 15#32
  let v581 : BitVec 32 := Scalar.minsi v578 c15_i32_322
  let c512_i32_326 : BitVec 32 := 512#32
  let v587 : BitVec 32 := Scalar.muli v581 c512_i32_326
  let v588 : BitVec 32 := v587
  let v589 : Index := Scalar.indexCast v588
  let c0_329 : Index := 0#32
  ![0, 0, v589.toNat, 0]
def k0_mult56 (arg13 : BitVec 32) (arg14 : BitVec 32) : BitVec 32 :=
  let v37 : BitVec 1 := Scalar.cmpi .eq arg14 arg13
  let c0_i32_30 : BitVec 32 := 0#32
  let c1_i32_29 : BitVec 32 := 1#32
  let v40 : BitVec 32 := Scalar.addi arg14 c1_i32_29
  let v41 : BitVec 32 := Scalar.select v37 c0_i32_30 v40
  let c1_i32_28 : BitVec 32 := 1#32
  let v38 : BitVec 32 := Scalar.addi arg13 c1_i32_28
  let v39 : BitVec 32 := Scalar.select v37 v38 arg13
  let v114 : BitVec 1 := Scalar.cmpi .eq v41 v39
  let c0_i32_69 : BitVec 32 := 0#32
  let c1_i32_68 : BitVec 32 := 1#32
  let v117 : BitVec 32 := Scalar.addi v41 c1_i32_68
  let v118 : BitVec 32 := Scalar.select v114 c0_i32_69 v117
  let c1_i32_67 : BitVec 32 := 1#32
  let v115 : BitVec 32 := Scalar.addi v39 c1_i32_67
  let v116 : BitVec 32 := Scalar.select v114 v115 v39
  let v191 : BitVec 1 := Scalar.cmpi .eq v118 v116
  let c0_i32_111 : BitVec 32 := 0#32
  let c1_i32_110 : BitVec 32 := 1#32
  let v194 : BitVec 32 := Scalar.addi v118 c1_i32_110
  let v195 : BitVec 32 := Scalar.select v191 c0_i32_111 v194
  let c1_i32_109 : BitVec 32 := 1#32
  let v192 : BitVec 32 := Scalar.addi v116 c1_i32_109
  let v193 : BitVec 32 := Scalar.select v191 v192 v116
  let v268 : BitVec 1 := Scalar.cmpi .eq v195 v193
  let c0_i32_153 : BitVec 32 := 0#32
  let c1_i32_152 : BitVec 32 := 1#32
  let v271 : BitVec 32 := Scalar.addi v195 c1_i32_152
  let v272 : BitVec 32 := Scalar.select v268 c0_i32_153 v271
  let c1_i32_151 : BitVec 32 := 1#32
  let v269 : BitVec 32 := Scalar.addi v193 c1_i32_151
  let v270 : BitVec 32 := Scalar.select v268 v269 v193
  let v345 : BitVec 1 := Scalar.cmpi .eq v272 v270
  let c0_i32_195 : BitVec 32 := 0#32
  let c1_i32_194 : BitVec 32 := 1#32
  let v348 : BitVec 32 := Scalar.addi v272 c1_i32_194
  let v349 : BitVec 32 := Scalar.select v345 c0_i32_195 v348
  let c1_i32_193 : BitVec 32 := 1#32
  let v346 : BitVec 32 := Scalar.addi v270 c1_i32_193
  let v347 : BitVec 32 := Scalar.select v345 v346 v270
  let v422 : BitVec 1 := Scalar.cmpi .eq v349 v347
  let c0_i32_237 : BitVec 32 := 0#32
  let c1_i32_236 : BitVec 32 := 1#32
  let v425 : BitVec 32 := Scalar.addi v349 c1_i32_236
  let v426 : BitVec 32 := Scalar.select v422 c0_i32_237 v425
  let c1_i32_235 : BitVec 32 := 1#32
  let v423 : BitVec 32 := Scalar.addi v347 c1_i32_235
  let v424 : BitVec 32 := Scalar.select v422 v423 v347
  let v499 : BitVec 1 := Scalar.cmpi .eq v426 v424
  let c0_i32_279 : BitVec 32 := 0#32
  let c1_i32_278 : BitVec 32 := 1#32
  let v502 : BitVec 32 := Scalar.addi v426 c1_i32_278
  let v503 : BitVec 32 := Scalar.select v499 c0_i32_279 v502
  let c1_i32_277 : BitVec 32 := 1#32
  let v500 : BitVec 32 := Scalar.addi v424 c1_i32_277
  let v501 : BitVec 32 := Scalar.select v499 v500 v424
  let v576 : BitVec 1 := Scalar.cmpi .eq v503 v501
  let c0_i32_321 : BitVec 32 := 0#32
  let c1_i32_320 : BitVec 32 := 1#32
  let v579 : BitVec 32 := Scalar.addi v503 c1_i32_320
  let v580 : BitVec 32 := Scalar.select v576 c0_i32_321 v579
  let c512_i32_330 : BitVec 32 := 512#32
  let v593 : BitVec 32 := Scalar.muli v580 c512_i32_330
  v593
def k0_off39 (arg13 : BitVec 32) (arg14 : BitVec 32) : Fin 3 → Nat :=
  let c0_331 : Index := 0#32
  let v37 : BitVec 1 := Scalar.cmpi .eq arg14 arg13
  let c0_i32_30 : BitVec 32 := 0#32
  let c1_i32_29 : BitVec 32 := 1#32
  let v40 : BitVec 32 := Scalar.addi arg14 c1_i32_29
  let v41 : BitVec 32 := Scalar.select v37 c0_i32_30 v40
  let c1_i32_28 : BitVec 32 := 1#32
  let v38 : BitVec 32 := Scalar.addi arg13 c1_i32_28
  let v39 : BitVec 32 := Scalar.select v37 v38 arg13
  let v114 : BitVec 1 := Scalar.cmpi .eq v41 v39
  let c0_i32_69 : BitVec 32 := 0#32
  let c1_i32_68 : BitVec 32 := 1#32
  let v117 : BitVec 32 := Scalar.addi v41 c1_i32_68
  let v118 : BitVec 32 := Scalar.select v114 c0_i32_69 v117
  let c1_i32_67 : BitVec 32 := 1#32
  let v115 : BitVec 32 := Scalar.addi v39 c1_i32_67
  let v116 : BitVec 32 := Scalar.select v114 v115 v39
  let v191 : BitVec 1 := Scalar.cmpi .eq v118 v116
  let c0_i32_111 : BitVec 32 := 0#32
  let c1_i32_110 : BitVec 32 := 1#32
  let v194 : BitVec 32 := Scalar.addi v118 c1_i32_110
  let v195 : BitVec 32 := Scalar.select v191 c0_i32_111 v194
  let c1_i32_109 : BitVec 32 := 1#32
  let v192 : BitVec 32 := Scalar.addi v116 c1_i32_109
  let v193 : BitVec 32 := Scalar.select v191 v192 v116
  let v268 : BitVec 1 := Scalar.cmpi .eq v195 v193
  let c0_i32_153 : BitVec 32 := 0#32
  let c1_i32_152 : BitVec 32 := 1#32
  let v271 : BitVec 32 := Scalar.addi v195 c1_i32_152
  let v272 : BitVec 32 := Scalar.select v268 c0_i32_153 v271
  let c1_i32_151 : BitVec 32 := 1#32
  let v269 : BitVec 32 := Scalar.addi v193 c1_i32_151
  let v270 : BitVec 32 := Scalar.select v268 v269 v193
  let v345 : BitVec 1 := Scalar.cmpi .eq v272 v270
  let c0_i32_195 : BitVec 32 := 0#32
  let c1_i32_194 : BitVec 32 := 1#32
  let v348 : BitVec 32 := Scalar.addi v272 c1_i32_194
  let v349 : BitVec 32 := Scalar.select v345 c0_i32_195 v348
  let c1_i32_193 : BitVec 32 := 1#32
  let v346 : BitVec 32 := Scalar.addi v270 c1_i32_193
  let v347 : BitVec 32 := Scalar.select v345 v346 v270
  let v422 : BitVec 1 := Scalar.cmpi .eq v349 v347
  let c0_i32_237 : BitVec 32 := 0#32
  let c1_i32_236 : BitVec 32 := 1#32
  let v425 : BitVec 32 := Scalar.addi v349 c1_i32_236
  let v426 : BitVec 32 := Scalar.select v422 c0_i32_237 v425
  let c1_i32_235 : BitVec 32 := 1#32
  let v423 : BitVec 32 := Scalar.addi v347 c1_i32_235
  let v424 : BitVec 32 := Scalar.select v422 v423 v347
  let v499 : BitVec 1 := Scalar.cmpi .eq v426 v424
  let c0_i32_279 : BitVec 32 := 0#32
  let c1_i32_278 : BitVec 32 := 1#32
  let v502 : BitVec 32 := Scalar.addi v426 c1_i32_278
  let v503 : BitVec 32 := Scalar.select v499 c0_i32_279 v502
  let c1_i32_277 : BitVec 32 := 1#32
  let v500 : BitVec 32 := Scalar.addi v424 c1_i32_277
  let v501 : BitVec 32 := Scalar.select v499 v500 v424
  let v576 : BitVec 1 := Scalar.cmpi .eq v503 v501
  let c0_i32_321 : BitVec 32 := 0#32
  let c1_i32_320 : BitVec 32 := 1#32
  let v579 : BitVec 32 := Scalar.addi v503 c1_i32_320
  let v580 : BitVec 32 := Scalar.select v576 c0_i32_321 v579
  let c512_i32_330 : BitVec 32 := 512#32
  let v593 : BitVec 32 := Scalar.muli v580 c512_i32_330
  let v594 : BitVec 32 := v593
  let v595 : Index := Scalar.indexCast v594
  let c0_332 : Index := 0#32
  ![0, v595.toNat, 0]
def k0_mult57 (arg13 : BitVec 32) (arg14 : BitVec 32) : BitVec 32 :=
  let v37 : BitVec 1 := Scalar.cmpi .eq arg14 arg13
  let c0_i32_30 : BitVec 32 := 0#32
  let c1_i32_29 : BitVec 32 := 1#32
  let v40 : BitVec 32 := Scalar.addi arg14 c1_i32_29
  let v41 : BitVec 32 := Scalar.select v37 c0_i32_30 v40
  let c1_i32_28 : BitVec 32 := 1#32
  let v38 : BitVec 32 := Scalar.addi arg13 c1_i32_28
  let v39 : BitVec 32 := Scalar.select v37 v38 arg13
  let v114 : BitVec 1 := Scalar.cmpi .eq v41 v39
  let c0_i32_69 : BitVec 32 := 0#32
  let c1_i32_68 : BitVec 32 := 1#32
  let v117 : BitVec 32 := Scalar.addi v41 c1_i32_68
  let v118 : BitVec 32 := Scalar.select v114 c0_i32_69 v117
  let c1_i32_67 : BitVec 32 := 1#32
  let v115 : BitVec 32 := Scalar.addi v39 c1_i32_67
  let v116 : BitVec 32 := Scalar.select v114 v115 v39
  let v191 : BitVec 1 := Scalar.cmpi .eq v118 v116
  let c0_i32_111 : BitVec 32 := 0#32
  let c1_i32_110 : BitVec 32 := 1#32
  let v194 : BitVec 32 := Scalar.addi v118 c1_i32_110
  let v195 : BitVec 32 := Scalar.select v191 c0_i32_111 v194
  let c1_i32_109 : BitVec 32 := 1#32
  let v192 : BitVec 32 := Scalar.addi v116 c1_i32_109
  let v193 : BitVec 32 := Scalar.select v191 v192 v116
  let v268 : BitVec 1 := Scalar.cmpi .eq v195 v193
  let c0_i32_153 : BitVec 32 := 0#32
  let c1_i32_152 : BitVec 32 := 1#32
  let v271 : BitVec 32 := Scalar.addi v195 c1_i32_152
  let v272 : BitVec 32 := Scalar.select v268 c0_i32_153 v271
  let c1_i32_151 : BitVec 32 := 1#32
  let v269 : BitVec 32 := Scalar.addi v193 c1_i32_151
  let v270 : BitVec 32 := Scalar.select v268 v269 v193
  let v345 : BitVec 1 := Scalar.cmpi .eq v272 v270
  let c0_i32_195 : BitVec 32 := 0#32
  let c1_i32_194 : BitVec 32 := 1#32
  let v348 : BitVec 32 := Scalar.addi v272 c1_i32_194
  let v349 : BitVec 32 := Scalar.select v345 c0_i32_195 v348
  let c1_i32_193 : BitVec 32 := 1#32
  let v346 : BitVec 32 := Scalar.addi v270 c1_i32_193
  let v347 : BitVec 32 := Scalar.select v345 v346 v270
  let v422 : BitVec 1 := Scalar.cmpi .eq v349 v347
  let c0_i32_237 : BitVec 32 := 0#32
  let c1_i32_236 : BitVec 32 := 1#32
  let v425 : BitVec 32 := Scalar.addi v349 c1_i32_236
  let v426 : BitVec 32 := Scalar.select v422 c0_i32_237 v425
  let c1_i32_235 : BitVec 32 := 1#32
  let v423 : BitVec 32 := Scalar.addi v347 c1_i32_235
  let v424 : BitVec 32 := Scalar.select v422 v423 v347
  let v499 : BitVec 1 := Scalar.cmpi .eq v426 v424
  let c0_i32_279 : BitVec 32 := 0#32
  let c1_i32_278 : BitVec 32 := 1#32
  let v502 : BitVec 32 := Scalar.addi v426 c1_i32_278
  let v503 : BitVec 32 := Scalar.select v499 c0_i32_279 v502
  let c1_i32_277 : BitVec 32 := 1#32
  let v500 : BitVec 32 := Scalar.addi v424 c1_i32_277
  let v501 : BitVec 32 := Scalar.select v499 v500 v424
  let v576 : BitVec 1 := Scalar.cmpi .eq v503 v501
  let c0_i32_321 : BitVec 32 := 0#32
  let c1_i32_320 : BitVec 32 := 1#32
  let v579 : BitVec 32 := Scalar.addi v503 c1_i32_320
  let v580 : BitVec 32 := Scalar.select v576 c0_i32_321 v579
  let c512_i32_333 : BitVec 32 := 512#32
  let v598 : BitVec 32 := Scalar.muli v580 c512_i32_333
  v598
def k0_off40 (arg13 : BitVec 32) (arg14 : BitVec 32) : Fin 4 → Nat :=
  let c0_334 : Index := 0#32
  let c0_335 : Index := 0#32
  let v37 : BitVec 1 := Scalar.cmpi .eq arg14 arg13
  let c0_i32_30 : BitVec 32 := 0#32
  let c1_i32_29 : BitVec 32 := 1#32
  let v40 : BitVec 32 := Scalar.addi arg14 c1_i32_29
  let v41 : BitVec 32 := Scalar.select v37 c0_i32_30 v40
  let c1_i32_28 : BitVec 32 := 1#32
  let v38 : BitVec 32 := Scalar.addi arg13 c1_i32_28
  let v39 : BitVec 32 := Scalar.select v37 v38 arg13
  let v114 : BitVec 1 := Scalar.cmpi .eq v41 v39
  let c0_i32_69 : BitVec 32 := 0#32
  let c1_i32_68 : BitVec 32 := 1#32
  let v117 : BitVec 32 := Scalar.addi v41 c1_i32_68
  let v118 : BitVec 32 := Scalar.select v114 c0_i32_69 v117
  let c1_i32_67 : BitVec 32 := 1#32
  let v115 : BitVec 32 := Scalar.addi v39 c1_i32_67
  let v116 : BitVec 32 := Scalar.select v114 v115 v39
  let v191 : BitVec 1 := Scalar.cmpi .eq v118 v116
  let c0_i32_111 : BitVec 32 := 0#32
  let c1_i32_110 : BitVec 32 := 1#32
  let v194 : BitVec 32 := Scalar.addi v118 c1_i32_110
  let v195 : BitVec 32 := Scalar.select v191 c0_i32_111 v194
  let c1_i32_109 : BitVec 32 := 1#32
  let v192 : BitVec 32 := Scalar.addi v116 c1_i32_109
  let v193 : BitVec 32 := Scalar.select v191 v192 v116
  let v268 : BitVec 1 := Scalar.cmpi .eq v195 v193
  let c0_i32_153 : BitVec 32 := 0#32
  let c1_i32_152 : BitVec 32 := 1#32
  let v271 : BitVec 32 := Scalar.addi v195 c1_i32_152
  let v272 : BitVec 32 := Scalar.select v268 c0_i32_153 v271
  let c1_i32_151 : BitVec 32 := 1#32
  let v269 : BitVec 32 := Scalar.addi v193 c1_i32_151
  let v270 : BitVec 32 := Scalar.select v268 v269 v193
  let v345 : BitVec 1 := Scalar.cmpi .eq v272 v270
  let c0_i32_195 : BitVec 32 := 0#32
  let c1_i32_194 : BitVec 32 := 1#32
  let v348 : BitVec 32 := Scalar.addi v272 c1_i32_194
  let v349 : BitVec 32 := Scalar.select v345 c0_i32_195 v348
  let c1_i32_193 : BitVec 32 := 1#32
  let v346 : BitVec 32 := Scalar.addi v270 c1_i32_193
  let v347 : BitVec 32 := Scalar.select v345 v346 v270
  let v422 : BitVec 1 := Scalar.cmpi .eq v349 v347
  let c0_i32_237 : BitVec 32 := 0#32
  let c1_i32_236 : BitVec 32 := 1#32
  let v425 : BitVec 32 := Scalar.addi v349 c1_i32_236
  let v426 : BitVec 32 := Scalar.select v422 c0_i32_237 v425
  let c1_i32_235 : BitVec 32 := 1#32
  let v423 : BitVec 32 := Scalar.addi v347 c1_i32_235
  let v424 : BitVec 32 := Scalar.select v422 v423 v347
  let v499 : BitVec 1 := Scalar.cmpi .eq v426 v424
  let c0_i32_279 : BitVec 32 := 0#32
  let c1_i32_278 : BitVec 32 := 1#32
  let v502 : BitVec 32 := Scalar.addi v426 c1_i32_278
  let v503 : BitVec 32 := Scalar.select v499 c0_i32_279 v502
  let c1_i32_277 : BitVec 32 := 1#32
  let v500 : BitVec 32 := Scalar.addi v424 c1_i32_277
  let v501 : BitVec 32 := Scalar.select v499 v500 v424
  let v576 : BitVec 1 := Scalar.cmpi .eq v503 v501
  let c0_i32_321 : BitVec 32 := 0#32
  let c1_i32_320 : BitVec 32 := 1#32
  let v579 : BitVec 32 := Scalar.addi v503 c1_i32_320
  let v580 : BitVec 32 := Scalar.select v576 c0_i32_321 v579
  let c512_i32_333 : BitVec 32 := 512#32
  let v598 : BitVec 32 := Scalar.muli v580 c512_i32_333
  let v599 : BitVec 32 := v598
  let v600 : Index := Scalar.indexCast v599
  let c0_336 : Index := 0#32
  ![0, 0, v600.toNat, 0]
def k0_mult58 (arg13 : BitVec 32) (arg14 : BitVec 32) : BitVec 32 :=
  let v37 : BitVec 1 := Scalar.cmpi .eq arg14 arg13
  let c0_i32_30 : BitVec 32 := 0#32
  let c1_i32_29 : BitVec 32 := 1#32
  let v40 : BitVec 32 := Scalar.addi arg14 c1_i32_29
  let v41 : BitVec 32 := Scalar.select v37 c0_i32_30 v40
  let c1_i32_28 : BitVec 32 := 1#32
  let v38 : BitVec 32 := Scalar.addi arg13 c1_i32_28
  let v39 : BitVec 32 := Scalar.select v37 v38 arg13
  let v114 : BitVec 1 := Scalar.cmpi .eq v41 v39
  let c0_i32_69 : BitVec 32 := 0#32
  let c1_i32_68 : BitVec 32 := 1#32
  let v117 : BitVec 32 := Scalar.addi v41 c1_i32_68
  let v118 : BitVec 32 := Scalar.select v114 c0_i32_69 v117
  let c1_i32_67 : BitVec 32 := 1#32
  let v115 : BitVec 32 := Scalar.addi v39 c1_i32_67
  let v116 : BitVec 32 := Scalar.select v114 v115 v39
  let v191 : BitVec 1 := Scalar.cmpi .eq v118 v116
  let c0_i32_111 : BitVec 32 := 0#32
  let c1_i32_110 : BitVec 32 := 1#32
  let v194 : BitVec 32 := Scalar.addi v118 c1_i32_110
  let v195 : BitVec 32 := Scalar.select v191 c0_i32_111 v194
  let c1_i32_109 : BitVec 32 := 1#32
  let v192 : BitVec 32 := Scalar.addi v116 c1_i32_109
  let v193 : BitVec 32 := Scalar.select v191 v192 v116
  let v268 : BitVec 1 := Scalar.cmpi .eq v195 v193
  let c0_i32_153 : BitVec 32 := 0#32
  let c1_i32_152 : BitVec 32 := 1#32
  let v271 : BitVec 32 := Scalar.addi v195 c1_i32_152
  let v272 : BitVec 32 := Scalar.select v268 c0_i32_153 v271
  let c1_i32_151 : BitVec 32 := 1#32
  let v269 : BitVec 32 := Scalar.addi v193 c1_i32_151
  let v270 : BitVec 32 := Scalar.select v268 v269 v193
  let v345 : BitVec 1 := Scalar.cmpi .eq v272 v270
  let c0_i32_195 : BitVec 32 := 0#32
  let c1_i32_194 : BitVec 32 := 1#32
  let v348 : BitVec 32 := Scalar.addi v272 c1_i32_194
  let v349 : BitVec 32 := Scalar.select v345 c0_i32_195 v348
  let c1_i32_193 : BitVec 32 := 1#32
  let v346 : BitVec 32 := Scalar.addi v270 c1_i32_193
  let v347 : BitVec 32 := Scalar.select v345 v346 v270
  let v422 : BitVec 1 := Scalar.cmpi .eq v349 v347
  let c0_i32_237 : BitVec 32 := 0#32
  let c1_i32_236 : BitVec 32 := 1#32
  let v425 : BitVec 32 := Scalar.addi v349 c1_i32_236
  let v426 : BitVec 32 := Scalar.select v422 c0_i32_237 v425
  let c1_i32_235 : BitVec 32 := 1#32
  let v423 : BitVec 32 := Scalar.addi v347 c1_i32_235
  let v424 : BitVec 32 := Scalar.select v422 v423 v347
  let v499 : BitVec 1 := Scalar.cmpi .eq v426 v424
  let c0_i32_279 : BitVec 32 := 0#32
  let c1_i32_278 : BitVec 32 := 1#32
  let v502 : BitVec 32 := Scalar.addi v426 c1_i32_278
  let v503 : BitVec 32 := Scalar.select v499 c0_i32_279 v502
  let c512_i32_341 : BitVec 32 := 512#32
  let v608 : BitVec 32 := Scalar.muli v503 c512_i32_341
  v608
def k0_mult59 (arg13 : BitVec 32) (arg14 : BitVec 32) : BitVec 32 :=
  let v37 : BitVec 1 := Scalar.cmpi .eq arg14 arg13
  let c0_i32_30 : BitVec 32 := 0#32
  let c1_i32_29 : BitVec 32 := 1#32
  let v40 : BitVec 32 := Scalar.addi arg14 c1_i32_29
  let v41 : BitVec 32 := Scalar.select v37 c0_i32_30 v40
  let c1_i32_28 : BitVec 32 := 1#32
  let v38 : BitVec 32 := Scalar.addi arg13 c1_i32_28
  let v39 : BitVec 32 := Scalar.select v37 v38 arg13
  let v114 : BitVec 1 := Scalar.cmpi .eq v41 v39
  let c0_i32_69 : BitVec 32 := 0#32
  let c1_i32_68 : BitVec 32 := 1#32
  let v117 : BitVec 32 := Scalar.addi v41 c1_i32_68
  let v118 : BitVec 32 := Scalar.select v114 c0_i32_69 v117
  let c1_i32_67 : BitVec 32 := 1#32
  let v115 : BitVec 32 := Scalar.addi v39 c1_i32_67
  let v116 : BitVec 32 := Scalar.select v114 v115 v39
  let v191 : BitVec 1 := Scalar.cmpi .eq v118 v116
  let c0_i32_111 : BitVec 32 := 0#32
  let c1_i32_110 : BitVec 32 := 1#32
  let v194 : BitVec 32 := Scalar.addi v118 c1_i32_110
  let v195 : BitVec 32 := Scalar.select v191 c0_i32_111 v194
  let c1_i32_109 : BitVec 32 := 1#32
  let v192 : BitVec 32 := Scalar.addi v116 c1_i32_109
  let v193 : BitVec 32 := Scalar.select v191 v192 v116
  let v268 : BitVec 1 := Scalar.cmpi .eq v195 v193
  let c0_i32_153 : BitVec 32 := 0#32
  let c1_i32_152 : BitVec 32 := 1#32
  let v271 : BitVec 32 := Scalar.addi v195 c1_i32_152
  let v272 : BitVec 32 := Scalar.select v268 c0_i32_153 v271
  let c1_i32_151 : BitVec 32 := 1#32
  let v269 : BitVec 32 := Scalar.addi v193 c1_i32_151
  let v270 : BitVec 32 := Scalar.select v268 v269 v193
  let v345 : BitVec 1 := Scalar.cmpi .eq v272 v270
  let c0_i32_195 : BitVec 32 := 0#32
  let c1_i32_194 : BitVec 32 := 1#32
  let v348 : BitVec 32 := Scalar.addi v272 c1_i32_194
  let v349 : BitVec 32 := Scalar.select v345 c0_i32_195 v348
  let c1_i32_193 : BitVec 32 := 1#32
  let v346 : BitVec 32 := Scalar.addi v270 c1_i32_193
  let v347 : BitVec 32 := Scalar.select v345 v346 v270
  let v422 : BitVec 1 := Scalar.cmpi .eq v349 v347
  let c0_i32_237 : BitVec 32 := 0#32
  let c1_i32_236 : BitVec 32 := 1#32
  let v425 : BitVec 32 := Scalar.addi v349 c1_i32_236
  let v426 : BitVec 32 := Scalar.select v422 c0_i32_237 v425
  let c1_i32_235 : BitVec 32 := 1#32
  let v423 : BitVec 32 := Scalar.addi v347 c1_i32_235
  let v424 : BitVec 32 := Scalar.select v422 v423 v347
  let v499 : BitVec 1 := Scalar.cmpi .eq v426 v424
  let c1_i32_277 : BitVec 32 := 1#32
  let v500 : BitVec 32 := Scalar.addi v424 c1_i32_277
  let v501 : BitVec 32 := Scalar.select v499 v500 v424
  let c512_i32_354 : BitVec 32 := 512#32
  let v636 : BitVec 32 := Scalar.muli v501 c512_i32_354
  v636
def k0_off41 (arg13 : BitVec 32) (arg14 : BitVec 32) : Fin 2 → Nat :=
  let v37 : BitVec 1 := Scalar.cmpi .eq arg14 arg13
  let c0_i32_30 : BitVec 32 := 0#32
  let c1_i32_29 : BitVec 32 := 1#32
  let v40 : BitVec 32 := Scalar.addi arg14 c1_i32_29
  let v41 : BitVec 32 := Scalar.select v37 c0_i32_30 v40
  let c1_i32_28 : BitVec 32 := 1#32
  let v38 : BitVec 32 := Scalar.addi arg13 c1_i32_28
  let v39 : BitVec 32 := Scalar.select v37 v38 arg13
  let v114 : BitVec 1 := Scalar.cmpi .eq v41 v39
  let c0_i32_69 : BitVec 32 := 0#32
  let c1_i32_68 : BitVec 32 := 1#32
  let v117 : BitVec 32 := Scalar.addi v41 c1_i32_68
  let v118 : BitVec 32 := Scalar.select v114 c0_i32_69 v117
  let c1_i32_67 : BitVec 32 := 1#32
  let v115 : BitVec 32 := Scalar.addi v39 c1_i32_67
  let v116 : BitVec 32 := Scalar.select v114 v115 v39
  let v191 : BitVec 1 := Scalar.cmpi .eq v118 v116
  let c0_i32_111 : BitVec 32 := 0#32
  let c1_i32_110 : BitVec 32 := 1#32
  let v194 : BitVec 32 := Scalar.addi v118 c1_i32_110
  let v195 : BitVec 32 := Scalar.select v191 c0_i32_111 v194
  let c1_i32_109 : BitVec 32 := 1#32
  let v192 : BitVec 32 := Scalar.addi v116 c1_i32_109
  let v193 : BitVec 32 := Scalar.select v191 v192 v116
  let v268 : BitVec 1 := Scalar.cmpi .eq v195 v193
  let c0_i32_153 : BitVec 32 := 0#32
  let c1_i32_152 : BitVec 32 := 1#32
  let v271 : BitVec 32 := Scalar.addi v195 c1_i32_152
  let v272 : BitVec 32 := Scalar.select v268 c0_i32_153 v271
  let c1_i32_151 : BitVec 32 := 1#32
  let v269 : BitVec 32 := Scalar.addi v193 c1_i32_151
  let v270 : BitVec 32 := Scalar.select v268 v269 v193
  let v345 : BitVec 1 := Scalar.cmpi .eq v272 v270
  let c0_i32_195 : BitVec 32 := 0#32
  let c1_i32_194 : BitVec 32 := 1#32
  let v348 : BitVec 32 := Scalar.addi v272 c1_i32_194
  let v349 : BitVec 32 := Scalar.select v345 c0_i32_195 v348
  let c1_i32_193 : BitVec 32 := 1#32
  let v346 : BitVec 32 := Scalar.addi v270 c1_i32_193
  let v347 : BitVec 32 := Scalar.select v345 v346 v270
  let v422 : BitVec 1 := Scalar.cmpi .eq v349 v347
  let c0_i32_237 : BitVec 32 := 0#32
  let c1_i32_236 : BitVec 32 := 1#32
  let v425 : BitVec 32 := Scalar.addi v349 c1_i32_236
  let v426 : BitVec 32 := Scalar.select v422 c0_i32_237 v425
  let c1_i32_235 : BitVec 32 := 1#32
  let v423 : BitVec 32 := Scalar.addi v347 c1_i32_235
  let v424 : BitVec 32 := Scalar.select v422 v423 v347
  let v499 : BitVec 1 := Scalar.cmpi .eq v426 v424
  let c1_i32_277 : BitVec 32 := 1#32
  let v500 : BitVec 32 := Scalar.addi v424 c1_i32_277
  let v501 : BitVec 32 := Scalar.select v499 v500 v424
  let c512_i32_354 : BitVec 32 := 512#32
  let v636 : BitVec 32 := Scalar.muli v501 c512_i32_354
  let v637 : BitVec 32 := v636
  let v638 : Index := Scalar.indexCast v637
  let c0_355 : Index := 0#32
  ![v638.toNat, 0]
def k0_mult60 (arg13 : BitVec 32) (arg14 : BitVec 32) : BitVec 32 :=
  let v37 : BitVec 1 := Scalar.cmpi .eq arg14 arg13
  let c0_i32_30 : BitVec 32 := 0#32
  let c1_i32_29 : BitVec 32 := 1#32
  let v40 : BitVec 32 := Scalar.addi arg14 c1_i32_29
  let v41 : BitVec 32 := Scalar.select v37 c0_i32_30 v40
  let c1_i32_28 : BitVec 32 := 1#32
  let v38 : BitVec 32 := Scalar.addi arg13 c1_i32_28
  let v39 : BitVec 32 := Scalar.select v37 v38 arg13
  let v114 : BitVec 1 := Scalar.cmpi .eq v41 v39
  let c0_i32_69 : BitVec 32 := 0#32
  let c1_i32_68 : BitVec 32 := 1#32
  let v117 : BitVec 32 := Scalar.addi v41 c1_i32_68
  let v118 : BitVec 32 := Scalar.select v114 c0_i32_69 v117
  let c1_i32_67 : BitVec 32 := 1#32
  let v115 : BitVec 32 := Scalar.addi v39 c1_i32_67
  let v116 : BitVec 32 := Scalar.select v114 v115 v39
  let v191 : BitVec 1 := Scalar.cmpi .eq v118 v116
  let c0_i32_111 : BitVec 32 := 0#32
  let c1_i32_110 : BitVec 32 := 1#32
  let v194 : BitVec 32 := Scalar.addi v118 c1_i32_110
  let v195 : BitVec 32 := Scalar.select v191 c0_i32_111 v194
  let c1_i32_109 : BitVec 32 := 1#32
  let v192 : BitVec 32 := Scalar.addi v116 c1_i32_109
  let v193 : BitVec 32 := Scalar.select v191 v192 v116
  let v268 : BitVec 1 := Scalar.cmpi .eq v195 v193
  let c0_i32_153 : BitVec 32 := 0#32
  let c1_i32_152 : BitVec 32 := 1#32
  let v271 : BitVec 32 := Scalar.addi v195 c1_i32_152
  let v272 : BitVec 32 := Scalar.select v268 c0_i32_153 v271
  let c1_i32_151 : BitVec 32 := 1#32
  let v269 : BitVec 32 := Scalar.addi v193 c1_i32_151
  let v270 : BitVec 32 := Scalar.select v268 v269 v193
  let v345 : BitVec 1 := Scalar.cmpi .eq v272 v270
  let c0_i32_195 : BitVec 32 := 0#32
  let c1_i32_194 : BitVec 32 := 1#32
  let v348 : BitVec 32 := Scalar.addi v272 c1_i32_194
  let v349 : BitVec 32 := Scalar.select v345 c0_i32_195 v348
  let c1_i32_193 : BitVec 32 := 1#32
  let v346 : BitVec 32 := Scalar.addi v270 c1_i32_193
  let v347 : BitVec 32 := Scalar.select v345 v346 v270
  let v422 : BitVec 1 := Scalar.cmpi .eq v349 v347
  let c0_i32_237 : BitVec 32 := 0#32
  let c1_i32_236 : BitVec 32 := 1#32
  let v425 : BitVec 32 := Scalar.addi v349 c1_i32_236
  let v426 : BitVec 32 := Scalar.select v422 c0_i32_237 v425
  let c1_i32_235 : BitVec 32 := 1#32
  let v423 : BitVec 32 := Scalar.addi v347 c1_i32_235
  let v424 : BitVec 32 := Scalar.select v422 v423 v347
  let v499 : BitVec 1 := Scalar.cmpi .eq v426 v424
  let c1_i32_277 : BitVec 32 := 1#32
  let v500 : BitVec 32 := Scalar.addi v424 c1_i32_277
  let v501 : BitVec 32 := Scalar.select v499 v500 v424
  let c512_i32_357 : BitVec 32 := 512#32
  let v644 : BitVec 32 := Scalar.muli v501 c512_i32_357
  v644

def k0_chk1_0 (arg13 : BitVec 32) (arg14 : BitVec 32) : Prop :=
  (512 ∣ (k0_mult5 arg13 arg14).toNat) ∧
  (∀ a, (k0_off1 arg13 arg14) a + S1x512x128.size a ≤ S1x8192x128.size a) ∧
  (512 ∣ (k0_mult6 arg13 arg14).toNat) ∧
  (∀ a, (k0_off2 arg13 arg14) a + S1x1x512x128.size a ≤ S1x1x8192x128.size a) ∧
  (512 ∣ (k0_mult7 arg13 arg14).toNat) ∧
  (∀ a, (k0_off3 arg13 arg14) a + S1x512x128.size a ≤ S1x8192x128.size a) ∧
  (512 ∣ (k0_mult8 arg13 arg14).toNat) ∧
  (∀ a, (k0_off4 arg13 arg14) a + S1x1x512x128.size a ≤ S1x1x8192x128.size a) ∧
  (512 ∣ (k0_mult9 arg14).toNat) ∧
  (∀ a, (k0_off5 arg14) a + S1x512x128.size a ≤ S1x8192x128.size a) ∧
  (512 ∣ (k0_mult12 arg13 arg14).toNat) ∧
  (∀ a, (k0_off7 arg13 arg14) a + S1x512x128.size a ≤ S1x8192x128.size a) ∧
  (512 ∣ (k0_mult13 arg13 arg14).toNat) ∧
  (∀ a, (k0_off8 arg13 arg14) a + S1x1x512x128.size a ≤ S1x1x8192x128.size a) ∧
  (512 ∣ (k0_mult14 arg13 arg14).toNat) ∧
  (∀ a, (k0_off9 arg13 arg14) a + S1x512x128.size a ≤ S1x8192x128.size a) ∧
  (512 ∣ (k0_mult15 arg13 arg14).toNat) ∧
  (∀ a, (k0_off10 arg13 arg14) a + S1x1x512x128.size a ≤ S1x1x8192x128.size a) ∧
  (512 ∣ (k0_mult16 arg13 arg14).toNat) ∧
  (512 ∣ (k0_mult17 arg13 arg14).toNat) ∧
  (∀ a, (k0_off11 arg13 arg14) a + S512x256.size a ≤ S8192x256.size a) ∧
  (512 ∣ (k0_mult18 arg13 arg14).toNat) ∧
  (512 ∣ (k0_mult19 arg13 arg14).toNat) ∧
  (∀ a, (k0_off12 arg13 arg14) a + S1x512x128.size a ≤ S1x8192x128.size a) ∧
  (512 ∣ (k0_mult20 arg13 arg14).toNat) ∧
  (∀ a, (k0_off13 arg13 arg14) a + S1x1x512x128.size a ≤ S1x1x8192x128.size a) ∧
  (512 ∣ (k0_mult21 arg13 arg14).toNat) ∧
  (∀ a, (k0_off14 arg13 arg14) a + S1x512x128.size a ≤ S1x8192x128.size a) ∧
  (512 ∣ (k0_mult22 arg13 arg14).toNat) ∧
  (∀ a, (k0_off15 arg13 arg14) a + S1x1x512x128.size a ≤ S1x1x8192x128.size a) ∧
  (512 ∣ (k0_mult23 arg13 arg14).toNat) ∧
  (512 ∣ (k0_mult24 arg13 arg14).toNat)
def k0_chk1_1 (arg13 : BitVec 32) (arg14 : BitVec 32) : Prop :=
  (∀ a, (k0_off16 arg13 arg14) a + S512x256.size a ≤ S8192x256.size a) ∧
  (512 ∣ (k0_mult25 arg13 arg14).toNat) ∧
  (512 ∣ (k0_mult26 arg13 arg14).toNat) ∧
  (∀ a, (k0_off17 arg13 arg14) a + S1x512x128.size a ≤ S1x8192x128.size a) ∧
  (512 ∣ (k0_mult27 arg13 arg14).toNat) ∧
  (∀ a, (k0_off18 arg13 arg14) a + S1x1x512x128.size a ≤ S1x1x8192x128.size a) ∧
  (512 ∣ (k0_mult28 arg13 arg14).toNat) ∧
  (∀ a, (k0_off19 arg13 arg14) a + S1x512x128.size a ≤ S1x8192x128.size a) ∧
  (512 ∣ (k0_mult29 arg13 arg14).toNat) ∧
  (∀ a, (k0_off20 arg13 arg14) a + S1x1x512x128.size a ≤ S1x1x8192x128.size a) ∧
  (512 ∣ (k0_mult30 arg13 arg14).toNat) ∧
  (512 ∣ (k0_mult31 arg13 arg14).toNat) ∧
  (∀ a, (k0_off21 arg13 arg14) a + S512x256.size a ≤ S8192x256.size a) ∧
  (512 ∣ (k0_mult32 arg13 arg14).toNat) ∧
  (512 ∣ (k0_mult33 arg13 arg14).toNat) ∧
  (∀ a, (k0_off22 arg13 arg14) a + S1x512x128.size a ≤ S1x8192x128.size a) ∧
  (512 ∣ (k0_mult34 arg13 arg14).toNat) ∧
  (∀ a, (k0_off23 arg13 arg14) a + S1x1x512x128.size a ≤ S1x1x8192x128.size a) ∧
  (512 ∣ (k0_mult35 arg13 arg14).toNat) ∧
  (∀ a, (k0_off24 arg13 arg14) a + S1x512x128.size a ≤ S1x8192x128.size a) ∧
  (512 ∣ (k0_mult36 arg13 arg14).toNat) ∧
  (∀ a, (k0_off25 arg13 arg14) a + S1x1x512x128.size a ≤ S1x1x8192x128.size a) ∧
  (512 ∣ (k0_mult37 arg13 arg14).toNat) ∧
  (512 ∣ (k0_mult38 arg13 arg14).toNat) ∧
  (∀ a, (k0_off26 arg13 arg14) a + S512x256.size a ≤ S8192x256.size a) ∧
  (512 ∣ (k0_mult39 arg13 arg14).toNat) ∧
  (512 ∣ (k0_mult40 arg13 arg14).toNat) ∧
  (∀ a, (k0_off27 arg13 arg14) a + S1x512x128.size a ≤ S1x8192x128.size a) ∧
  (512 ∣ (k0_mult41 arg13 arg14).toNat) ∧
  (∀ a, (k0_off28 arg13 arg14) a + S1x1x512x128.size a ≤ S1x1x8192x128.size a) ∧
  (512 ∣ (k0_mult42 arg13 arg14).toNat) ∧
  (∀ a, (k0_off29 arg13 arg14) a + S1x512x128.size a ≤ S1x8192x128.size a)
def k0_chk1_2 (arg13 : BitVec 32) (arg14 : BitVec 32) : Prop :=
  (512 ∣ (k0_mult43 arg13 arg14).toNat) ∧
  (∀ a, (k0_off30 arg13 arg14) a + S1x1x512x128.size a ≤ S1x1x8192x128.size a) ∧
  (512 ∣ (k0_mult44 arg13 arg14).toNat) ∧
  (512 ∣ (k0_mult45 arg13 arg14).toNat) ∧
  (∀ a, (k0_off31 arg13 arg14) a + S512x256.size a ≤ S8192x256.size a) ∧
  (512 ∣ (k0_mult46 arg13 arg14).toNat) ∧
  (512 ∣ (k0_mult47 arg13 arg14).toNat) ∧
  (∀ a, (k0_off32 arg13 arg14) a + S1x512x128.size a ≤ S1x8192x128.size a) ∧
  (512 ∣ (k0_mult48 arg13 arg14).toNat) ∧
  (∀ a, (k0_off33 arg13 arg14) a + S1x1x512x128.size a ≤ S1x1x8192x128.size a) ∧
  (512 ∣ (k0_mult49 arg13 arg14).toNat) ∧
  (∀ a, (k0_off34 arg13 arg14) a + S1x512x128.size a ≤ S1x8192x128.size a) ∧
  (512 ∣ (k0_mult50 arg13 arg14).toNat) ∧
  (∀ a, (k0_off35 arg13 arg14) a + S1x1x512x128.size a ≤ S1x1x8192x128.size a) ∧
  (512 ∣ (k0_mult51 arg13 arg14).toNat) ∧
  (512 ∣ (k0_mult52 arg13 arg14).toNat) ∧
  (∀ a, (k0_off36 arg13 arg14) a + S512x256.size a ≤ S8192x256.size a) ∧
  (512 ∣ (k0_mult53 arg13 arg14).toNat) ∧
  (512 ∣ (k0_mult54 arg13 arg14).toNat) ∧
  (∀ a, (k0_off37 arg13 arg14) a + S1x512x128.size a ≤ S1x8192x128.size a) ∧
  (512 ∣ (k0_mult55 arg13 arg14).toNat) ∧
  (∀ a, (k0_off38 arg13 arg14) a + S1x1x512x128.size a ≤ S1x1x8192x128.size a) ∧
  (512 ∣ (k0_mult56 arg13 arg14).toNat) ∧
  (∀ a, (k0_off39 arg13 arg14) a + S1x512x128.size a ≤ S1x8192x128.size a) ∧
  (512 ∣ (k0_mult57 arg13 arg14).toNat) ∧
  (∀ a, (k0_off40 arg13 arg14) a + S1x1x512x128.size a ≤ S1x1x8192x128.size a) ∧
  (512 ∣ (k0_mult58 arg13 arg14).toNat) ∧
  (512 ∣ (k0_mult59 arg13 arg14).toNat) ∧
  (∀ a, (k0_off41 arg13 arg14) a + S512x256.size a ≤ S8192x256.size a) ∧
  (512 ∣ (k0_mult60 arg13 arg14).toNat)
def k0_chk1 (arg13 : BitVec 32) (arg14 : BitVec 32) : Prop :=
  k0_chk1_0 arg13 arg14 ∧
  k0_chk1_1 arg13 arg14 ∧
  k0_chk1_2 arg13 arg14
theorem k0_mult5_dvd : ∀ (arg13 : BitVec 32) (arg14 : BitVec 32) (k0_hw1 : k0_chk1 arg13 arg14), 512 ∣ (k0_mult5 arg13 arg14).toNat := fun arg13 arg14 k0_hw1 => k0_hw1.1.1
theorem k0_off1_inb : ∀ (arg13 : BitVec 32) (arg14 : BitVec 32) (k0_hw1 : k0_chk1 arg13 arg14), ∀ a, (k0_off1 arg13 arg14) a + S1x512x128.size a ≤ S1x8192x128.size a := fun arg13 arg14 k0_hw1 => k0_hw1.1.2.1
theorem k0_mult6_dvd : ∀ (arg13 : BitVec 32) (arg14 : BitVec 32) (k0_hw1 : k0_chk1 arg13 arg14), 512 ∣ (k0_mult6 arg13 arg14).toNat := fun arg13 arg14 k0_hw1 => k0_hw1.1.2.2.1
theorem k0_off2_inb : ∀ (arg13 : BitVec 32) (arg14 : BitVec 32) (k0_hw1 : k0_chk1 arg13 arg14), ∀ a, (k0_off2 arg13 arg14) a + S1x1x512x128.size a ≤ S1x1x8192x128.size a := fun arg13 arg14 k0_hw1 => k0_hw1.1.2.2.2.1
theorem k0_mult7_dvd : ∀ (arg13 : BitVec 32) (arg14 : BitVec 32) (k0_hw1 : k0_chk1 arg13 arg14), 512 ∣ (k0_mult7 arg13 arg14).toNat := fun arg13 arg14 k0_hw1 => k0_hw1.1.2.2.2.2.1
theorem k0_off3_inb : ∀ (arg13 : BitVec 32) (arg14 : BitVec 32) (k0_hw1 : k0_chk1 arg13 arg14), ∀ a, (k0_off3 arg13 arg14) a + S1x512x128.size a ≤ S1x8192x128.size a := fun arg13 arg14 k0_hw1 => k0_hw1.1.2.2.2.2.2.1
theorem k0_mult8_dvd : ∀ (arg13 : BitVec 32) (arg14 : BitVec 32) (k0_hw1 : k0_chk1 arg13 arg14), 512 ∣ (k0_mult8 arg13 arg14).toNat := fun arg13 arg14 k0_hw1 => k0_hw1.1.2.2.2.2.2.2.1
theorem k0_off4_inb : ∀ (arg13 : BitVec 32) (arg14 : BitVec 32) (k0_hw1 : k0_chk1 arg13 arg14), ∀ a, (k0_off4 arg13 arg14) a + S1x1x512x128.size a ≤ S1x1x8192x128.size a := fun arg13 arg14 k0_hw1 => k0_hw1.1.2.2.2.2.2.2.2.1
theorem k0_mult9_dvd : ∀ (arg13 : BitVec 32) (arg14 : BitVec 32) (k0_hw1 : k0_chk1 arg13 arg14), 512 ∣ (k0_mult9 arg14).toNat := fun arg13 arg14 k0_hw1 => k0_hw1.1.2.2.2.2.2.2.2.2.1
theorem k0_off5_inb : ∀ (arg13 : BitVec 32) (arg14 : BitVec 32) (k0_hw1 : k0_chk1 arg13 arg14), ∀ a, (k0_off5 arg14) a + S1x512x128.size a ≤ S1x8192x128.size a := fun arg13 arg14 k0_hw1 => k0_hw1.1.2.2.2.2.2.2.2.2.2.1
theorem k0_mult12_dvd : ∀ (arg13 : BitVec 32) (arg14 : BitVec 32) (k0_hw1 : k0_chk1 arg13 arg14), 512 ∣ (k0_mult12 arg13 arg14).toNat := fun arg13 arg14 k0_hw1 => k0_hw1.1.2.2.2.2.2.2.2.2.2.2.1
theorem k0_off7_inb : ∀ (arg13 : BitVec 32) (arg14 : BitVec 32) (k0_hw1 : k0_chk1 arg13 arg14), ∀ a, (k0_off7 arg13 arg14) a + S1x512x128.size a ≤ S1x8192x128.size a := fun arg13 arg14 k0_hw1 => k0_hw1.1.2.2.2.2.2.2.2.2.2.2.2.1
theorem k0_mult13_dvd : ∀ (arg13 : BitVec 32) (arg14 : BitVec 32) (k0_hw1 : k0_chk1 arg13 arg14), 512 ∣ (k0_mult13 arg13 arg14).toNat := fun arg13 arg14 k0_hw1 => k0_hw1.1.2.2.2.2.2.2.2.2.2.2.2.2.1
theorem k0_off8_inb : ∀ (arg13 : BitVec 32) (arg14 : BitVec 32) (k0_hw1 : k0_chk1 arg13 arg14), ∀ a, (k0_off8 arg13 arg14) a + S1x1x512x128.size a ≤ S1x1x8192x128.size a := fun arg13 arg14 k0_hw1 => k0_hw1.1.2.2.2.2.2.2.2.2.2.2.2.2.2.1
theorem k0_mult14_dvd : ∀ (arg13 : BitVec 32) (arg14 : BitVec 32) (k0_hw1 : k0_chk1 arg13 arg14), 512 ∣ (k0_mult14 arg13 arg14).toNat := fun arg13 arg14 k0_hw1 => k0_hw1.1.2.2.2.2.2.2.2.2.2.2.2.2.2.2.1
theorem k0_off9_inb : ∀ (arg13 : BitVec 32) (arg14 : BitVec 32) (k0_hw1 : k0_chk1 arg13 arg14), ∀ a, (k0_off9 arg13 arg14) a + S1x512x128.size a ≤ S1x8192x128.size a := fun arg13 arg14 k0_hw1 => k0_hw1.1.2.2.2.2.2.2.2.2.2.2.2.2.2.2.2.1
theorem k0_mult15_dvd : ∀ (arg13 : BitVec 32) (arg14 : BitVec 32) (k0_hw1 : k0_chk1 arg13 arg14), 512 ∣ (k0_mult15 arg13 arg14).toNat := fun arg13 arg14 k0_hw1 => k0_hw1.1.2.2.2.2.2.2.2.2.2.2.2.2.2.2.2.2.1
theorem k0_off10_inb : ∀ (arg13 : BitVec 32) (arg14 : BitVec 32) (k0_hw1 : k0_chk1 arg13 arg14), ∀ a, (k0_off10 arg13 arg14) a + S1x1x512x128.size a ≤ S1x1x8192x128.size a := fun arg13 arg14 k0_hw1 => k0_hw1.1.2.2.2.2.2.2.2.2.2.2.2.2.2.2.2.2.2.1
theorem k0_mult16_dvd : ∀ (arg13 : BitVec 32) (arg14 : BitVec 32) (k0_hw1 : k0_chk1 arg13 arg14), 512 ∣ (k0_mult16 arg13 arg14).toNat := fun arg13 arg14 k0_hw1 => k0_hw1.1.2.2.2.2.2.2.2.2.2.2.2.2.2.2.2.2.2.2.1
theorem k0_mult17_dvd : ∀ (arg13 : BitVec 32) (arg14 : BitVec 32) (k0_hw1 : k0_chk1 arg13 arg14), 512 ∣ (k0_mult17 arg13 arg14).toNat := fun arg13 arg14 k0_hw1 => k0_hw1.1.2.2.2.2.2.2.2.2.2.2.2.2.2.2.2.2.2.2.2.1
theorem k0_off11_inb : ∀ (arg13 : BitVec 32) (arg14 : BitVec 32) (k0_hw1 : k0_chk1 arg13 arg14), ∀ a, (k0_off11 arg13 arg14) a + S512x256.size a ≤ S8192x256.size a := fun arg13 arg14 k0_hw1 => k0_hw1.1.2.2.2.2.2.2.2.2.2.2.2.2.2.2.2.2.2.2.2.2.1
theorem k0_mult18_dvd : ∀ (arg13 : BitVec 32) (arg14 : BitVec 32) (k0_hw1 : k0_chk1 arg13 arg14), 512 ∣ (k0_mult18 arg13 arg14).toNat := fun arg13 arg14 k0_hw1 => k0_hw1.1.2.2.2.2.2.2.2.2.2.2.2.2.2.2.2.2.2.2.2.2.2.1
theorem k0_mult19_dvd : ∀ (arg13 : BitVec 32) (arg14 : BitVec 32) (k0_hw1 : k0_chk1 arg13 arg14), 512 ∣ (k0_mult19 arg13 arg14).toNat := fun arg13 arg14 k0_hw1 => k0_hw1.1.2.2.2.2.2.2.2.2.2.2.2.2.2.2.2.2.2.2.2.2.2.2.1
theorem k0_off12_inb : ∀ (arg13 : BitVec 32) (arg14 : BitVec 32) (k0_hw1 : k0_chk1 arg13 arg14), ∀ a, (k0_off12 arg13 arg14) a + S1x512x128.size a ≤ S1x8192x128.size a := fun arg13 arg14 k0_hw1 => k0_hw1.1.2.2.2.2.2.2.2.2.2.2.2.2.2.2.2.2.2.2.2.2.2.2.2.1
theorem k0_mult20_dvd : ∀ (arg13 : BitVec 32) (arg14 : BitVec 32) (k0_hw1 : k0_chk1 arg13 arg14), 512 ∣ (k0_mult20 arg13 arg14).toNat := fun arg13 arg14 k0_hw1 => k0_hw1.1.2.2.2.2.2.2.2.2.2.2.2.2.2.2.2.2.2.2.2.2.2.2.2.2.1
theorem k0_off13_inb : ∀ (arg13 : BitVec 32) (arg14 : BitVec 32) (k0_hw1 : k0_chk1 arg13 arg14), ∀ a, (k0_off13 arg13 arg14) a + S1x1x512x128.size a ≤ S1x1x8192x128.size a := fun arg13 arg14 k0_hw1 => k0_hw1.1.2.2.2.2.2.2.2.2.2.2.2.2.2.2.2.2.2.2.2.2.2.2.2.2.2.1
theorem k0_mult21_dvd : ∀ (arg13 : BitVec 32) (arg14 : BitVec 32) (k0_hw1 : k0_chk1 arg13 arg14), 512 ∣ (k0_mult21 arg13 arg14).toNat := fun arg13 arg14 k0_hw1 => k0_hw1.1.2.2.2.2.2.2.2.2.2.2.2.2.2.2.2.2.2.2.2.2.2.2.2.2.2.2.1
theorem k0_off14_inb : ∀ (arg13 : BitVec 32) (arg14 : BitVec 32) (k0_hw1 : k0_chk1 arg13 arg14), ∀ a, (k0_off14 arg13 arg14) a + S1x512x128.size a ≤ S1x8192x128.size a := fun arg13 arg14 k0_hw1 => k0_hw1.1.2.2.2.2.2.2.2.2.2.2.2.2.2.2.2.2.2.2.2.2.2.2.2.2.2.2.2.1
theorem k0_mult22_dvd : ∀ (arg13 : BitVec 32) (arg14 : BitVec 32) (k0_hw1 : k0_chk1 arg13 arg14), 512 ∣ (k0_mult22 arg13 arg14).toNat := fun arg13 arg14 k0_hw1 => k0_hw1.1.2.2.2.2.2.2.2.2.2.2.2.2.2.2.2.2.2.2.2.2.2.2.2.2.2.2.2.2.1
theorem k0_off15_inb : ∀ (arg13 : BitVec 32) (arg14 : BitVec 32) (k0_hw1 : k0_chk1 arg13 arg14), ∀ a, (k0_off15 arg13 arg14) a + S1x1x512x128.size a ≤ S1x1x8192x128.size a := fun arg13 arg14 k0_hw1 => k0_hw1.1.2.2.2.2.2.2.2.2.2.2.2.2.2.2.2.2.2.2.2.2.2.2.2.2.2.2.2.2.2.1
theorem k0_mult23_dvd : ∀ (arg13 : BitVec 32) (arg14 : BitVec 32) (k0_hw1 : k0_chk1 arg13 arg14), 512 ∣ (k0_mult23 arg13 arg14).toNat := fun arg13 arg14 k0_hw1 => k0_hw1.1.2.2.2.2.2.2.2.2.2.2.2.2.2.2.2.2.2.2.2.2.2.2.2.2.2.2.2.2.2.2.1
theorem k0_mult24_dvd : ∀ (arg13 : BitVec 32) (arg14 : BitVec 32) (k0_hw1 : k0_chk1 arg13 arg14), 512 ∣ (k0_mult24 arg13 arg14).toNat := fun arg13 arg14 k0_hw1 => k0_hw1.1.2.2.2.2.2.2.2.2.2.2.2.2.2.2.2.2.2.2.2.2.2.2.2.2.2.2.2.2.2.2.2
theorem k0_off16_inb : ∀ (arg13 : BitVec 32) (arg14 : BitVec 32) (k0_hw1 : k0_chk1 arg13 arg14), ∀ a, (k0_off16 arg13 arg14) a + S512x256.size a ≤ S8192x256.size a := fun arg13 arg14 k0_hw1 => k0_hw1.2.1.1
theorem k0_mult25_dvd : ∀ (arg13 : BitVec 32) (arg14 : BitVec 32) (k0_hw1 : k0_chk1 arg13 arg14), 512 ∣ (k0_mult25 arg13 arg14).toNat := fun arg13 arg14 k0_hw1 => k0_hw1.2.1.2.1
theorem k0_mult26_dvd : ∀ (arg13 : BitVec 32) (arg14 : BitVec 32) (k0_hw1 : k0_chk1 arg13 arg14), 512 ∣ (k0_mult26 arg13 arg14).toNat := fun arg13 arg14 k0_hw1 => k0_hw1.2.1.2.2.1
theorem k0_off17_inb : ∀ (arg13 : BitVec 32) (arg14 : BitVec 32) (k0_hw1 : k0_chk1 arg13 arg14), ∀ a, (k0_off17 arg13 arg14) a + S1x512x128.size a ≤ S1x8192x128.size a := fun arg13 arg14 k0_hw1 => k0_hw1.2.1.2.2.2.1
theorem k0_mult27_dvd : ∀ (arg13 : BitVec 32) (arg14 : BitVec 32) (k0_hw1 : k0_chk1 arg13 arg14), 512 ∣ (k0_mult27 arg13 arg14).toNat := fun arg13 arg14 k0_hw1 => k0_hw1.2.1.2.2.2.2.1
theorem k0_off18_inb : ∀ (arg13 : BitVec 32) (arg14 : BitVec 32) (k0_hw1 : k0_chk1 arg13 arg14), ∀ a, (k0_off18 arg13 arg14) a + S1x1x512x128.size a ≤ S1x1x8192x128.size a := fun arg13 arg14 k0_hw1 => k0_hw1.2.1.2.2.2.2.2.1
theorem k0_mult28_dvd : ∀ (arg13 : BitVec 32) (arg14 : BitVec 32) (k0_hw1 : k0_chk1 arg13 arg14), 512 ∣ (k0_mult28 arg13 arg14).toNat := fun arg13 arg14 k0_hw1 => k0_hw1.2.1.2.2.2.2.2.2.1
theorem k0_off19_inb : ∀ (arg13 : BitVec 32) (arg14 : BitVec 32) (k0_hw1 : k0_chk1 arg13 arg14), ∀ a, (k0_off19 arg13 arg14) a + S1x512x128.size a ≤ S1x8192x128.size a := fun arg13 arg14 k0_hw1 => k0_hw1.2.1.2.2.2.2.2.2.2.1
theorem k0_mult29_dvd : ∀ (arg13 : BitVec 32) (arg14 : BitVec 32) (k0_hw1 : k0_chk1 arg13 arg14), 512 ∣ (k0_mult29 arg13 arg14).toNat := fun arg13 arg14 k0_hw1 => k0_hw1.2.1.2.2.2.2.2.2.2.2.1
theorem k0_off20_inb : ∀ (arg13 : BitVec 32) (arg14 : BitVec 32) (k0_hw1 : k0_chk1 arg13 arg14), ∀ a, (k0_off20 arg13 arg14) a + S1x1x512x128.size a ≤ S1x1x8192x128.size a := fun arg13 arg14 k0_hw1 => k0_hw1.2.1.2.2.2.2.2.2.2.2.2.1
theorem k0_mult30_dvd : ∀ (arg13 : BitVec 32) (arg14 : BitVec 32) (k0_hw1 : k0_chk1 arg13 arg14), 512 ∣ (k0_mult30 arg13 arg14).toNat := fun arg13 arg14 k0_hw1 => k0_hw1.2.1.2.2.2.2.2.2.2.2.2.2.1
theorem k0_mult31_dvd : ∀ (arg13 : BitVec 32) (arg14 : BitVec 32) (k0_hw1 : k0_chk1 arg13 arg14), 512 ∣ (k0_mult31 arg13 arg14).toNat := fun arg13 arg14 k0_hw1 => k0_hw1.2.1.2.2.2.2.2.2.2.2.2.2.2.1
theorem k0_off21_inb : ∀ (arg13 : BitVec 32) (arg14 : BitVec 32) (k0_hw1 : k0_chk1 arg13 arg14), ∀ a, (k0_off21 arg13 arg14) a + S512x256.size a ≤ S8192x256.size a := fun arg13 arg14 k0_hw1 => k0_hw1.2.1.2.2.2.2.2.2.2.2.2.2.2.2.1
theorem k0_mult32_dvd : ∀ (arg13 : BitVec 32) (arg14 : BitVec 32) (k0_hw1 : k0_chk1 arg13 arg14), 512 ∣ (k0_mult32 arg13 arg14).toNat := fun arg13 arg14 k0_hw1 => k0_hw1.2.1.2.2.2.2.2.2.2.2.2.2.2.2.2.1
theorem k0_mult33_dvd : ∀ (arg13 : BitVec 32) (arg14 : BitVec 32) (k0_hw1 : k0_chk1 arg13 arg14), 512 ∣ (k0_mult33 arg13 arg14).toNat := fun arg13 arg14 k0_hw1 => k0_hw1.2.1.2.2.2.2.2.2.2.2.2.2.2.2.2.2.1
theorem k0_off22_inb : ∀ (arg13 : BitVec 32) (arg14 : BitVec 32) (k0_hw1 : k0_chk1 arg13 arg14), ∀ a, (k0_off22 arg13 arg14) a + S1x512x128.size a ≤ S1x8192x128.size a := fun arg13 arg14 k0_hw1 => k0_hw1.2.1.2.2.2.2.2.2.2.2.2.2.2.2.2.2.2.1
theorem k0_mult34_dvd : ∀ (arg13 : BitVec 32) (arg14 : BitVec 32) (k0_hw1 : k0_chk1 arg13 arg14), 512 ∣ (k0_mult34 arg13 arg14).toNat := fun arg13 arg14 k0_hw1 => k0_hw1.2.1.2.2.2.2.2.2.2.2.2.2.2.2.2.2.2.2.1
theorem k0_off23_inb : ∀ (arg13 : BitVec 32) (arg14 : BitVec 32) (k0_hw1 : k0_chk1 arg13 arg14), ∀ a, (k0_off23 arg13 arg14) a + S1x1x512x128.size a ≤ S1x1x8192x128.size a := fun arg13 arg14 k0_hw1 => k0_hw1.2.1.2.2.2.2.2.2.2.2.2.2.2.2.2.2.2.2.2.1
theorem k0_mult35_dvd : ∀ (arg13 : BitVec 32) (arg14 : BitVec 32) (k0_hw1 : k0_chk1 arg13 arg14), 512 ∣ (k0_mult35 arg13 arg14).toNat := fun arg13 arg14 k0_hw1 => k0_hw1.2.1.2.2.2.2.2.2.2.2.2.2.2.2.2.2.2.2.2.2.1
theorem k0_off24_inb : ∀ (arg13 : BitVec 32) (arg14 : BitVec 32) (k0_hw1 : k0_chk1 arg13 arg14), ∀ a, (k0_off24 arg13 arg14) a + S1x512x128.size a ≤ S1x8192x128.size a := fun arg13 arg14 k0_hw1 => k0_hw1.2.1.2.2.2.2.2.2.2.2.2.2.2.2.2.2.2.2.2.2.2.1
theorem k0_mult36_dvd : ∀ (arg13 : BitVec 32) (arg14 : BitVec 32) (k0_hw1 : k0_chk1 arg13 arg14), 512 ∣ (k0_mult36 arg13 arg14).toNat := fun arg13 arg14 k0_hw1 => k0_hw1.2.1.2.2.2.2.2.2.2.2.2.2.2.2.2.2.2.2.2.2.2.2.1
theorem k0_off25_inb : ∀ (arg13 : BitVec 32) (arg14 : BitVec 32) (k0_hw1 : k0_chk1 arg13 arg14), ∀ a, (k0_off25 arg13 arg14) a + S1x1x512x128.size a ≤ S1x1x8192x128.size a := fun arg13 arg14 k0_hw1 => k0_hw1.2.1.2.2.2.2.2.2.2.2.2.2.2.2.2.2.2.2.2.2.2.2.2.1
theorem k0_mult37_dvd : ∀ (arg13 : BitVec 32) (arg14 : BitVec 32) (k0_hw1 : k0_chk1 arg13 arg14), 512 ∣ (k0_mult37 arg13 arg14).toNat := fun arg13 arg14 k0_hw1 => k0_hw1.2.1.2.2.2.2.2.2.2.2.2.2.2.2.2.2.2.2.2.2.2.2.2.2.1
theorem k0_mult38_dvd : ∀ (arg13 : BitVec 32) (arg14 : BitVec 32) (k0_hw1 : k0_chk1 arg13 arg14), 512 ∣ (k0_mult38 arg13 arg14).toNat := fun arg13 arg14 k0_hw1 => k0_hw1.2.1.2.2.2.2.2.2.2.2.2.2.2.2.2.2.2.2.2.2.2.2.2.2.2.1
theorem k0_off26_inb : ∀ (arg13 : BitVec 32) (arg14 : BitVec 32) (k0_hw1 : k0_chk1 arg13 arg14), ∀ a, (k0_off26 arg13 arg14) a + S512x256.size a ≤ S8192x256.size a := fun arg13 arg14 k0_hw1 => k0_hw1.2.1.2.2.2.2.2.2.2.2.2.2.2.2.2.2.2.2.2.2.2.2.2.2.2.2.1
theorem k0_mult39_dvd : ∀ (arg13 : BitVec 32) (arg14 : BitVec 32) (k0_hw1 : k0_chk1 arg13 arg14), 512 ∣ (k0_mult39 arg13 arg14).toNat := fun arg13 arg14 k0_hw1 => k0_hw1.2.1.2.2.2.2.2.2.2.2.2.2.2.2.2.2.2.2.2.2.2.2.2.2.2.2.2.1
theorem k0_mult40_dvd : ∀ (arg13 : BitVec 32) (arg14 : BitVec 32) (k0_hw1 : k0_chk1 arg13 arg14), 512 ∣ (k0_mult40 arg13 arg14).toNat := fun arg13 arg14 k0_hw1 => k0_hw1.2.1.2.2.2.2.2.2.2.2.2.2.2.2.2.2.2.2.2.2.2.2.2.2.2.2.2.2.1
theorem k0_off27_inb : ∀ (arg13 : BitVec 32) (arg14 : BitVec 32) (k0_hw1 : k0_chk1 arg13 arg14), ∀ a, (k0_off27 arg13 arg14) a + S1x512x128.size a ≤ S1x8192x128.size a := fun arg13 arg14 k0_hw1 => k0_hw1.2.1.2.2.2.2.2.2.2.2.2.2.2.2.2.2.2.2.2.2.2.2.2.2.2.2.2.2.2.1
theorem k0_mult41_dvd : ∀ (arg13 : BitVec 32) (arg14 : BitVec 32) (k0_hw1 : k0_chk1 arg13 arg14), 512 ∣ (k0_mult41 arg13 arg14).toNat := fun arg13 arg14 k0_hw1 => k0_hw1.2.1.2.2.2.2.2.2.2.2.2.2.2.2.2.2.2.2.2.2.2.2.2.2.2.2.2.2.2.2.1
theorem k0_off28_inb : ∀ (arg13 : BitVec 32) (arg14 : BitVec 32) (k0_hw1 : k0_chk1 arg13 arg14), ∀ a, (k0_off28 arg13 arg14) a + S1x1x512x128.size a ≤ S1x1x8192x128.size a := fun arg13 arg14 k0_hw1 => k0_hw1.2.1.2.2.2.2.2.2.2.2.2.2.2.2.2.2.2.2.2.2.2.2.2.2.2.2.2.2.2.2.2.1
theorem k0_mult42_dvd : ∀ (arg13 : BitVec 32) (arg14 : BitVec 32) (k0_hw1 : k0_chk1 arg13 arg14), 512 ∣ (k0_mult42 arg13 arg14).toNat := fun arg13 arg14 k0_hw1 => k0_hw1.2.1.2.2.2.2.2.2.2.2.2.2.2.2.2.2.2.2.2.2.2.2.2.2.2.2.2.2.2.2.2.2.1
theorem k0_off29_inb : ∀ (arg13 : BitVec 32) (arg14 : BitVec 32) (k0_hw1 : k0_chk1 arg13 arg14), ∀ a, (k0_off29 arg13 arg14) a + S1x512x128.size a ≤ S1x8192x128.size a := fun arg13 arg14 k0_hw1 => k0_hw1.2.1.2.2.2.2.2.2.2.2.2.2.2.2.2.2.2.2.2.2.2.2.2.2.2.2.2.2.2.2.2.2.2
theorem k0_mult43_dvd : ∀ (arg13 : BitVec 32) (arg14 : BitVec 32) (k0_hw1 : k0_chk1 arg13 arg14), 512 ∣ (k0_mult43 arg13 arg14).toNat := fun arg13 arg14 k0_hw1 => k0_hw1.2.2.1
theorem k0_off30_inb : ∀ (arg13 : BitVec 32) (arg14 : BitVec 32) (k0_hw1 : k0_chk1 arg13 arg14), ∀ a, (k0_off30 arg13 arg14) a + S1x1x512x128.size a ≤ S1x1x8192x128.size a := fun arg13 arg14 k0_hw1 => k0_hw1.2.2.2.1
theorem k0_mult44_dvd : ∀ (arg13 : BitVec 32) (arg14 : BitVec 32) (k0_hw1 : k0_chk1 arg13 arg14), 512 ∣ (k0_mult44 arg13 arg14).toNat := fun arg13 arg14 k0_hw1 => k0_hw1.2.2.2.2.1
theorem k0_mult45_dvd : ∀ (arg13 : BitVec 32) (arg14 : BitVec 32) (k0_hw1 : k0_chk1 arg13 arg14), 512 ∣ (k0_mult45 arg13 arg14).toNat := fun arg13 arg14 k0_hw1 => k0_hw1.2.2.2.2.2.1
theorem k0_off31_inb : ∀ (arg13 : BitVec 32) (arg14 : BitVec 32) (k0_hw1 : k0_chk1 arg13 arg14), ∀ a, (k0_off31 arg13 arg14) a + S512x256.size a ≤ S8192x256.size a := fun arg13 arg14 k0_hw1 => k0_hw1.2.2.2.2.2.2.1
theorem k0_mult46_dvd : ∀ (arg13 : BitVec 32) (arg14 : BitVec 32) (k0_hw1 : k0_chk1 arg13 arg14), 512 ∣ (k0_mult46 arg13 arg14).toNat := fun arg13 arg14 k0_hw1 => k0_hw1.2.2.2.2.2.2.2.1
theorem k0_mult47_dvd : ∀ (arg13 : BitVec 32) (arg14 : BitVec 32) (k0_hw1 : k0_chk1 arg13 arg14), 512 ∣ (k0_mult47 arg13 arg14).toNat := fun arg13 arg14 k0_hw1 => k0_hw1.2.2.2.2.2.2.2.2.1
theorem k0_off32_inb : ∀ (arg13 : BitVec 32) (arg14 : BitVec 32) (k0_hw1 : k0_chk1 arg13 arg14), ∀ a, (k0_off32 arg13 arg14) a + S1x512x128.size a ≤ S1x8192x128.size a := fun arg13 arg14 k0_hw1 => k0_hw1.2.2.2.2.2.2.2.2.2.1
theorem k0_mult48_dvd : ∀ (arg13 : BitVec 32) (arg14 : BitVec 32) (k0_hw1 : k0_chk1 arg13 arg14), 512 ∣ (k0_mult48 arg13 arg14).toNat := fun arg13 arg14 k0_hw1 => k0_hw1.2.2.2.2.2.2.2.2.2.2.1
theorem k0_off33_inb : ∀ (arg13 : BitVec 32) (arg14 : BitVec 32) (k0_hw1 : k0_chk1 arg13 arg14), ∀ a, (k0_off33 arg13 arg14) a + S1x1x512x128.size a ≤ S1x1x8192x128.size a := fun arg13 arg14 k0_hw1 => k0_hw1.2.2.2.2.2.2.2.2.2.2.2.1
theorem k0_mult49_dvd : ∀ (arg13 : BitVec 32) (arg14 : BitVec 32) (k0_hw1 : k0_chk1 arg13 arg14), 512 ∣ (k0_mult49 arg13 arg14).toNat := fun arg13 arg14 k0_hw1 => k0_hw1.2.2.2.2.2.2.2.2.2.2.2.2.1
theorem k0_off34_inb : ∀ (arg13 : BitVec 32) (arg14 : BitVec 32) (k0_hw1 : k0_chk1 arg13 arg14), ∀ a, (k0_off34 arg13 arg14) a + S1x512x128.size a ≤ S1x8192x128.size a := fun arg13 arg14 k0_hw1 => k0_hw1.2.2.2.2.2.2.2.2.2.2.2.2.2.1
theorem k0_mult50_dvd : ∀ (arg13 : BitVec 32) (arg14 : BitVec 32) (k0_hw1 : k0_chk1 arg13 arg14), 512 ∣ (k0_mult50 arg13 arg14).toNat := fun arg13 arg14 k0_hw1 => k0_hw1.2.2.2.2.2.2.2.2.2.2.2.2.2.2.1
theorem k0_off35_inb : ∀ (arg13 : BitVec 32) (arg14 : BitVec 32) (k0_hw1 : k0_chk1 arg13 arg14), ∀ a, (k0_off35 arg13 arg14) a + S1x1x512x128.size a ≤ S1x1x8192x128.size a := fun arg13 arg14 k0_hw1 => k0_hw1.2.2.2.2.2.2.2.2.2.2.2.2.2.2.2.1
theorem k0_mult51_dvd : ∀ (arg13 : BitVec 32) (arg14 : BitVec 32) (k0_hw1 : k0_chk1 arg13 arg14), 512 ∣ (k0_mult51 arg13 arg14).toNat := fun arg13 arg14 k0_hw1 => k0_hw1.2.2.2.2.2.2.2.2.2.2.2.2.2.2.2.2.1
theorem k0_mult52_dvd : ∀ (arg13 : BitVec 32) (arg14 : BitVec 32) (k0_hw1 : k0_chk1 arg13 arg14), 512 ∣ (k0_mult52 arg13 arg14).toNat := fun arg13 arg14 k0_hw1 => k0_hw1.2.2.2.2.2.2.2.2.2.2.2.2.2.2.2.2.2.1
theorem k0_off36_inb : ∀ (arg13 : BitVec 32) (arg14 : BitVec 32) (k0_hw1 : k0_chk1 arg13 arg14), ∀ a, (k0_off36 arg13 arg14) a + S512x256.size a ≤ S8192x256.size a := fun arg13 arg14 k0_hw1 => k0_hw1.2.2.2.2.2.2.2.2.2.2.2.2.2.2.2.2.2.2.1
theorem k0_mult53_dvd : ∀ (arg13 : BitVec 32) (arg14 : BitVec 32) (k0_hw1 : k0_chk1 arg13 arg14), 512 ∣ (k0_mult53 arg13 arg14).toNat := fun arg13 arg14 k0_hw1 => k0_hw1.2.2.2.2.2.2.2.2.2.2.2.2.2.2.2.2.2.2.2.1
theorem k0_mult54_dvd : ∀ (arg13 : BitVec 32) (arg14 : BitVec 32) (k0_hw1 : k0_chk1 arg13 arg14), 512 ∣ (k0_mult54 arg13 arg14).toNat := fun arg13 arg14 k0_hw1 => k0_hw1.2.2.2.2.2.2.2.2.2.2.2.2.2.2.2.2.2.2.2.2.1
theorem k0_off37_inb : ∀ (arg13 : BitVec 32) (arg14 : BitVec 32) (k0_hw1 : k0_chk1 arg13 arg14), ∀ a, (k0_off37 arg13 arg14) a + S1x512x128.size a ≤ S1x8192x128.size a := fun arg13 arg14 k0_hw1 => k0_hw1.2.2.2.2.2.2.2.2.2.2.2.2.2.2.2.2.2.2.2.2.2.1
theorem k0_mult55_dvd : ∀ (arg13 : BitVec 32) (arg14 : BitVec 32) (k0_hw1 : k0_chk1 arg13 arg14), 512 ∣ (k0_mult55 arg13 arg14).toNat := fun arg13 arg14 k0_hw1 => k0_hw1.2.2.2.2.2.2.2.2.2.2.2.2.2.2.2.2.2.2.2.2.2.2.1
theorem k0_off38_inb : ∀ (arg13 : BitVec 32) (arg14 : BitVec 32) (k0_hw1 : k0_chk1 arg13 arg14), ∀ a, (k0_off38 arg13 arg14) a + S1x1x512x128.size a ≤ S1x1x8192x128.size a := fun arg13 arg14 k0_hw1 => k0_hw1.2.2.2.2.2.2.2.2.2.2.2.2.2.2.2.2.2.2.2.2.2.2.2.1
theorem k0_mult56_dvd : ∀ (arg13 : BitVec 32) (arg14 : BitVec 32) (k0_hw1 : k0_chk1 arg13 arg14), 512 ∣ (k0_mult56 arg13 arg14).toNat := fun arg13 arg14 k0_hw1 => k0_hw1.2.2.2.2.2.2.2.2.2.2.2.2.2.2.2.2.2.2.2.2.2.2.2.2.1
theorem k0_off39_inb : ∀ (arg13 : BitVec 32) (arg14 : BitVec 32) (k0_hw1 : k0_chk1 arg13 arg14), ∀ a, (k0_off39 arg13 arg14) a + S1x512x128.size a ≤ S1x8192x128.size a := fun arg13 arg14 k0_hw1 => k0_hw1.2.2.2.2.2.2.2.2.2.2.2.2.2.2.2.2.2.2.2.2.2.2.2.2.2.1
theorem k0_mult57_dvd : ∀ (arg13 : BitVec 32) (arg14 : BitVec 32) (k0_hw1 : k0_chk1 arg13 arg14), 512 ∣ (k0_mult57 arg13 arg14).toNat := fun arg13 arg14 k0_hw1 => k0_hw1.2.2.2.2.2.2.2.2.2.2.2.2.2.2.2.2.2.2.2.2.2.2.2.2.2.2.1
theorem k0_off40_inb : ∀ (arg13 : BitVec 32) (arg14 : BitVec 32) (k0_hw1 : k0_chk1 arg13 arg14), ∀ a, (k0_off40 arg13 arg14) a + S1x1x512x128.size a ≤ S1x1x8192x128.size a := fun arg13 arg14 k0_hw1 => k0_hw1.2.2.2.2.2.2.2.2.2.2.2.2.2.2.2.2.2.2.2.2.2.2.2.2.2.2.2.1
theorem k0_mult58_dvd : ∀ (arg13 : BitVec 32) (arg14 : BitVec 32) (k0_hw1 : k0_chk1 arg13 arg14), 512 ∣ (k0_mult58 arg13 arg14).toNat := fun arg13 arg14 k0_hw1 => k0_hw1.2.2.2.2.2.2.2.2.2.2.2.2.2.2.2.2.2.2.2.2.2.2.2.2.2.2.2.2.1
theorem k0_mult59_dvd : ∀ (arg13 : BitVec 32) (arg14 : BitVec 32) (k0_hw1 : k0_chk1 arg13 arg14), 512 ∣ (k0_mult59 arg13 arg14).toNat := fun arg13 arg14 k0_hw1 => k0_hw1.2.2.2.2.2.2.2.2.2.2.2.2.2.2.2.2.2.2.2.2.2.2.2.2.2.2.2.2.2.1
theorem k0_off41_inb : ∀ (arg13 : BitVec 32) (arg14 : BitVec 32) (k0_hw1 : k0_chk1 arg13 arg14), ∀ a, (k0_off41 arg13 arg14) a + S512x256.size a ≤ S8192x256.size a := fun arg13 arg14 k0_hw1 => k0_hw1.2.2.2.2.2.2.2.2.2.2.2.2.2.2.2.2.2.2.2.2.2.2.2.2.2.2.2.2.2.2.1
theorem k0_mult60_dvd : ∀ (arg13 : BitVec 32) (arg14 : BitVec 32) (k0_hw1 : k0_chk1 arg13 arg14), 512 ∣ (k0_mult60 arg13 arg14).toNat := fun arg13 arg14 k0_hw1 => k0_hw1.2.2.2.2.2.2.2.2.2.2.2.2.2.2.2.2.2.2.2.2.2.2.2.2.2.2.2.2.2.2.2

@[reducible] def k0_t2_loop : Scf.Loop 32 :=
  let c0_i32_25 : BitVec 32 := 0#32
  let c16_i32 : BitVec 32 := 16#32
  let v36 : BitVec 32 := Scalar.addi c0_i32_25 c16_i32
  let c1_i32_26 : BitVec 32 := 1#32
  ⟨c0_i32_25, v36, c1_i32_26⟩
def k0_mult61 (k0_t2 : Fin k0_t2_loop.trips) : BitVec 32 :=
  let c0_i32_25 : BitVec 32 := 0#32
  let c1_i32_26 : BitVec 32 := 1#32
  let arg12 : BitVec 32 := Scf.iv c0_i32_25 c1_i32_26 k0_t2
  let c512_i32 : BitVec 32 := 512#32
  let v37 : BitVec 32 := Scalar.muli arg12 c512_i32
  v37
def k0_off42 (k0_t2 : Fin k0_t2_loop.trips) : Fin 2 → Nat :=
  let c0_i32_25 : BitVec 32 := 0#32
  let c1_i32_26 : BitVec 32 := 1#32
  let arg12 : BitVec 32 := Scf.iv c0_i32_25 c1_i32_26 k0_t2
  let c512_i32 : BitVec 32 := 512#32
  let v37 : BitVec 32 := Scalar.muli arg12 c512_i32
  let v38 : BitVec 32 := v37
  let v39 : Index := Scalar.indexCast v38
  let c0_28 : Index := 0#32
  ![v39.toNat, 0]
def k0_mult62 (k0_t2 : Fin k0_t2_loop.trips) : BitVec 32 :=
  let c0_i32_25 : BitVec 32 := 0#32
  let c1_i32_26 : BitVec 32 := 1#32
  let arg12 : BitVec 32 := Scf.iv c0_i32_25 c1_i32_26 k0_t2
  let c512_i32_29 : BitVec 32 := 512#32
  let v41 : BitVec 32 := Scalar.muli arg12 c512_i32_29
  v41
def k0_off43 (k0_t2 : Fin k0_t2_loop.trips) : Fin 3 → Nat :=
  let c0_30 : Index := 0#32
  let c0_i32_25 : BitVec 32 := 0#32
  let c1_i32_26 : BitVec 32 := 1#32
  let arg12 : BitVec 32 := Scf.iv c0_i32_25 c1_i32_26 k0_t2
  let c512_i32_29 : BitVec 32 := 512#32
  let v41 : BitVec 32 := Scalar.muli arg12 c512_i32_29
  let v42 : BitVec 32 := v41
  let v43 : Index := Scalar.indexCast v42
  let c0_31 : Index := 0#32
  ![0, v43.toNat, 0]
def k0_mult63 (k0_t2 : Fin k0_t2_loop.trips) : BitVec 32 :=
  let c0_i32_25 : BitVec 32 := 0#32
  let c1_i32_26 : BitVec 32 := 1#32
  let arg12 : BitVec 32 := Scf.iv c0_i32_25 c1_i32_26 k0_t2
  let c512_i32_32 : BitVec 32 := 512#32
  let v54 : BitVec 32 := Scalar.muli arg12 c512_i32_32
  v54
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![arg0.toNat, c0_i32_0.toNat, v0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  ![arg0.toNat, c0_i32.toNat, v0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  let c0_i32_0 : BitVec 32 := 0#32
  ![arg0.toNat, c0_i32.toNat, v0.toNat]

def cc0_transform_5 (i : grid0.Coords) : Fin 3 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg1
  let c0_i32 : BitVec 32 := 0#32
  let c0_i32_0 : BitVec 32 := 0#32
  ![arg0.toNat, c0_i32.toNat, v0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![arg0.toNat, c0_i32_0.toNat, v0.toNat]

abbrev stage0_0 : Fin 2 → Memref sig .tc .vmem S1x8192x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x8192x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x8192x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x8192x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x8192x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== FoxIdeal.lean ====
variable {F : FTy → Type} [FloatOps F] [Named F]
def κ : String → Option EReal := fun
  | "mask" => some ⊥
  | _ => none
-- ==== FoxRefIdeal.lean ====
abbrev S2x8192x4096 : Shape := ⟨3, ![2, 8192, 4096]⟩
abbrev S2x8x8192x128 : Shape := ⟨4, ![2, 8, 8192, 128]⟩
abbrev S2x8192x1024 : Shape := ⟨3, ![2, 8192, 1024]⟩
abbrev S2x8192x8x128 : Shape := ⟨4, ![2, 8192, 8, 128]⟩
abbrev S2x8x8192x8192 : Shape := ⟨4, ![2, 8, 8192, 8192]⟩
abbrev S_ : Shape := ⟨0, ![]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S2x8x8192 : Shape := ⟨3, ![2, 8, 8192]⟩
abbrev S2x8x8192x1 : Shape := ⟨4, ![2, 8, 8192, 1]⟩

abbrev nBuf : Space → Nat
  | .hbm => 64
  | .vmem => 0
  | .smem => 0
  | _ => 0

abbrev bufTy : (tb : Table) → Fin (tcTables nBuf tb) → BufTy
  | .hbm, ⟨0, _⟩ => ⟨S2x8192x4096, .bf16⟩
  | .hbm, ⟨1, _⟩ => ⟨S2x8x8192x128, .bf16⟩
  | .hbm, ⟨2, _⟩ => ⟨S2x8x8192x128, .bf16⟩
  | .hbm, ⟨3, _⟩ => ⟨S2x8192x4096, .f32⟩
  | .hbm, ⟨4, _⟩ => ⟨S2x8192x1024, .f32⟩
  | .hbm, ⟨5, _⟩ => ⟨S2x8192x1024, .f32⟩
  | .hbm, ⟨6, _⟩ => ⟨S2x8192x1024, .f32⟩
  | .hbm, ⟨7, _⟩ => ⟨S2x8192x1024, .f32⟩
  | .hbm, ⟨8, _⟩ => ⟨S2x8192x8x128, .f32⟩
  | .hbm, ⟨9, _⟩ => ⟨S2x8x8192x128, .f32⟩
  | .hbm, ⟨10, _⟩ => ⟨S2x8192x8x128, .f32⟩
  | .hbm, ⟨11, _⟩ => ⟨S2x8x8192x128, .f32⟩
  | .hbm, ⟨12, _⟩ => ⟨S2x8192x8x128, .f32⟩
  | .hbm, ⟨13, _⟩ => ⟨S2x8x8192x128, .f32⟩
  | .hbm, ⟨14, _⟩ => ⟨S2x8x8192x8192, .f32⟩
  | .hbm, ⟨15, _⟩ => ⟨S2x8x8192x128, .f32⟩
  | .hbm, ⟨16, _⟩ => ⟨S2x8x8192x128, .f32⟩
  | .hbm, ⟨17, _⟩ => ⟨S2x8x8192x8192, .f32⟩
  | .hbm, ⟨18, _⟩ => ⟨S2x8x8192x8192, .f32⟩
  | .hbm, ⟨19, _⟩ => ⟨S_, .f32⟩
  | .hbm, ⟨20, _⟩ => ⟨S_, .f32⟩
  | .hbm, ⟨21, _⟩ => ⟨S2x8x8192x8192, .f32⟩
  | .hbm, ⟨22, _⟩ => ⟨S2x8x8192x8192, .f32⟩
  | .hbm, ⟨23, _⟩ => ⟨S8192, .i32⟩
  | .hbm, ⟨24, _⟩ => ⟨S1x8192, .i32⟩
  | .hbm, ⟨25, _⟩ => ⟨S8192x1, .i32⟩
  | .hbm, ⟨26, _⟩ => ⟨S8192x8192, .i32⟩
  | .hbm, ⟨27, _⟩ => ⟨S8192x8192, .i32⟩
  | .hbm, ⟨28, _⟩ => ⟨S8192x8192, .i1⟩
  | .hbm, ⟨29, _⟩ => ⟨S_, .f32⟩
  | .hbm, ⟨30, _⟩ => ⟨S_, .f32⟩
  | .hbm, ⟨31, _⟩ => ⟨S2x8x8192x8192, .i1⟩
  | .hbm, ⟨32, _⟩ => ⟨S2x8x8192x8192, .f32⟩
  | .hbm, ⟨33, _⟩ => ⟨S2x8x8192x8192, .f32⟩
  | .hbm, ⟨34, _⟩ => ⟨S_, .f32⟩
  | .hbm, ⟨35, _⟩ => ⟨S2x8x8192, .f32⟩
  | .hbm, ⟨36, _⟩ => ⟨S_, .f32⟩
  | .hbm, ⟨37, _⟩ => ⟨S2x8x8192, .f32⟩
  | .hbm, ⟨38, _⟩ => ⟨S2x8x8192, .f32⟩
  | .hbm, ⟨39, _⟩ => ⟨S2x8x8192x1, .f32⟩
  | .hbm, ⟨40, _⟩ => ⟨S2x8x8192x8192, .f32⟩
  | .hbm, ⟨41, _⟩ => ⟨S2x8x8192x8192, .f32⟩
  | .hbm, ⟨42, _⟩ => ⟨S2x8x8192x8192, .f32⟩
  | .hbm, ⟨43, _⟩ => ⟨S_, .f32⟩
  | .hbm, ⟨44, _⟩ => ⟨S2x8x8192, .f32⟩
  | .hbm, ⟨45, _⟩ => ⟨S2x8x8192x1, .f32⟩
  | .hbm, ⟨46, _⟩ => ⟨S2x8x8192x8192, .f32⟩
  | .hbm, ⟨47, _⟩ => ⟨S2x8x8192x8192, .f32⟩
  | .hbm, ⟨48, _⟩ => ⟨S2x8x8192x8192, .bf16⟩
  | .hbm, ⟨49, _⟩ => ⟨S2x8x8192x8192, .f32⟩
  | .hbm, ⟨50, _⟩ => ⟨S2x8x8192x128, .f32⟩
  | .hbm, ⟨51, _⟩ => ⟨S2x8192x8x128, .f32⟩
  | .hbm, ⟨52, _⟩ => ⟨S2x8192x1024, .f32⟩
  | .hbm, ⟨53, _⟩ => ⟨S2x8192x1024, .f32⟩
  | .hbm, ⟨54, _⟩ => ⟨S2x8192x1024, .f32⟩
  | .hbm, ⟨55, _⟩ => ⟨S_, .f32⟩
  | .hbm, ⟨56, _⟩ => ⟨S2x8192x1024, .f32⟩
  | .hbm, ⟨57, _⟩ => ⟨S2x8192x1024, .f32⟩
  | .hbm, ⟨58, _⟩ => ⟨S_, .f32⟩
  | .hbm, ⟨59, _⟩ => ⟨S2x8192x1024, .f32⟩
  | .hbm, ⟨60, _⟩ => ⟨S2x8192x1024, .f32⟩
  | .hbm, ⟨61, _⟩ => ⟨S2x8192x1024, .f32⟩
  | .hbm, ⟨62, _⟩ => ⟨S2x8192x1024, .f32⟩
  | .hbm, ⟨63, _⟩ => ⟨S2x8192x1024, .bf16⟩
  | _, _ => ⟨S2x8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_cst : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_cst_0 : Ref sig .tc := ⟨.hbm, 29, rfl⟩
abbrev main_call0_v0 : Ref sig .tc := ⟨.hbm, 30, rfl⟩
abbrev main_call0_v1 : Ref sig .tc := ⟨.hbm, 31, rfl⟩
abbrev main_call0_v2 : Ref sig .tc := ⟨.hbm, 32, rfl⟩
abbrev main_v25 : Ref sig .tc := ⟨.hbm, 33, rfl⟩
abbrev main_cst_1 : Ref sig .tc := ⟨.hbm, 34, rfl⟩
abbrev main_v26 : Ref sig .tc := ⟨.hbm, 35, rfl⟩
abbrev main_cst_2 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_cst_3 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_call1_v0 : Ref sig .tc := ⟨.hbm, 53, rfl⟩
abbrev main_call1_v1 : Ref sig .tc := ⟨.hbm, 54, rfl⟩
abbrev main_call1_cst : Ref sig .tc := ⟨.hbm, 55, rfl⟩
abbrev main_call1_v2 : Ref sig .tc := ⟨.hbm, 56, rfl⟩
abbrev main_call1_v3 : Ref sig .tc := ⟨.hbm, 57, rfl⟩
abbrev main_call1_cst_0 : Ref sig .tc := ⟨.hbm, 58, rfl⟩
abbrev main_call1_v4 : Ref sig .tc := ⟨.hbm, 59, rfl⟩
abbrev main_call1_v5 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩

abbrev nD : Nat := 1
abbrev τ : Topo := Topo.v7x

variable {F : FTy → Type} [FloatOps F]
-- ==== RestProj.lean ====
abbrev S16384x4096 : Shape := ⟨2, ![16384, 4096]⟩
abbrev S4x4096x8192 : Shape := ⟨3, ![4, 4096, 8192]⟩
abbrev S16384x8192 : Shape := ⟨2, ![16384, 8192]⟩
abbrev S1024x4096 : Shape := ⟨2, ![1024, 4096]⟩
abbrev S1x4096x1024 : Shape := ⟨3, ![1, 4096, 1024]⟩
abbrev S1024x1024 : Shape := ⟨2, ![1024, 1024]⟩
abbrev S4096x1024 : Shape := ⟨2, ![4096, 1024]⟩

abbrev nBuf : Space → Nat
  | .hbm => 3
  | .vmem => 6
  | .smem => 0
  | _ => 0

abbrev bufTy : (tb : Table) → Fin (tcTables nBuf tb) → BufTy
  | .hbm, ⟨0, _⟩ => ⟨S16384x4096, .bf16⟩
  | .hbm, ⟨1, _⟩ => ⟨S4x4096x8192, .bf16⟩
  | .hbm, ⟨2, _⟩ => ⟨S16384x8192, .bf16⟩
  | .local _ .vmem, ⟨0, _⟩ => ⟨S1024x4096, .bf16⟩
  | .local _ .vmem, ⟨1, _⟩ => ⟨S1024x4096, .bf16⟩
  | .local _ .vmem, ⟨2, _⟩ => ⟨S1x4096x1024, .bf16⟩
  | .local _ .vmem, ⟨3, _⟩ => ⟨S1x4096x1024, .bf16⟩
  | .local _ .vmem, ⟨4, _⟩ => ⟨S1024x1024, .bf16⟩
  | .local _ .vmem, ⟨5, _⟩ => ⟨S1024x1024, .bf16⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== RestProjRefIdeal.lean ====
abbrev S16384x4096 : Shape := ⟨2, ![16384, 4096]⟩
abbrev S4x4096x8192 : Shape := ⟨3, ![4, 4096, 8192]⟩
abbrev S1x4096x8192 : Shape := ⟨3, ![1, 4096, 8192]⟩
abbrev S4096x8192 : Shape := ⟨2, ![4096, 8192]⟩
abbrev S16384x8192 : Shape := ⟨2, ![16384, 8192]⟩

abbrev nBuf : Space → Nat
  | .hbm => 8
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S4x4096x8192, .bf16⟩
  | .hbm, ⟨2, _⟩ => ⟨S16384x4096, .f32⟩
  | .hbm, ⟨3, _⟩ => ⟨S1x4096x8192, .bf16⟩
  | .hbm, ⟨4, _⟩ => ⟨S4096x8192, .bf16⟩
  | .hbm, ⟨5, _⟩ => ⟨S4096x8192, .f32⟩
  | .hbm, ⟨6, _⟩ => ⟨S16384x8192, .f32⟩
  | .hbm, ⟨7, _⟩ => ⟨S16384x8192, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== OutProj.lean ====
abbrev S16384x1024 : Shape := ⟨2, ![16384, 1024]⟩
abbrev S4x4096x4096 : Shape := ⟨3, ![4, 4096, 4096]⟩
abbrev S16384x4096 : Shape := ⟨2, ![16384, 4096]⟩
abbrev S1024x1024 : Shape := ⟨2, ![1024, 1024]⟩
abbrev S1x4096x1024 : Shape := ⟨3, ![1, 4096, 1024]⟩
abbrev S1024x4096 : Shape := ⟨2, ![1024, 4096]⟩
abbrev S4096x1024 : Shape := ⟨2, ![4096, 1024]⟩

abbrev nBuf : Space → Nat
  | .hbm => 6
  | .vmem => 12
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x1024, .bf16⟩
  | .hbm, ⟨3, _⟩ => ⟨S16384x1024, .bf16⟩
  | .hbm, ⟨4, _⟩ => ⟨S4x4096x4096, .bf16⟩
  | .hbm, ⟨5, _⟩ => ⟨S16384x4096, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1x4096x1024, .bf16⟩
  | .local _ .vmem, ⟨9, _⟩ => ⟨S1x4096x1024, .bf16⟩
  | .local _ .vmem, ⟨10, _⟩ => ⟨S1024x1024, .bf16⟩
  | .local _ .vmem, ⟨11, _⟩ => ⟨S1024x1024, .bf16⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x4096x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== OutProjRefIdeal.lean ====
abbrev S16384x1024 : Shape := ⟨2, ![16384, 1024]⟩
abbrev S4x4096x4096 : Shape := ⟨3, ![4, 4096, 4096]⟩
abbrev S16384x4096 : Shape := ⟨2, ![16384, 4096]⟩
abbrev S1x4096x4096 : Shape := ⟨3, ![1, 4096, 4096]⟩
abbrev S4096x4096 : Shape := ⟨2, ![4096, 4096]⟩

abbrev nBuf : Space → Nat
  | .hbm => 15
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x1024, .bf16⟩
  | .hbm, ⟨3, _⟩ => ⟨S16384x1024, .bf16⟩
  | .hbm, ⟨4, _⟩ => ⟨S4x4096x4096, .bf16⟩
  | .hbm, ⟨5, _⟩ => ⟨S16384x1024, .f32⟩
  | .hbm, ⟨6, _⟩ => ⟨S16384x1024, .f32⟩
  | .hbm, ⟨7, _⟩ => ⟨S16384x1024, .f32⟩
  | .hbm, ⟨8, _⟩ => ⟨S16384x1024, .f32⟩
  | .hbm, ⟨9, _⟩ => ⟨S16384x4096, .f32⟩
  | .hbm, ⟨10, _⟩ => ⟨S1x4096x4096, .bf16⟩
  | .hbm, ⟨11, _⟩ => ⟨S4096x4096, .bf16⟩
  | .hbm, ⟨12, _⟩ => ⟨S4096x4096, .f32⟩
  | .hbm, ⟨13, _⟩ => ⟨S16384x4096, .f32⟩
  | .hbm, ⟨14, _⟩ => ⟨S16384x4096, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]
-- ==== FoxProj.lean ====
abbrev S16384x4096 : Shape := ⟨2, ![16384, 4096]⟩
abbrev S4x4096x4096 : Shape := ⟨3, ![4, 4096, 4096]⟩
abbrev S4x4096x128 : Shape := ⟨3, ![4, 4096, 128]⟩
abbrev S4x1x128 : Shape := ⟨3, ![4, 1, 128]⟩
abbrev S16384x128 : Shape := ⟨2, ![16384, 128]⟩
abbrev S1024x4096 : Shape := ⟨2, ![1024, 4096]⟩
abbrev S1x4096x1024 : Shape := ⟨3, ![1, 4096, 1024]⟩
abbrev S1x4096x128 : Shape := ⟨3, ![1, 4096, 128]⟩
abbrev S1x1x128 : Shape := ⟨3, ![1, 1, 128]⟩
abbrev S1024x1024 : Shape := ⟨2, ![1024, 1024]⟩
abbrev S1024x128 : Shape := ⟨2, ![1024, 128]⟩
abbrev S4096x1024 : Shape := ⟨2, ![4096, 1024]⟩
abbrev S4096x128 : Shape := ⟨2, ![4096, 128]⟩
abbrev S1x128 : Shape := ⟨2, ![1, 128]⟩

abbrev nBuf : Space → Nat
  | .hbm => 6
  | .vmem => 10
  | .smem => 0
  | _ => 0

abbrev bufTy : (tb : Table) → Fin (tcTables nBuf tb) → BufTy
  | .hbm, ⟨0, _⟩ => ⟨S16384x4096, .bf16⟩
  | .hbm, ⟨1, _⟩ => ⟨S4x4096x4096, .bf16⟩
  | .hbm, ⟨2, _⟩ => ⟨S4x4096x128, .bf16⟩
  | .hbm, ⟨3, _⟩ => ⟨S4x1x128, .f32⟩
  | .hbm, ⟨4, _⟩ => ⟨S16384x4096, .bf16⟩
  | .hbm, ⟨5, _⟩ => ⟨S16384x128, .f32⟩
  | .local _ .vmem, ⟨0, _⟩ => ⟨S1024x4096, .bf16⟩
  | .local _ .vmem, ⟨1, _⟩ => ⟨S1024x4096, .bf16⟩
  | .local _ .vmem, ⟨2, _⟩ => ⟨S1x4096x1024, .bf16⟩
  | .local _ .vmem, ⟨3, _⟩ => ⟨S1x4096x1024, .bf16⟩
  | .local _ .vmem, ⟨4, _⟩ => ⟨S1x4096x128, .bf16⟩
  | .local _ .vmem, ⟨5, _⟩ => ⟨S1x1x128, .f32⟩
  | .local _ .vmem, ⟨6, _⟩ => ⟨S1024x1024, .bf16⟩
  | .local _ .vmem, ⟨7, _⟩ => ⟨S1024x1024, .bf16⟩
  | .local _ .vmem, ⟨8, _⟩ => ⟨S1024x128, .f32⟩
  | .local _ .vmem, ⟨9, _⟩ => ⟨S1024x128, .f32⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![16, 4], ![false, false]⟩

def k0_cond1 (i : grid0.Coords) : BitVec 1 :=
  let arg1 : BitVec 32 := BitVec.ofNat 32 (i 1).val
  let c0_i32 : BitVec 32 := 0#32
  let v6 : BitVec 1 := Scalar.cmpi .eq arg1 c0_i32
  let v7 : BitVec 32 := Scalar.extui v6
  let c0_i32_6 : BitVec 32 := 0#32
  let v8 : BitVec 1 := Scalar.cmpi .ne v7 c0_i32_6
  v8

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x4096x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== FoxProjRefIdeal.lean ====
abbrev S16384x4096 : Shape := ⟨2, ![16384, 4096]⟩
abbrev S4x4096x4096 : Shape := ⟨3, ![4, 4096, 4096]⟩
abbrev S4x4096x128 : Shape := ⟨3, ![4, 4096, 128]⟩
abbrev S4x1x128 : Shape := ⟨3, ![4, 1, 128]⟩
abbrev S1x4096x4096 : Shape := ⟨3, ![1, 4096, 4096]⟩
abbrev S4096x4096 : Shape := ⟨2, ![4096, 4096]⟩
abbrev S1x4096x128 : Shape := ⟨3, ![1, 4096, 128]⟩
abbrev S4096x128 : Shape := ⟨2, ![4096, 128]⟩
abbrev S16384x128 : Shape := ⟨2, ![16384, 128]⟩
abbrev S1x1x128 : Shape := ⟨3, ![1, 1, 128]⟩
abbrev S1x128 : Shape := ⟨2, ![1, 128]⟩
abbrev S_ : Shape := ⟨0, ![]⟩

abbrev nBuf : Space → Nat
  | .hbm => 34
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S4x4096x4096, .bf16⟩
  | .hbm, ⟨2, _⟩ => ⟨S4x4096x128, .bf16⟩
  | .hbm, ⟨3, _⟩ => ⟨S4x1x128, .f32⟩
  | .hbm, ⟨4, _⟩ => ⟨S16384x4096, .f32⟩
  | .hbm, ⟨5, _⟩ => ⟨S1x4096x4096, .bf16⟩
  | .hbm, ⟨6, _⟩ => ⟨S4096x4096, .bf16⟩
  | .hbm, ⟨7, _⟩ => ⟨S4096x4096, .f32⟩
  | .hbm, ⟨8, _⟩ => ⟨S16384x4096, .f32⟩
  | .hbm, ⟨9, _⟩ => ⟨S1x4096x128, .bf16⟩
  | .hbm, ⟨10, _⟩ => ⟨S4096x128, .bf16⟩
  | .hbm, ⟨11, _⟩ => ⟨S4096x128, .f32⟩
  | .hbm, ⟨12, _⟩ => ⟨S16384x128, .f32⟩
  | .hbm, ⟨13, _⟩ => ⟨S16384x4096, .bf16⟩
  | .hbm, ⟨14, _⟩ => ⟨S1x1x128, .f32⟩
  | .hbm, ⟨15, _⟩ => ⟨S1x128, .f32⟩
  | .hbm, ⟨16, _⟩ => ⟨S16384x128, .f32⟩
  | .hbm, ⟨17, _⟩ => ⟨S16384x128, .f32⟩
  | .hbm, ⟨18, _⟩ => ⟨S16384x128, .f32⟩
  | .hbm, ⟨19, _⟩ => ⟨S_, .f32⟩
  | .hbm, ⟨20, _⟩ => ⟨S16384x128, .f32⟩
  | .hbm, ⟨21, _⟩ => ⟨S16384x128, .f32⟩
  | .hbm, ⟨22, _⟩ => ⟨S16384x128, .f32⟩
  | .hbm, ⟨23, _⟩ => ⟨S16384x128, .f32⟩
  | .hbm, ⟨24, _⟩ => ⟨S16384x128, .i1⟩
  | .hbm, ⟨25, _⟩ => ⟨S16384x128, .f32⟩
  | .hbm, ⟨26, _⟩ => ⟨S16384x128, .f32⟩
  | .hbm, ⟨27, _⟩ => ⟨S16384x128, .f32⟩
  | .hbm, ⟨28, _⟩ => ⟨S16384x128, .f32⟩
  | .hbm, ⟨29, _⟩ => ⟨S16384x128, .f32⟩
  | .hbm, ⟨30, _⟩ => ⟨S16384x128, .f32⟩
  | .hbm, ⟨31, _⟩ => ⟨S16384x128, .f32⟩
  | .hbm, ⟨32, _⟩ => ⟨S16384x128, .f32⟩
  | .hbm, ⟨33, _⟩ => ⟨S16384x128, .f32⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_call0_v0 : Ref sig .tc := ⟨.hbm, 18, rfl⟩
abbrev main_call0_call0_cst : Ref sig .tc := ⟨.hbm, 19, rfl⟩
abbrev main_call0_call0_v0 : Ref sig .tc := ⟨.hbm, 20, rfl⟩
abbrev main_call0_call0_v1 : Ref sig .tc := ⟨.hbm, 21, rfl⟩
abbrev main_call0_call0_v2 : Ref sig .tc := ⟨.hbm, 22, rfl⟩
abbrev main_call0_call0_v3 : Ref sig .tc := ⟨.hbm, 23, rfl⟩
abbrev main_call0_call0_v4 : Ref sig .tc := ⟨.hbm, 24, rfl⟩
abbrev main_call0_call0_v5 : Ref sig .tc := ⟨.hbm, 25, rfl⟩
abbrev main_call0_call0_v6 : Ref sig .tc := ⟨.hbm, 26, rfl⟩
abbrev main_call0_call0_v7 : Ref sig .tc := ⟨.hbm, 27, rfl⟩
abbrev main_call0_call0_v8 : Ref sig .tc := ⟨.hbm, 28, rfl⟩
abbrev main_call0_call0_v9 : Ref sig .tc := ⟨.hbm, 29, rfl⟩
abbrev main_call0_call0_v10 : Ref sig .tc := ⟨.hbm, 30, rfl⟩
abbrev main_call0_call0_v11 : Ref sig .tc := ⟨.hbm, 31, rfl⟩
abbrev main_call0_v1 : Ref sig .tc := ⟨.hbm, 32, rfl⟩
abbrev main_v14 : Ref sig .tc := ⟨.hbm, 33, rfl⟩

abbrev nD : Nat := 1
abbrev τ : Topo := Topo.v7x

variable {F : FTy → Type} [FloatOps F]
-- ==== Norm.lean ====
abbrev S16384x4096 : Shape := ⟨2, ![16384, 4096]⟩
abbrev S4096 : Shape := ⟨1, ![4096]⟩
abbrev S1x4096 : Shape := ⟨2, ![1, 4096]⟩
abbrev S256x4096 : Shape := ⟨2, ![256, 4096]⟩
abbrev S256 : Shape := ⟨1, ![256]⟩
abbrev S256x1 : Shape := ⟨2, ![256, 1]⟩

abbrev nBuf : Space → Nat
  | .hbm => 4
  | .vmem => 5
  | .smem => 0
  | _ => 0

abbrev bufTy : (tb : Table) → Fin (tcTables nBuf tb) → BufTy
  | .hbm, ⟨0, _⟩ => ⟨S16384x4096, .f32⟩
  | .hbm, ⟨1, _⟩ => ⟨S4096, .f32⟩
  | .hbm, ⟨2, _⟩ => ⟨S1x4096, .f32⟩
  | .hbm, ⟨3, _⟩ => ⟨S16384x4096, .bf16⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S256x4096, .bf16⟩
  | .local _ .vmem, ⟨4, _⟩ => ⟨S256x4096, .bf16⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormRefIdeal.lean ====
abbrev S16384x4096 : Shape := ⟨2, ![16384, 4096]⟩
abbrev S4096 : Shape := ⟨1, ![4096]⟩
abbrev S_ : Shape := ⟨0, ![]⟩
abbrev S16384 : Shape := ⟨1, ![16384]⟩
abbrev S16384x1 : Shape := ⟨2, ![16384, 1]⟩
abbrev S1x4096 : Shape := ⟨2, ![1, 4096]⟩

abbrev nBuf : Space → Nat
  | .hbm => 19
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S4096, .f32⟩
  | .hbm, ⟨2, _⟩ => ⟨S16384x4096, .f32⟩
  | .hbm, ⟨3, _⟩ => ⟨S_, .f32⟩
  | .hbm, ⟨4, _⟩ => ⟨S16384, .f32⟩
  | .hbm, ⟨5, _⟩ => ⟨S16384x1, .f32⟩
  | .hbm, ⟨6, _⟩ => ⟨S_, .f32⟩
  | .hbm, ⟨7, _⟩ => ⟨S16384x1, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S16384x1, .f32⟩
  | .hbm, ⟨13, _⟩ => ⟨S16384x4096, .f32⟩
  | .hbm, ⟨14, _⟩ => ⟨S16384x4096, .f32⟩
  | .hbm, ⟨15, _⟩ => ⟨S1x4096, .f32⟩
  | .hbm, ⟨16, _⟩ => ⟨S16384x4096, .f32⟩
  | .hbm, ⟨17, _⟩ => ⟨S16384x4096, .f32⟩
  | .hbm, ⟨18, _⟩ => ⟨S16384x4096, .bf16⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Post.lean ====
abbrev S16384x4096 : Shape := ⟨2, ![16384, 4096]⟩
abbrev S4096 : Shape := ⟨1, ![4096]⟩
abbrev S1x4096 : Shape := ⟨2, ![1, 4096]⟩
abbrev S256x4096 : Shape := ⟨2, ![256, 4096]⟩
abbrev S256 : Shape := ⟨1, ![256]⟩
abbrev S256x1 : Shape := ⟨2, ![256, 1]⟩

abbrev nBuf : Space → Nat
  | .hbm => 8
  | .vmem => 10
  | .smem => 0
  | _ => 0

abbrev bufTy : (tb : Table) → Fin (tcTables nBuf tb) → BufTy
  | .hbm, ⟨0, _⟩ => ⟨S16384x4096, .bf16⟩
  | .hbm, ⟨1, _⟩ => ⟨S16384x4096, .f32⟩
  | .hbm, ⟨2, _⟩ => ⟨S4096, .f32⟩
  | .hbm, ⟨3, _⟩ => ⟨S4096, .f32⟩
  | .hbm, ⟨4, _⟩ => ⟨S1x4096, .f32⟩
  | .hbm, ⟨5, _⟩ => ⟨S1x4096, .f32⟩
  | .hbm, ⟨6, _⟩ => ⟨S16384x4096, .f32⟩
  | .hbm, ⟨7, _⟩ => ⟨S16384x4096, .bf16⟩
  | .local _ .vmem, ⟨0, _⟩ => ⟨S256x4096, .bf16⟩
  | .local _ .vmem, ⟨1, _⟩ => ⟨S256x4096, .bf16⟩
  | .local _ .vmem, ⟨2, _⟩ => ⟨S256x4096, .f32⟩
  | .local _ .vmem, ⟨3, _⟩ => ⟨S256x4096, .f32⟩
  | .local _ .vmem, ⟨4, _⟩ => ⟨S1x4096, .f32⟩
  | .local _ .vmem, ⟨5, _⟩ => ⟨S1x4096, .f32⟩
  | .local _ .vmem, ⟨6, _⟩ => ⟨S256x4096, .f32⟩
  | .local _ .vmem, ⟨7, _⟩ => ⟨S256x4096, .f32⟩
  | .local _ .vmem, ⟨8, _⟩ => ⟨S256x4096, .bf16⟩
  | .local _ .vmem, ⟨9, _⟩ => ⟨S256x4096, .bf16⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== PostRefIdeal.lean ====
abbrev S16384x4096 : Shape := ⟨2, ![16384, 4096]⟩
abbrev S4096 : Shape := ⟨1, ![4096]⟩
abbrev S_ : Shape := ⟨0, ![]⟩
abbrev S16384 : Shape := ⟨1, ![16384]⟩
abbrev S16384x1 : Shape := ⟨2, ![16384, 1]⟩
abbrev S1x4096 : Shape := ⟨2, ![1, 4096]⟩

abbrev nBuf : Space → Nat
  | .hbm => 39
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S16384x4096, .f32⟩
  | .hbm, ⟨2, _⟩ => ⟨S4096, .f32⟩
  | .hbm, ⟨3, _⟩ => ⟨S4096, .f32⟩
  | .hbm, ⟨4, _⟩ => ⟨S16384x4096, .f32⟩
  | .hbm, ⟨5, _⟩ => ⟨S16384x4096, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x4096, .f32⟩
  | .hbm, ⟨17, _⟩ => ⟨S16384x4096, .f32⟩
  | .hbm, ⟨18, _⟩ => ⟨S1x4096, .f32⟩
  | .hbm, ⟨19, _⟩ => ⟨S16384x4096, .f32⟩
  | .hbm, ⟨20, _⟩ => ⟨S16384x4096, .f32⟩
  | .hbm, ⟨21, _⟩ => ⟨S16384x4096, .f32⟩
  | .hbm, ⟨22, _⟩ => ⟨S16384x4096, .f32⟩
  | .hbm, ⟨23, _⟩ => ⟨S_, .f32⟩
  | .hbm, ⟨24, _⟩ => ⟨S16384, .f32⟩
  | .hbm, ⟨25, _⟩ => ⟨S16384x1, .f32⟩
  | .hbm, ⟨26, _⟩ => ⟨S_, .f32⟩
  | .hbm, ⟨27, _⟩ => ⟨S16384x1, .f32⟩
  | .hbm, ⟨28, _⟩ => ⟨S16384x1, .f32⟩
  | .hbm, ⟨29, _⟩ => ⟨S_, .f32⟩
  | .hbm, ⟨30, _⟩ => ⟨S16384x1, .f32⟩
  | .hbm, ⟨31, _⟩ => ⟨S16384x1, .f32⟩
  | .hbm, ⟨32, _⟩ => ⟨S16384x1, .f32⟩
  | .hbm, ⟨33, _⟩ => ⟨S16384x4096, .f32⟩
  | .hbm, ⟨34, _⟩ => ⟨S16384x4096, .f32⟩
  | .hbm, ⟨35, _⟩ => ⟨S1x4096, .f32⟩
  | .hbm, ⟨36, _⟩ => ⟨S16384x4096, .f32⟩
  | .hbm, ⟨37, _⟩ => ⟨S16384x4096, .f32⟩
  | .hbm, ⟨38, _⟩ => ⟨S16384x4096, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_cst_4 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩

abbrev nD : Nat := 1
abbrev τ : Topo := Topo.v7x

variable {F : FTy → Type} [FloatOps F]
-- ==== PostLast.lean ====
abbrev S16384x4096 : Shape := ⟨2, ![16384, 4096]⟩
abbrev S4096 : Shape := ⟨1, ![4096]⟩
abbrev S1x4096 : Shape := ⟨2, ![1, 4096]⟩
abbrev S256x4096 : Shape := ⟨2, ![256, 4096]⟩
abbrev S256 : Shape := ⟨1, ![256]⟩
abbrev S256x1 : Shape := ⟨2, ![256, 1]⟩

abbrev nBuf : Space → Nat
  | .hbm => 5
  | .vmem => 7
  | .smem => 0
  | _ => 0

abbrev bufTy : (tb : Table) → Fin (tcTables nBuf tb) → BufTy
  | .hbm, ⟨0, _⟩ => ⟨S16384x4096, .bf16⟩
  | .hbm, ⟨1, _⟩ => ⟨S16384x4096, .f32⟩
  | .hbm, ⟨2, _⟩ => ⟨S4096, .f32⟩
  | .hbm, ⟨3, _⟩ => ⟨S1x4096, .f32⟩
  | .hbm, ⟨4, _⟩ => ⟨S16384x4096, .f32⟩
  | .local _ .vmem, ⟨0, _⟩ => ⟨S256x4096, .bf16⟩
  | .local _ .vmem, ⟨1, _⟩ => ⟨S256x4096, .bf16⟩
  | .local _ .vmem, ⟨2, _⟩ => ⟨S256x4096, .f32⟩
  | .local _ .vmem, ⟨3, _⟩ => ⟨S256x4096, .f32⟩
  | .local _ .vmem, ⟨4, _⟩ => ⟨S1x4096, .f32⟩
  | .local _ .vmem, ⟨5, _⟩ => ⟨S256x4096, .f32⟩
  | .local _ .vmem, ⟨6, _⟩ => ⟨S256x4096, .f32⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== PostLastRefIdeal.lean ====
abbrev S16384x4096 : Shape := ⟨2, ![16384, 4096]⟩
abbrev S4096 : Shape := ⟨1, ![4096]⟩
abbrev S_ : Shape := ⟨0, ![]⟩
abbrev S16384 : Shape := ⟨1, ![16384]⟩
abbrev S16384x1 : Shape := ⟨2, ![16384, 1]⟩
abbrev S1x4096 : Shape := ⟨2, ![1, 4096]⟩

abbrev nBuf : Space → Nat
  | .hbm => 21
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S16384x4096, .f32⟩
  | .hbm, ⟨2, _⟩ => ⟨S4096, .f32⟩
  | .hbm, ⟨3, _⟩ => ⟨S16384x4096, .f32⟩
  | .hbm, ⟨4, _⟩ => ⟨S16384x4096, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S_, .f32⟩
  | .hbm, ⟨9, _⟩ => ⟨S16384x1, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S16384x1, .f32⟩
  | .hbm, ⟨15, _⟩ => ⟨S16384x4096, .f32⟩
  | .hbm, ⟨16, _⟩ => ⟨S16384x4096, .f32⟩
  | .hbm, ⟨17, _⟩ => ⟨S1x4096, .f32⟩
  | .hbm, ⟨18, _⟩ => ⟨S16384x4096, .f32⟩
  | .hbm, ⟨19, _⟩ => ⟨S16384x4096, .f32⟩
  | .hbm, ⟨20, _⟩ => ⟨S16384x4096, .f32⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Glu.lean ====
abbrev S16384x1024 : Shape := ⟨2, ![16384, 1024]⟩
abbrev S16384x8192 : Shape := ⟨2, ![16384, 8192]⟩
abbrev S1024 : Shape := ⟨1, ![1024]⟩
abbrev S4x1024x1024 : Shape := ⟨3, ![4, 1024, 1024]⟩
abbrev S1x1024 : Shape := ⟨2, ![1, 1024]⟩
abbrev S512x1024 : Shape := ⟨2, ![512, 1024]⟩
abbrev S1x1024x1024 : Shape := ⟨3, ![1, 1024, 1024]⟩
abbrev S1024x1024 : Shape := ⟨2, ![1024, 1024]⟩

abbrev nBuf : Space → Nat
  | .hbm => 8
  | .vmem => 11
  | .smem => 0
  | _ => 0

abbrev bufTy : (tb : Table) → Fin (tcTables nBuf tb) → BufTy
  | .hbm, ⟨0, _⟩ => ⟨S16384x1024, .bf16⟩
  | .hbm, ⟨1, _⟩ => ⟨S16384x8192, .bf16⟩
  | .hbm, ⟨2, _⟩ => ⟨S1024, .f32⟩
  | .hbm, ⟨3, _⟩ => ⟨S4x1024x1024, .bf16⟩
  | .hbm, ⟨4, _⟩ => ⟨S1024, .f32⟩
  | .hbm, ⟨5, _⟩ => ⟨S1x1024, .f32⟩
  | .hbm, ⟨6, _⟩ => ⟨S1x1024, .f32⟩
  | .hbm, ⟨7, _⟩ => ⟨S16384x1024, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S1x1024, .f32⟩
  | .local _ .vmem, ⟨7, _⟩ => ⟨S1x1024x1024, .bf16⟩
  | .local _ .vmem, ⟨8, _⟩ => ⟨S1x1024, .f32⟩
  | .local _ .vmem, ⟨9, _⟩ => ⟨S512x1024, .bf16⟩
  | .local _ .vmem, ⟨10, _⟩ => ⟨S512x1024, .bf16⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_2 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== GluRefIdeal.lean ====
abbrev S16384x1024 : Shape := ⟨2, ![16384, 1024]⟩
abbrev S16384x8192 : Shape := ⟨2, ![16384, 8192]⟩
abbrev S1024 : Shape := ⟨1, ![1024]⟩
abbrev S4x1024x1024 : Shape := ⟨3, ![4, 1024, 1024]⟩
abbrev S1x1024 : Shape := ⟨2, ![1, 1024]⟩
abbrev S_ : Shape := ⟨0, ![]⟩
abbrev S1x1024x1024 : Shape := ⟨3, ![1, 1024, 1024]⟩
abbrev S1024x1024 : Shape := ⟨2, ![1024, 1024]⟩

abbrev nBuf : Space → Nat
  | .hbm => 58
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x8192, .bf16⟩
  | .hbm, ⟨2, _⟩ => ⟨S1024, .f32⟩
  | .hbm, ⟨3, _⟩ => ⟨S4x1024x1024, .bf16⟩
  | .hbm, ⟨4, _⟩ => ⟨S1024, .f32⟩
  | .hbm, ⟨5, _⟩ => ⟨S16384x1024, .bf16⟩
  | .hbm, ⟨6, _⟩ => ⟨S16384x1024, .f32⟩
  | .hbm, ⟨7, _⟩ => ⟨S16384x1024, .bf16⟩
  | .hbm, ⟨8, _⟩ => ⟨S16384x1024, .f32⟩
  | .hbm, ⟨9, _⟩ => ⟨S16384x1024, .f32⟩
  | .hbm, ⟨10, _⟩ => ⟨S1x1024, .f32⟩
  | .hbm, ⟨11, _⟩ => ⟨S16384x1024, .f32⟩
  | .hbm, ⟨12, _⟩ => ⟨S16384x1024, .f32⟩
  | .hbm, ⟨13, _⟩ => ⟨S16384x1024, .f32⟩
  | .hbm, ⟨14, _⟩ => ⟨S16384x1024, .f32⟩
  | .hbm, ⟨15, _⟩ => ⟨S16384x1024, .f32⟩
  | .hbm, ⟨16, _⟩ => ⟨S_, .f32⟩
  | .hbm, ⟨17, _⟩ => ⟨S16384x1024, .f32⟩
  | .hbm, ⟨18, _⟩ => ⟨S16384x1024, .f32⟩
  | .hbm, ⟨19, _⟩ => ⟨S16384x1024, .f32⟩
  | .hbm, ⟨20, _⟩ => ⟨S_, .f32⟩
  | .hbm, ⟨21, _⟩ => ⟨S16384x1024, .f32⟩
  | .hbm, ⟨22, _⟩ => ⟨S16384x1024, .f32⟩
  | .hbm, ⟨23, _⟩ => ⟨S16384x1024, .f32⟩
  | .hbm, ⟨24, _⟩ => ⟨S_, .f32⟩
  | .hbm, ⟨25, _⟩ => ⟨S16384x1024, .f32⟩
  | .hbm, ⟨26, _⟩ => ⟨S16384x1024, .f32⟩
  | .hbm, ⟨27, _⟩ => ⟨S_, .f32⟩
  | .hbm, ⟨28, _⟩ => ⟨S16384x1024, .f32⟩
  | .hbm, ⟨29, _⟩ => ⟨S16384x1024, .f32⟩
  | .hbm, ⟨30, _⟩ => ⟨S16384x1024, .f32⟩
  | .hbm, ⟨31, _⟩ => ⟨S1x1024x1024, .bf16⟩
  | .hbm, ⟨32, _⟩ => ⟨S1024x1024, .bf16⟩
  | .hbm, ⟨33, _⟩ => ⟨S1024x1024, .f32⟩
  | .hbm, ⟨34, _⟩ => ⟨S16384x1024, .f32⟩
  | .hbm, ⟨35, _⟩ => ⟨S1x1024, .f32⟩
  | .hbm, ⟨36, _⟩ => ⟨S16384x1024, .f32⟩
  | .hbm, ⟨37, _⟩ => ⟨S16384x1024, .f32⟩
  | .hbm, ⟨38, _⟩ => ⟨S16384x1024, .f32⟩
  | .hbm, ⟨39, _⟩ => ⟨S16384x1024, .f32⟩
  | .hbm, ⟨40, _⟩ => ⟨S_, .f32⟩
  | .hbm, ⟨41, _⟩ => ⟨S16384x1024, .f32⟩
  | .hbm, ⟨42, _⟩ => ⟨S16384x1024, .f32⟩
  | .hbm, ⟨43, _⟩ => ⟨S_, .f32⟩
  | .hbm, ⟨44, _⟩ => ⟨S16384x1024, .f32⟩
  | .hbm, ⟨45, _⟩ => ⟨S16384x1024, .f32⟩
  | .hbm, ⟨46, _⟩ => ⟨S16384x1024, .f32⟩
  | .hbm, ⟨47, _⟩ => ⟨S16384x1024, .f32⟩
  | .hbm, ⟨48, _⟩ => ⟨S16384x1024, .f32⟩
  | .hbm, ⟨49, _⟩ => ⟨S_, .f32⟩
  | .hbm, ⟨50, _⟩ => ⟨S16384x1024, .f32⟩
  | .hbm, ⟨51, _⟩ => ⟨S16384x1024, .f32⟩
  | .hbm, ⟨52, _⟩ => ⟨S_, .f32⟩
  | .hbm, ⟨53, _⟩ => ⟨S16384x1024, .f32⟩
  | .hbm, ⟨54, _⟩ => ⟨S16384x1024, .f32⟩
  | .hbm, ⟨55, _⟩ => ⟨S16384x1024, .f32⟩
  | .hbm, ⟨56, _⟩ => ⟨S16384x1024, .f32⟩
  | .hbm, ⟨57, _⟩ => ⟨S16384x1024, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_0 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_1 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_cst_3 : Ref sig .tc := ⟨.hbm, 40, rfl⟩
abbrev main_v31 : Ref sig .tc := ⟨.hbm, 41, rfl⟩
abbrev main_v32 : Ref sig .tc := ⟨.hbm, 42, rfl⟩
abbrev main_cst_4 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_call0_v0 : Ref sig .tc := ⟨.hbm, 47, rfl⟩
abbrev main_call0_v1 : Ref sig .tc := ⟨.hbm, 48, rfl⟩
abbrev main_call0_cst : Ref sig .tc := ⟨.hbm, 49, rfl⟩
abbrev main_call0_v2 : Ref sig .tc := ⟨.hbm, 50, rfl⟩
abbrev main_call0_v3 : Ref sig .tc := ⟨.hbm, 51, rfl⟩
abbrev main_call0_cst_0 : Ref sig .tc := ⟨.hbm, 52, rfl⟩
abbrev main_call0_v4 : Ref sig .tc := ⟨.hbm, 53, rfl⟩
abbrev main_call0_v5 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩

abbrev nD : Nat := 1
abbrev τ : Topo := Topo.v7x

variable {F : FTy → Type} [FloatOps F]
-- ==== Proof.RestValue.lean ====
/- The projection to the 8192 remaining branch columns: the result array of the tiled kernel is the
   reference's product of the activations with the layer's weight. -/
module

public import proofs.«01_k».proof.Proof.Gen.RestProjIdeal.Value
public import proofs.«01_k».proof.Proof.Gen.RestProjRefIdeal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.RestProjIdeal.Value
open Cert.RestProjIdeal Cert.RestProjIdeal.Gen

variable (m : (ℓ : Loc nD τ sig) → Buf (Elt Ideal) ℓ)

/-- The reference's product, over the kernel's argument arrays. -/
abbrev REF (X : FVec Ideal S16384x4096 .bf16) (W : FVec Ideal S4x4096x8192 .bf16) : FVec Ideal S16384x8192 .bf16 :=
  truncf .bf16 (Host.dotGeneral Cert.RestProjRefIdeal.dot_S16384x4096_S4096x8192_S16384x8192_1_0_0_1_n_n none
    (extf .f32 X Cert.RestProjRefIdeal.Gen.bitsLt_bf16_f32)
    (extf .f32 (shapeCast _ (extractStridedSlice Cert.RestProjRefIdeal.S1x4096x8192 ![1, 0, 0] W
      Cert.RestProjRefIdeal.Gen.slices_S4x4096x8192_S1x4096x8192_1_0_0)
      Cert.RestProjRefIdeal.Gen.shapeCasts_S1x4096x8192_S4096x8192) Cert.RestProjRefIdeal.Gen.bitsLt_bf16_f32))
    Cert.RestProjRefIdeal.Gen.bitsLt_bf16_f32

/-- The block indices of the three windows. -/
theorem idx : ∀ t : Fin cfg0.N, win0_0.index t = ![(grid0.coords t 0).val, 0]
    ∧ win0_1.index t = ![1, 0, (grid0.coords t 1).val]
    ∧ win0_2.index t = ![(grid0.coords t 0).val, (grid0.coords t 1).val] :=
  (by decide +kernel : ∀ t : Fin grid0.N, _)

/-- What the body stores at an index of its block is the reference at the array index it sits at. -/
theorem point (c : Dev nD) (t : Fin cfg0.N) (y) : k0_pay1 (iblk m c 0 t) (iblk m c 1 t) y
    = REF (m ((c : Thread nD τ).loc main_arg0)) (m ((c : Thread nD τ).loc main_arg1)) (((cfg0.win 2).blk t).view.emb y) := by
  pointwise [k0_pay1, REF]
  blk_point [iblk, V, idx t]

/-- The result array after the run. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.RestProjIdeal.Value

end
-- ==== Proof.GluValue.lean ====
/- The gated unit that closes the state-space branch: the result array of the tiled kernel is the reference's gated
   activation of the scan's output, its skip, its product with the layer's weight, and the branch's gate. -/
module

public import proofs.«01_k».proof.Proof.Gen.GluIdeal.Value
public import proofs.«01_k».proof.Proof.Gen.GluRefIdeal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.GluRefIdeal.Value
open Cert.GluRefIdeal Cert.GluRefIdeal.Gen

/-- A vector over every row. -/
abbrev ROWS (B : FVec Ideal S1024 .f32) : FVec Ideal S16384x1024 .f32 :=
  broadcastInDim S16384x1024 ![0, 1] bcast_S1x1024_S16384x1024_0_1 (broadcastInDim S1x1024 ![1] bcast_S1024_S1x1024_1 B)

/-- A number at every index, from its bits. -/
abbrev ALL (w : BitVec 32) : FVec Ideal S16384x1024 .f32 :=
  broadcastInDim S16384x1024 ![] bcast_S_S16384x1024 (constant S_ .f32 w)

/-- The reference's `1 / (1 + exp (-x))`. -/
abbrev SIG (X : FVec Ideal S16384x1024 .f32) : FVec Ideal S16384x1024 .f32 :=
  Host.divf (ALL 0x3F800000#32) (addf (ALL 0x3F800000#32) (Host.exp (Host.negf X)))

/-- The scan's output and its skip. -/
abbrev SKIP (Y : FVec Ideal S16384x1024 .bf16) (P : FVec Ideal S16384x8192 .bf16) (D : FVec Ideal S1024 .f32) : FVec Ideal S16384x1024 .f32 :=
  addf (extf .f32 Y bitsLt_bf16_f32) (mulf (ROWS D)
    (extf .f32 (extractStridedSlice S16384x1024 ![0, 4096] P slices_S16384x8192_S16384x1024_0_4096) bitsLt_bf16_f32))

/-- The reference's GELU. -/
abbrev GELU (X : FVec Ideal S16384x1024 .f32) : FVec Ideal S16384x1024 .f32 :=
  mulf X (mulf (ALL 0x3F000000#32) (addf (ALL 0x3F800000#32) (Host.tanh (mulf (ALL 0x3F4C422A#32)
    (addf X (mulf (ALL 0x3D372713#32) (mulf (mulf X X) X)))))))

/-- The reference's gated unit of an activation. -/
abbrev GATED (X : FVec Ideal S16384x1024 .f32) (W : FVec Ideal S4x1024x1024 .bf16) (B : FVec Ideal S1024 .f32) : FVec Ideal S16384x1024 .f32 :=
  mulf X (SIG (addf (Host.dotGeneral dot_S16384x1024_S1024x1024_S16384x1024_1_0_0_1_n_n none X
    (extf .f32 (shapeCast _ (extractStridedSlice S1x1024x1024 ![1, 0, 0] W slices_S4x1024x1024_S1x1024x1024_1_0_0)
      shapeCasts_S1x1024x1024_S1024x1024) bitsLt_bf16_f32)) (ROWS B)))

/-- The branch's gate columns. -/
abbrev GATE (P : FVec Ideal S16384x8192 .bf16) : FVec Ideal S16384x1024 .f32 :=
  extf .f32 (extractStridedSlice S16384x1024 ![0, 5120] P slices_S16384x8192_S16384x1024_0_5120) bitsLt_bf16_f32

/-- The reference's result. -/
abbrev GLU (Y : FVec Ideal S16384x1024 .bf16) (P : FVec Ideal S16384x8192 .bf16) (D : FVec Ideal S1024 .f32)
    (W : FVec Ideal S4x1024x1024 .bf16) (B : FVec Ideal S1024 .f32) : FVec Ideal S16384x1024 .bf16 :=
  truncf .bf16 (mulf (GATED (GELU (SKIP Y P D)) W B) (mulf (GATE P) (SIG (GATE P)))) bitsLt_bf16_f32

end Cert.GluRefIdeal.Value

namespace Cert.GluIdeal.Value
open Cert.GluIdeal Cert.GluIdeal.Gen Cert.GluRefIdeal.Value

variable (m : (ℓ : Loc nD τ sig) → Buf (Elt Ideal) ℓ)

/-- The block indices of the seven windows. -/
theorem idx : ∀ t : Fin cfg0.N, win0_0.index t = ![(grid0.coords t 0).val, 0] ∧ win0_1.index t = ![(grid0.coords t 0).val, 4]
    ∧ win0_2.index t = ![(grid0.coords t 0).val, 5] ∧ win0_3.index t = ![0, 0] ∧ win0_4.index t = ![1, 0, 0]
    ∧ win0_5.index t = ![0, 0] ∧ win0_6.index t = ![(grid0.coords t 0).val, 0] :=
  (by decide +kernel : ∀ t : Fin grid0.N, _)

/-- What the body stores at an index of its block is the reference at the array index it sits at. -/
theorem point (c : Dev nD) (t : Fin cfg0.N) (y) :
    k0_pay1 (iblk m c 0 t) (iblk m c 3 t) (iblk m c 1 t) (iblk m c 4 t) (iblk m c 5 t) (iblk m c 2 t) y
    = GLU (m ((c : Thread nD τ).loc main_arg0)) (m ((c : Thread nD τ).loc main_arg1)) (m ((c : Thread nD τ).loc main_arg2))
      (m ((c : Thread nD τ).loc main_arg3)) (m ((c : Thread nD τ).loc main_arg4)) (((cfg0.win 6).blk t).view.emb y) := by
  pointwise [k0_pay1, GLU, GATE, GATED, GELU, SKIP, SIG, ALL, ROWS, Ideal.logistic]
  blk_point [iblk, V, idx t]

/-- The result array after the run. -/
theorem final (c : Dev nD) : (dats m 0 c).arrAt 6 (cfgs 0).N
    = GLU (m ((c : Thread nD τ).loc main_arg0)) (m ((c : Thread nD τ).loc main_arg1)) (m ((c : Thread nD τ).loc main_arg2))
      (m ((c : Thread nD τ).loc main_arg3)) (m ((c : Thread nD τ).loc main_arg4)) := by
  refine (dats m 0 c).arrAt_eq_of_covers 6 _ (by decide +kernel) fun t _ y => ?_
  blk_simp
  rw [after0_6]; frame_out
  exact point m c t y

end Cert.GluIdeal.Value

end
-- ==== Proof.OutValue.lean ====
/- The output projection: the result array of the tiled kernel is the reference's product of the four
   branch outputs, side by side, with the layer's weight. -/
module

public import proofs.«01_k».proof.Proof.Gen.OutProjIdeal.Value
public import proofs.«01_k».proof.Proof.Gen.OutProjRefIdeal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.OutProjIdeal.Value
open Cert.OutProjIdeal Cert.OutProjIdeal.Gen

variable (m : (ℓ : Loc nD τ sig) → Buf (Elt Ideal) ℓ)

/-- The reference's product, over the kernel's argument arrays. -/
abbrev REF (X0 X1 X2 X3 : FVec Ideal S16384x1024 .bf16) (W : FVec Ideal S4x4096x4096 .bf16) : FVec Ideal S16384x4096 .bf16 :=
  truncf .bf16 (Host.dotGeneral Cert.OutProjRefIdeal.dot_S16384x4096_S4096x4096_S16384x4096_1_0_0_1_n_n none
    (concatenate Cert.OutProjRefIdeal.S16384x4096 1
      [⟨Cert.OutProjRefIdeal.S16384x1024, ((extf .f32 X0 Cert.OutProjRefIdeal.Gen.bitsLt_bf16_f32) : FVec Ideal Cert.OutProjRefIdeal.S16384x1024 .f32)⟩,
       ⟨Cert.OutProjRefIdeal.S16384x1024, ((extf .f32 X1 Cert.OutProjRefIdeal.Gen.bitsLt_bf16_f32) : FVec Ideal Cert.OutProjRefIdeal.S16384x1024 .f32)⟩,
       ⟨Cert.OutProjRefIdeal.S16384x1024, ((extf .f32 X2 Cert.OutProjRefIdeal.Gen.bitsLt_bf16_f32) : FVec Ideal Cert.OutProjRefIdeal.S16384x1024 .f32)⟩,
       ⟨Cert.OutProjRefIdeal.S16384x1024, ((extf .f32 X3 Cert.OutProjRefIdeal.Gen.bitsLt_bf16_f32) : FVec Ideal Cert.OutProjRefIdeal.S16384x1024 .f32)⟩]
      Cert.OutProjRefIdeal.Gen.concatenates_S16384x1024_S16384x1024_S16384x1024_S16384x1024_S16384x4096_d1)
    (extf .f32 (shapeCast _ (extractStridedSlice Cert.OutProjRefIdeal.S1x4096x4096 ![1, 0, 0] W
      Cert.OutProjRefIdeal.Gen.slices_S4x4096x4096_S1x4096x4096_1_0_0)
      Cert.OutProjRefIdeal.Gen.shapeCasts_S1x4096x4096_S4096x4096) Cert.OutProjRefIdeal.Gen.bitsLt_bf16_f32))
    Cert.OutProjRefIdeal.Gen.bitsLt_bf16_f32

/-- The block indices of the six windows. -/
theorem idx : ∀ t : Fin cfg0.N, win0_0.index t = ![(grid0.coords t 0).val, 0]
    ∧ win0_1.index t = ![(grid0.coords t 0).val, 0]
    ∧ win0_2.index t = ![(grid0.coords t 0).val, 0]
    ∧ win0_3.index t = ![(grid0.coords t 0).val, 0]
    ∧ win0_4.index t = ![1, 0, (grid0.coords t 1).val]
    ∧ win0_5.index t = ![(grid0.coords t 0).val, (grid0.coords t 1).val] :=
  (by decide +kernel : ∀ t : Fin grid0.N, _)

/-- What the body stores at an index of its block is the reference at the array index it sits at. -/
theorem point (c : Dev nD) (t : Fin cfg0.N) (y) :
    k0_pay1 (iblk m c 0 t) (iblk m c 1 t) (iblk m c 2 t) (iblk m c 3 t) (iblk m c 4 t) y
    = REF (m ((c : Thread nD τ).loc main_arg0)) (m ((c : Thread nD τ).loc main_arg1)) (m ((c : Thread nD τ).loc main_arg2))
        (m ((c : Thread nD τ).loc main_arg3)) (m ((c : Thread nD τ).loc main_arg4)) (((cfg0.win 5).blk t).view.emb y) := by
  pointwise [k0_pay1, REF]
  blk_point [iblk, V, idx t]

/-- The result array after the run. -/
theorem final (c : Dev nD) : (dats m 0 c).arrAt 5 (cfgs 0).N
    = REF (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 5 _ (by decide +kernel) fun t _ y => ?_
  blk_simp
  rw [after0_5]; frame_out
  exact point m c t y

end Cert.OutProjIdeal.Value

end
-- ==== Proof.OwnsRules.lean ====
/- Loads and stores of a memref held whole by its values: a load at a rectangle of unit stride reads a window
   of the values, an unmasked store there puts the payload over that window. -/
module

public import Idealize.ShloMosaic.Lib.VecWindow
public import Idealize.ShloMosaic.Lib.Tactic

@[expose] public section

noncomputable section

namespace Idealize.ShloMosaic.OwnsRules
open Idealize.SL
open Idealize.SL.RA Idealize.SL.Sem Idealize.SL.ProofMode
open Idealize.SL.BI (sProp)
open scoped Idealize.SL.BI
open Idealize.SL.BI.BIBase Idealize.SL.BI.Laws

variable {nD : Nat} {τ : Topo} {sig : RefSig} {Ix : Type} [DecidableEq Ix]
variable {Val : EltTy → Type} {Name : Type} [DecidableEq Name] {U : Type} [URA U]
variable {Lvl : Type} {Λ : Labels} [Preorder Lvl]
local notation "𝕄" => MT nD τ sig Ix Val Name U Lvl

variable {defs : Defs nD τ sig Val Λ} (𝒱 : Variants) (c : Thread nD τ) (bd : Option 𝒱.V) (E : Set Name)
variable {cs : CoreSpace} {s : Shape} {e : EltTy} {α : Type} {Q : α → sProp (MT nD τ sig Ix Val Name U Lvl)}

/-- A load through a rectangle of unit stride reads the window there. -/
theorem load {m : Memref sig c.2.kind cs s e} (X : s.Idx → Val e) {off size : Fin s.rank → ℕ}
    {inb : ∀ a, off a + size a ≤ s.size a} {hl : m.view.LoadsAt (Rect.unit off size inb).toLoadRect}
    {k : ((Rect.unit off size inb).shape.Idx → Val e) → Prog (TpuEff nD τ sig Val Λ c.2) α} :
    (owns c m fullShare X : sProp 𝕄)
      ⊢ iprop((owns c m fullShare X -∗ wp frame (wpE defs 𝒱 c bd) E (k (VecWindow.window X off size inb)) Q)
        -∗ wp frame (wpE defs 𝒱 c bd) E (.op (.load m (Rect.unit off size inb).toLoadRect hl) k) Q) := by
  unfold owns
  iintro ⟨%f, %hf, H⟩ Hk
  iapply (wp_load 𝒱 c bd E (m := m) (r := (Rect.unit off size inb).toLoadRect) (S := m.view.set) (q := fullShare) (f := f) (Finset.map_subset_map.mpr (Finset.subset_univ _))) $$ H
  iintro H
  rw [View.readAt_unit m.view f inb rfl inb, hf]
  iapply Hk
  iexists f
  isplitr; · ipureintro; exact hf
  iexact H

/-- An unmasked store through a rectangle of unit stride puts the payload over the window there. -/
theorem store {m : Memref sig c.2.kind cs s e} (X : s.Idx → Val e) {off size : Fin s.rank → ℕ}
    {inb : ∀ a, off a + size a ≤ s.size a} {w : (Rect.unit off size inb).shape.Idx → Val e}
    {hx : (m.access (Rect.unit off size inb)).Stores Finset.univ}
    {hm : (Finset.univ : Finset (Rect.unit off size inb).shape.Idx) = Finset.univ ∨ ∀ a, (Rect.unit off size inb).stride a = 1}
    {k : PUnit → Prog (TpuEff nD τ sig Val Λ c.2) α} :
    (owns c m fullShare X : sProp 𝕄)
      ⊢ iprop((owns c m fullShare (VecWindow.put X off size w) -∗ wp frame (wpE defs 𝒱 c bd) E (k ⟨⟩) Q)
        -∗ wp frame (wpE defs 𝒱 c bd) E (.op (.store m (Rect.unit off size inb) w Finset.univ hx hm) k) Q) := by
  unfold owns
  iintro ⟨%f, %hf, H⟩ Hk
  iapply (wp_store 𝒱 c bd E (m := m) (r := Rect.unit off size inb) (S := m.view.set) (f := f) (by rw [View.setOn_univ]; exact View.set_slice_subset _ _)) $$ H
  iintro H
  iapply Hk
  iexists ((m.access (Rect.unit off size inb)).write Val f w Finset.univ)
  isplitr
  · ipureintro
    have := View.read_writes_cons_put m.view f inb w [] rfl
    rw [View.writes_nil, hf] at this
    exact this
  iexact H

end Idealize.ShloMosaic.OwnsRules

end
-- ==== Proof.FoxStep.lean ====
/- One step of the attention loop: the scores of the next tile are computed into one half of the score buffer
   while the current tile, read from the other half, updates the running maximum and the accumulator.
   A trip of the kernel's loop is eight such steps. -/
module

public import proofs.«01_k».proof.Proof.Gen.FoxIdeal.Skeleton
public import proofs.«01_k».proof.Proof.Gen.FoxIdeal.Frame
public import proofs.«01_k».proof.Proof.OwnsRules

@[expose] public section

set_option maxRecDepth 16384

noncomputable section

namespace Cert.FoxIdeal.Attn
open Cert.FoxIdeal Cert.FoxIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open VecWindow (window put)

variable {F : FTy → Type} [FloatOps F] [Named F]

/-- The tile after `p = (query tile, key tile)` in the order of the loop: the next key tile of the row, or the
first of the next row once the diagonal is done. -/
def nxt (p : BitVec 32 × BitVec 32) : BitVec 32 × BitVec 32 :=
  (Scalar.select (Scalar.cmpi .eq p.2 p.1) (Scalar.addi p.1 1#32) p.1,
    Scalar.select (Scalar.cmpi .eq p.2 p.1) 0#32 (Scalar.addi p.2 1#32))

/-- The `n`-th tile. -/
def tile (n : ℕ) : BitVec 32 × BitVec 32 := Nat.rec (0#32, 0#32) (fun _ p => nxt p) n

/-- Where a step reads and writes: the rows of the next queries and keys and of their extra columns, the rows of
the current values, and the rows of the accumulator. -/
structure Offs where
  q : Fin 3 → ℕ
  qx : Fin 4 → ℕ
  k : Fin 3 → ℕ
  kx : Fin 4 → ℕ
  v : Fin 3 → ℕ
  acc : Fin 2 → ℕ
deriving DecidableEq

/-- The windows of a step lie inside their buffers. -/
abbrev StepOK (o : Offs) : Prop :=
  (∀ a, o.q a + S1x512x128.size a ≤ S1x8192x128.size a)
  ∧ (∀ a, o.qx a + S1x1x512x128.size a ≤ S1x1x8192x128.size a)
  ∧ (∀ a, o.k a + S1x512x128.size a ≤ S1x8192x128.size a)
  ∧ (∀ a, o.kx a + S1x1x512x128.size a ≤ S1x1x8192x128.size a)
  ∧ (∀ a, o.v a + S1x512x128.size a ≤ S1x8192x128.size a)
  ∧ (∀ a, o.acc a + S512x256.size a ≤ S8192x256.size a)

/-- One half of the score buffer. -/
abbrev SlotOK (o : Fin 3 → ℕ) : Prop := ∀ a, o a + S1x512x512.size a ≤ S2x512x512.size a

section Program
variable (arg2 : Memref sig .tc .vmem S1x8192x128 .bf16) (arg3 : Memref sig .tc .vmem S1x1x8192x128 .bf16)
  (arg4 : Memref sig .tc .vmem S1x8192x128 .bf16) (arg5 : Memref sig .tc .vmem S1x1x8192x128 .bf16)
  (arg6 : Memref sig .tc .vmem S1x8192x128 .bf16) (arg9 : Memref sig .tc .vmem S2x512x512 .f32)
  (arg10 : Memref sig .tc .vmem S512x128 .f32) (arg11 : Memref sig .tc .vmem S8192x256 .f32)
  (v8 : FVec F S512x128 .bf16) (v11 : IVec S512x512 32)

/-- The memory operations of one step. -/
def stepProg (o : Offs) (h : StepOK o) (x y : BitVec 32) (w r : Fin 3 → ℕ) (hw : SlotOK w) (hr : SlotOK r) :
    Prog (TpuEff nD τ sig (Elt F) Λ₀ .tc) PUnit := do
  let q : Vec F S1x512x128 .bf16 ← Prog.lift (.load arg2 (Rect.unit (s := S1x8192x128) o.q S1x512x128.size h.1).toLoadRect (View.loadsAt_vmem h_S1x512x128))
  let qx : Vec F S1x1x512x128 .bf16 ← Prog.lift (.load arg3 (Rect.unit (s := S1x1x8192x128) o.qx S1x1x512x128.size h.2.1).toLoadRect (View.loadsAt_vmem h_S1x1x512x128))
  let k : Vec F S1x512x128 .bf16 ← Prog.lift (.load arg4 (Rect.unit (s := S1x8192x128) o.k S1x512x128.size h.2.2.1).toLoadRect (View.loadsAt_vmem h_S1x512x128))
  let kx : Vec F S1x1x512x128 .bf16 ← Prog.lift (.load arg5 (Rect.unit (s := S1x1x8192x128) o.kx S1x1x512x128.size h.2.2.2.1).toLoadRect (View.loadsAt_vmem h_S1x1x512x128))
  let _ : Vec F S1x512x512 .f32 ← Prog.lift (.load arg9 (Rect.unit (s := S2x512x512) w S1x512x512.size hw).toLoadRect (View.loadsAt_vmem h_S1x512x512))
  Prog.lift (.store arg9 (Rect.unit (s := S2x512x512) w S1x512x512.size hw) (k0_pay5 q qx k kx) Finset.univ (View.stores_vmem_bits_univ h_S1x512x512 rfl) (.inl rfl))
  let v : Vec F S1x512x128 .bf16 ← Prog.lift (.load arg6 (Rect.unit (s := S1x8192x128) o.v S1x512x128.size h.2.2.2.2.1).toLoadRect (View.loadsAt_vmem h_S1x512x128))
  let s : Vec F S1x512x512 .f32 ← Prog.lift (.load arg9 (Rect.unit (s := S2x512x512) r S1x512x512.size hr).toLoadRect (View.loadsAt_vmem h_S1x512x512))
  let mx : Vec F S512x128 .f32 ← Prog.lift (.load arg10 (Rect.unit (s := S512x128) ![0, 0] S512x128.size inb_S512x128_S512x128_0_0).toLoadRect (View.loadsAt_vmem h_S512x128))
  let acc : Vec F S512x256 .f32 ← Prog.lift (.load arg11 (Rect.unit (s := S8192x256) o.acc S512x256.size h.2.2.2.2.2).toLoadRect (View.loadsAt_vmem h_S512x256))
  let _ : Vec F S512x256 .f32 ← Prog.lift (.load arg11 (Rect.unit (s := S8192x256) o.acc S512x256.size h.2.2.2.2.2).toLoadRect (View.loadsAt_vmem h_S512x256))
  Prog.lift (.store arg11 (Rect.unit (s := S8192x256) o.acc S512x256.size h.2.2.2.2.2) (k0_pay9 v8 v11 x y v s mx acc) Finset.univ (View.stores_vmem_bits_univ h_S512x256 rfl) (.inl rfl))
  let _ : Vec F S512x128 .f32 ← Prog.lift (.load arg10 (Rect.unit (s := S512x128) ![0, 0] S512x128.size inb_S512x128_S512x128_0_0).toLoadRect (View.loadsAt_vmem h_S512x128))
  Prog.lift (.store arg10 (Rect.unit (s := S512x128) ![0, 0] S512x128.size inb_S512x128_S512x128_0_0) (k0_pay10 (k0_pay8 v11 x y s mx)) Finset.univ (View.stores_vmem_bits_univ h_S512x128 rfl) (.inl rfl))

end Program

/-- The contents of the three scratch buffers. -/
structure St (F : FTy → Type) where
  scores : Vec F S2x512x512 .f32
  mx : Vec F S512x128 .f32
  acc : Vec F S8192x256 .f32

/-- What one step leaves in the scratch buffers. -/
def step (q : Vec F S1x8192x128 .bf16) (qx : Vec F S1x1x8192x128 .bf16) (k : Vec F S1x8192x128 .bf16) (kx : Vec F S1x1x8192x128 .bf16)
    (v : Vec F S1x8192x128 .bf16) (o : Offs) (h : StepOK o) (x y : BitVec 32) (w r : Fin 3 → ℕ) (hw : SlotOK w) (hr : SlotOK r)
    (σ : St F) : St F where
  scores := put σ.scores w S1x512x512.size (k0_pay5 (window q o.q S1x512x128.size h.1) (window qx o.qx S1x1x512x128.size h.2.1)
    (window k o.k S1x512x128.size h.2.2.1) (window kx o.kx S1x1x512x128.size h.2.2.2.1))
  mx := put σ.mx ![0, 0] S512x128.size (k0_pay10 (k0_pay8 k0_pay74 x y
    (window (put σ.scores w S1x512x512.size (k0_pay5 (window q o.q S1x512x128.size h.1) (window qx o.qx S1x1x512x128.size h.2.1)
      (window k o.k S1x512x128.size h.2.2.1) (window kx o.kx S1x1x512x128.size h.2.2.2.1))) r S1x512x512.size hr)
    (window σ.mx ![0, 0] S512x128.size inb_S512x128_S512x128_0_0)))
  acc := put σ.acc o.acc S512x256.size (k0_pay9 (k0_pay73 (F := F)) k0_pay74 x y (window v o.v S1x512x128.size h.2.2.2.2.1)
    (window (put σ.scores w S1x512x512.size (k0_pay5 (window q o.q S1x512x128.size h.1) (window qx o.qx S1x1x512x128.size h.2.1)
      (window k o.k S1x512x128.size h.2.2.1) (window kx o.kx S1x1x512x128.size h.2.2.2.1))) r S1x512x512.size hr)
    (window σ.mx ![0, 0] S512x128.size inb_S512x128_S512x128_0_0) (window σ.acc o.acc S512x256.size h.2.2.2.2.2))

local notation "𝕄" => MT nD τ sig Unit (Elt F) ℕ (UR sig nD τ) ℕ

section Triple
variable (c : Dev nD) (arg2 : Memref sig .tc .vmem S1x8192x128 .bf16) (arg3 : Memref sig .tc .vmem S1x1x8192x128 .bf16)
  (arg4 : Memref sig .tc .vmem S1x8192x128 .bf16) (arg5 : Memref sig .tc .vmem S1x1x8192x128 .bf16)
  (arg6 : Memref sig .tc .vmem S1x8192x128 .bf16) (arg9 : Memref sig .tc .vmem S2x512x512 .f32)
  (arg10 : Memref sig .tc .vmem S512x128 .f32) (arg11 : Memref sig .tc .vmem S8192x256 .f32)
  (q : Vec F S1x8192x128 .bf16) (qx : Vec F S1x1x8192x128 .bf16) (k : Vec F S1x8192x128 .bf16) (kx : Vec F S1x1x8192x128 .bf16)
  (v : Vec F S1x8192x128 .bf16)

/-- The operand blocks and the scratch buffers at their contents. -/
def Held (σ : St F) : sProp 𝕄 :=
  iprop(owns (c : Thread nD τ) arg2 fullShare q ∗ owns (c : Thread nD τ) arg3 fullShare qx ∗ owns (c : Thread nD τ) arg4 fullShare k
    ∗ owns (c : Thread nD τ) arg5 fullShare kx ∗ owns (c : Thread nD τ) arg6 fullShare v
    ∗ owns (c : Thread nD τ) arg9 fullShare σ.scores ∗ owns (c : Thread nD τ) arg10 fullShare σ.mx ∗ owns (c : Thread nD τ) arg11 fullShare σ.acc)

/-- One step takes the scratch buffers from `σ` to `step … σ`. -/
theorem step_sound (E : Set ℕ) (o : Offs) (h : StepOK o) (x y : BitVec 32) (w r : Fin 3 → ℕ) (hw : SlotOK w) (hr : SlotOK r)
    (σ : St F) (K : PUnit → sProp 𝕄) :
    iprop(Held c arg2 arg3 arg4 arg5 arg6 arg9 arg10 arg11 q qx k kx v σ
      ∗ (Held c arg2 arg3 arg4 arg5 arg6 arg9 arg10 arg11 q qx k kx v (step q qx k kx v o h x y w r hw hr σ) -∗ K ⟨⟩))
    ⊢ wp frame (wpE (defs₀ (F := F)) Variants.none c none) E
        (stepProg arg2 arg3 arg4 arg5 arg6 arg9 arg10 arg11 (k0_pay73 (F := F)) k0_pay74 o h x y w r hw hr) K := by
  unfold stepProg Held step
  simp only [Prog.lift, Prog.bind_op, Prog.bind_ret]
  iintro ⟨⟨H2, H3, H4, H5, H6, H9, H10, H11⟩, Hk⟩
  iapply (OwnsRules.load _ _ _ _ q) $$ H2; iintro H2
  iapply (OwnsRules.load _ _ _ _ qx) $$ H3; iintro H3
  iapply (OwnsRules.load _ _ _ _ k) $$ H4; iintro H4
  iapply (OwnsRules.load _ _ _ _ kx) $$ H5; iintro H5
  iapply (OwnsRules.load _ _ _ _ σ.scores) $$ H9; iintro H9
  iapply (OwnsRules.store _ _ _ _ σ.scores) $$ H9; iintro H9
  iapply (OwnsRules.load _ _ _ _ v) $$ H6; iintro H6
  iapply (OwnsRules.load _ _ _ _ _) $$ H9; iintro H9
  iapply (OwnsRules.load _ _ _ _ σ.mx) $$ H10; iintro H10
  iapply (OwnsRules.load _ _ _ _ σ.acc) $$ H11; iintro H11
  iapply (OwnsRules.load _ _ _ _ σ.acc) $$ H11; iintro H11
  iapply (OwnsRules.store _ _ _ _ σ.acc) $$ H11; iintro H11
  iapply (OwnsRules.load _ _ _ _ σ.mx) $$ H10; iintro H10
  iapply (OwnsRules.store _ _ _ _ σ.mx) $$ H10; iintro H10
  rw [wp_ret]; imodintro
  iapply Hk
  isplitl [H2]; · iexact H2
  isplitl [H3]; · iexact H3
  isplitl [H4]; · iexact H4
  isplitl [H5]; · iexact H5
  isplitl [H6]; · iexact H6
  isplitl [H9]; · iexact H9
  isplitl [H10]; · iexact H10
  iexact H11

end Triple

end Cert.FoxIdeal.Attn

end
-- ==== Proof.FoxTrip.lean ====
/- The first loop of the attention kernel: its trip is two checks and eight steps, and its seventeen trips take the
   scratch buffers through the tiles in order. -/
module

public import proofs.«01_k».proof.Proof.FoxStep

@[expose] public section

set_option maxRecDepth 16384

noncomputable section

namespace Cert.FoxIdeal.Attn
open Cert.FoxIdeal Cert.FoxIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

/-- The two halves of the score buffer. -/
abbrev s0 : Fin 3 → ℕ := ![0, 0, 0]
abbrev s1 : Fin 3 → ℕ := ![1, 0, 0]

/-- The half of the score buffer the scores of the `n`-th tile lie in. -/
def slot (n : ℕ) : Fin 3 → ℕ := ![n % 2, 0, 0]

theorem slot_ok (n : ℕ) : SlotOK (slot n) := by
  intro a; fin_cases a <;> simp [slot, S1x512x512, S2x512x512] <;> omega

/-- The `n`-th tile in numbers: its query tile and its key tile. -/
def T (n : ℕ) : ℕ × ℕ := Nat.rec (0, 0) (fun _ p => if p.2 = p.1 then (p.1 + 1, 0) else (p.1, p.2 + 1)) n

/-- The `n`-th step's windows. -/
def offs (n : ℕ) : Offs where
  q := ![0, 512 * min (T (n + 1)).1 15, 0]
  qx := ![0, 0, 512 * min (T (n + 1)).1 15, 0]
  k := ![0, 512 * min (T (n + 1)).2 15, 0]
  kx := ![0, 0, 512 * min (T (n + 1)).2 15, 0]
  v := ![0, 512 * min (T n).2 15, 0]
  acc := ![512 * min (T n).1 15, 0]

theorem offs_ok (n : ℕ) : StepOK (offs n) := by
  refine ⟨?_, ?_, ?_, ?_, ?_, ?_⟩ <;> intro a <;> fin_cases a <;>
    simp [offs, S1x512x128, S1x8192x128, S1x1x512x128, S1x1x8192x128, S512x256, S8192x256] <;> omega

/-- The windows of the eight steps of a trip that starts at tile `(a, b)`, as the kernel computes them. -/
def tripOffs (a b : BitVec 32) : Fin 8 → Offs :=
  ![⟨k0_off1 a b, k0_off2 a b, k0_off3 a b, k0_off4 a b, k0_off5 b, k0_off6 a⟩,
    ⟨k0_off7 a b, k0_off8 a b, k0_off9 a b, k0_off10 a b, k0_off3 a b, k0_off11 a b⟩,
    ⟨k0_off12 a b, k0_off13 a b, k0_off14 a b, k0_off15 a b, k0_off9 a b, k0_off16 a b⟩,
    ⟨k0_off17 a b, k0_off18 a b, k0_off19 a b, k0_off20 a b, k0_off14 a b, k0_off21 a b⟩,
    ⟨k0_off22 a b, k0_off23 a b, k0_off24 a b, k0_off25 a b, k0_off19 a b, k0_off26 a b⟩,
    ⟨k0_off27 a b, k0_off28 a b, k0_off29 a b, k0_off30 a b, k0_off24 a b, k0_off31 a b⟩,
    ⟨k0_off32 a b, k0_off33 a b, k0_off34 a b, k0_off35 a b, k0_off29 a b, k0_off36 a b⟩,
    ⟨k0_off37 a b, k0_off38 a b, k0_off39 a b, k0_off40 a b, k0_off34 a b, k0_off41 a b⟩]

/-- The tiles of the eight steps of such a trip and of the step after it, as the kernel computes them. -/
def tripTiles (a b : BitVec 32) : Fin 9 → BitVec 32 × BitVec 32 :=
  let x1 := Scalar.select (Scalar.cmpi .eq b a) (Scalar.addi a 1#32) a
  let y1 := Scalar.select (Scalar.cmpi .eq b a) 0#32 (Scalar.addi b 1#32)
  let x2 := Scalar.select (Scalar.cmpi .eq y1 x1) (Scalar.addi x1 1#32) x1
  let y2 := Scalar.select (Scalar.cmpi .eq y1 x1) 0#32 (Scalar.addi y1 1#32)
  let x3 := Scalar.select (Scalar.cmpi .eq y2 x2) (Scalar.addi x2 1#32) x2
  let y3 := Scalar.select (Scalar.cmpi .eq y2 x2) 0#32 (Scalar.addi y2 1#32)
  let x4 := Scalar.select (Scalar.cmpi .eq y3 x3) (Scalar.addi x3 1#32) x3
  let y4 := Scalar.select (Scalar.cmpi .eq y3 x3) 0#32 (Scalar.addi y3 1#32)
  let x5 := Scalar.select (Scalar.cmpi .eq y4 x4) (Scalar.addi x4 1#32) x4
  let y5 := Scalar.select (Scalar.cmpi .eq y4 x4) 0#32 (Scalar.addi y4 1#32)
  let x6 := Scalar.select (Scalar.cmpi .eq y5 x5) (Scalar.addi x5 1#32) x5
  let y6 := Scalar.select (Scalar.cmpi .eq y5 x5) 0#32 (Scalar.addi y5 1#32)
  let x7 := Scalar.select (Scalar.cmpi .eq y6 x6) (Scalar.addi x6 1#32) x6
  let y7 := Scalar.select (Scalar.cmpi .eq y6 x6) 0#32 (Scalar.addi y6 1#32)
  let x8 := Scalar.select (Scalar.cmpi .eq y7 x7) (Scalar.addi x7 1#32) x7
  let y8 := Scalar.select (Scalar.cmpi .eq y7 x7) 0#32 (Scalar.addi y7 1#32)
  ![(a, b), (x1, y1), (x2, y2), (x3, y3), (x4, y4), (x5, y5), (x6, y6), (x7, y7), (x8, y8)]

set_option maxHeartbeats 4000000 in
seal Scalar.select Scalar.cmpi Scalar.addi in
/-- The region of the loop, as its checks and its eight steps. -/
theorem trip_eq (i : grid0.Coords) (arg2 : Memref sig .tc .vmem S1x8192x128 .bf16) (harg2 : arg2.IsWhole) (arg3 : Memref sig .tc .vmem S1x1x8192x128 .bf16) (harg3 : arg3.IsWhole)
    (arg4 : Memref sig .tc .vmem S1x8192x128 .bf16) (harg4 : arg4.IsWhole) (arg5 : Memref sig .tc .vmem S1x1x8192x128 .bf16) (harg5 : arg5.IsWhole)
    (arg6 : Memref sig .tc .vmem S1x8192x128 .bf16) (harg6 : arg6.IsWhole) (arg7 : Memref sig .tc .vmem S1x8192x128 .bf16) (harg7 : arg7.IsWhole)
    (arg8 : Memref sig .tc .vmem S1x8192x128 .bf16) (harg8 : arg8.IsWhole) (arg9 : Memref sig .tc .vmem S2x512x512 .f32) (harg9 : arg9.IsWhole)
    (arg10 : Memref sig .tc .vmem S512x128 .f32) (harg10 : arg10.IsWhole) (arg11 : Memref sig .tc .vmem S8192x256 .f32) (harg11 : arg11.IsWhole)
    (v8 : FVec F S512x128 .bf16) (v11 : IVec S512x512 32) (t : Fin k0_t1_loop.trips) (a b : BitVec 32) :
    k0_t1_body i arg2 harg2 arg3 harg3 arg4 harg4 arg5 harg5 arg6 harg6 arg7 harg7 arg8 harg8 arg9 harg9 arg10 harg10 arg11 harg11 v8 v11 t (a, b)
    = .op (.assume (k0_chk2 a) (k0_chk2.dec a)) fun h2 => .op (.assume (k0_chk1 a b) (k0_chk1.dec a b)) fun h1 =>
      stepProg arg2 arg3 arg4 arg5 arg6 arg9 arg10 arg11 v8 v11 (tripOffs a b 0)
        ⟨k0_off1_inb a b h1.down, k0_off2_inb a b h1.down, k0_off3_inb a b h1.down, k0_off4_inb a b h1.down, k0_off5_inb a b h1.down, k0_off6_inb a h2.down⟩ (tripTiles a b 0).1 (tripTiles a b 0).2 s1 s0 inb_S2x512x512_S1x512x512_1_0_0 inb_S2x512x512_S1x512x512_0_0_0 >>= fun _ =>
      stepProg arg2 arg3 arg4 arg5 arg6 arg9 arg10 arg11 v8 v11 (tripOffs a b 1)
        ⟨k0_off7_inb a b h1.down, k0_off8_inb a b h1.down, k0_off9_inb a b h1.down, k0_off10_inb a b h1.down, k0_off3_inb a b h1.down, k0_off11_inb a b h1.down⟩ (tripTiles a b 1).1 (tripTiles a b 1).2 s0 s1 inb_S2x512x512_S1x512x512_0_0_0 inb_S2x512x512_S1x512x512_1_0_0 >>= fun _ =>
      stepProg arg2 arg3 arg4 arg5 arg6 arg9 arg10 arg11 v8 v11 (tripOffs a b 2)
        ⟨k0_off12_inb a b h1.down, k0_off13_inb a b h1.down, k0_off14_inb a b h1.down, k0_off15_inb a b h1.down, k0_off9_inb a b h1.down, k0_off16_inb a b h1.down⟩ (tripTiles a b 2).1 (tripTiles a b 2).2 s1 s0 inb_S2x512x512_S1x512x512_1_0_0 inb_S2x512x512_S1x512x512_0_0_0 >>= fun _ =>
      stepProg arg2 arg3 arg4 arg5 arg6 arg9 arg10 arg11 v8 v11 (tripOffs a b 3)
        ⟨k0_off17_inb a b h1.down, k0_off18_inb a b h1.down, k0_off19_inb a b h1.down, k0_off20_inb a b h1.down, k0_off14_inb a b h1.down, k0_off21_inb a b h1.down⟩ (tripTiles a b 3).1 (tripTiles a b 3).2 s0 s1 inb_S2x512x512_S1x512x512_0_0_0 inb_S2x512x512_S1x512x512_1_0_0 >>= fun _ =>
      stepProg arg2 arg3 arg4 arg5 arg6 arg9 arg10 arg11 v8 v11 (tripOffs a b 4)
        ⟨k0_off22_inb a b h1.down, k0_off23_inb a b h1.down, k0_off24_inb a b h1.down, k0_off25_inb a b h1.down, k0_off19_inb a b h1.down, k0_off26_inb a b h1.down⟩ (tripTiles a b 4).1 (tripTiles a b 4).2 s1 s0 inb_S2x512x512_S1x512x512_1_0_0 inb_S2x512x512_S1x512x512_0_0_0 >>= fun _ =>
      stepProg arg2 arg3 arg4 arg5 arg6 arg9 arg10 arg11 v8 v11 (tripOffs a b 5)
        ⟨k0_off27_inb a b h1.down, k0_off28_inb a b h1.down, k0_off29_inb a b h1.down, k0_off30_inb a b h1.down, k0_off24_inb a b h1.down, k0_off31_inb a b h1.down⟩ (tripTiles a b 5).1 (tripTiles a b 5).2 s0 s1 inb_S2x512x512_S1x512x512_0_0_0 inb_S2x512x512_S1x512x512_1_0_0 >>= fun _ =>
      stepProg arg2 arg3 arg4 arg5 arg6 arg9 arg10 arg11 v8 v11 (tripOffs a b 6)
        ⟨k0_off32_inb a b h1.down, k0_off33_inb a b h1.down, k0_off34_inb a b h1.down, k0_off35_inb a b h1.down, k0_off29_inb a b h1.down, k0_off36_inb a b h1.down⟩ (tripTiles a b 6).1 (tripTiles a b 6).2 s1 s0 inb_S2x512x512_S1x512x512_1_0_0 inb_S2x512x512_S1x512x512_0_0_0 >>= fun _ =>
      stepProg arg2 arg3 arg4 arg5 arg6 arg9 arg10 arg11 v8 v11 (tripOffs a b 7)
        ⟨k0_off37_inb a b h1.down, k0_off38_inb a b h1.down, k0_off39_inb a b h1.down, k0_off40_inb a b h1.down, k0_off34_inb a b h1.down, k0_off41_inb a b h1.down⟩ (tripTiles a b 7).1 (tripTiles a b 7).2 s0 s1 inb_S2x512x512_S1x512x512_0_0_0 inb_S2x512x512_S1x512x512_1_0_0 >>= fun _ =>
      .ret (tripTiles a b 8) := by
  rfl

/-- The loop makes seventeen trips. -/
theorem trips1 : k0_t1_loop.trips = 17 := by decide +kernel

/-- The checks of every trip hold. -/
theorem chks : ∀ k : Fin 17, k0_chk2 (tile (8 * k.val)).1 ∧ k0_chk1 (tile (8 * k.val)).1 (tile (8 * k.val)).2 := by
  decide +kernel

/-- They are the windows of the steps in order. -/
theorem tripOffs_eq : ∀ (k : Fin 17) (j : Fin 8), tripOffs (tile (8 * k.val)).1 (tile (8 * k.val)).2 j = offs (8 * k.val + j.val) := by
  decide +kernel

/-- They are the tiles in order. -/
theorem tripTiles_eq : ∀ (k : Fin 17) (j : Fin 9), tripTiles (tile (8 * k.val)).1 (tile (8 * k.val)).2 j = tile (8 * k.val + j.val) := by
  decide +kernel

section Triple
variable (q : Vec F S1x8192x128 .bf16) (qx : Vec F S1x1x8192x128 .bf16) (k : Vec F S1x8192x128 .bf16) (kx : Vec F S1x1x8192x128 .bf16)
  (v : Vec F S1x8192x128 .bf16)

/-- The half a tile of even or odd number lies in. -/
theorem slot_even {n : ℕ} (h : n % 2 = 0) : s0 = slot n := by simp [s0, slot, h]
theorem slot_odd {n : ℕ} (h : n % 2 = 1) : s1 = slot n := by simp [s1, slot, h]

/-- The `n`-th step. -/
def stepN (n : ℕ) (σ : St F) : St F :=
  step q qx k kx v (offs n) (offs_ok n) (tile n).1 (tile n).2 (slot (n + 1)) (slot n) (slot_ok _) (slot_ok _) σ

/-- The scratch buffers after the first `n` steps from `σ`. -/
def stAt (σ : St F) (n : ℕ) : St F := Nat.rec σ (fun n σ => stepN q qx k kx v n σ) n

variable (c : Dev nD) (arg2 : Memref sig .tc .vmem S1x8192x128 .bf16) (arg3 : Memref sig .tc .vmem S1x1x8192x128 .bf16)
  (arg4 : Memref sig .tc .vmem S1x8192x128 .bf16) (arg5 : Memref sig .tc .vmem S1x1x8192x128 .bf16)
  (arg6 : Memref sig .tc .vmem S1x8192x128 .bf16) (arg9 : Memref sig .tc .vmem S2x512x512 .f32)
  (arg10 : Memref sig .tc .vmem S512x128 .f32) (arg11 : Memref sig .tc .vmem S8192x256 .f32)

local notation "𝕄" => MT nD τ sig Unit (Elt F) ℕ (UR sig nD τ) ℕ

/-- The `n`-th step at the head of a program. -/
theorem stepN_bind {β : Type} (E : Set ℕ) (n : ℕ) (o : Offs) (h : StepOK o) (x y : BitVec 32) (w r : Fin 3 → ℕ) (hw : SlotOK w) (hr : SlotOK r)
    (ho : o = offs n) (hx : x = (tile n).1) (hy : y = (tile n).2) (hw' : w = slot (n + 1)) (hr' : r = slot n) (σ : St F)
    (kk : PUnit → Prog (TpuEff nD τ sig (Elt F) Λ₀ .tc) β) (K : β → sProp 𝕄) :
    Held c arg2 arg3 arg4 arg5 arg6 arg9 arg10 arg11 q qx k kx v (stAt q qx k kx v σ n)
    ⊢ iprop((Held c arg2 arg3 arg4 arg5 arg6 arg9 arg10 arg11 q qx k kx v (stAt q qx k kx v σ (n + 1))
        -∗ wp frame (wpE (defs₀ (F := F)) Variants.none c none) E (kk ⟨⟩) K)
      -∗ wp frame (wpE (defs₀ (F := F)) Variants.none c none) E
        (stepProg arg2 arg3 arg4 arg5 arg6 arg9 arg10 arg11 (k0_pay73 (F := F)) k0_pay74 o h x y w r hw hr >>= kk) K) := by
  subst ho hx hy hw' hr'
  rw [wp_bind]
  iintro H Hk
  iapply (step_sound c arg2 arg3 arg4 arg5 arg6 arg9 arg10 arg11 q qx k kx v E (offs n) h (tile n).1 (tile n).2 (slot (n + 1)) (slot n) hw hr
    (stAt q qx k kx v σ n) _)
  isplitl [H]
  · iexact H
  · iexact Hk

set_option maxHeartbeats 4000000 in
seal Scalar.select Scalar.cmpi Scalar.addi in
/-- A trip of the loop is eight steps. -/
theorem trip_sound (E : Set ℕ) (i : grid0.Coords) (harg2 : arg2.IsWhole) (harg3 : arg3.IsWhole) (harg4 : arg4.IsWhole) (harg5 : arg5.IsWhole)
    (harg6 : arg6.IsWhole) (arg7 : Memref sig .tc .vmem S1x8192x128 .bf16) (harg7 : arg7.IsWhole)
    (arg8 : Memref sig .tc .vmem S1x8192x128 .bf16) (harg8 : arg8.IsWhole) (harg9 : arg9.IsWhole) (harg10 : arg10.IsWhole) (harg11 : arg11.IsWhole)
    (t : Fin k0_t1_loop.trips) (σ : St F) :
    Held c arg2 arg3 arg4 arg5 arg6 arg9 arg10 arg11 q qx k kx v (stAt q qx k kx v σ (8 * t.val))
    ⊢ wp frame (wpE (defs₀ (F := F)) Variants.none c none) E
      (k0_t1_body i arg2 harg2 arg3 harg3 arg4 harg4 arg5 harg5 arg6 harg6 arg7 harg7 arg8 harg8 arg9 harg9 arg10 harg10 arg11 harg11
        (k0_pay73 (F := F)) k0_pay74 t (tile (8 * t.val)))
      (fun p => iprop(⌜p = tile (8 * (t.val + 1))⌝
        ∗ Held c arg2 arg3 arg4 arg5 arg6 arg9 arg10 arg11 q qx k kx v (stAt q qx k kx v σ (8 * (t.val + 1))))) := by
  have ht : t.val < 17 := trips1 ▸ t.isLt
  have hc := chks ⟨t.val, ht⟩
  have ho := tripOffs_eq ⟨t.val, ht⟩
  have hw := tripTiles_eq ⟨t.val, ht⟩
  rw [show tile (8 * t.val) = ((tile (8 * t.val)).1, (tile (8 * t.val)).2) from rfl, trip_eq]
  iintro H
  iapply (wp_assume Variants.none c none E hc.1)
  iapply (wp_assume Variants.none c none E hc.2)
  iapply (stepN_bind q qx k kx v c arg2 arg3 arg4 arg5 arg6 arg9 arg10 arg11 E (8 * t.val + 0) _ _ _ _ _ _ _ _ (ho 0) (congrArg Prod.fst (hw 0)) (congrArg Prod.snd (hw 0))
    (slot_odd (by omega)) (slot_even (by omega)) σ _ _) $$ H; iintro H
  iapply (stepN_bind q qx k kx v c arg2 arg3 arg4 arg5 arg6 arg9 arg10 arg11 E (8 * t.val + 1) _ _ _ _ _ _ _ _ (ho 1) (congrArg Prod.fst (hw 1)) (congrArg Prod.snd (hw 1))
    (slot_even (by omega)) (slot_odd (by omega)) σ _ _) $$ H; iintro H
  iapply (stepN_bind q qx k kx v c arg2 arg3 arg4 arg5 arg6 arg9 arg10 arg11 E (8 * t.val + 2) _ _ _ _ _ _ _ _ (ho 2) (congrArg Prod.fst (hw 2)) (congrArg Prod.snd (hw 2))
    (slot_odd (by omega)) (slot_even (by omega)) σ _ _) $$ H; iintro H
  iapply (stepN_bind q qx k kx v c arg2 arg3 arg4 arg5 arg6 arg9 arg10 arg11 E (8 * t.val + 3) _ _ _ _ _ _ _ _ (ho 3) (congrArg Prod.fst (hw 3)) (congrArg Prod.snd (hw 3))
    (slot_even (by omega)) (slot_odd (by omega)) σ _ _) $$ H; iintro H
  iapply (stepN_bind q qx k kx v c arg2 arg3 arg4 arg5 arg6 arg9 arg10 arg11 E (8 * t.val + 4) _ _ _ _ _ _ _ _ (ho 4) (congrArg Prod.fst (hw 4)) (congrArg Prod.snd (hw 4))
    (slot_odd (by omega)) (slot_even (by omega)) σ _ _) $$ H; iintro H
  iapply (stepN_bind q qx k kx v c arg2 arg3 arg4 arg5 arg6 arg9 arg10 arg11 E (8 * t.val + 5) _ _ _ _ _ _ _ _ (ho 5) (congrArg Prod.fst (hw 5)) (congrArg Prod.snd (hw 5))
    (slot_even (by omega)) (slot_odd (by omega)) σ _ _) $$ H; iintro H
  iapply (stepN_bind q qx k kx v c arg2 arg3 arg4 arg5 arg6 arg9 arg10 arg11 E (8 * t.val + 6) _ _ _ _ _ _ _ _ (ho 6) (congrArg Prod.fst (hw 6)) (congrArg Prod.snd (hw 6))
    (slot_odd (by omega)) (slot_even (by omega)) σ _ _) $$ H; iintro H
  iapply (stepN_bind q qx k kx v c arg2 arg3 arg4 arg5 arg6 arg9 arg10 arg11 E (8 * t.val + 7) _ _ _ _ _ _ _ _ (ho 7) (congrArg Prod.fst (hw 7)) (congrArg Prod.snd (hw 7))
    (slot_even (by omega)) (slot_odd (by omega)) σ _ _) $$ H; iintro H
  rw [wp_ret]; imodintro
  isplitr
  · ipureintro; exact hw 8
  · iexact H

end Triple

end Cert.FoxIdeal.Attn

end
-- ==== Proof.FoxBody.lean ====
/- The body of the attention kernel: the first scores, the loop over the tiles, and the loop that divides and gates
   the rows of the accumulator. What it leaves in the output block is one function of its operand blocks. -/
module

public import proofs.«01_k».proof.Proof.FoxTrip

@[expose] public section

set_option maxRecDepth 16384

noncomputable section

namespace Cert.FoxIdeal.Attn
open Cert.FoxIdeal Cert.FoxIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open VecWindow (window put)

variable {F : FTy → Type} [FloatOps F] [Named F]

section Value
variable (q : Vec F S1x8192x128 .bf16) (qx : Vec F S1x1x8192x128 .bf16) (k : Vec F S1x8192x128 .bf16) (kx : Vec F S1x1x8192x128 .bf16)
  (v : Vec F S1x8192x128 .bf16) (g : Vec F S1x8192x128 .bf16)

/-- The scratch buffers before the loop, over a score buffer that held `X`. -/
def start (X : Vec F S2x512x512 .f32) : St F where
  scores := put X ![0, 0, 0] S1x512x512.size (k0_pay1 (k0_pay75 (window q ![0, 0, 0] S1x512x128.size inb_S1x8192x128_S1x512x128_0_0_0)
    (window qx ![0, 0, 0, 0] S1x1x512x128.size inb_S1x1x8192x128_S1x1x512x128_0_0_0_0)
    (window k ![0, 0, 0] S1x512x128.size inb_S1x8192x128_S1x512x128_0_0_0)
    (window kx ![0, 0, 0, 0] S1x1x512x128.size inb_S1x1x8192x128_S1x1x512x128_0_0_0_0)))
  mx := k0_pay72 (F := F)
  acc := k0_pay71 (F := F)

/-- The rows of the `n`-th block of 512. -/
def rowsA (n : ℕ) : Fin 2 → ℕ := ![512 * min n 15, 0]
def rowsB (n : ℕ) : Fin 3 → ℕ := ![0, 512 * min n 15, 0]

theorem rowsA_ok (n : ℕ) : ∀ a, rowsA n a + S512x256.size a ≤ S8192x256.size a := by
  intro a; fin_cases a <;> simp [rowsA, S512x256, S8192x256] <;> omega

theorem rowsB_ok (n : ℕ) : ∀ a, rowsB n a + S1x512x128.size a ≤ S1x8192x128.size a := by
  intro a; fin_cases a <;> simp [rowsB, S1x512x128, S1x8192x128] <;> omega

/-- The output block over `X` after `n` blocks of rows, from the accumulator `acc`. -/
def outAt (acc : Vec F S8192x256 .f32) (X : Vec F S1x8192x128 .bf16) (n : ℕ) : Vec F S1x8192x128 .bf16 :=
  Nat.rec X (fun n Y => put Y (rowsB n) S1x512x128.size
    (k0_pay4 (window acc (rowsA n) S512x256.size (rowsA_ok n)) (window g (rowsB n) S1x512x128.size (rowsB_ok n)))) n

/-- Some contents for the buffers whose contents do not matter. -/
def someF : F .f32 := k0_pay72 (F := F) (fun a => ⟨0, by fin_cases a <;> decide⟩)
def someB : F .bf16 := k0_pay73 (F := F) (fun a => ⟨0, by fin_cases a <;> decide⟩)

/-- What the body leaves in its output block. -/
def out : Vec F S1x8192x128 .bf16 :=
  outAt g (stAt q qx k kx v (start q qx k kx fun _ => someF) 136).acc (fun _ => someB) 16

/-- Two states that a step from tile `n` on does not tell apart. -/
def Agree (n : ℕ) (σ σ' : St F) : Prop :=
  window σ.scores (slot n) S1x512x512.size (slot_ok n) = window σ'.scores (slot n) S1x512x512.size (slot_ok n) ∧ σ.mx = σ'.mx ∧ σ.acc = σ'.acc

theorem agree_step (n : ℕ) {σ σ' : St F} (h : Agree n σ σ') : Agree (n + 1) (stepN q qx k kx v n σ) (stepN q qx k kx v n σ') := by
  obtain ⟨h1, h2, h3⟩ := h
  have hd : slot n 0 + S1x512x512.size 0 ≤ slot (n + 1) 0 ∨ slot (n + 1) 0 + S1x512x512.size 0 ≤ slot n 0 := by
    show n % 2 + 1 ≤ (n + 1) % 2 ∨ (n + 1) % 2 + 1 ≤ n % 2
    omega
  refine ⟨?_, ?_, ?_⟩
  · unfold stepN step
    dsimp only
    rw [VecWindow.window_put_same, VecWindow.window_put_same]
  · unfold stepN step
    dsimp only
    rw [VecWindow.window_put_of_disjoint _ _ _ _ _ (slot_ok n) _ 0 hd, VecWindow.window_put_of_disjoint _ _ _ _ _ (slot_ok n) _ 0 hd, h1, h2]
  · unfold stepN step
    dsimp only
    rw [VecWindow.window_put_of_disjoint _ _ _ _ _ (slot_ok n) _ 0 hd, VecWindow.window_put_of_disjoint _ _ _ _ _ (slot_ok n) _ 0 hd, h1, h2, h3]

theorem agree_stAt {σ σ' : St F} (h : Agree 0 σ σ') (n : ℕ) : Agree n (stAt q qx k kx v σ n) (stAt q qx k kx v σ' n) := by
  induction n with
  | zero => exact h
  | succ n ih => exact agree_step q qx k kx v n ih

theorem start_agree (X X' : Vec F S2x512x512 .f32) : Agree 0 (start q qx k kx X) (start q qx k kx X') := by
  refine ⟨?_, rfl, rfl⟩
  show window (put X ![0, 0, 0] _ _) ![0, 0, 0] _ inb_S2x512x512_S1x512x512_0_0_0 = window (put X' ![0, 0, 0] _ _) ![0, 0, 0] _ inb_S2x512x512_S1x512x512_0_0_0
  rw [VecWindow.window_put_same, VecWindow.window_put_same]

/-- After `n` blocks of rows the first `512 n` rows do not depend on what the block held. -/
theorem outAt_agree (acc : Vec F S8192x256 .f32) (X X' : Vec F S1x8192x128 .bf16) (n : ℕ) (hn : n ≤ 16) (y : S1x8192x128.Idx)
    (hy : (y 1).val < 512 * n) : outAt g acc X n y = outAt g acc X' n y := by
  induction n with
  | zero => omega
  | succ n ih =>
    show put (outAt g acc X n) (rowsB n) S1x512x128.size _ y = put (outAt g acc X' n) (rowsB n) S1x512x128.size _ y
    unfold put
    by_cases h : ∀ a, rowsB n a ≤ (y a).val ∧ (y a).val < rowsB n a + S1x512x128.size a
    · rw [dif_pos h, dif_pos h]
    · rw [dif_neg h, dif_neg h]
      refine ih (by omega) ?_
      by_contra hlt
      refine h fun a => ?_
      have h0 : (y 0).val < 1 := (y 0).isLt
      have h2 : (y 2).val < 128 := (y 2).isLt
      fin_cases a
      · show 0 ≤ (y 0).val ∧ (y 0).val < 0 + 1; omega
      · show 512 * min n 15 ≤ (y 1).val ∧ (y 1).val < 512 * min n 15 + 512; omega
      · show 0 ≤ (y 2).val ∧ (y 2).val < 0 + 128; omega

theorem out_eq (X : Vec F S2x512x512 .f32) (Y : Vec F S1x8192x128 .bf16) :
    outAt g (stAt q qx k kx v (start q qx k kx X) 136).acc Y 16 = out q qx k kx v g := by
  unfold out
  rw [(agree_stAt q qx k kx v (start_agree q qx k kx X fun _ => someF) 136).2.2]
  funext y
  exact outAt_agree g _ _ _ 16 le_rfl y (y 1).isLt

/-- A payload put over the whole buffer is the buffer. -/
theorem put_whole {α : Type} {s : Shape} (X w : s.Idx → α) (off : Fin s.rank → ℕ) (h : ∀ a, off a = 0) : put X off s.size w = w := by
  funext y
  unfold put
  rw [dif_pos fun a => ⟨by rw [h a]; exact Nat.zero_le _, by rw [h a, Nat.zero_add]; exact (y a).isLt⟩]
  congr 1
  funext a
  exact Fin.ext (show (y a).val - off a = (y a).val by rw [h a]; rfl)

end Value

section Program
variable (arg2 : Memref sig .tc .vmem S1x8192x128 .bf16) (arg3 : Memref sig .tc .vmem S1x1x8192x128 .bf16)
  (arg4 : Memref sig .tc .vmem S1x8192x128 .bf16) (arg5 : Memref sig .tc .vmem S1x1x8192x128 .bf16)
  (arg9 : Memref sig .tc .vmem S2x512x512 .f32)
  (arg10 : Memref sig .tc .vmem S512x128 .f32) (arg11 : Memref sig .tc .vmem S8192x256 .f32)

/-- The operations before the loops. -/
def headProg : Prog (TpuEff nD τ sig (Elt F) Λ₀ .tc) PUnit := do
  let _ : Vec F S8192x256 .f32 ← Prog.lift (.load arg11 (Rect.unit (s := S8192x256) ![0, 0] S8192x256.size inb_S8192x256_S8192x256_0_0).toLoadRect (View.loadsAt_vmem h_S8192x256))
  Prog.lift (.store arg11 (Rect.unit (s := S8192x256) ![0, 0] S8192x256.size inb_S8192x256_S8192x256_0_0) (k0_pay71 (F := F)) Finset.univ (View.stores_vmem_bits_univ h_S8192x256 rfl) (.inl rfl))
  let _ : Vec F S512x128 .f32 ← Prog.lift (.load arg10 (Rect.unit (s := S512x128) ![0, 0] S512x128.size inb_S512x128_S512x128_0_0).toLoadRect (View.loadsAt_vmem h_S512x128))
  Prog.lift (.store arg10 (Rect.unit (s := S512x128) ![0, 0] S512x128.size inb_S512x128_S512x128_0_0) (k0_pay72 (F := F)) Finset.univ (View.stores_vmem_bits_univ h_S512x128 rfl) (.inl rfl))
  let q : Vec F S1x512x128 .bf16 ← Prog.lift (.load arg2 (Rect.unit (s := S1x8192x128) ![0, 0, 0] S1x512x128.size inb_S1x8192x128_S1x512x128_0_0_0).toLoadRect (View.loadsAt_vmem h_S1x512x128))
  let qx : Vec F S1x1x512x128 .bf16 ← Prog.lift (.load arg3 (Rect.unit (s := S1x1x8192x128) ![0, 0, 0, 0] S1x1x512x128.size inb_S1x1x8192x128_S1x1x512x128_0_0_0_0).toLoadRect (View.loadsAt_vmem h_S1x1x512x128))
  let k : Vec F S1x512x128 .bf16 ← Prog.lift (.load arg4 (Rect.unit (s := S1x8192x128) ![0, 0, 0] S1x512x128.size inb_S1x8192x128_S1x512x128_0_0_0).toLoadRect (View.loadsAt_vmem h_S1x512x128))
  let kx : Vec F S1x1x512x128 .bf16 ← Prog.lift (.load arg5 (Rect.unit (s := S1x1x8192x128) ![0, 0, 0, 0] S1x1x512x128.size inb_S1x1x8192x128_S1x1x512x128_0_0_0_0).toLoadRect (View.loadsAt_vmem h_S1x1x512x128))
  let _ : Vec F S1x512x512 .f32 ← Prog.lift (.load arg9 (Rect.unit (s := S2x512x512) ![0, 0, 0] S1x512x512.size inb_S2x512x512_S1x512x512_0_0_0).toLoadRect (View.loadsAt_vmem h_S1x512x512))
  Prog.lift (.store arg9 (Rect.unit (s := S2x512x512) ![0, 0, 0] S1x512x512.size inb_S2x512x512_S1x512x512_0_0_0) (k0_pay1 (k0_pay75 q qx k kx)) Finset.univ (View.stores_vmem_bits_univ h_S1x512x512 rfl) (.inl rfl))

end Program

set_option maxHeartbeats 4000000 in
/-- The body, as the operations before the loops and the loops. -/
theorem body_eq (i : grid0.Coords) (arg2 : Memref sig .tc .vmem S1x8192x128 .bf16) (harg2 : arg2.IsWhole) (arg3 : Memref sig .tc .vmem S1x1x8192x128 .bf16) (harg3 : arg3.IsWhole)
    (arg4 : Memref sig .tc .vmem S1x8192x128 .bf16) (harg4 : arg4.IsWhole) (arg5 : Memref sig .tc .vmem S1x1x8192x128 .bf16) (harg5 : arg5.IsWhole)
    (arg6 : Memref sig .tc .vmem S1x8192x128 .bf16) (harg6 : arg6.IsWhole) (arg7 : Memref sig .tc .vmem S1x8192x128 .bf16) (harg7 : arg7.IsWhole)
    (arg8 : Memref sig .tc .vmem S1x8192x128 .bf16) (harg8 : arg8.IsWhole) (arg9 : Memref sig .tc .vmem S2x512x512 .f32) (harg9 : arg9.IsWhole)
    (arg10 : Memref sig .tc .vmem S512x128 .f32) (harg10 : arg10.IsWhole) (arg11 : Memref sig .tc .vmem S8192x256 .f32) (harg11 : arg11.IsWhole) :
    cc0_fox_attn (F := F) i arg2 harg2 arg3 harg3 arg4 harg4 arg5 harg5 arg6 harg6 arg7 harg7 arg8 harg8 arg9 harg9 arg10 harg10 arg11 harg11
    = (headProg arg2 arg3 arg4 arg5 arg9 arg10 arg11 >>= fun _ =>
      Scf.Loop.for k0_t1_loop k0_t1_ok (0#32, 0#32)
        (k0_t1_body i arg2 harg2 arg3 harg3 arg4 harg4 arg5 harg5 arg6 harg6 arg7 harg7 arg8 harg8 arg9 harg9 arg10 harg10 arg11 harg11 (k0_pay73 (F := F)) k0_pay74) >>= fun _ =>
      Scf.Loop.for k0_t2_loop k0_t2_ok ⟨⟩
        (k0_t2_body i arg2 harg2 arg3 harg3 arg4 harg4 arg5 harg5 arg6 harg6 arg7 harg7 arg8 harg8 arg9 harg9 arg10 harg10 arg11 harg11) >>= fun _ => .ret ⟨⟩) := by
  rw [cc0_fox_attn_eq_skeleton]
  rfl

section Triple
variable (q : Vec F S1x8192x128 .bf16) (qx : Vec F S1x1x8192x128 .bf16) (k : Vec F S1x8192x128 .bf16) (kx : Vec F S1x1x8192x128 .bf16)
  (v : Vec F S1x8192x128 .bf16) (g : Vec F S1x8192x128 .bf16)
variable (c : Dev nD) (arg2 : Memref sig .tc .vmem S1x8192x128 .bf16) (arg3 : Memref sig .tc .vmem S1x1x8192x128 .bf16)
  (arg4 : Memref sig .tc .vmem S1x8192x128 .bf16) (arg5 : Memref sig .tc .vmem S1x1x8192x128 .bf16)
  (arg6 : Memref sig .tc .vmem S1x8192x128 .bf16) (arg7 : Memref sig .tc .vmem S1x8192x128 .bf16) (arg8 : Memref sig .tc .vmem S1x8192x128 .bf16)
  (arg9 : Memref sig .tc .vmem S2x512x512 .f32) (arg10 : Memref sig .tc .vmem S512x128 .f32) (arg11 : Memref sig .tc .vmem S8192x256 .f32)

local notation "𝕄" => MT nD τ sig Unit (Elt F) ℕ (UR sig nD τ) ℕ

theorem head_sound (E : Set ℕ) (X9 : Vec F S2x512x512 .f32) (X10 : Vec F S512x128 .f32) (X11 : Vec F S8192x256 .f32) (K : PUnit → sProp 𝕄) :
    iprop(Held c arg2 arg3 arg4 arg5 arg6 arg9 arg10 arg11 q qx k kx v ⟨X9, X10, X11⟩
      ∗ (Held c arg2 arg3 arg4 arg5 arg6 arg9 arg10 arg11 q qx k kx v (start q qx k kx X9) -∗ K ⟨⟩))
    ⊢ wp frame (wpE (defs₀ (F := F)) Variants.none c none) E (headProg arg2 arg3 arg4 arg5 arg9 arg10 arg11) K := by
  unfold headProg Held start
  simp only [Prog.lift, Prog.bind_op, Prog.bind_ret]
  iintro ⟨⟨H2, H3, H4, H5, H6, H9, H10, H11⟩, Hk⟩
  iapply (OwnsRules.load _ _ _ _ X11) $$ H11; iintro H11
  iapply (OwnsRules.store _ _ _ _ X11) $$ H11; iintro H11
  iapply (OwnsRules.load _ _ _ _ X10) $$ H10; iintro H10
  iapply (OwnsRules.store _ _ _ _ X10) $$ H10; iintro H10
  iapply (OwnsRules.load _ _ _ _ q) $$ H2; iintro H2
  iapply (OwnsRules.load _ _ _ _ qx) $$ H3; iintro H3
  iapply (OwnsRules.load _ _ _ _ k) $$ H4; iintro H4
  iapply (OwnsRules.load _ _ _ _ kx) $$ H5; iintro H5
  iapply (OwnsRules.load _ _ _ _ X9) $$ H9; iintro H9
  iapply (OwnsRules.store _ _ _ _ X9) $$ H9; iintro H9
  rw [wp_ret, put_whole X11 _ ![0, 0] (by decide), put_whole X10 _ ![0, 0] (by decide)]; imodintro
  iapply Hk
  isplitl [H2]; · iexact H2
  isplitl [H3]; · iexact H3
  isplitl [H4]; · iexact H4
  isplitl [H5]; · iexact H5
  isplitl [H6]; · iexact H6
  isplitl [H9]; · iexact H9
  isplitl [H10]; · iexact H10
  iexact H11

/-- The second loop makes sixteen trips, at the blocks of rows in order. -/
theorem trips2 : k0_t2_loop.trips = 16 := by decide +kernel
theorem off42_eq : ∀ t : Fin k0_t2_loop.trips, k0_off42 t = rowsA t.val := by decide +kernel
theorem off43_eq : ∀ t : Fin k0_t2_loop.trips, k0_off43 t = rowsB t.val := by decide +kernel

theorem row_congr (acc : Vec F S8192x256 .f32) (g X : Vec F S1x8192x128 .bf16) {o o' : Fin 2 → ℕ} {p p' : Fin 3 → ℕ} (ho : o = o') (hp : p = p')
    (i : ∀ a, o a + S512x256.size a ≤ S8192x256.size a) (i' : ∀ a, o' a + S512x256.size a ≤ S8192x256.size a)
    (j : ∀ a, p a + S1x512x128.size a ≤ S1x8192x128.size a) (j' : ∀ a, p' a + S1x512x128.size a ≤ S1x8192x128.size a) :
    put X p S1x512x128.size (k0_pay4 (window acc o S512x256.size i) (window g p S1x512x128.size j))
      = put X p' S1x512x128.size (k0_pay4 (window acc o' S512x256.size i') (window g p' S1x512x128.size j')) := by
  subst ho hp; rfl

/-- A trip of the second loop. -/
theorem trip2_sound (E : Set ℕ) (i : grid0.Coords) (harg2 : arg2.IsWhole) (harg3 : arg3.IsWhole) (harg4 : arg4.IsWhole) (harg5 : arg5.IsWhole)
    (harg6 : arg6.IsWhole) (harg7 : arg7.IsWhole) (harg8 : arg8.IsWhole) (harg9 : arg9.IsWhole) (harg10 : arg10.IsWhole) (harg11 : arg11.IsWhole)
    (t : Fin k0_t2_loop.trips) (σ : St F) (X : Vec F S1x8192x128 .bf16) :
    iprop(Held c arg2 arg3 arg4 arg5 arg6 arg9 arg10 arg11 q qx k kx v σ ∗ owns (c : Thread nD τ) arg7 fullShare g
      ∗ owns (c : Thread nD τ) arg8 fullShare (outAt g σ.acc X t.val))
    ⊢ wp frame (wpE (defs₀ (F := F)) Variants.none c none) E
      (k0_t2_body i arg2 harg2 arg3 harg3 arg4 harg4 arg5 harg5 arg6 harg6 arg7 harg7 arg8 harg8 arg9 harg9 arg10 harg10 arg11 harg11 t ⟨⟩)
      (fun _ => iprop(Held c arg2 arg3 arg4 arg5 arg6 arg9 arg10 arg11 q qx k kx v σ ∗ owns (c : Thread nD τ) arg7 fullShare g
        ∗ owns (c : Thread nD τ) arg8 fullShare (outAt g σ.acc X (t.val + 1)))) := by
  have key : outAt g σ.acc X (t.val + 1) = put (outAt g σ.acc X t.val) (k0_off43 t) S1x512x128.size
      (k0_pay4 (window σ.acc (k0_off42 t) S512x256.size (k0_off42_inb t)) (window g (k0_off43 t) S1x512x128.size (k0_off43_inb t))) := by
    exact row_congr _ _ _ (off42_eq t).symm (off43_eq t).symm _ _ _ _
  rw [key]
  unfold k0_t2_body Held
  simp only [Prog.lift, Prog.bind_op, Prog.bind_ret]
  iintro ⟨⟨H2, H3, H4, H5, H6, H9, H10, H11⟩, H7, H8⟩
  iapply (OwnsRules.load _ _ _ _ σ.acc) $$ H11; iintro H11
  iapply (OwnsRules.load _ _ _ _ g) $$ H7; iintro H7
  iapply (OwnsRules.load _ _ _ _ _) $$ H8; iintro H8
  iapply (OwnsRules.store _ _ _ _ _) $$ H8; iintro H8
  rw [show (pure ⟨⟩ : Prog (TpuEff nD τ sig (Elt F) Λ₀ .tc) Unit) = .ret ⟨⟩ from rfl, wp_ret]; imodintro
  isplitl [H2 H3 H4 H5 H6 H9 H10 H11]
  · isplitl [H2]; · iexact H2
    isplitl [H3]; · iexact H3
    isplitl [H4]; · iexact H4
    isplitl [H5]; · iexact H5
    isplitl [H6]; · iexact H6
    isplitl [H9]; · iexact H9
    isplitl [H10]; · iexact H10
    iexact H11
  isplitl [H7]; · iexact H7
  iexact H8

/-- The body's triple. -/
theorem body_sound (E : Set ℕ) (i : grid0.Coords) (harg2 : arg2.IsWhole) (harg3 : arg3.IsWhole) (harg4 : arg4.IsWhole) (harg5 : arg5.IsWhole)
    (harg6 : arg6.IsWhole) (harg7 : arg7.IsWhole) (harg8 : arg8.IsWhole) (harg9 : arg9.IsWhole) (harg10 : arg10.IsWhole) (harg11 : arg11.IsWhole)
    (X8 : Vec F S1x8192x128 .bf16) (X9 : Vec F S2x512x512 .f32) (X10 : Vec F S512x128 .f32) (X11 : Vec F S8192x256 .f32) (K : PUnit → sProp 𝕄) :
    iprop(Held c arg2 arg3 arg4 arg5 arg6 arg9 arg10 arg11 q qx k kx v ⟨X9, X10, X11⟩ ∗ owns (c : Thread nD τ) arg7 fullShare g
      ∗ owns (c : Thread nD τ) arg8 fullShare X8
      ∗ (iprop(∃ σ, Held c arg2 arg3 arg4 arg5 arg6 arg9 arg10 arg11 q qx k kx v σ ∗ owns (c : Thread nD τ) arg7 fullShare g
        ∗ owns (c : Thread nD τ) arg8 fullShare (out q qx k kx v g)) -∗ K ⟨⟩))
    ⊢ wp frame (wpE (defs₀ (F := F)) Variants.none c none) E
      (cc0_fox_attn (F := F) i arg2 harg2 arg3 harg3 arg4 harg4 arg5 harg5 arg6 harg6 arg7 harg7 arg8 harg8 arg9 harg9 arg10 harg10 arg11 harg11) K := by
  rw [body_eq, wp_bind]
  iintro ⟨H, H7, H8, Hk⟩
  iapply (head_sound q qx k kx v c arg2 arg3 arg4 arg5 arg6 arg9 arg10 arg11 E X9 X10 X11 _)
  isplitl [H]; · iexact H
  iintro H
  iapply (Scf.wp_for_bind frame (wpE (defs₀ (F := F)) Variants.none c none) E k0_t1_loop.lb k0_t1_loop.ub k0_t1_loop.st k0_t1_ok (0#32, 0#32) _
    (fun n p => iprop(⌜p = tile (8 * n)⌝ ∗ Held c arg2 arg3 arg4 arg5 arg6 arg9 arg10 arg11 q qx k kx v (stAt q qx k kx v (start q qx k kx X9) (8 * n))))
    (fun t p => by
      iintro ⟨%hp, H⟩
      subst hp
      iapply (trip_sound q qx k kx v c arg2 arg3 arg4 arg5 arg6 arg9 arg10 arg11 E i harg2 harg3 harg4 harg5 harg6 arg7 harg7 arg8 harg8 harg9 harg10 harg11 t (start q qx k kx X9))
      iexact H)) $$ [H]
  · isplitr; · ipureintro; rfl
    iexact H
  iintro %p ⟨-, H⟩
  iapply (Scf.wp_for_bind frame (wpE (defs₀ (F := F)) Variants.none c none) E k0_t2_loop.lb k0_t2_loop.ub k0_t2_loop.st k0_t2_ok ⟨⟩ _
    (fun n _ => iprop(Held c arg2 arg3 arg4 arg5 arg6 arg9 arg10 arg11 q qx k kx v (stAt q qx k kx v (start q qx k kx X9) 136)
      ∗ owns (c : Thread nD τ) arg7 fullShare g
      ∗ owns (c : Thread nD τ) arg8 fullShare (outAt g (stAt q qx k kx v (start q qx k kx X9) 136).acc X8 n)))
    (fun t p => trip2_sound q qx k kx v g c arg2 arg3 arg4 arg5 arg6 arg7 arg8 arg9 arg10 arg11 E i harg2 harg3 harg4 harg5 harg6 harg7 harg8 harg9 harg10 harg11 t
      (stAt q qx k kx v (start q qx k kx X9) 136) X8)) $$ [H H7 H8]
  · isplitl [H]; · iexact H
    isplitl [H7]; · iexact H7
    iexact H8
  iintro %p ⟨H, H7, H8⟩
  rw [wp_ret]; imodintro
  iapply Hk
  iexists _
  isplitl [H]; · iexact H
  isplitl [H7]; · iexact H7
  rw [← out_eq q qx k kx v g X9 X8]
  iexact H8

end Triple

end Cert.FoxIdeal.Attn

end
-- ==== Proof.FoxRun.lean ====
/- The attention kernel's pipeline: at every grid point the body takes its operand blocks to `out` of them, so the
   program ends with its result array written block by block, its arguments unchanged and its counters at zero. -/
module

public import proofs.«01_k».proof.Proof.FoxBody
public import proofs.«01_k».proof.Proof.Gen.FoxIdeal.Launch
public import Idealize.ShloMosaic.Lib.Claim

@[expose] public section

set_option maxRecDepth 16384

noncomputable section

namespace Cert.FoxIdeal.Attn
open Cert.FoxIdeal Cert.FoxIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The proof data of the pipeline on core `c`: an operand's buffer is left at its block, the result's at `out` of the
    operand blocks; the scratch buffers and the generator register pass through. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => out (iblk m c 0 t) (iblk m c 1 t) (iblk m c 2 t) (iblk m c 3 t) (iblk m c 4 t) (iblk m c 5 t)
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = out (iblk m c 0 t) (iblk m c 1 t) (iblk m c 2 t) (iblk m c 3 t) (iblk m c 4 t) (iblk m c 5 t) := by
  dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-- The scratch buffers, whole at some contents. -/
theorem scratch_eq (c : Dev nD) :
    (Pipeline.scopedRest spec0 c : sProp 𝕄)
      = iprop((∃ X, owns (c : Thread nD τ) (Memref.whole cc0_scratch0) fullShare X) ∗ (∃ X, owns (c : Thread nD τ) (Memref.whole cc0_scratch1) fullShare X)
        ∗ (∃ X, owns (c : Thread nD τ) (Memref.whole cc0_scratch2) fullShare X)) := by
  rw [scopedRest0_eq]
  simp only [owns_whole]

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl,
    after0_0, after0_1, after0_2, after0_3, after0_4, after0_5, after0_6]
  unfold Pipeline.ΦA
  rw [scratch_eq]
  iintro ⟨⟨⟨⟨%X9, H9⟩, ⟨%X10, H10⟩, ⟨%X11, H11⟩⟩, Hp⟩, Ho, ⟨%d0, H0⟩, ⟨%d1, H1⟩, ⟨%d2, H2⟩, ⟨%d3, H3⟩, ⟨%d4, H4⟩, ⟨%d5, H5⟩, ⟨%d6, H6⟩⟩
  iapply (body_sound (iblk m c 0 t) (iblk m c 1 t) (iblk m c 2 t) (iblk m c 3 t) (iblk m c 4 t) (iblk m c 5 t) c
    _ _ _ _ _ _ _ _ _ _ Set.univ (grid0.coords t) _ _ _ _ _ _ _ _ _ _ ((dats m 0 c).before 6 t d6) X9 X10 X11 _)
  unfold Held
  isplitl [H0 H1 H2 H3 H4 H9 H10 H11]
  · isplitl [H0]; · iexact H0
    isplitl [H1]; · iexact H1
    isplitl [H2]; · iexact H2
    isplitl [H3]; · iexact H3
    isplitl [H4]; · iexact H4
    isplitl [H9]; · iexact H9
    isplitl [H10]; · iexact H10
    iexact H11
  isplitl [H5]; · iexact H5
  isplitl [H6]; · iexact H6
  iintro ⟨%σ, ⟨H0, H1, H2, H3, H4, H9, H10, H11⟩, H5, H6⟩
  isplitl [H9 H10 H11 Hp]
  · isplitr [Hp]
    · isplitl [H9]; · iexists _; iexact H9
      isplitl [H10]; · iexists _; iexact H10
      iexists _; iexact H11
    · iexact Hp
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem defs₀_row (t : Fin cfg0.N) :
    defs₀ (F := F) .tc cfg0.body (cfg0.bodyArgs t (cfg0.slots t)) = bodyAt0 t := by
  unfold defs₀; rw [Defs.onTc_tc]

/-- The pipeline's body obligation. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
set_option maxHeartbeats 800000 in
/-- The launch. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun c w _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- The frame. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_main_quiescent m ρ))

end Cert.FoxIdeal.Attn

end
-- ==== Proof.FoxMath.lean ====
/- The mathematics of a softmax taken block by block: the largest score and the weighted sum over the first keys of a
   row, how both grow by a block of keys, and the quotient at the end. Scores are real, values are extended reals. -/
module

public import Idealize.ShloMosaic.PureOps.Ideal.Laws

@[expose] public section

noncomputable section

open Idealize.ShloMosaic Idealize.ShloMosaic.Ideal

namespace FoxMath

/-- A real number among the extended reals. -/
def IsReal (x : EReal) : Prop := ∃ r : ℝ, x = r

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.sum {ι : Type} (t : Finset ι) {f : ι → EReal} (h : ∀ i ∈ t, IsReal (f i)) : IsReal (∑ i ∈ t, f i) :=
  Finset.sum_induction f IsReal (fun _ _ => IsReal.add) ⟨0, EReal.coe_zero.symm⟩ h

theorem IsReal.coe_toReal {x : EReal} (h : IsReal x) : ((x.toReal : ℝ) : EReal) = x := by
  obtain ⟨a, rfl⟩ := h; rw [EReal.toReal_coe]

/-- A real factor that is not negative passes into a sum. -/
theorem mul_sum {ι : Type} (c : ℝ) (hc : 0 ≤ c) (t : Finset ι) (f : ι → EReal) : (c : EReal) * ∑ i ∈ t, f i = ∑ i ∈ t, c * f i := by
  classical
  induction t using Finset.induction_on with
  | empty => simp
  | insert a t ha ih =>
    rw [Finset.sum_insert ha, Finset.sum_insert ha, ← ih,
      EReal.left_distrib_of_nonneg_of_ne_top (EReal.coe_nonneg.2 hc) (EReal.coe_ne_top c)]

/-- Sums of reals are sums among the extended reals. -/
theorem coe_sum {ι : Type} (t : Finset ι) (f : ι → ℝ) : ((∑ i ∈ t, f i : ℝ) : EReal) = ∑ i ∈ t, (f i : EReal) := by
  classical
  induction t using Finset.induction_on with
  | empty => simp
  | insert a t ha ih => rw [Finset.sum_insert ha, Finset.sum_insert ha, EReal.coe_add, ih]

variable (s : ℕ → ℝ) (v : ℕ → EReal)

/-- The largest of the first `n` scores. -/
def big (n : ℕ) : EReal := (Finset.range n).sup fun j => (s j : EReal)

/-- The values of the first `n` keys, weighted by powers of two of the scores less the largest. -/
def acc (n : ℕ) : EReal := ∑ j ∈ Finset.range n, exp2 (s j - big s n) * v j

theorem big_zero : big s 0 = ⊥ := by simp [big]

theorem acc_zero : acc s v 0 = 0 := by simp [acc]

theorem big_real {n : ℕ} (h : 0 < n) : IsReal (big s n) := by
  obtain ⟨j, _, hj⟩ := Finset.exists_mem_eq_sup (Finset.range n) (Finset.nonempty_range_iff.2 h.ne') fun j => (s j : EReal)
  exact ⟨s j, hj⟩

theorem exp2_add (a b c : ℝ) : exp2 ((a : EReal) - b) * exp2 ((c : EReal) - a) = exp2 ((c : EReal) - b) := by
  rw [← EReal.coe_sub, ← EReal.coe_sub, ← EReal.coe_sub, exp2_coe, exp2_coe, exp2_coe, ← EReal.coe_mul]
  congr 1
  change (2 : ℝ) ^ (a - b) * 2 ^ (c - a) = 2 ^ (c - b)
  rw [← Real.rpow_add two_pos]
  congr 1; ring

/-- More keys: the old sum is rescaled, and the new keys' terms are added. -/
theorem acc_grow {n n' : ℕ} (h : n ≤ n') (h0 : 0 < n') :
    acc s v n' = exp2 (big s n - big s n') * acc s v n + ∑ j ∈ Finset.Ico n n', exp2 (s j - big s n') * v j := by
  obtain ⟨b, hb⟩ := big_real s h0
  unfold acc
  rw [Finset.range_eq_Ico, ← Finset.sum_Ico_consecutive _ (Nat.zero_le n) h, ← Finset.range_eq_Ico]
  congr 1
  rcases n.eq_zero_or_pos with rfl | hn
  · simp
  obtain ⟨a, ha⟩ := big_real s hn
  rw [ha, hb]
  have e : exp2 ((a : EReal) - b) = ((Real.rpow 2 (a - b) : ℝ) : EReal) := by rw [← EReal.coe_sub, exp2_coe]
  rw [e, mul_sum _ (show 0 ≤ Real.rpow 2 (a - b) from Real.rpow_nonneg two_pos.le _)]
  refine Finset.sum_congr rfl fun j _ => ?_
  rw [← mul_assoc, ← e, exp2_add]

/-- More keys: the largest. -/
theorem big_grow {n n' : ℕ} (h : n ≤ n') :
    big s n' = max (big s n) ((Finset.Ico n n').sup fun j => (s j : EReal)) := by
  unfold big
  rw [Finset.range_eq_Ico, ← Finset.Ico_union_Ico_eq_Ico (Nat.zero_le n) h, Finset.sup_union, ← Finset.range_eq_Ico]

/-- A block of scores: those of `w` keys from key `c`, minus infinity from key `N` on. -/
def blk (c N : ℕ) (x : ℕ) : EReal := if c + x < N then (s (c + x) : EReal) else ⊥

/-- The largest of a block. -/
theorem blk_big (c N w : ℕ) :
    (Finset.univ : Finset (Fin w)).fold max ⊥ (fun x => blk s c N x.val)
      = (Finset.Ico (min c N) (min (c + w) N)).sup fun j => (s j : EReal) := by
  change (Finset.univ : Finset (Fin w)).sup (fun x => blk s c N x.val) = _
  apply le_antisymm
  · refine Finset.sup_le fun x _ => ?_
    unfold blk
    split
    · rename_i h
      exact Finset.le_sup (f := fun j => (s j : EReal)) (Finset.mem_Ico.2 ⟨by omega, by have := x.isLt; omega⟩)
    · exact bot_le
  · refine Finset.sup_le fun j hj => ?_
    have := Finset.mem_Ico.1 hj
    have e : blk s c N (j - c) = (s j : EReal) := by
      unfold blk
      rw [if_pos (by omega), show c + (j - c) = j by omega]
    rw [← e]
    exact Finset.le_sup (f := fun x : Fin w => blk s c N x.val) (Finset.mem_univ ⟨j - c, by omega⟩)

/-- The weighted values of a block. -/
theorem blk_sum (c N w : ℕ) {b : EReal} (hb : IsReal b) :
    ∑ x : Fin w, exp2 (blk s c N x.val - b) * v (c + x.val)
      = ∑ j ∈ Finset.Ico (min c N) (min (c + w) N), exp2 (s j - b) * v j := by
  obtain ⟨b, rfl⟩ := hb
  have hw : ∑ x : Fin w, exp2 (blk s c N x.val - b) * v (c + x.val)
      = ∑ x ∈ Finset.range w, exp2 (blk s c N x - b) * v (c + x) :=
    Fin.sum_univ_eq_sum_range (fun x => exp2 (blk s c N x - b) * v (c + x)) w
  rw [hw]
  have hi : ∑ x ∈ Finset.range w, exp2 (blk s c N x - b) * v (c + x)
      = ∑ j ∈ Finset.Ico c (c + w), (if j < N then exp2 (s j - b) * v j else 0) := by
    rw [Finset.sum_Ico_eq_sum_range, Nat.add_sub_cancel_left]
    refine Finset.sum_congr rfl fun x _ => ?_
    unfold blk
    split
    · rfl
    · rw [EReal.bot_sub, exp2_bot, zero_mul]
  rw [hi, ← Finset.sum_filter]
  refine Finset.sum_congr ?_ fun _ _ => rfl
  ext j
  rw [Finset.mem_filter, Finset.mem_Ico, Finset.mem_Ico]
  omega

/-- One block of keys read into the running pair. -/
theorem big_step (c N w : ℕ) :
    big s (min (c + w) N) = max (big s (min c N)) ((Finset.univ : Finset (Fin w)).fold max ⊥ fun x => blk s c N x.val) := by
  rw [blk_big, big_grow s (show min c N ≤ min (c + w) N by omega)]

theorem acc_step (c N w : ℕ) (hw : 0 < w) (hN : 0 < N) :
    acc s v (min (c + w) N) = exp2 (big s (min c N) - big s (min (c + w) N)) * acc s v (min c N)
      + ∑ x : Fin w, exp2 (blk s c N x.val - big s (min (c + w) N)) * v (c + x.val) := by
  rw [blk_sum s v c N w (big_real s (by omega)), acc_grow s v (show min c N ≤ min (c + w) N by omega) (by omega)]

/-- The weights alone add up to a positive real. -/
theorem acc_one {n : ℕ} (h : 0 < n) : ∃ l : ℝ, 0 < l ∧ acc s (fun _ => 1) n = l := by
  obtain ⟨b, hb⟩ := big_real s h
  refine ⟨∑ j ∈ Finset.range n, Real.rpow 2 (s j - b), Finset.sum_pos (fun j _ => Real.rpow_pos_of_pos two_pos _)
    (Finset.nonempty_range_iff.2 h.ne'), ?_⟩
  unfold acc
  rw [hb, coe_sum]
  refine Finset.sum_congr rfl fun j _ => ?_
  rw [mul_one, ← EReal.coe_sub, exp2_coe]

theorem div_real (x : EReal) {l : ℝ} (h : 0 < l) : Ideal.div x l = ((l⁻¹ : ℝ) : EReal) * x := by
  rw [Ideal.div, if_neg (by exact_mod_cast h.ne'), ← EReal.coe_inv, mul_comm]

/-- A score in natural units. -/
theorem exp_log_two (a b : ℝ) : Ideal.exp ((a : EReal) * (Real.log 2 : ℝ) - (b : EReal) * (Real.log 2 : ℝ)) = exp2 ((a : EReal) - b) := by
  rw [← EReal.coe_mul, ← EReal.coe_mul, ← EReal.coe_sub, ← EReal.coe_sub, exp_coe, exp2_coe]
  congr 1
  change Real.exp _ = (2 : ℝ) ^ (a - b)
  rw [Real.rpow_def_of_pos two_pos]
  congr 1; ring

/-- The scores of a row in natural units, minus infinity from key `N` on. -/
def nat (N j : ℕ) : EReal := if j < N then (s j : EReal) * (Real.log 2 : ℝ) else ⊥

theorem nat_big {N L : ℕ} (h0 : 0 < N) (hN : N ≤ L) {b : ℝ} (hb : big s N = b) :
    (Finset.univ : Finset (Fin L)).fold max ⊥ (fun x => nat s N x.val) = (b : EReal) * (Real.log 2 : ℝ) := by
  change (Finset.univ : Finset (Fin L)).sup (fun x => nat s N x.val) = _
  have hl : 0 ≤ Real.log 2 := Real.log_nonneg one_le_two
  have le : ∀ j < N, s j ≤ b := fun j hj => by
    rw [← EReal.coe_le_coe_iff, ← hb]
    exact Finset.le_sup (f := fun j => (s j : EReal)) (Finset.mem_range.2 hj)
  apply le_antisymm
  · refine Finset.sup_le fun x _ => ?_
    unfold nat
    split
    · rename_i h
      rw [← EReal.coe_mul, ← EReal.coe_mul, EReal.coe_le_coe_iff]
      exact mul_le_mul_of_nonneg_right (le _ h) hl
    · exact bot_le
  · obtain ⟨j, hm, hj⟩ := Finset.exists_mem_eq_sup (Finset.range N) (Finset.nonempty_range_iff.2 h0.ne') fun j => (s j : EReal)
    have hjN := Finset.mem_range.1 hm
    have e : nat s N j = (b : EReal) * (Real.log 2 : ℝ) := by
      unfold nat
      rw [if_pos hjN, ← hb]
      exact congrArg (· * ((Real.log 2 : ℝ) : EReal)) hj.symm
    rw [← e]
    exact Finset.le_sup (f := fun x : Fin L => nat s N x.val) (Finset.mem_univ ⟨j, hjN.trans_le hN⟩)

theorem nat_exp {N : ℕ} {b : ℝ} (j : ℕ) :
    Ideal.exp (nat s N j - (b : EReal) * (Real.log 2 : ℝ)) = if j < N then exp2 ((s j : EReal) - b) else 0 := by
  unfold nat
  split
  · exact exp_log_two _ _
  · rw [← EReal.coe_mul, EReal.bot_sub, exp_bot]

/-- The whole row of the reference: quotients, then values. -/
theorem softmax {N L : ℕ} (h0 : 0 < N) (hN : N ≤ L) (t : EReal)
    (ht : t = (Finset.univ : Finset (Fin L)).fold max ⊥ (fun x => nat s N x.val)) :
    ∑ x : Fin L, Ideal.div (Ideal.exp (nat s N x.val - t)) (∑ y : Fin L, Ideal.exp (nat s N y.val - t)) * v x.val
      = Ideal.div (acc s v N) (acc s (fun _ => 1) N) := by
  obtain ⟨b, hb⟩ := big_real s h0
  have ht' := ht.trans (nat_big s h0 hN hb)
  obtain ⟨l, hl, hl'⟩ := acc_one s h0
  have cut : ∀ f : ℕ → EReal, ∑ x : Fin L, (if x.val < N then f x.val else 0) = ∑ j ∈ Finset.range N, f j := fun f => by
    rw [Fin.sum_univ_eq_sum_range (fun x => if x < N then f x else 0) L, ← Finset.sum_filter]
    refine Finset.sum_congr ?_ fun _ _ => rfl
    ext j
    rw [Finset.mem_filter, Finset.mem_range, Finset.mem_range]
    omega
  have hd : ∑ y : Fin L, Ideal.exp (nat s N y.val - t) = l := by
    rw [← hl', ht']
    simp only [nat_exp]
    rw [cut fun j => exp2 ((s j : EReal) - b)]
    unfold acc
    rw [hb]
    simp only [mul_one]
  rw [hd, hl', div_real _ hl, ht']
  unfold acc
  rw [hb, mul_sum _ (inv_nonneg.2 hl.le), ← cut]
  refine Finset.sum_congr rfl fun x _ => ?_
  rw [div_real _ hl, nat_exp]
  split
  · rw [mul_assoc]
  · rw [mul_zero, zero_mul]

end FoxMath

end
-- ==== Proof.FoxPays.lean ====
/- What the attention kernel computes from its loads, at one index: a tile of scores, the masked scores, the running
   maximum, the accumulator, and a gated quotient. -/
module

public import proofs.«01_k».proof.Proof.FoxBody
public import proofs.«01_k».proof.Proof.FoxMath
public import Idealize.ShloMosaic.Lib.Pipeline.ValueKit

@[expose] public section

set_option maxRecDepth 16384

noncomputable section

namespace Cert.FoxIdeal.Attn
open Cert.FoxIdeal Cert.FoxIdeal.Gen
open Idealize.ShloMosaic
open VecWindow (window put)

/-- The named mask. -/
theorem mask_bot : (Named.named κ "mask" 0xF149F2CA#32 : Ideal .f32) = ⊥ := rfl

theorem bot_word : Ideal.ofBits .f32 0xFF800000#32 = ⊥ := by simp [Ideal.ofBits, Ideal.ieee]

section
variable (q k : Vec Ideal S1x512x128 .bf16) (qx kx : Vec Ideal S1x1x512x128 .bf16) (v g : Vec Ideal S1x512x128 .bf16)
  (x y : BitVec 32) (s : Vec Ideal S1x512x512 .f32) (mx : Vec Ideal S512x128 .f32) (acc : Vec Ideal S512x256 .f32)

/-- A score of the next tile. -/
theorem pay5_apply (i j : Fin 512) : k0_pay5 q qx k kx (ix3 0 i j)
    = ∑ x, q (ix3 0 i x) * k (ix3 0 j x) + ∑ x, qx (ix4 0 0 i x) * kx (ix4 0 0 j x) := by
  pointwise [k0_pay5]

/-- A score of the first tile. -/
theorem pay1_apply (i j : Fin 512) : k0_pay1 (k0_pay75 q qx k kx) (ix3 0 i j)
    = ∑ x, q (ix3 0 i x) * k (ix3 0 j x) + ∑ x, qx (ix4 0 0 i x) * kx (ix4 0 0 j x) := by
  pointwise [k0_pay1, k0_pay75]

/-- A masked score. -/
theorem pay6_apply (i j : Fin 512) : k0_pay6 (F := Ideal) k0_pay74 x y s (ix2 i j)
    = Scalar.select (IntOp.cmpi .sle (IntOp.subi (BitVec.ofNat 32 j.val) (BitVec.ofNat 32 i.val))
        (Scalar.muli (Scalar.subi x y) 512#32)) (s (ix3 0 i j)) ⊥ := by
  pointwise [k0_pay6, k0_pay74, mask_bot]

/-- The maximum before the tile. -/
theorem pay7_apply (z) : k0_pay7 y mx z = Scalar.select (Scalar.cmpi .eq y 0#32) ⊥ (mx z) := by
  pointwise [k0_pay7, mask_bot]

/-- The maximum after it. -/
theorem pay8_apply (i : Fin 512) (l : Fin 128) : k0_pay8 k0_pay74 x y s mx (ix2 i l)
    = max (k0_pay7 y mx (ix2 i l)) ((Finset.univ : Finset (Fin 512)).fold max ⊥ fun j => k0_pay6 (F := Ideal) k0_pay74 x y s (ix2 i j)) := by
  rw [← bot_word]
  pointwise [k0_pay8]

/-- It is stored as it is. -/
theorem pay10_eq (w : FVec Ideal S512x128 .f32) : k0_pay10 w = w := by
  funext z
  pointwise [k0_pay10]

/-- The accumulator after the tile, of a row whose maximum was `m` and is `M` in every lane. -/
theorem pay9_apply (i : Fin 512) (c : Fin 256) (m M : EReal) (hm : ∀ l, k0_pay7 y mx (ix2 i l) = m)
    (hM : ∀ l, k0_pay8 k0_pay74 x y s mx (ix2 i l) = M) :
    k0_pay9 (F := Ideal) k0_pay73 k0_pay74 x y v s mx acc (ix2 i c)
      = Ideal.exp2 (m - M) * acc (ix2 i c)
        + ∑ j : Fin 512, Ideal.exp2 (k0_pay6 (F := Ideal) k0_pay74 x y s (ix2 i j) - M)
          * (if h : c.val < 128 then v (ix3 0 j ⟨c.val, h⟩) else 1) := by
  pointwise [k0_pay9, k0_pay73]
  simp only [hm, hM, dite_eq_ite, ite_self]
  rfl

/-- A gated quotient. -/
theorem pay4_apply (i : Fin 512) (d : Fin 128) : k0_pay4 acc g (ix3 0 i d)
    = Ideal.div (acc (ix2 i ⟨d.val, by omega⟩)) (acc (ix2 i ⟨128 + d.val, by omega⟩)) * (g (ix3 0 i d) * Ideal.logistic (g (ix3 0 i d))) := by
  pointwise [k0_pay4]

theorem pay71_apply (z) : k0_pay71 (F := Ideal) z = 0 := by
  pointwise [k0_pay71]

end

/-- A window of a rank-three buffer with one leading row, at an index. -/
theorem win3 {α : Type} (x : S1x8192x128.Idx → α) (o : ℕ) (inb : ∀ a, (![0, o, 0] : Fin 3 → ℕ) a + S1x512x128.size a ≤ S1x8192x128.size a)
    (i : Fin 512) (d : Fin 128) (h : o + i.val < 8192) :
    window x ![0, o, 0] S1x512x128.size inb (ix3 0 i d) = x (ix3 0 ⟨o + i.val, h⟩ d) := by
  unfold window
  congr 1
  funext a
  fin_cases a
  · rfl
  · exact Fin.ext (show o + 1 * i.val = o + i.val by omega)
  · exact Fin.ext (show 0 + 1 * d.val = d.val by omega)

theorem win4 {α : Type} (x : S1x1x8192x128.Idx → α) (o : ℕ) (inb : ∀ a, (![0, 0, o, 0] : Fin 4 → ℕ) a + S1x1x512x128.size a ≤ S1x1x8192x128.size a)
    (i : Fin 512) (d : Fin 128) (h : o + i.val < 8192) :
    window x ![0, 0, o, 0] S1x1x512x128.size inb (ix4 0 0 i d) = x (ix4 0 0 ⟨o + i.val, h⟩ d) := by
  unfold window
  congr 1
  funext a
  fin_cases a
  · rfl
  · rfl
  · exact Fin.ext (show o + 1 * i.val = o + i.val by omega)
  · exact Fin.ext (show 0 + 1 * d.val = d.val by omega)

theorem win2 {α : Type} (x : S8192x256.Idx → α) (o : ℕ) (inb : ∀ a, (![o, 0] : Fin 2 → ℕ) a + S512x256.size a ≤ S8192x256.size a)
    (i : Fin 512) (c : Fin 256) (h : o + i.val < 8192) :
    window x ![o, 0] S512x256.size inb (ix2 i c) = x (ix2 ⟨o + i.val, h⟩ c) := by
  unfold window
  congr 1
  funext a
  fin_cases a
  · exact Fin.ext (show o + 1 * i.val = o + i.val by omega)
  · exact Fin.ext (show 0 + 1 * c.val = c.val by omega)

/-- The whole of the maximum's buffer. -/
theorem win_mx {α : Type} (x : S512x128.Idx → α) : window x ![0, 0] S512x128.size inb_S512x128_S512x128_0_0 = x := by
  funext y
  unfold window
  congr 1
  funext a
  fin_cases a
  · exact Fin.ext (show 0 + 1 * (y 0).val = (y 0).val by omega)
  · exact Fin.ext (show 0 + 1 * (y 1).val = (y 1).val by omega)

/-- Overwriting it. -/
theorem put_mx {α : Type} (x w : S512x128.Idx → α) : put x ![0, 0] S512x128.size w = w := by
  rw [← win_mx (put x ![0, 0] S512x128.size w), VecWindow.window_put_same]

/-- A block of rows of the accumulator overwritten: inside and outside. -/
theorem put2_in {α : Type} (x : S8192x256.Idx → α) (o : ℕ) (w : S512x256.Idx → α) (r : Fin 8192) (c : Fin 256) (i : Fin 512)
    (h : r.val = o + i.val) : put x ![o, 0] S512x256.size w (ix2 r c) = w (ix2 i c) := by
  unfold put
  rw [dif_pos]
  · congr 1
    funext a
    fin_cases a
    · exact Fin.ext (show r.val - o = i.val by omega)
    · exact Fin.ext (show c.val - 0 = c.val by omega)
  · intro a
    fin_cases a
    · show o ≤ r.val ∧ r.val < o + 512; omega
    · show 0 ≤ c.val ∧ c.val < 0 + 256; omega

theorem put2_out {α : Type} (x : S8192x256.Idx → α) (o : ℕ) (w : S512x256.Idx → α) (r : Fin 8192) (c : Fin 256)
    (h : r.val < o ∨ o + 512 ≤ r.val) : put x ![o, 0] S512x256.size w (ix2 r c) = x (ix2 r c) := by
  unfold put
  rw [dif_neg]
  intro hall
  have : o ≤ r.val ∧ r.val < o + 512 := hall 0
  omega

/-- A block of rows of the output overwritten: inside and outside. -/
theorem put3_in {α : Type} (x : S1x8192x128.Idx → α) (o : ℕ) (w : S1x512x128.Idx → α) (r : Fin 8192) (d : Fin 128) (i : Fin 512)
    (h : r.val = o + i.val) : put x ![0, o, 0] S1x512x128.size w (ix3 0 r d) = w (ix3 0 i d) := by
  unfold put
  rw [dif_pos]
  · congr 1
    funext a
    fin_cases a
    · rfl
    · exact Fin.ext (show r.val - o = i.val by omega)
    · exact Fin.ext (show d.val - 0 = d.val by omega)
  · intro a
    fin_cases a
    · show 0 ≤ 0 ∧ 0 < 0 + 1; omega
    · show o ≤ r.val ∧ r.val < o + 512; omega
    · show 0 ≤ d.val ∧ d.val < 0 + 128; omega

theorem put3_out {α : Type} (x : S1x8192x128.Idx → α) (o : ℕ) (w : S1x512x128.Idx → α) (r : Fin 8192) (d : Fin 128)
    (h : r.val < o ∨ o + 512 ≤ r.val) : put x ![0, o, 0] S1x512x128.size w (ix3 0 r d) = x (ix3 0 r d) := by
  unfold put
  rw [dif_neg]
  intro hall
  have : o ≤ r.val ∧ r.val < o + 512 := hall 1
  omega

end Cert.FoxIdeal.Attn

end
-- ==== Proof.FoxWords.lean ====
/- The 32-bit comparisons of positions with which the attention masks the keys ahead of a query. -/
module

public import Idealize.ShloMosaic.PureOps.Ideal.Laws

@[expose] public section

open Idealize.ShloMosaic

namespace FoxWords

theorem bmod_small (x : ℤ) (h : -2147483648 ≤ x) (h' : x < 2147483648) : x.bmod (2 ^ 32) = x := by
  rw [Int.bmod_def]; norm_num; omega

theorem toInt_small (n : ℕ) (h : n < 1048576) : (BitVec.ofNat 32 n).toInt = n := by
  rw [BitVec.toInt_eq_toNat_bmod, BitVec.toNat_ofNat, Nat.mod_eq_of_lt (by omega), bmod_small _ (by omega) (by omega)]

theorem toInt_sub_small (a b : ℕ) (ha : a < 1048576) (hb : b < 1048576) :
    (BitVec.ofNat 32 a - BitVec.ofNat 32 b).toInt = (a : ℤ) - b := by
  rw [BitVec.toInt_sub, toInt_small a ha, toInt_small b hb, bmod_small _ (by omega) (by omega)]

theorem ofBool_one (p : Bool) : (BitVec.ofBool p = 1) ↔ p = true := by cases p <;> simp [BitVec.ofBool]

/-- Choosing by a comparison of two positions. -/
theorem select_le {α : Type} (j r : ℕ) (hj : j < 1048576) (hr : r < 1048576) (a b : α) :
    Scalar.select (IntOp.cmpi .sle (BitVec.ofNat 32 j) (BitVec.ofNat 32 r)) a b = if j < r + 1 then a else b := by
  unfold Scalar.select IntOp.cmpi
  refine if_congr ?_ rfl rfl
  rw [ofBool_one, BitVec.sle_iff_toInt_le, toInt_small j hj, toInt_small r hr]
  omega

/-- Choosing by a comparison of the offsets in a tile with the distance of the tile from the diagonal. -/
theorem select_tile {α : Type} (j i p k : ℕ) (hj : j < 512) (hi : i < 512) (hp : p < 17) (hk : k < 17) (a b : α) :
    Scalar.select (IntOp.cmpi .sle (IntOp.subi (BitVec.ofNat 32 j) (BitVec.ofNat 32 i))
      (Scalar.muli (Scalar.subi (BitVec.ofNat 32 p) (BitVec.ofNat 32 k)) 512#32)) a b
      = if 512 * k + j < 512 * p + i + 1 then a else b := by
  unfold Scalar.select IntOp.cmpi
  refine if_congr ?_ rfl rfl
  rw [ofBool_one, BitVec.sle_iff_toInt_le]
  change (BitVec.ofNat 32 j - BitVec.ofNat 32 i).toInt ≤ ((BitVec.ofNat 32 p - BitVec.ofNat 32 k) * BitVec.ofNat 32 512).toInt ↔ _
  rw [BitVec.toInt_mul, toInt_sub_small j i (by omega) (by omega), toInt_sub_small p k (by omega) (by omega),
    toInt_small 512 (by omega), bmod_small _ (by omega) (by omega)]
  omega

/-- Choosing by whether the key tile is the first. -/
theorem select_first {α : Type} (k : ℕ) (hk : k < 1048576) (a b : α) :
    Scalar.select (Scalar.cmpi .eq (BitVec.ofNat 32 k) 0#32) a b = if k = 0 then a else b := by
  unfold Scalar.select Scalar.cmpi IntOp.cmpi
  refine if_congr ?_ rfl rfl
  rw [ofBool_one, beq_iff_eq]
  constructor
  · intro h
    have := congrArg BitVec.toInt h
    rw [toInt_small k hk, show (0#32).toInt = 0 from rfl] at this
    omega
  · rintro rfl; rfl

end FoxWords

end
-- ==== Proof.FoxLoop.lean ====
/- What the loop of the attention kernel has computed after each tile. Tile `n` lies at `(a, b)`: the score buffer holds
   its scores; the running maximum of query row `r` of block `a` is the largest of the row's first `512 b` scores; and
   the accumulator of every row is the weighted sum over the keys read so far, the keys ahead of the query left out. -/
module

public import proofs.«01_k».proof.Proof.FoxPays
public import proofs.«01_k».proof.Proof.FoxWords

@[expose] public section

set_option maxRecDepth 16384

noncomputable section

namespace Cert.FoxIdeal.Attn
open Cert.FoxIdeal Cert.FoxIdeal.Gen
open Idealize.ShloMosaic
open VecWindow (window put)
open FoxMath (big blk)

/-- The tiles as words. -/
theorem tile_words : ∀ n : Fin 137, tile n.val = (BitVec.ofNat 32 (T n.val).1, BitVec.ofNat 32 (T n.val).2) := by
  decide +kernel

/-- The tiles lie on or under the diagonal. -/
theorem T_le : ∀ n : Fin 136, (T n.val).2 ≤ (T n.val).1 ∧ (T n.val).1 ≤ 15 := by decide +kernel

theorem T_succ (n : ℕ) : T (n + 1) = if (T n).2 = (T n).1 then ((T n).1 + 1, 0) else ((T n).1, (T n).2 + 1) := rfl

theorem T_last : T 136 = (16, 0) := by decide +kernel

/-- How many key tiles a query row of block `p` has met when the next tile is `(a, b)`. -/
def met (a b p : ℕ) : ℕ := if p < a then 16 else if p = a then b else 0

variable (q k v : Vec Ideal S1x8192x128 .bf16) (qx kx : Vec Ideal S1x1x8192x128 .bf16) (s : ℕ → ℕ → ℝ)

/-- A column of the values extended by ones. -/
def ev (c : Fin 256) (j : ℕ) : EReal := if hc : c.val < 128 then (if hj : j < 8192 then v (ix3 0 ⟨j, hj⟩ ⟨c.val, hc⟩) else 0) else 1

/-- The state when the next tile is the `n`-th. -/
structure Inv (n : ℕ) (σ : St Ideal) : Prop where
  scores : ∀ i j : Fin 512, window σ.scores (slot n) S1x512x512.size (slot_ok n) (ix3 0 i j)
    = (s (512 * min (T n).1 15 + i.val) (512 * min (T n).2 15 + j.val) : EReal)
  mx : (T n).2 ≠ 0 → ∀ (i : Fin 512) (l : Fin 128), σ.mx (ix2 i l)
    = big (s (512 * (T n).1 + i.val)) (min (512 * (T n).2) (512 * (T n).1 + i.val + 1))
  acc : ∀ (r : Fin 8192) (c : Fin 256), σ.acc (ix2 r c)
    = FoxMath.acc (s r.val) (ev v c) (min (512 * met (T n).1 (T n).2 (r.val / 512)) (r.val + 1))

/-- The accumulator after a step that reads one half of the score buffer and writes the other. -/
theorem step_acc (o : Offs) (h : StepOK o) (x y : BitVec 32) (w r : Fin 3 → ℕ) (hw : SlotOK w) (hr : SlotOK r) (σ : St Ideal)
    (hd : r 0 + S1x512x512.size 0 ≤ w 0 ∨ w 0 + S1x512x512.size 0 ≤ r 0) (ov : Fin 3 → ℕ) (oa : Fin 2 → ℕ) (e1 : o.v = ov) (e2 : o.acc = oa)
    (iv : ∀ a, ov a + S1x512x128.size a ≤ S1x8192x128.size a) (ia : ∀ a, oa a + S512x256.size a ≤ S8192x256.size a) :
    (step q qx k kx v o h x y w r hw hr σ).acc = put σ.acc oa S512x256.size (k0_pay9 (F := Ideal) k0_pay73 k0_pay74 x y
      (window v ov S1x512x128.size iv) (window σ.scores r S1x512x512.size hr) σ.mx (window σ.acc oa S512x256.size ia)) := by
  subst e1 e2
  unfold step
  dsimp only
  rw [win_mx, VecWindow.window_put_of_disjoint _ _ _ _ _ hr _ 0 hd]

/-- The rows written by one trip of the last loop. -/
theorem out_rows (A : Vec Ideal S8192x256 .f32) (g Y : Vec Ideal S1x8192x128 .bf16) (n : ℕ) (oa : Fin 2 → ℕ) (ob : Fin 3 → ℕ)
    (e1 : rowsA n = oa) (e2 : rowsB n = ob) (ia : ∀ a, oa a + S512x256.size a ≤ S8192x256.size a) (ib : ∀ a, ob a + S1x512x128.size a ≤ S1x8192x128.size a) :
    put Y (rowsB n) S1x512x128.size (k0_pay4 (window A (rowsA n) S512x256.size (rowsA_ok n)) (window g (rowsB n) S1x512x128.size (rowsB_ok n)))
      = put Y ob S1x512x128.size (k0_pay4 (window A oa S512x256.size ia) (window g ob S1x512x128.size ib)) := by
  subst e1 e2
  rfl

variable (hS : ∀ r j : Fin 8192, ∑ x : Fin 128, q (ix3 0 r x) * k (ix3 0 j x) + ∑ x : Fin 128, qx (ix4 0 0 r x) * kx (ix4 0 0 j x) = (s r.val j.val : EReal))
include hS

/-- The scores of a tile from its rows of queries and keys. -/
theorem tile_scores (A B : ℕ) (hA : A ≤ 15) (hB : B ≤ 15) (i1 i2 i3 i4) (i j : Fin 512) :
    k0_pay5 (window q ![0, 512 * A, 0] S1x512x128.size i1) (window qx ![0, 0, 512 * A, 0] S1x1x512x128.size i2)
      (window k ![0, 512 * B, 0] S1x512x128.size i3) (window kx ![0, 0, 512 * B, 0] S1x1x512x128.size i4) (ix3 0 i j)
      = (s (512 * A + i.val) (512 * B + j.val) : EReal) := by
  rw [pay5_apply, ← hS ⟨512 * A + i.val, by omega⟩ ⟨512 * B + j.val, by omega⟩]
  simp only [win3 q _ i1 i _ (by omega), win3 k _ i3 j _ (by omega), win4 qx _ i2 i _ (by omega), win4 kx _ i4 j _ (by omega)]

/-- One tile. -/
theorem inv_step (n : ℕ) (hn : n < 136) (σ : St Ideal) (h : Inv v s n σ) : Inv v s (n + 1) (stepN q qx k kx v n σ) := by
  have hT : (T n).2 ≤ (T n).1 ∧ (T n).1 ≤ 15 := T_le ⟨n, hn⟩
  have hW : tile n = (BitVec.ofNat 32 (T n).1, BitVec.ofNat 32 (T n).2) := tile_words ⟨n, by omega⟩
  obtain ⟨h1, h2, h3⟩ := h
  have hd : slot n 0 + S1x512x512.size 0 ≤ slot (n + 1) 0 ∨ slot (n + 1) 0 + S1x512x512.size 0 ≤ slot n 0 := by
    show n % 2 + 1 ≤ (n + 1) % 2 ∨ (n + 1) % 2 + 1 ≤ n % 2
    omega
  have hs := T_succ n
  generalize ha : (T n).1 = a at *
  generalize hb : (T n).2 = b at *
  rw [Nat.min_eq_left hT.2, Nat.min_eq_left (hT.1.trans hT.2)] at h1
  -- the current tile's masked scores, maximum before and after
  generalize hz : window σ.scores (slot n) S1x512x512.size (slot_ok n) = z at *
  have p6 : ∀ i j : Fin 512, k0_pay6 (F := Ideal) k0_pay74 (BitVec.ofNat 32 a) (BitVec.ofNat 32 b) z (ix2 i j)
      = blk (s (512 * a + i.val)) (512 * b) (512 * a + i.val + 1) j.val := fun i j => by
    rw [pay6_apply, FoxWords.select_tile _ _ _ _ j.isLt i.isLt (by omega) (by omega), h1]
    rfl
  have p7 : ∀ (i : Fin 512) (l : Fin 128), k0_pay7 (BitVec.ofNat 32 b) σ.mx (ix2 i l)
      = big (s (512 * a + i.val)) (min (512 * b) (512 * a + i.val + 1)) := fun i l => by
    rw [pay7_apply, FoxWords.select_first _ (by omega)]
    split
    · rename_i h0
      rw [h0, Nat.mul_zero, Nat.zero_min, FoxMath.big_zero]
    · rename_i h0
      exact h2 h0 i l
  have p8 : ∀ (i : Fin 512) (l : Fin 128), k0_pay8 (F := Ideal) k0_pay74 (BitVec.ofNat 32 a) (BitVec.ofNat 32 b) z σ.mx (ix2 i l)
      = big (s (512 * a + i.val)) (min (512 * b + 512) (512 * a + i.val + 1)) := fun i l => by
    rw [pay8_apply, p7, FoxMath.big_step]
    simp only [p6]
  refine ⟨fun i j => ?_, fun h0 i l => ?_, fun r c => ?_⟩
  · unfold stepN step offs
    dsimp only
    rw [VecWindow.window_put_same]
    exact tile_scores q k qx kx s hS _ _ (Nat.min_le_right _ _) (Nat.min_le_right _ _) _ _ _ _ i j
  · unfold stepN step
    dsimp only
    rw [put_mx, pay10_eq, win_mx, VecWindow.window_put_of_disjoint _ _ _ _ _ (slot_ok n) _ 0 hd, hz, hW, p8]
    rw [hs] at h0 ⊢
    split at h0
    · exact absurd rfl h0
    · rename_i hne
      rw [if_neg hne, Nat.mul_succ]
  · unfold stepN
    rw [step_acc q k v qx kx (offs n) _ _ _ _ _ _ (slot_ok n) σ hd ![0, 512 * b, 0] ![512 * a, 0]
      (by unfold offs; rw [hb, Nat.min_eq_left (hT.1.trans hT.2)]) (by unfold offs; rw [ha, Nat.min_eq_left hT.2])
      (by intro a; fin_cases a <;> simp [S1x512x128, S1x8192x128] <;> omega)
      (by intro a; fin_cases a <;> simp [S512x256, S8192x256] <;> omega), hz, hW, hs]
    dsimp only
    by_cases hr : r.val / 512 = a
    · have hi : r.val = 512 * a + r.val % 512 := by omega
      have hi' : 512 * a + r.val % 512 = r.val := by omega
      rw [put2_in _ _ _ r c ⟨r.val % 512, by omega⟩ hi,
        pay9_apply _ _ _ _ _ _ _ _ _ _ (fun l => p7 ⟨r.val % 512, by omega⟩ l) (fun l => p8 ⟨r.val % 512, by omega⟩ l)]
      simp only [p6, win2 σ.acc (512 * a) _ ⟨r.val % 512, by omega⟩ c (by omega), hi', Fin.eta]
      rw [h3,
        show met a b (r.val / 512) = b by unfold met; rw [if_neg (by omega), if_pos hr],
        show min (512 * met (if b = a then (a + 1, 0) else (a, b + 1)).1 (if b = a then (a + 1, 0) else (a, b + 1)).2 (r.val / 512)) (r.val + 1)
          = min (512 * b + 512) (r.val + 1) by
            unfold met
            by_cases e : b = a
            · rw [if_pos e, if_pos (by omega)]; omega
            · rw [if_neg e, if_neg (by omega), if_pos hr]; rfl,
        FoxMath.acc_step (s r.val) (ev v c) (512 * b) (r.val + 1) 512 (by omega) (by omega)]
      congr 1
      refine Finset.sum_congr rfl fun j _ => ?_
      congr 1
      unfold ev
      by_cases hc : c.val < 128
      · rw [dif_pos hc, dif_pos hc, win3 v _ _ j _ (by omega), dif_pos (by omega)]
      · rw [dif_neg hc, dif_neg hc]
    · rw [put2_out _ _ _ r c (by omega), h3]
      congr 2
      unfold met
      by_cases e : b = a
      · rw [if_pos e]
        by_cases hl : r.val / 512 < a
        · rw [if_pos hl, if_pos (by omega)]
        · rw [if_neg hl, if_neg hr, if_neg (by omega)]
          dsimp only
          split <;> rfl
      · rw [if_neg e]
        by_cases hl : r.val / 512 < a
        · rw [if_pos hl, if_pos hl]
        · rw [if_neg hl, if_neg hr, if_neg hl, if_neg hr]

/-- Before the first tile. -/
theorem inv_start (X : Vec Ideal S2x512x512 .f32) : Inv v s 0 (start q qx k kx X) := by
  refine ⟨fun i j => ?_, fun h0 => absurd rfl h0, fun r c => ?_⟩
  · show window (put X ![0, 0, 0] S1x512x512.size _) ![0, 0, 0] S1x512x512.size inb_S2x512x512_S1x512x512_0_0_0 (ix3 0 i j) = _
    rw [VecWindow.window_put_same, pay1_apply]
    rw [show (512 * min (T 0).1 15 + i.val) = i.val from Nat.zero_add _, show (512 * min (T 0).2 15 + j.val) = j.val from Nat.zero_add _,
      ← hS ⟨i.val, by omega⟩ ⟨j.val, by omega⟩]
    have e3 : ∀ (x : S1x8192x128.Idx → EReal) (i : Fin 512) (d : Fin 128), window x ![0, 0, 0] S1x512x128.size inb_S1x8192x128_S1x512x128_0_0_0 (ix3 0 i d)
        = x (ix3 0 ⟨i.val, by omega⟩ d) := fun x i d => (win3 x 0 _ i d (by omega)).trans (by congr 2; exact Fin.ext (Nat.zero_add _))
    have e4 : ∀ (x : S1x1x8192x128.Idx → EReal) (i : Fin 512) (d : Fin 128), window x ![0, 0, 0, 0] S1x1x512x128.size inb_S1x1x8192x128_S1x1x512x128_0_0_0_0 (ix4 0 0 i d)
        = x (ix4 0 0 ⟨i.val, by omega⟩ d) := fun x i d => (win4 x 0 _ i d (by omega)).trans (by congr 2; exact Fin.ext (Nat.zero_add _))
    exact congrArg₂ (· + ·)
      (Finset.sum_congr rfl fun x _ => congrArg₂ (· * ·) (e3 q i x) (e3 k j x))
      (Finset.sum_congr rfl fun x _ => congrArg₂ (· * ·) (e4 qx i x) (e4 kx j x))
  · show k0_pay71 (F := Ideal) (ix2 r c) = _
    rw [pay71_apply, show met (T 0).1 (T 0).2 (r.val / 512) = 0 by
      show (if r.val / 512 < 0 then 16 else if r.val / 512 = 0 then 0 else 0) = 0
      rw [if_neg (by omega)]; split <;> rfl, Nat.mul_zero, Nat.zero_min, FoxMath.acc_zero]

/-- After the loop the accumulator of each row is the weighted sum over all keys up to the query. -/
theorem loop_acc (X : Vec Ideal S2x512x512 .f32) (r : Fin 8192) (c : Fin 256) :
    (stAt q qx k kx v (start q qx k kx X) 136).acc (ix2 r c) = FoxMath.acc (s r.val) (ev v c) (r.val + 1) := by
  have h : ∀ n ≤ 136, Inv v s n (stAt q qx k kx v (start q qx k kx X) n) := fun n => by
    induction n with
    | zero => exact fun _ => inv_start q k v qx kx s hS X
    | succ n ih => exact fun hn => inv_step q k v qx kx s hS n hn _ (ih (by omega))
  rw [(h 136 le_rfl).acc r c, T_last]
  congr 1
  show min (512 * if r.val / 512 < 16 then 16 else _) (r.val + 1) = r.val + 1
  rw [if_pos (by omega)]
  omega

/-- The output block. -/
theorem out_apply (g : Vec Ideal S1x8192x128 .bf16) (r : Fin 8192) (d : Fin 128) : out q qx k kx v g (ix3 0 r d)
    = Ideal.div (FoxMath.acc (s r.val) (ev v ⟨d.val, by omega⟩) (r.val + 1)) (FoxMath.acc (s r.val) (fun _ => 1) (r.val + 1))
      * (g (ix3 0 r d) * Ideal.logistic (g (ix3 0 r d))) := by
  unfold out
  have ha := loop_acc q k v qx kx s hS fun _ => someF (F := Ideal)
  generalize (stAt q qx k kx v (start q qx k kx fun _ => someF (F := Ideal)) 136).acc = A at *
  have step : ∀ n ≤ 16, r.val < 512 * n → outAt g A (fun _ => someB (F := Ideal)) n (ix3 0 r d)
      = Ideal.div (A (ix2 r ⟨d.val, by omega⟩)) (A (ix2 r ⟨128 + d.val, by omega⟩)) * (g (ix3 0 r d) * Ideal.logistic (g (ix3 0 r d))) := fun n => by
    induction n with
    | zero => intro _ h; omega
    | succ n ih =>
      intro hn hr
      show put (outAt g A (fun _ => someB (F := Ideal)) n) (rowsB n) S1x512x128.size _ (ix3 0 r d) = _
      rw [out_rows A g _ n ![512 * n, 0] ![0, 512 * n, 0] (by unfold rowsA; rw [Nat.min_eq_left (by omega)])
        (by unfold rowsB; rw [Nat.min_eq_left (by omega)])
        (by intro a; fin_cases a <;> simp [S512x256, S8192x256] <;> omega)
        (by intro a; fin_cases a <;> simp [S1x512x128, S1x8192x128] <;> omega)]
      by_cases hl : r.val < 512 * n
      · rw [put3_out _ _ _ r d (.inl hl), ih (by omega) hl]
      · have hi : 512 * n + (r.val - 512 * n) = r.val := by omega
        rw [put3_in _ _ _ r d ⟨r.val - 512 * n, by omega⟩ hi.symm, pay4_apply,
          win2 A _ _ _ _ (by dsimp only; omega), win2 A _ _ _ _ (by dsimp only; omega), win3 g _ _ _ _ (by dsimp only; omega)]
        rw [show (⟨512 * n + (⟨r.val - 512 * n, by omega⟩ : Fin 512).val, by dsimp only; omega⟩ : Fin 8192) = r from Fin.ext hi]
  rw [step 16 le_rfl (by omega), ha, ha]
  congr 3
  unfold ev
  funext j
  rw [dif_neg (by dsimp only; omega)]

end Cert.FoxIdeal.Attn

end
-- ==== Proof.FoxRefValue.lean ====
/- The reference of the forgetting attention, taken apart: masked scores, their row maximum, the weights, the
   row sums, the mixed values; and each of these at one index. -/
module

public import proofs.«01_k».proof.Proof.Gen.FoxRefIdeal.Run
public import Idealize.ShloMosaic.Lib.Pipeline.ValueKit
public import Idealize.ShloMosaic.Lib.KernelVsHost
public import proofs.«01_k».proof.Proof.FoxMath
public import proofs.«01_k».proof.Proof.FoxWords

@[expose] public section

set_option maxRecDepth 16384

noncomputable section

open Idealize.ShloMosaic Idealize.ShloMosaic.TcCoe Idealize.SL.Sem

namespace Cert.FoxRefIdeal.Attn
open Cert.FoxRefIdeal Cert.FoxRefIdeal.Gen

/-- The scores in natural units, minus infinity ahead of the diagonal. -/
def masked (P : FVec Ideal S2x8192x4096 .bf16) (X K : FVec Ideal S2x8x8192x128 .bf16) : FVec Ideal S2x8x8192x8192 .f32 :=
  select (broadcastInDim S2x8x8192x8192 ![2, 3] bcast_S8192x8192_S2x8x8192x8192_2_3 (cmpi .sle (broadcastInDim S8192x8192 ![0, 1] bcast_S1x8192_S8192x8192_0_1 (broadcastInDim S1x8192 ![1] bcast_S8192_S1x8192_1 (iotaInDim S8192 32 0))) (broadcastInDim S8192x8192 ![0, 1] bcast_S8192x1_S8192x8192_0_1 (broadcastInDim S8192x1 ![0] bcast_S8192_S8192x1_0 (iotaInDim S8192 32 0))))) (mulf (addf (Host.dotGeneral dot_S2x8x8192x128_S2x8x8192x128_S2x8x8192x8192_3_3_2_2_01_01 none (transpose S2x8x8192x128 [0, 2, 1, 3] (shapeCast _ (extractStridedSlice S2x8192x1024 ![0, 0, 0] (extf .f32 P bitsLt_bf16_f32) slices_S2x8192x4096_S2x8192x1024_0_0_0) shapeCasts_S2x8192x1024_S2x8192x8x128) transposes_S2x8192x8x128_S2x8x8192x128_0_2_1_3) (transpose S2x8x8192x128 [0, 2, 1, 3] (shapeCast _ (extractStridedSlice S2x8192x1024 ![0, 0, 1024] (extf .f32 P bitsLt_bf16_f32) slices_S2x8192x4096_S2x8192x1024_0_0_1024) shapeCasts_S2x8192x1024_S2x8192x8x128) transposes_S2x8192x8x128_S2x8x8192x128_0_2_1_3)) (Host.dotGeneral dot_S2x8x8192x128_S2x8x8192x128_S2x8x8192x8192_3_3_2_2_01_01 none (extf .f32 X bitsLt_bf16_f32) (extf .f32 K bitsLt_bf16_f32))) (broadcastInDim S2x8x8192x8192 ![] bcast_S_S2x8x8192x8192 (Host.log (constant S_ .f32 0x40000000#32)))) (broadcastInDim S2x8x8192x8192 ![] bcast_S_S2x8x8192x8192 (id (constant S_ .f32 0xFF800000#32)))

/-- The largest of each row. -/
def top (P : FVec Ideal S2x8192x4096 .bf16) (X K : FVec Ideal S2x8x8192x128 .bf16) : FVec Ideal S2x8x8192 .f32 :=
  maximumf (broadcastInDim S2x8x8192 ![] bcast_S_S2x8x8192 (constant S_ .f32 0xFF800000#32)) (Host.reduce FloatOps.maximumf (masked P X K) (constant S_ .f32 0xFF800000#32) reducesTo_S2x8x8192x8192_S2x8x8192_d3 h_S_)

/-- The exponentials of the scores less their row's largest. -/
def wt (P : FVec Ideal S2x8192x4096 .bf16) (X K : FVec Ideal S2x8x8192x128 .bf16) : FVec Ideal S2x8x8192x8192 .f32 :=
  Host.exp (subf (masked P X K) (broadcastInDim S2x8x8192x8192 ![0, 1, 2, 3] bcast_S2x8x8192x1_S2x8x8192x8192_0_1_2_3 (broadcastInDim S2x8x8192x1 ![0, 1, 2] bcast_S2x8x8192_S2x8x8192x1_0_1_2 (top P X K))))

/-- The sum of each row of exponentials. -/
def den (P : FVec Ideal S2x8192x4096 .bf16) (X K : FVec Ideal S2x8x8192x128 .bf16) : FVec Ideal S2x8x8192 .f32 :=
  Host.reduceAdd (wt P X K) (constant S_ .f32 0x00000000#32) reducesTo_S2x8x8192x8192_S2x8x8192_d3 h_S_

/-- The values mixed by the quotients. -/
def mix (P : FVec Ideal S2x8192x4096 .bf16) (X K : FVec Ideal S2x8x8192x128 .bf16) : FVec Ideal S2x8x8192x128 .f32 :=
  Host.dotGeneral dot_S2x8x8192x8192_S2x8x8192x128_S2x8x8192x128_3_2_2_3_01_01 none (extf .f32 (truncf .bf16 (Host.divf (wt P X K) (broadcastInDim S2x8x8192x8192 ![0, 1, 2, 3] bcast_S2x8x8192x1_S2x8x8192x8192_0_1_2_3 (broadcastInDim S2x8x8192x1 ![0, 1, 2] bcast_S2x8x8192_S2x8x8192x1_0_1_2 (den P X K)))) bitsLt_bf16_f32) bitsLt_bf16_f32) (transpose S2x8x8192x128 [0, 2, 1, 3] (shapeCast _ (extractStridedSlice S2x8192x1024 ![0, 0, 2048] (extf .f32 P bitsLt_bf16_f32) slices_S2x8192x4096_S2x8192x1024_0_0_2048) shapeCasts_S2x8192x1024_S2x8192x8x128) transposes_S2x8192x8x128_S2x8x8192x128_0_2_1_3)

/-- The whole reference. -/
def REF (P : FVec Ideal S2x8192x4096 .bf16) (X K : FVec Ideal S2x8x8192x128 .bf16) : FVec Ideal S2x8192x1024 .bf16 :=
  truncf .bf16 (mulf (shapeCast _ (transpose S2x8192x8x128 [0, 2, 1, 3] (mix P X K) transposes_S2x8x8192x128_S2x8192x8x128_0_2_1_3) shapeCasts_S2x8192x8x128_S2x8192x1024) (mulf (extractStridedSlice S2x8192x1024 ![0, 0, 3072] (extf .f32 P bitsLt_bf16_f32) slices_S2x8192x4096_S2x8192x1024_0_0_3072) (Host.divf (broadcastInDim S2x8192x1024 ![] bcast_S_S2x8192x1024 (constant S_ .f32 0x3F800000#32)) (addf (broadcastInDim S2x8192x1024 ![] bcast_S_S2x8192x1024 (constant S_ .f32 0x3F800000#32)) (Host.exp (Host.negf (extractStridedSlice S2x8192x1024 ![0, 0, 3072] (extf .f32 P bitsLt_bf16_f32) slices_S2x8192x4096_S2x8192x1024_0_0_3072))))))) bitsLt_bf16_f32

variable (m : (ℓ : Loc nD τ sig) → Buf (Elt Ideal) ℓ)

theorem res_eq (c : Dev nD) : Value.res_out0 m c
    = REF (m ((c.tc : Thread nD τ).loc main_arg0)) (m ((c.tc : Thread nD τ).loc main_arg1)) (m ((c.tc : Thread nD τ).loc main_arg2)) := by
  unfold Value.res_out0 Value.res_main_v44 REF mix den wt top masked
  rfl

variable (P : FVec Ideal S2x8192x4096 .bf16) (X K : FVec Ideal S2x8x8192x128 .bf16)

/-- A masked score. -/
theorem masked_apply (b h r j) : masked P X K (ix4 b h r j) = Scalar.select (IntOp.cmpi CmpIPredicate.sle (BitVec.ofNat 32 j.val) (BitVec.ofNat 32 r.val))
      ((∑ x : Fin 128, P (ix3 b r ⟨h.val * 128 + x.val, by omega⟩) * P (ix3 b j ⟨1024 + (h.val * 128 + x.val), by omega⟩) +
          ∑ x, X (ix4 b h r x) * K (ix4 b h j x)) * (Real.log 2 : ℝ)) ⊥ := by
  have two : Ideal.ofBits .f32 0x40000000#32 = (2 : ℝ) := by
    simp [Ideal.ofBits, Ideal.ieee]
    rw [← EReal.coe_mul]
    norm_num
  have bot : constant (F := Ideal) S_ FTy.f32 4286578688#32 ix0 = ⊥ := by
    change Ideal.ofBits .f32 0xFF800000#32 = ⊥
    simp [Ideal.ofBits, Ideal.ieee]
  pointwise [masked]
  rw [two, Ideal.log_coe, if_neg (by norm_num)]
  exact congrArg (Scalar.select _ _) bot

theorem bot_word : Ideal.ofBits .f32 0xFF800000#32 = ⊥ := by simp [Ideal.ofBits, Ideal.ieee]
/-- Rows reduce over their last axis. -/
theorem red : S2x8x8192x8192.Reduces [3] S2x8x8192 := by decide
/-- The largest of a row. -/
theorem top_apply (b h r) : top P X K (ix3 b h r) = (Finset.univ : Finset (Fin 8192)).fold max ⊥ (fun x => masked P X K (ix4 b h r x)) := by
  unfold top
  rw [hostReduce_maximumf_eq_multiReduction (masked P X K) 0xFF800000#32 reducesTo_S2x8x8192x8192_S2x8x8192_d3 h_S_ red (by decide) (by decide)]
  generalize masked P X K = M
  rw [maximumf_apply, Ideal.multiReduction_maximumf_single]
  have e : ∀ x, red.lift (ix3 b h r) x = ix4 b h r x := fun x => by
    funext a; fin_cases a <;> rfl
  change max (Ideal.ofBits .f32 0xFF800000#32) (Finset.fold max (Ideal.ofBits .f32 0xFF800000#32) _ _) = _
  rw [bot_word, max_eq_right bot_le]
  exact congrArg (fun f => Finset.fold max ⊥ f Finset.univ) (funext fun x => congrArg M (e x))

/-- One exponential. -/
theorem wt_apply (b h r j) : wt P X K (ix4 b h r j) = Ideal.exp (masked P X K (ix4 b h r j) - top P X K (ix3 b h r)) := by
  pointwise [wt]

/-- A row sum. -/
theorem den_apply (b h r) : den P X K (ix3 b h r) = ∑ j, wt P X K (ix4 b h r j) := by
  pointwise [den]

/-- A mixed value. -/
theorem mix_apply (b h r) (d : Fin 128) : mix P X K (ix4 b h r d) = ∑ j, Ideal.div (wt P X K (ix4 b h r j)) (den P X K (ix3 b h r))
    * P (ix3 b j ⟨2048 + (h.val * 128 + d.val), by omega⟩) := by
  pointwise [mix]

/-- Heads laid side by side. -/
theorem lay (O : FVec Ideal S2x8x8192x128 .f32) (z) : shapeCast S2x8192x1024 (transpose S2x8192x8x128 [0, 2, 1, 3] O transposes_S2x8x8192x128_S2x8192x8x128_0_2_1_3) shapeCasts_S2x8192x8x128_S2x8192x1024 z
   = O (ix4 (z 0) ⟨(z 2).val / 128, by have := (z 2).isLt; change (z 2).val < 1024 at this; omega⟩ (z 1) ⟨(z 2).val % 128, by omega⟩) := by
  pointwise []

/-- The gate. -/
theorem gate (z) : REF P X K z = shapeCast S2x8192x1024 (transpose S2x8192x8x128 [0, 2, 1, 3] (mix P X K) transposes_S2x8x8192x128_S2x8192x8x128_0_2_1_3) shapeCasts_S2x8192x8x128_S2x8192x1024 z
   * (P (ix3 (z 0) (z 1) ⟨3072 + (z 2).val, by have := (z 2).isLt; change (z 2).val < 1024 at this; omega⟩)
      * Ideal.div 1 (1 + Ideal.exp (-(P (ix3 (z 0) (z 1) ⟨3072 + (z 2).val, by have := (z 2).isLt; change (z 2).val < 1024 at this; omega⟩))))) := by
  unfold REF
  rw [truncf_apply, mulf_apply]
  refine congrArg₂ (· * ·) rfl ?_
  pointwise []

open FoxMath

/-- The score of query `r` and key `j`, in powers of two. -/
def SC (b : Fin 2) (h : Fin 8) (r j : Fin 8192) : EReal :=
  ∑ x : Fin 128, P (ix3 b r ⟨h.val * 128 + x.val, by omega⟩) * P (ix3 b j ⟨1024 + (h.val * 128 + x.val), by omega⟩)
    + ∑ x : Fin 128, X (ix4 b h r x) * K (ix4 b h j x)

/-- The scores of a row as reals. -/
def sc (b : Fin 2) (h : Fin 8) (r : Fin 8192) (j : ℕ) : ℝ := if hj : j < 8192 then (SC P X K b h r ⟨j, hj⟩).toReal else 0

/-- A column of values. -/
def vv (b : Fin 2) (h : Fin 8) (d : Fin 128) (j : ℕ) : EReal :=
  if hj : j < 8192 then P (ix3 b ⟨j, hj⟩ ⟨2048 + (h.val * 128 + d.val), by omega⟩) else 0

/-- A gate activation. -/
def gg (b : Fin 2) (h : Fin 8) (r : Fin 8192) (d : Fin 128) : EReal := P (ix3 b r ⟨3072 + (h.val * 128 + d.val), by omega⟩)

/-- The attention of query `r` in head `h`, column `d`: weighted values over weights, gated. -/
def att (b : Fin 2) (h : Fin 8) (r : Fin 8192) (d : Fin 128) : EReal :=
  Ideal.div (acc (sc P X K b h r) (vv P b h d) (r.val + 1)) (acc (sc P X K b h r) (fun _ => 1) (r.val + 1))
    * (gg P b h r d * Ideal.logistic (gg P b h r d))

variable {P X K} (hS : ∀ b h r j, IsReal (SC P X K b h r j))
include hS

theorem sc_eq (b h r) (j : Fin 8192) : (sc P X K b h r j.val : EReal) = SC P X K b h r j := by
  unfold sc
  rw [dif_pos j.isLt]
  exact (hS b h r j).coe_toReal

theorem masked_eq (b h r) (j : Fin 8192) : masked P X K (ix4 b h r j) = nat (sc P X K b h r) (r.val + 1) j.val := by
  rw [masked_apply, FoxWords.select_le _ _ (by omega) (by omega)]
  unfold nat
  rw [sc_eq hS]
  rfl

theorem mix_eq (b h r) (d : Fin 128) : mix P X K (ix4 b h r d)
    = Ideal.div (acc (sc P X K b h r) (vv P b h d) (r.val + 1)) (acc (sc P X K b h r) (fun _ => 1) (r.val + 1)) := by
  rw [mix_apply, ← softmax (sc P X K b h r) (vv P b h d) (Nat.succ_pos _) (show r.val + 1 ≤ 8192 from r.isLt) (top P X K (ix3 b h r))
    (by rw [top_apply]; simp only [masked_eq hS])]
  refine Finset.sum_congr rfl fun j _ => ?_
  rw [den_apply]
  simp only [wt_apply, masked_eq hS]
  unfold vv
  rw [dif_pos j.isLt]

/-- The reference at an index. -/
theorem REF_apply (b h r) (d : Fin 128) : REF P X K (ix3 b r ⟨h.val * 128 + d.val, by omega⟩) = att P X K b h r d := by
  have e1 : (⟨(h.val * 128 + d.val) / 128, by omega⟩ : Fin 8) = h := Fin.ext (by change (h.val * 128 + d.val) / 128 = h.val; omega)
  have e2 : (⟨(h.val * 128 + d.val) % 128, by omega⟩ : Fin 128) = d := Fin.ext (by change (h.val * 128 + d.val) % 128 = d.val; omega)
  rw [gate, lay]
  unfold att
  rw [← mix_eq hS]
  exact congrArg₂ (· * ·) (congrArg (mix P X K) (congrArg₂ (fun x y => ix4 b x r y) e1 e2)) rfl

end Cert.FoxRefIdeal.Attn

end
-- ==== Proof.FoxValue.lean ====
/- The result array of the attention kernel is the reference's. -/
module

public import proofs.«01_k».proof.Proof.FoxRun
public import proofs.«01_k».proof.Proof.FoxLoop
public import proofs.«01_k».proof.Proof.FoxRefValue
public import Idealize.ShloMosaic.Lib.Pipeline.ValueKit

@[expose] public section

set_option maxRecDepth 16384

noncomputable section

namespace Cert.FoxIdeal.Attn
open Cert.FoxIdeal Cert.FoxIdeal.Gen
open Idealize.ShloMosaic Idealize.ShloMosaic.TcCoe Idealize.SL.Sem
open Idealize.ShloMosaic.Pipeline (Dat)
open Cert.FoxRefIdeal.Attn (SC sc vv gg att REF)

variable (m : (ℓ : Loc nD τ sig) → Buf (Elt Ideal) ℓ)

/-- The block indices of the windows: batch and head are the grid's coordinates. -/
theorem idx : ∀ t : Fin cfg0.N, win0_0.index t = ![(grid0.coords t 0).val, 0, (grid0.coords t 1).val]
    ∧ win0_1.index t = ![(grid0.coords t 0).val, (grid0.coords t 1).val, 0, 0]
    ∧ win0_2.index t = ![(grid0.coords t 0).val, 0, 8 + (grid0.coords t 1).val]
    ∧ win0_3.index t = ![(grid0.coords t 0).val, (grid0.coords t 1).val, 0, 0]
    ∧ win0_4.index t = ![(grid0.coords t 0).val, 0, 16 + (grid0.coords t 1).val]
    ∧ win0_5.index t = ![(grid0.coords t 0).val, 0, 24 + (grid0.coords t 1).val]
    ∧ win0_6.index t = ![(grid0.coords t 0).val, 0, (grid0.coords t 1).val] :=
  (by decide +kernel : ∀ t : Fin grid0.N, _)

section
variable (c : Dev nD) (t : Fin cfg0.N)

/-- The batch and the head of a grid point. -/
def bat : Fin 2 := ⟨(grid0.coords t 0).val, (grid0.coords t 0).isLt⟩
def hd : Fin 8 := ⟨(grid0.coords t 1).val, (grid0.coords t 1).isLt⟩

theorem blk_q (r : Fin 8192) (x : Fin 128) : iblk m c 0 t (ix3 0 r x)
    = m ((c : Thread nD τ).loc main_arg0) (ix3 (bat t) r ⟨(hd t).val * 128 + x.val, by omega⟩) := by
  blk_point [iblk, V, idx t, bat, hd]

theorem blk_k (r : Fin 8192) (x : Fin 128) : iblk m c 2 t (ix3 0 r x)
    = m ((c : Thread nD τ).loc main_arg0) (ix3 (bat t) r ⟨1024 + ((hd t).val * 128 + x.val), by omega⟩) := by
  blk_point [iblk, V, idx t, bat, hd]

theorem blk_v (r : Fin 8192) (x : Fin 128) : iblk m c 4 t (ix3 0 r x)
    = m ((c : Thread nD τ).loc main_arg0) (ix3 (bat t) r ⟨2048 + ((hd t).val * 128 + x.val), by omega⟩) := by
  blk_point [iblk, V, idx t, bat, hd]

theorem blk_g (r : Fin 8192) (x : Fin 128) : iblk m c 5 t (ix3 0 r x)
    = m ((c : Thread nD τ).loc main_arg0) (ix3 (bat t) r ⟨3072 + ((hd t).val * 128 + x.val), by omega⟩) := by
  blk_point [iblk, V, idx t, bat, hd]

theorem blk_qx (r : Fin 8192) (x : Fin 128) : iblk m c 1 t (ix4 0 0 r x)
    = m ((c : Thread nD τ).loc main_arg1) (ix4 (bat t) (hd t) r x) := by
  blk_point [iblk, V, idx t, bat, hd]

theorem blk_kx (r : Fin 8192) (x : Fin 128) : iblk m c 3 t (ix4 0 0 r x)
    = m ((c : Thread nD τ).loc main_arg2) (ix4 (bat t) (hd t) r x) := by
  blk_point [iblk, V, idx t, bat, hd]

end

/-- Every score of the argument arrays is a real number. -/
def RealScores : Prop := ∀ (c : Dev nD) b h r j, FoxMath.IsReal (SC (m ((c : Thread nD τ).loc main_arg0)) (m ((c : Thread nD τ).loc main_arg1))
  (m ((c : Thread nD τ).loc main_arg2)) b h r j)

variable (hS : RealScores m)
include hS

/-- What the body stores at a row and column of its block is the reference at the array index it sits at. -/
theorem point_ix (c : Dev nD) (t : Fin cfg0.N) (r : Fin 8192) (d : Fin 128) :
    out (F := Ideal) (iblk m c 0 t) (iblk m c 1 t) (iblk m c 2 t) (iblk m c 3 t) (iblk m c 4 t) (iblk m c 5 t) (ix3 0 r d)
      = REF (m ((c : Thread nD τ).loc main_arg0)) (m ((c : Thread nD τ).loc main_arg1)) (m ((c : Thread nD τ).loc main_arg2))
          (ix3 (bat t) r ⟨(hd t).val * 128 + d.val, by omega⟩) := by
  rw [Cert.FoxRefIdeal.Attn.REF_apply (hS c)]
  rw [out_apply (iblk m c 0 t) (iblk m c 2 t) (iblk m c 4 t) (iblk m c 1 t) (iblk m c 3 t)
    (fun r j => if hr : r < 8192 then sc (m ((c : Thread nD τ).loc main_arg0)) (m ((c : Thread nD τ).loc main_arg1))
      (m ((c : Thread nD τ).loc main_arg2)) (bat t) (hd t) ⟨r, hr⟩ j else 0)
    (fun r j => by
      rw [dif_pos r.isLt, Cert.FoxRefIdeal.Attn.sc_eq (hS c)]
      unfold SC
      simp only [blk_q, blk_k, blk_qx, blk_kx])]
  unfold att gg
  rw [blk_g]
  have es : (fun j => if hr : r.val < 8192 then sc (m ((c : Thread nD τ).loc main_arg0)) (m ((c : Thread nD τ).loc main_arg1))
      (m ((c : Thread nD τ).loc main_arg2)) (bat t) (hd t) ⟨r.val, hr⟩ j else 0)
      = sc (m ((c : Thread nD τ).loc main_arg0)) (m ((c : Thread nD τ).loc main_arg1)) (m ((c : Thread nD τ).loc main_arg2)) (bat t) (hd t) r := by
    funext j
    rw [dif_pos r.isLt]
  have ev' : ev (iblk m c 4 t) ⟨d.val, by omega⟩ = vv (m ((c : Thread nD τ).loc main_arg0)) (bat t) (hd t) d := by
    funext j
    unfold ev vv
    rw [dif_pos d.isLt]
    by_cases hj : j < 8192
    · rw [dif_pos hj, dif_pos hj, blk_v]
    · rw [dif_neg hj, dif_neg hj]
  rw [es, ev']

omit hS in
/-- An index of a block by its row and column. -/
theorem y_eq (y : S1x8192x128.Idx) : y = ix3 0 (y 1) (y 2) := by
  funext a
  fin_cases a
  · exact Fin.ext (by have : (y 0).val < 1 := (y 0).isLt; show (y 0).val = 0; omega)
  · rfl
  · rfl

theorem point (c : Dev nD) (t : Fin cfg0.N) (y : S1x8192x128.Idx) :
    out (F := Ideal) (iblk m c 0 t) (iblk m c 1 t) (iblk m c 2 t) (iblk m c 3 t) (iblk m c 4 t) (iblk m c 5 t) y
      = REF (m ((c : Thread nD τ).loc main_arg0)) (m ((c : Thread nD τ).loc main_arg1)) (m ((c : Thread nD τ).loc main_arg2))
          (((cfg0.win 6).blk t).view.emb y) := by
  rw [y_eq y]
  obtain ⟨r, hr⟩ : ∃ r : Fin 8192, r = y 1 := ⟨_, rfl⟩
  obtain ⟨d, hd'⟩ : ∃ d : Fin 128, d = y 2 := ⟨_, rfl⟩
  rw [← hr, ← hd']
  have e : ((cfg0.win 6).blk t).view.emb (ix3 0 r d) = ix3 (bat t) r ⟨(hd t).val * 128 + d.val, by omega⟩ := by
    blk_point [idx t, bat, hd]
  exact (point_ix m hS c t r d).trans (congrArg _ e.symm)

/-- The result array after the run. -/
theorem final (c : Dev nD) : (dats m 0 c).arrAt 6 (cfgs 0).N
    = REF (m ((c : Thread nD τ).loc main_arg0)) (m ((c : Thread nD τ).loc main_arg1)) (m ((c : Thread nD τ).loc main_arg2)) := by
  refine (dats m 0 c).arrAt_eq_of_covers 6 _ (by decide +kernel) fun t _ y => ?_
  blk_simp
  rw [after0_6]; frame_out
  exact point m hS c t y

omit hS in
/-- The run's results: the output's array, the arguments unchanged. -/
theorem run_value (ρ : Dev nD → PrngReg) : θ_run defs (onTc (τ := τ) (main (F := Ideal))) ⟨m, fun _ => 0, ρ⟩ (fun r => ∀ c : Dev nD,
      r.2.mem ((c.tc : Thread nD τ).loc main_v0) = (dats m 0 c).arrAt 6 (cfgs 0).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  by
  have h1 := run_main m ρ
  refine (θ_run defs _ _).mono (fun _ h c => ⟨(h c).1 6, ?_, ?_, ?_⟩) h1
  · exact ((h c).1 0).trans (((dats m 0 c).arrAt_in 0 rfl _).trans ((A_eq m c 0).trans (V_main_arg0 m c)))
  · exact ((h c).1 1).trans (((dats m 0 c).arrAt_in 1 rfl _).trans ((A_eq m c 1).trans (V_main_arg1 m c)))
  · exact ((h c).1 3).trans (((dats m 0 c).arrAt_in 3 rfl _).trans ((A_eq m c 3).trans (V_main_arg2 m c)))

end Cert.FoxIdeal.Attn

end
-- ==== Proof.FoxFinite.lean ====
/- The precondition of the attention's claim: finite queries and keys, hence real scores. -/
module

public import proofs.«01_k».proof.Defs
public import proofs.«01_k».proof.Proof.FoxValue

@[expose] public section

noncomputable section

namespace Cert.FoxFinite
open Idealize.ShloMosaic Idealize.ShloMosaic.TcCoe
open Cert.Pre_finite
open FoxMath (IsReal)

/-- The shape relations the predicate's operations take. -/
instance facts : Cert.Pre_finite.Facts where
  bitsLt_bf16_f32 := by decide
  slices_S2x8192x4096_S2x8192x2048_0_0_0 := by decide
  bcast_S_S2x8192x2048 := by decide
  bcast_S_S2x8x8192x128 := by decide

/-- A value of magnitude below infinity is a real number. -/
theorem isReal_of_abs {x : EReal} (h : Ideal.cmp .olt (max x (-x)) (Ideal.ofBits .f32 0x7F800000#32) = 1#1) : IsReal x := by
  have htop : Ideal.ofBits .f32 0x7F800000#32 = ⊤ := by simp [Ideal.ofBits, Ideal.ieee]
  rw [htop] at h
  induction x using EReal.rec with
  | bot => exact absurd h (by simp [Ideal.cmp])
  | coe r => exact ⟨r, rfl⟩
  | top => exact absurd h (by simp [Ideal.cmp])

variable {P : FVec Ideal S2x8192x4096 .bf16} {X K : FVec Ideal S2x8x8192x128 .bf16}

/-- The queries and keys, the first half of the projection's columns, are real. -/
theorem real_P (h : (Cert.Pre_finite.fn (F := Ideal) P X K).1 = fun _ => 1#1) (b : Fin 2) (r : Fin 8192) (e : Fin 4096) (he : e.val < 2048) :
    IsReal (P (ix3 b r e)) := by
  have h' := congrFun h (ix3 b r ⟨e.val, he⟩)
  have hx : extractStridedSlice S2x8192x2048 ![0, 0, 0] (extf (F := Ideal) .f32 P Facts.bitsLt_bf16_f32) Facts.slices_S2x8192x4096_S2x8192x2048_0_0_0
      (ix3 b r ⟨e.val, he⟩) = P (ix3 b r e) := by
    pointwise []
  refine isReal_of_abs (x := P (ix3 b r e)) ?_
  rw [← hx]
  exact h'

/-- The queries' other part is real. -/
theorem real_X (h : (Cert.Pre_finite.fn (F := Ideal) P X K).2.1 = fun _ => 1#1) (i : S2x8x8192x128.Idx) : IsReal (X i) :=
  isReal_of_abs (congrFun h i)

/-- The keys' other part is real. -/
theorem real_K (h : (Cert.Pre_finite.fn (F := Ideal) P X K).2.2 = fun _ => 1#1) (i : S2x8x8192x128.Idx) : IsReal (K i) :=
  isReal_of_abs (congrFun h i)

/-- Under the precondition every score is real. -/
theorem realScores {m : (ℓ : Loc Cert.FoxIdeal.nD Cert.FoxIdeal.τ Cert.FoxIdeal.sig) → Buf (Elt Ideal) ℓ}
    (h : Cert.Pre_FoxIdeal_finite m) : Cert.FoxIdeal.Attn.RealScores m := by
  intro c b hh r j
  unfold Cert.FoxRefIdeal.Attn.SC
  exact (IsReal.sum _ fun x _ => (real_P (h c).1 b r _ (by show hh.val * 128 + x.val < 2048; omega)).mul
      (real_P (h c).1 b j _ (by show 1024 + (hh.val * 128 + x.val) < 2048; omega))).add
    (IsReal.sum _ fun x _ => (real_X (h c).2.1 _).mul (real_K (h c).2.2 _))

end Cert.FoxFinite

end
-- ==== Proof.ProjRun.lean ====
/- The projection to the attention's columns, with the forget logits: at every grid point the body stores the product's
   block; at the first point of each row of blocks it also stores the forget gates, whose buffer the row's other points
   leave as they found it and the last writes back. -/
module

public import proofs.«01_k».proof.Proof.OwnsRules
public import proofs.«01_k».proof.Proof.Gen.FoxProjIdeal.Skeleton
public import proofs.«01_k».proof.Proof.Gen.FoxProjIdeal.Frame
public import Idealize.ShloMosaic.Lib.Claim

@[expose] public section

set_option maxRecDepth 16384

noncomputable section

namespace Cert.FoxProjIdeal.Proj
open Cert.FoxProjIdeal Cert.FoxProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)
open VecWindow (window put)

variable {F : FTy → Type} [FloatOps F]

local notation "𝕄" => MT nD τ sig Unit (Elt F) ℕ (UR sig nD τ) ℕ

/-- A window of the whole buffer is its contents. -/
theorem window_whole {α : Type} {s : Shape} (X : s.Idx → α) (off : Fin s.rank → ℕ) (h : ∀ a, off a = 0) (i : ∀ a, off a + s.size a ≤ s.size a) :
    window X off s.size i = X := by
  funext y
  unfold window
  congr 1
  funext a
  exact Fin.ext (show off a + 1 * (y a).val = (y a).val by rw [h a]; omega)

/-- A payload put over the whole buffer is the buffer. -/
theorem put_whole {α : Type} {s : Shape} (X w : s.Idx → α) (off : Fin s.rank → ℕ) (h : ∀ a, off a = 0) (i : ∀ a, off a + s.size a ≤ s.size a) :
    put X off s.size w = w := by
  rw [← window_whole (put X off s.size w) off h i, VecWindow.window_put_same]

section Triple
variable (u : Vec F S1024x4096 .bf16) (w : Vec F S1x4096x1024 .bf16) (wf : Vec F S1x4096x128 .bf16) (bf : Vec F S1x1x128 .f32)
variable (c : Dev nD) (i : grid0.Coords) (arg2 : Memref sig .tc .vmem S1024x4096 .bf16) (harg2 : arg2.IsWhole) (arg3 : Memref sig .tc .vmem S1x4096x1024 .bf16) (harg3 : arg3.IsWhole)
  (arg4 : Memref sig .tc .vmem S1x4096x128 .bf16) (harg4 : arg4.IsWhole) (arg5 : Memref sig .tc .vmem S1x1x128 .f32) (harg5 : arg5.IsWhole)
  (arg6 : Memref sig .tc .vmem S1024x1024 .bf16) (harg6 : arg6.IsWhole) (arg7 : Memref sig .tc .vmem S1024x128 .f32) (harg7 : arg7.IsWhole)

/-- The body: the operand buffers as found, the product stored, the gates' buffer stored or left. -/
theorem body_sound (E : Set ℕ) (X6 : Vec F S1024x1024 .bf16) (X7 : Vec F S1024x128 .f32) (K : PUnit → sProp 𝕄) :
    iprop(owns (c : Thread nD τ) arg2 fullShare u ∗ owns (c : Thread nD τ) arg3 fullShare w ∗ owns (c : Thread nD τ) arg4 fullShare wf
      ∗ owns (c : Thread nD τ) arg5 fullShare bf ∗ owns (c : Thread nD τ) arg6 fullShare X6 ∗ owns (c : Thread nD τ) arg7 fullShare X7
      ∗ (iprop(owns (c : Thread nD τ) arg2 fullShare u ∗ owns (c : Thread nD τ) arg3 fullShare w ∗ owns (c : Thread nD τ) arg4 fullShare wf
          ∗ owns (c : Thread nD τ) arg5 fullShare bf ∗ owns (c : Thread nD τ) arg6 fullShare (k0_pay1 u w)
          ∗ owns (c : Thread nD τ) arg7 fullShare (if k0_cond1 i = 1#1 then k0_pay2 u wf bf else X7)) -∗ K ⟨⟩))
    ⊢ wp frame (wpE (defs₀ (F := F)) Variants.none c none) E
      (cc0_in_proj (F := F) i arg2 harg2 arg3 harg3 arg4 harg4 arg5 harg5 arg6 harg6 arg7 harg7) K := by
  rw [cc0_in_proj_eq_skeleton]
  unfold cc0_in_proj_skel
  by_cases hc : k0_cond1 i = 1#1
  · rw [if_pos hc]
    simp only [Prog.lift, Prog.bind_op, Prog.bind_ret, dif_pos hc]
    iintro ⟨H2, H3, H4, H5, H6, H7, Hk⟩
    iapply (OwnsRules.load _ _ _ _ u) $$ H2; iintro H2
    iapply (OwnsRules.load _ _ _ _ w) $$ H3; iintro H3
    iapply (OwnsRules.load _ _ _ _ X6) $$ H6; iintro H6
    iapply (OwnsRules.store _ _ _ _ X6) $$ H6; iintro H6
    iapply (OwnsRules.load _ _ _ _ wf) $$ H4; iintro H4
    iapply (OwnsRules.load _ _ _ _ bf) $$ H5; iintro H5
    iapply (OwnsRules.load _ _ _ _ X7) $$ H7; iintro H7
    iapply (OwnsRules.store _ _ _ _ X7) $$ H7; iintro H7
    rw [show (pure ⟨⟩ : Prog (TpuEff nD τ sig (Elt F) Λ₀ .tc) PUnit) = .ret ⟨⟩ from rfl, wp_ret,
      window_whole u ![0, 0] (by decide), window_whole w ![0, 0, 0] (by decide), window_whole wf ![0, 0, 0] (by decide),
      window_whole bf ![0, 0, 0] (by decide), put_whole X6 _ ![0, 0] (by decide) inb_S1024x1024_S1024x1024_0_0,
      put_whole X7 _ ![0, 0] (by decide) inb_S1024x128_S1024x128_0_0]
    imodintro
    iapply Hk
    isplitl [H2]; · iexact H2
    isplitl [H3]; · iexact H3
    isplitl [H4]; · iexact H4
    isplitl [H5]; · iexact H5
    isplitl [H6]; · iexact H6
    iexact H7
  · rw [if_neg hc]
    simp only [Prog.lift, Prog.bind_op, Prog.bind_ret, dif_neg hc]
    iintro ⟨H2, H3, H4, H5, H6, H7, Hk⟩
    iapply (OwnsRules.load _ _ _ _ u) $$ H2; iintro H2
    iapply (OwnsRules.load _ _ _ _ w) $$ H3; iintro H3
    iapply (OwnsRules.load _ _ _ _ X6) $$ H6; iintro H6
    iapply (OwnsRules.store _ _ _ _ X6) $$ H6; iintro H6
    rw [show (pure ⟨⟩ : Prog (TpuEff nD τ sig (Elt F) Λ₀ .tc) PUnit) = .ret ⟨⟩ from rfl, wp_ret,
      window_whole u ![0, 0] (by decide), window_whole w ![0, 0, 0] (by decide),
      put_whole X6 _ ![0, 0] (by decide) inb_S1024x1024_S1024x1024_0_0]
    imodintro
    iapply Hk
    isplitl [H2]; · iexact H2
    isplitl [H3]; · iexact H3
    isplitl [H4]; · iexact H4
    isplitl [H5]; · iexact H5
    isplitl [H6]; · iexact H6
    iexact H7

end Triple

variable (m : (ℓ : Loc nD τ sig) → Buf (Elt F) ℓ) (ρ : Dev nD → PrngReg)

/-- The proof data of the pipeline on core `c`: an operand's buffer is left at its block, the product's buffer at the
    product of the blocks, the gates' at the gates of the row of blocks. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => k0_pay1 (iblk m c 0 t) (iblk m c 1 t)
    | ⟨5, _⟩ => k0_pay2 (iblk m c 0 t) (iblk m c 2 t) (iblk m c 3 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = k0_pay1 (iblk m c 0 t) (iblk m c 1 t) := by dsimp only [dats]
theorem after0_5 (c : Dev nD) (t : Fin cfg0.N) : (dats m 0 c).after 5 t = k0_pay2 (iblk m c 0 t) (iblk m c 2 t) (iblk m c 3 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The gates' buffer along a row of blocks -/

/-- The body stores the gates at the points divisible by four. -/
theorem cond_iff : ∀ t : Fin cfg0.N, k0_cond1 (grid0.coords t) = 1#1 ↔ t.val % 4 = 0 :=
  (by decide +kernel : ∀ t : Fin grid0.N, _)

theorem idle_eq (t : Fin cfg0.N) : cfg0.idle 5 (cfg0.grid.coords t) = !(k0_cond1 (grid0.coords t) == 1#1) := rfl

/-- The point before `t`. -/
def prev (t : Fin cfg0.N) : Fin cfg0.N := ⟨t.val - 1, Nat.lt_of_le_of_lt (Nat.sub_le _ _) t.isLt⟩

theorem index_prev : ∀ t : Fin cfg0.N, t.val % 4 ≠ 0 →
    win0_0.index (prev t) = win0_0.index t ∧ win0_2.index (prev t) = win0_2.index t ∧ win0_3.index (prev t) = win0_3.index t :=
  (by decide +kernel : ∀ t : Fin grid0.N, _)

/-- The rows' block, the forget weights' and the bias's are the same at the point before. -/
theorem iblk0_prev (c : Dev nD) (t : Fin cfg0.N) (h : t.val % 4 ≠ 0) : iblk m c 0 (prev t) = iblk m c 0 t :=
  (dats m 0 c).fetched_congr 0 (index_prev t h).1 rfl (iblk m c 0 t)
theorem iblk2_prev (c : Dev nD) (t : Fin cfg0.N) (h : t.val % 4 ≠ 0) : iblk m c 2 (prev t) = iblk m c 2 t :=
  (dats m 0 c).fetched_congr 2 (index_prev t h).2.1 rfl (iblk m c 2 t)
theorem iblk3_prev (c : Dev nD) (t : Fin cfg0.N) (h : t.val % 4 ≠ 0) : iblk m c 3 (prev t) = iblk m c 3 t :=
  (dats m 0 c).fetched_congr 3 (index_prev t h).2.2 rfl (iblk m c 3 t)

theorem after5_prev (c : Dev nD) (t : Fin cfg0.N) (h : t.val % 4 ≠ 0) : (dats m 0 c).after 5 (prev t) = (dats m 0 c).after 5 t := by
  rw [after0_5, after0_5, iblk0_prev m c t h, iblk2_prev m c t h, iblk3_prev m c t h]

/-- Past the first point of a row of blocks the buffer holds the row's gates. -/
theorem before0_5 (c : Dev nD) (n : ℕ) : ∀ (t : Fin cfg0.N) (d), t.val = n → t.val % 4 ≠ 0 → (dats m 0 c).before 5 t d = (dats m 0 c).after 5 t := by
  induction n with
  | zero => intro t d h0 h; omega
  | succ n ih =>
    intro t d hn h
    have hfl : (cfg0.win 5).flush (prev t) = false := by
      rw [← Bool.not_eq_true, flush0_5]
      show ¬(t.val - 1) % 4 = 3
      omega
    rw [(dats m 0 c).before_of_pos 5 t (by omega) ((cfg0.win 5).fetch_out rfl t)]
    show (if (cfg0.win 5).flush (prev t) = true then d else (dats m 0 c).left 5 (prev t) d) = _
    rw [hfl, if_neg Bool.false_ne_true, ← after5_prev m c t h]
    unfold Dat.left
    by_cases hp : (prev t).val % 4 = 0
    · have hi : cfg0.idle 5 (cfg0.grid.coords (prev t)) = false := by
        rw [idle_eq, (cond_iff (prev t)).mpr hp]; rfl
      rw [hi]
      rfl
    · have hi : cfg0.idle 5 (cfg0.grid.coords (prev t)) = true := by
        rw [idle_eq, Bool.not_eq_true', beq_eq_false_iff_ne]
        exact fun e => hp ((cond_iff (prev t)).mp e)
      rw [hi]
      exact ih (prev t) d (show t.val - 1 = n by omega) hp

/-- What the gates' buffer is left at. -/
theorem left0_5 (c : Dev nD) (t : Fin cfg0.N) (d) :
    (if k0_cond1 (grid0.coords t) = 1#1 then k0_pay2 (iblk m c 0 t) (iblk m c 2 t) (iblk m c 3 t) else (dats m 0 c).before 5 t d)
      = (dats m 0 c).after 5 t := by
  by_cases hc : k0_cond1 (grid0.coords t) = 1#1
  · rw [if_pos hc, after0_5]
  · rw [if_neg hc]
    exact before0_5 m c t.val t d rfl fun e => hc ((cond_iff t).mpr e)

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ (dats m 0 c).leavesExact 5 t)

/-- The gates' buffer as the pipeline takes it back. -/
theorem leaves5 (c : Dev nD) (t : Fin cfg0.N) (d) :
    owns (c : Thread nD τ) (st0_5 t) fullShare (if k0_cond1 (grid0.coords t) = 1#1 then k0_pay2 (iblk m c 0 t) (iblk m c 2 t) (iblk m c 3 t) else (dats m 0 c).before 5 t d)
      ⊢ ((dats m 0 c).leavesExact 5 t : sProp 𝕄) := by
  unfold Dat.leavesExact
  by_cases hc : k0_cond1 (grid0.coords t) = 1#1
  · rw [left0_5 m c t d]
    have hi : cfg0.idle 5 (cfg0.grid.coords t) = false := by rw [idle_eq, hc]; rfl
    rw [hi]
  · have hi : cfg0.idle 5 (cfg0.grid.coords t) = true := by
      rw [idle_eq, Bool.not_eq_true', beq_eq_false_iff_ne]; exact hc
    rw [hi]
    cases hf : (cfg0.win 5).flush t
    · rw [if_neg hc]
      iintro H
      iexists d
      iexact H
    · rw [left0_5 m c t d]

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩, ⟨%d5, H5⟩⟩
  iapply (body_sound (iblk m c 0 t) (iblk m c 1 t) (iblk m c 2 t) (iblk m c 3 t) c (grid0.coords t) _ _ _ _ _ _ _ _ _ _ _ _ Set.univ
    ((dats m 0 c).before 4 t d4) ((dats m 0 c).before 5 t d5) _)
  isplitl [H0]; · iexact H0
  isplitl [H1]; · iexact H1
  isplitl [H2]; · iexact H2
  isplitl [H3]; · iexact H3
  isplitl [H4]; · iexact H4
  isplitl [H5]; · iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iapply (leaves5 m c t d5)
  iexact H5

theorem defs₀_row (t : Fin cfg0.N) :
    defs₀ (F := F) .tc cfg0.body (cfg0.bodyArgs t (cfg0.slots t)) = bodyAt0 t := by
  unfold defs₀; rw [Defs.onTc_tc]

/-- The pipeline's body obligation. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
set_option maxHeartbeats 800000 in
/-- The launch. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- The frame. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_main_quiescent m ρ))

end Cert.FoxProjIdeal.Proj

end
-- ==== Proof.ProjValue.lean ====
/- The projection to the attention's columns and the forget gates: the two result arrays of the tiled kernel are the
   reference's product of the activations with the layer's weight, and its log-sigmoid of the forget logits. -/
module

public import proofs.«01_k».proof.Proof.ProjRun
public import proofs.«01_k».proof.Proof.Gen.FoxProjRefIdeal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.FoxProjIdeal.Proj
open Cert.FoxProjIdeal Cert.FoxProjIdeal.Gen

variable (m : (ℓ : Loc nD τ sig) → Buf (Elt Ideal) ℓ)

/-- The reference's product, over the kernel's argument arrays. -/
abbrev REFP (X : FVec Ideal S16384x4096 .bf16) (W : FVec Ideal S4x4096x4096 .bf16) : FVec Ideal S16384x4096 .bf16 :=
  truncf .bf16 (Host.dotGeneral Cert.FoxProjRefIdeal.dot_S16384x4096_S4096x4096_S16384x4096_1_0_0_1_n_n none
    (extf .f32 X Cert.FoxProjRefIdeal.Gen.bitsLt_bf16_f32)
    (extf .f32 (shapeCast _ (extractStridedSlice Cert.FoxProjRefIdeal.S1x4096x4096 ![1, 0, 0] W
      Cert.FoxProjRefIdeal.Gen.slices_S4x4096x4096_S1x4096x4096_1_0_0)
      Cert.FoxProjRefIdeal.Gen.shapeCasts_S1x4096x4096_S4096x4096) Cert.FoxProjRefIdeal.Gen.bitsLt_bf16_f32))
    Cert.FoxProjRefIdeal.Gen.bitsLt_bf16_f32

/-- The reference's forget logits. -/
abbrev LOGIT (X : FVec Ideal S16384x4096 .bf16) (W : FVec Ideal S4x4096x128 .bf16) (B : FVec Ideal S4x1x128 .f32) : FVec Ideal S16384x128 .f32 :=
  addf (Host.dotGeneral Cert.FoxProjRefIdeal.dot_S16384x4096_S4096x128_S16384x128_1_0_0_1_n_n none
    (extf .f32 X Cert.FoxProjRefIdeal.Gen.bitsLt_bf16_f32)
    (extf .f32 (shapeCast _ (extractStridedSlice Cert.FoxProjRefIdeal.S1x4096x128 ![1, 0, 0] W
      Cert.FoxProjRefIdeal.Gen.slices_S4x4096x128_S1x4096x128_1_0_0)
      Cert.FoxProjRefIdeal.Gen.shapeCasts_S1x4096x128_S4096x128) Cert.FoxProjRefIdeal.Gen.bitsLt_bf16_f32))
    (broadcastInDim Cert.FoxProjRefIdeal.S16384x128 ![0, 1] Cert.FoxProjRefIdeal.Gen.bcast_S1x128_S16384x128_0_1
      (shapeCast _ (extractStridedSlice Cert.FoxProjRefIdeal.S1x1x128 ![1, 0, 0] B
        Cert.FoxProjRefIdeal.Gen.slices_S4x1x128_S1x1x128_1_0_0) Cert.FoxProjRefIdeal.Gen.shapeCasts_S1x1x128_S1x128))

/-- Zero at every index. -/
abbrev ZERO : FVec Ideal S16384x128 .f32 :=
  broadcastInDim Cert.FoxProjRefIdeal.S16384x128 ![] Cert.FoxProjRefIdeal.Gen.bcast_S_S16384x128 (constant Cert.FoxProjRefIdeal.S_ .f32 0x00000000#32)

/-- The reference's log-sigmoid: the negated softplus of the negated logit. -/
abbrev LOGSIG (Z : FVec Ideal S16384x128 .f32) : FVec Ideal S16384x128 .f32 :=
  Host.negf (select (cmpf .une (subf (Host.negf Z) ZERO) (subf (Host.negf Z) ZERO)) (addf (Host.negf Z) ZERO)
    (addf (maximumf (Host.negf Z) ZERO) (Host.log1p (Host.exp (Host.negf (Host.absf (subf (Host.negf Z) ZERO)))))))

/-- The reference's log forget gates. -/
abbrev REFL (X : FVec Ideal S16384x4096 .bf16) (W : FVec Ideal S4x4096x128 .bf16) (B : FVec Ideal S4x1x128 .f32) : FVec Ideal S16384x128 .f32 :=
  LOGSIG (LOGIT X W B)

/-- The block indices of the six windows. -/
theorem idx : ∀ t : Fin cfg0.N, win0_0.index t = ![(grid0.coords t 0).val, 0]
    ∧ win0_1.index t = ![1, 0, (grid0.coords t 1).val]
    ∧ win0_2.index t = ![1, 0, 0]
    ∧ win0_3.index t = ![1, 0, 0]
    ∧ win0_4.index t = ![(grid0.coords t 0).val, (grid0.coords t 1).val]
    ∧ win0_5.index t = ![(grid0.coords t 0).val, 0] :=
  (by decide +kernel : ∀ t : Fin grid0.N, _)

/-- What the body stores of the product at an index of its block is the reference at the array index it sits at. -/
theorem pointP (c : Dev nD) (t : Fin cfg0.N) (y) : k0_pay1 (iblk m c 0 t) (iblk m c 1 t) y
    = REFP (m ((c : Thread nD τ).loc main_arg0)) (m ((c : Thread nD τ).loc main_arg1)) (((cfg0.win 4).blk t).view.emb y) := by
  pointwise [k0_pay1, REFP]
  blk_point [iblk, V, idx t]

/-- The product's array after the run. -/
theorem finalP (c : Dev nD) : (dats m 0 c).arrAt 4 (cfgs 0).N
    = REFP (m ((c : Thread nD τ).loc main_arg0)) (m ((c : Thread nD τ).loc main_arg1)) := by
  refine (dats m 0 c).arrAt_eq_of_covers 4 _ (by decide +kernel) fun t _ y => ?_
  blk_simp
  rw [after0_4]
  exact pointP m c t y

/-- The kernel's forget logits, of its blocks. -/
def logitK (u : FVec Ideal S1024x4096 .bf16) (w : FVec Ideal S1x4096x128 .bf16) (b : FVec Ideal S1x1x128 .f32) : FVec Ideal S1024x128 .f32 :=
  addf (matmul dot_S1024x4096_S4096x128_S1024x128_1_0_0_1_n_n none u (shapeCast S4096x128 w shapeCasts_S1x4096x128_S4096x128)
      (constant S1024x128 .f32 0x00000000#32))
    (broadcastTo S1024x128 (shapeCast S1x128 b shapeCasts_S1x1x128_S1x128) broadcasts_S1x128_S1024x128)

/-- At an index of the block the kernel's logit is the reference's. -/
theorem logit_eq (c : Dev nD) (t : Fin cfg0.N) (y) : logitK (iblk m c 0 t) (iblk m c 2 t) (iblk m c 3 t) y
    = LOGIT (m ((c : Thread nD τ).loc main_arg0)) (m ((c : Thread nD τ).loc main_arg2)) (m ((c : Thread nD τ).loc main_arg3))
        (((cfg0.win 5).blk t).view.emb y) := by
  pointwise [logitK, LOGIT]
  blk_point [iblk, V, idx t]

/-- The kernel's log-sigmoid of a logit. -/
def logsig (x : EReal) : EReal := min x 0 - Ideal.log1p (Ideal.exp (0 - max x (-x)))

/-- The kernel stores the log-sigmoids of its logits. -/
theorem pay2_apply (u : FVec Ideal S1024x4096 .bf16) (w : FVec Ideal S1x4096x128 .bf16) (b : FVec Ideal S1x1x128 .f32) (y) :
    k0_pay2 (F := Ideal) u w b y = logsig (logitK u w b y) := by
  show (subf (minimumf (logitK u w b) (broadcast S1024x128 (Scalar.ofBits .f32 0x00000000#32)))
    (log1p (exp (subf (broadcast S1024x128 (Scalar.ofBits .f32 0x00000000#32)) (absf (logitK u w b)))))) y = _
  generalize logitK u w b = z
  pointwise [logsig]
  rfl

/-- An exponential is at least zero. -/
theorem exp_nonneg (x : EReal) : 0 ≤ Ideal.exp x := by
  induction x with
  | bot => exact le_refl _
  | top => exact le_top
  | coe r => exact EReal.coe_nonneg.mpr (Real.exp_pos r).le

/-- A logarithm of one plus a number at least zero is not the lower infinity. -/
theorem log1p_ne_bot {x : EReal} (h : 0 ≤ x) : Ideal.log1p x ≠ ⊥ := by
  unfold Ideal.log1p
  induction x with
  | bot => exact absurd h (by simp)
  | top => rw [← EReal.coe_one, EReal.add_top_of_ne_bot (EReal.coe_ne_bot 1), Ideal.log_top]; exact top_ne_bot
  | coe r =>
    have hr : 0 ≤ r := EReal.coe_nonneg.mp h
    rw [← EReal.coe_one, ← EReal.coe_add, Ideal.log_coe, if_neg (by linarith)]
    exact EReal.coe_ne_bot _

/-- The negated softplus of the negated logit is the kernel's log-sigmoid. -/
theorem neg_softplus (z : EReal) : -(max (-z) 0 + Ideal.log1p (Ideal.exp (-max (-z) (- -z)))) = logsig z := by
  unfold logsig
  rw [EReal.neg_add (.inl (ne_of_gt (lt_of_lt_of_le EReal.bot_lt_zero (le_max_right _ _)))) (.inr (log1p_ne_bot (exp_nonneg _))),
    neg_neg, max_comm (-z) z, zero_sub]
  congr 1
  rcases le_total z 0 with h | h
  · rw [min_eq_left h, max_eq_left (EReal.neg_nonneg.mpr h), neg_neg]
  · rw [min_eq_right h, max_eq_right (by simpa using EReal.neg_le_neg_iff.mpr h), neg_zero]

theorem LOGSIG_apply (Z : FVec Ideal S16384x128 .f32) (y) : LOGSIG Z y = logsig (Z y) := by
  pointwise [LOGSIG]
  generalize Z y = z
  rw [if_neg (fun h => h rfl)]
  exact neg_softplus z

/-- The log forget gates' array after the run. -/
theorem finalL (c : Dev nD) : (dats m 0 c).arrAt 5 (cfgs 0).N
    = REFL (m ((c : Thread nD τ).loc main_arg0)) (m ((c : Thread nD τ).loc main_arg2)) (m ((c : Thread nD τ).loc main_arg3)) := by
  refine (dats m 0 c).arrAt_eq_of_covers 5 _ (by decide +kernel) fun t _ y => ?_
  blk_simp
  rw [after0_5]
  exact (pay2_apply _ _ _ y).trans ((congrArg logsig (logit_eq m c t y)).trans (LOGSIG_apply _ _).symm)

variable (ρ : Dev nD → PrngReg)

/-- The run, its two result arrays named. -/
theorem run_value : θ_run defs (onTc (τ := τ) (main (F := Ideal))) ⟨m, fun _ => 0, ρ⟩ fun r => ∀ c : Dev nD,
      r.2.mem ((c.tc : Thread nD τ).loc main_v0_0) = REFP (m ((c : Thread nD τ).loc main_arg0)) (m ((c : Thread nD τ).loc main_arg1))
      ∧ r.2.mem ((c.tc : Thread nD τ).loc main_v0_1) = REFL (m ((c : Thread nD τ).loc main_arg0)) (m ((c : Thread nD τ).loc main_arg2)) (m ((c : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨((h.1 c).1 4).trans (finalP m c), ((h.1 c).1 5).trans (finalL m c), h.2 c⟩)
    (θ_run_and (run_main m ρ) (frame_of m ρ (dats m) (A_eq m) (run_main m ρ)))

end Cert.FoxProjIdeal.Proj

end
-- ==== Proof.NormValue.lean ====
/- The first normalisation: the result array of the tiled kernel is the reference's root-mean-square normalisation of the
   residual stream, times its weights. -/
module

public import proofs.«01_k».proof.Proof.Gen.NormIdeal.Value
public import proofs.«01_k».proof.Proof.Gen.NormRefIdeal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.NormRefIdeal.Value
open Cert.NormRefIdeal Cert.NormRefIdeal.Gen

/-- The reference's normalisation of a whole array. -/
abbrev NORM (X : FVec Ideal S16384x4096 .f32) (G : FVec Ideal S4096 .f32) : FVec Ideal S16384x4096 .f32 :=
  mulf (mulf X (broadcastInDim S16384x4096 ![0, 1] bcast_S16384x1_S16384x4096_0_1 (Host.rsqrt (addf
      (Host.divf (broadcastInDim S16384x1 ![0] bcast_S16384_S16384x1_0 (Host.reduceAdd (mulf X X) (constant S_ .f32 0x00000000#32) reducesTo_S16384x4096_S16384_d1 h_S_))
        (broadcastInDim S16384x1 ![] bcast_S_S16384x1 (constant S_ .f32 0x45800000#32)))
      (broadcastInDim S16384x1 ![] bcast_S_S16384x1 (constant S_ .f32 0x358637BD#32))))))
    (broadcastInDim S16384x4096 ![0, 1] bcast_S1x4096_S16384x4096_0_1 (broadcastInDim S1x4096 ![1] bcast_S4096_S1x4096_1 G))

end Cert.NormRefIdeal.Value

namespace Cert.NormIdeal.Value
open Cert.NormIdeal Cert.NormIdeal.Gen

variable (m : (ℓ : Loc nD τ sig) → Buf (Elt Ideal) ℓ)

/-- The reference's result over the kernel's argument arrays. -/
abbrev REF (X : FVec Ideal S16384x4096 .f32) (G : FVec Ideal S4096 .f32) : FVec Ideal S16384x4096 .bf16 :=
  truncf .bf16 (Cert.NormRefIdeal.Value.NORM X G) Cert.NormRefIdeal.Gen.bitsLt_bf16_f32

/-- The block indices of the three windows. -/
theorem idx : ∀ t : Fin cfg0.N, win0_0.index t = ![(grid0.coords t 0).val, 0] ∧ win0_1.index t = ![0, 0]
    ∧ win0_2.index t = ![(grid0.coords t 0).val, 0] :=
  (by decide +kernel : ∀ t : Fin grid0.N, _)

/-- What the body stores at an index of its block is the reference at the array index it sits at. -/
theorem point (c : Dev nD) (t : Fin cfg0.N) (y) : k0_pay1 (iblk m c 0 t) (iblk m c 1 t) y
    = REF (m ((c : Thread nD τ).loc main_arg0)) (m ((c : Thread nD τ).loc main_arg1)) (((cfg0.win 2).blk t).view.emb y) := by
  pointwise [k0_pay1, REF, Cert.NormRefIdeal.Value.NORM]
  blk_point [iblk, V, idx t]

/-- The result array after the run. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.NormIdeal.Value

end
-- ==== Proof.PostValue.lean ====
/- A layer's closing step: the two result arrays of the tiled kernel are the reference's residual stream plus the normalised
   output of the layer, and that stream normalised for the next layer. -/
module

public import proofs.«01_k».proof.Proof.Gen.PostIdeal.Value
public import proofs.«01_k».proof.Proof.Gen.PostRefIdeal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.PostRefIdeal.Value
open Cert.PostRefIdeal Cert.PostRefIdeal.Gen

/-- The reference's normalisation of a whole array. -/
abbrev NORM (X : FVec Ideal S16384x4096 .f32) (G : FVec Ideal S4096 .f32) : FVec Ideal S16384x4096 .f32 :=
  mulf (mulf X (broadcastInDim S16384x4096 ![0, 1] bcast_S16384x1_S16384x4096_0_1 (Host.rsqrt (addf
      (Host.divf (broadcastInDim S16384x1 ![0] bcast_S16384_S16384x1_0 (Host.reduceAdd (mulf X X) (constant S_ .f32 0x00000000#32) reducesTo_S16384x4096_S16384_d1 h_S_))
        (broadcastInDim S16384x1 ![] bcast_S_S16384x1 (constant S_ .f32 0x45800000#32)))
      (broadcastInDim S16384x1 ![] bcast_S_S16384x1 (constant S_ .f32 0x358637BD#32))))))
    (broadcastInDim S16384x4096 ![0, 1] bcast_S1x4096_S16384x4096_0_1 (broadcastInDim S1x4096 ![1] bcast_S4096_S1x4096_1 G))

end Cert.PostRefIdeal.Value

namespace Cert.PostIdeal.Value
open Cert.PostIdeal Cert.PostIdeal.Gen

variable (m : (ℓ : Loc nD τ sig) → Buf (Elt Ideal) ℓ)

/-- The reference's residual stream over the kernel's argument arrays, -/
abbrev REFH (Y : FVec Ideal S16384x4096 .bf16) (H : FVec Ideal S16384x4096 .f32) (G : FVec Ideal S4096 .f32) : FVec Ideal S16384x4096 .f32 :=
  addf H (Cert.PostRefIdeal.Value.NORM (extf .f32 Y Cert.PostRefIdeal.Gen.bitsLt_bf16_f32) G)

/-- and its normalisation. -/
abbrev REFU (Y : FVec Ideal S16384x4096 .bf16) (H : FVec Ideal S16384x4096 .f32) (G N : FVec Ideal S4096 .f32) : FVec Ideal S16384x4096 .bf16 :=
  truncf .bf16 (Cert.PostRefIdeal.Value.NORM (REFH Y H G) N) Cert.PostRefIdeal.Gen.bitsLt_bf16_f32

/-- The block indices of the six windows. -/
theorem idx : ∀ t : Fin cfg0.N, win0_0.index t = ![(grid0.coords t 0).val, 0] ∧ win0_1.index t = ![(grid0.coords t 0).val, 0]
    ∧ win0_2.index t = ![0, 0] ∧ win0_3.index t = ![0, 0]
    ∧ win0_4.index t = ![(grid0.coords t 0).val, 0] ∧ win0_5.index t = ![(grid0.coords t 0).val, 0] :=
  (by decide +kernel : ∀ t : Fin grid0.N, _)

/-- What the body stores of the stream at an index of its block is the reference at the array index it sits at. -/
theorem pointH (c : Dev nD) (t : Fin cfg0.N) (y) : k0_pay1 (iblk m c 0 t) (iblk m c 1 t) (iblk m c 2 t) y
    = REFH (m ((c : Thread nD τ).loc main_arg0)) (m ((c : Thread nD τ).loc main_arg1)) (m ((c : Thread nD τ).loc main_arg2))
        (((cfg0.win 4).blk t).view.emb y) := by
  pointwise [k0_pay1, REFH, Cert.PostRefIdeal.Value.NORM]
  blk_point [iblk, V, idx t]

/-- The stream's array after the run. -/
theorem finalH (c : Dev nD) : (dats m 0 c).arrAt 4 (cfgs 0).N
    = REFH (m ((c : Thread nD τ).loc main_arg0)) (m ((c : Thread nD τ).loc main_arg1)) (m ((c : Thread nD τ).loc main_arg2)) := by
  refine (dats m 0 c).arrAt_eq_of_covers 4 _ (by decide +kernel) fun t _ y => ?_
  blk_simp
  rw [after0_4]; frame_out
  exact pointH m c t y

/-- What the body stores of the normalised stream at an index of its block is the reference at the array index it sits at. -/
theorem pointU (c : Dev nD) (t : Fin cfg0.N) (y) : k0_pay2 (iblk m c 0 t) (iblk m c 1 t) (iblk m c 2 t) (iblk m c 3 t) y
    = REFU (m ((c : Thread nD τ).loc main_arg0)) (m ((c : Thread nD τ).loc main_arg1)) (m ((c : Thread nD τ).loc main_arg2))
        (m ((c : Thread nD τ).loc main_arg3)) (((cfg0.win 5).blk t).view.emb y) := by
  pointwise [k0_pay2, k0_pay1, REFU, REFH, Cert.PostRefIdeal.Value.NORM]
  blk_point [iblk, V, idx t]

/-- The normalised stream's array after the run. -/
theorem finalU (c : Dev nD) : (dats m 0 c).arrAt 5 (cfgs 0).N
    = REFU (m ((c : Thread nD τ).loc main_arg0)) (m ((c : Thread nD τ).loc main_arg1)) (m ((c : Thread nD τ).loc main_arg2))
        (m ((c : Thread nD τ).loc main_arg3)) := by
  refine (dats m 0 c).arrAt_eq_of_covers 5 _ (by decide +kernel) fun t _ y => ?_
  blk_simp
  rw [after0_5]; frame_out
  exact pointU m c t y

end Cert.PostIdeal.Value

end
-- ==== Proof.PostLastValue.lean ====
/- The last layer's closing step: the result array of the tiled kernel, which is the whole model's result, is the reference's
   residual stream plus the normalised output of the layer. -/
module

public import proofs.«01_k».proof.Proof.Gen.PostLastIdeal.Value
public import proofs.«01_k».proof.Proof.Gen.PostLastRefIdeal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.PostLastRefIdeal.Value
open Cert.PostLastRefIdeal Cert.PostLastRefIdeal.Gen

/-- The reference's normalisation of a whole array. -/
abbrev NORM (X : FVec Ideal S16384x4096 .f32) (G : FVec Ideal S4096 .f32) : FVec Ideal S16384x4096 .f32 :=
  mulf (mulf X (broadcastInDim S16384x4096 ![0, 1] bcast_S16384x1_S16384x4096_0_1 (Host.rsqrt (addf
      (Host.divf (broadcastInDim S16384x1 ![0] bcast_S16384_S16384x1_0 (Host.reduceAdd (mulf X X) (constant S_ .f32 0x00000000#32) reducesTo_S16384x4096_S16384_d1 h_S_))
        (broadcastInDim S16384x1 ![] bcast_S_S16384x1 (constant S_ .f32 0x45800000#32)))
      (broadcastInDim S16384x1 ![] bcast_S_S16384x1 (constant S_ .f32 0x358637BD#32))))))
    (broadcastInDim S16384x4096 ![0, 1] bcast_S1x4096_S16384x4096_0_1 (broadcastInDim S1x4096 ![1] bcast_S4096_S1x4096_1 G))

end Cert.PostLastRefIdeal.Value

namespace Cert.PostLastIdeal.Value
open Cert.PostLastIdeal Cert.PostLastIdeal.Gen

variable (m : (ℓ : Loc nD τ sig) → Buf (Elt Ideal) ℓ)

/-- The reference's result over the kernel's argument arrays. -/
abbrev REF (Y : FVec Ideal S16384x4096 .bf16) (H : FVec Ideal S16384x4096 .f32) (G : FVec Ideal S4096 .f32) : FVec Ideal S16384x4096 .f32 :=
  addf H (Cert.PostLastRefIdeal.Value.NORM (extf .f32 Y Cert.PostLastRefIdeal.Gen.bitsLt_bf16_f32) G)

/-- The block indices of the four windows. -/
theorem idx : ∀ t : Fin cfg0.N, win0_0.index t = ![(grid0.coords t 0).val, 0] ∧ win0_1.index t = ![(grid0.coords t 0).val, 0]
    ∧ win0_2.index t = ![0, 0] ∧ win0_3.index t = ![(grid0.coords t 0).val, 0] :=
  (by decide +kernel : ∀ t : Fin grid0.N, _)

/-- What the body stores at an index of its block is the reference at the array index it sits at. -/
theorem point (c : Dev nD) (t : Fin cfg0.N) (y) : k0_pay1 (iblk m c 0 t) (iblk m c 1 t) (iblk m c 2 t) y
    = REF (m ((c : Thread nD τ).loc main_arg0)) (m ((c : Thread nD τ).loc main_arg1)) (m ((c : Thread nD τ).loc main_arg2))
        (((cfg0.win 3).blk t).view.emb y) := by
  pointwise [k0_pay1, REF, Cert.PostLastRefIdeal.Value.NORM]
  blk_point [iblk, V, idx t]

/-- The result array after the run. -/
theorem final (c : Dev nD) : (dats m 0 c).arrAt 3 (cfgs 0).N
    = REF (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; frame_out
  exact point m c t y

end Cert.PostLastIdeal.Value

end
-- ==== Proof.lean ====
/- The certificate: each program's frame, and each kernel's result array equal to its reference's. -/
module

public import proofs.«01_k».proof.Defs
public import proofs.«01_k».proof.Proof.Gen.Fox
public import proofs.«01_k».proof.Proof.Gen.Fox.Skeleton
public import proofs.«01_k».proof.Proof.Gen.Fox.Launch
public import proofs.«01_k».proof.Proof.Gen.Fox.Points
public import proofs.«01_k».proof.Proof.Gen.Fox.Frame
public import proofs.«01_k».proof.Proof.Gen.FoxIdeal
public import proofs.«01_k».proof.Proof.Gen.FoxIdeal.Skeleton
public import proofs.«01_k».proof.Proof.Gen.FoxIdeal.Launch
public import proofs.«01_k».proof.Proof.Gen.FoxIdeal.Points
public import proofs.«01_k».proof.Proof.Gen.FoxIdeal.Frame
public import proofs.«01_k».proof.Proof.Gen.FoxRefIdeal
public import proofs.«01_k».proof.Proof.Gen.FoxRefIdeal.Run
public import proofs.«01_k».proof.Proof.Gen.RestProj
public import proofs.«01_k».proof.Proof.Gen.RestProj.Skeleton
public import proofs.«01_k».proof.Proof.Gen.RestProj.Launch
public import proofs.«01_k».proof.Proof.Gen.RestProj.Points
public import proofs.«01_k».proof.Proof.Gen.RestProj.Frame
public import proofs.«01_k».proof.Proof.Gen.RestProjIdeal
public import proofs.«01_k».proof.Proof.Gen.RestProjIdeal.Skeleton
public import proofs.«01_k».proof.Proof.Gen.RestProjIdeal.Launch
public import proofs.«01_k».proof.Proof.Gen.RestProjIdeal.Points
public import proofs.«01_k».proof.Proof.Gen.RestProjIdeal.Frame
public import proofs.«01_k».proof.Proof.Gen.RestProjRefIdeal
public import proofs.«01_k».proof.Proof.Gen.OutProj
public import proofs.«01_k».proof.Proof.Gen.OutProj.Skeleton
public import proofs.«01_k».proof.Proof.Gen.OutProj.Launch
public import proofs.«01_k».proof.Proof.Gen.OutProj.Points
public import proofs.«01_k».proof.Proof.Gen.OutProj.Frame
public import proofs.«01_k».proof.Proof.Gen.OutProjIdeal
public import proofs.«01_k».proof.Proof.Gen.OutProjIdeal.Skeleton
public import proofs.«01_k».proof.Proof.Gen.OutProjIdeal.Launch
public import proofs.«01_k».proof.Proof.Gen.OutProjIdeal.Points
public import proofs.«01_k».proof.Proof.Gen.OutProjIdeal.Frame
public import proofs.«01_k».proof.Proof.Gen.OutProjRefIdeal
public import proofs.«01_k».proof.Proof.Gen.RestProjIdeal.Value
public import proofs.«01_k».proof.Proof.Gen.RestProjRefIdeal.Run
public import proofs.«01_k».proof.Proof.Gen.OutProjIdeal.Value
public import proofs.«01_k».proof.Proof.Gen.OutProjRefIdeal.Run
public import proofs.«01_k».proof.Proof.Gen.FoxProj
public import proofs.«01_k».proof.Proof.Gen.FoxProj.Skeleton
public import proofs.«01_k».proof.Proof.Gen.FoxProj.Launch
public import proofs.«01_k».proof.Proof.Gen.FoxProj.Points
public import proofs.«01_k».proof.Proof.Gen.FoxProj.Frame
public import proofs.«01_k».proof.Proof.Gen.FoxProjIdeal
public import proofs.«01_k».proof.Proof.Gen.FoxProjIdeal.Skeleton
public import proofs.«01_k».proof.Proof.Gen.FoxProjIdeal.Launch
public import proofs.«01_k».proof.Proof.Gen.FoxProjIdeal.Points
public import proofs.«01_k».proof.Proof.Gen.FoxProjIdeal.Frame
public import proofs.«01_k».proof.Proof.Gen.FoxProjRefIdeal
public import proofs.«01_k».proof.Proof.Gen.FoxProjRefIdeal.Run
public import proofs.«01_k».proof.Proof.Gen.Norm
public import proofs.«01_k».proof.Proof.Gen.Norm.Skeleton
public import proofs.«01_k».proof.Proof.Gen.Norm.Launch
public import proofs.«01_k».proof.Proof.Gen.Norm.Points
public import proofs.«01_k».proof.Proof.Gen.Norm.Frame
public import proofs.«01_k».proof.Proof.Gen.NormIdeal
public import proofs.«01_k».proof.Proof.Gen.NormIdeal.Skeleton
public import proofs.«01_k».proof.Proof.Gen.NormIdeal.Launch
public import proofs.«01_k».proof.Proof.Gen.NormIdeal.Points
public import proofs.«01_k».proof.Proof.Gen.NormIdeal.Frame
public import proofs.«01_k».proof.Proof.Gen.NormIdeal.Value
public import proofs.«01_k».proof.Proof.Gen.NormRefIdeal
public import proofs.«01_k».proof.Proof.Gen.NormRefIdeal.Run
public import proofs.«01_k».proof.Proof.Gen.Post
public import proofs.«01_k».proof.Proof.Gen.Post.Skeleton
public import proofs.«01_k».proof.Proof.Gen.Post.Launch
public import proofs.«01_k».proof.Proof.Gen.Post.Points
public import proofs.«01_k».proof.Proof.Gen.Post.Frame
public import proofs.«01_k».proof.Proof.Gen.PostIdeal
public import proofs.«01_k».proof.Proof.Gen.PostIdeal.Skeleton
public import proofs.«01_k».proof.Proof.Gen.PostIdeal.Launch
public import proofs.«01_k».proof.Proof.Gen.PostIdeal.Points
public import proofs.«01_k».proof.Proof.Gen.PostIdeal.Frame
public import proofs.«01_k».proof.Proof.Gen.PostIdeal.Value
public import proofs.«01_k».proof.Proof.Gen.PostRefIdeal
public import proofs.«01_k».proof.Proof.Gen.PostRefIdeal.Run
public import proofs.«01_k».proof.Proof.Gen.PostLast
public import proofs.«01_k».proof.Proof.Gen.PostLast.Skeleton
public import proofs.«01_k».proof.Proof.Gen.PostLast.Launch
public import proofs.«01_k».proof.Proof.Gen.PostLast.Points
public import proofs.«01_k».proof.Proof.Gen.PostLast.Frame
public import proofs.«01_k».proof.Proof.Gen.PostLastIdeal
public import proofs.«01_k».proof.Proof.Gen.PostLastIdeal.Skeleton
public import proofs.«01_k».proof.Proof.Gen.PostLastIdeal.Launch
public import proofs.«01_k».proof.Proof.Gen.PostLastIdeal.Points
public import proofs.«01_k».proof.Proof.Gen.PostLastIdeal.Frame
public import proofs.«01_k».proof.Proof.Gen.PostLastIdeal.Value
public import proofs.«01_k».proof.Proof.Gen.PostLastRefIdeal
public import proofs.«01_k».proof.Proof.Gen.PostLastRefIdeal.Run
public import proofs.«01_k».proof.Proof.Gen.Glu
public import proofs.«01_k».proof.Proof.Gen.Glu.Skeleton
public import proofs.«01_k».proof.Proof.Gen.Glu.Launch
public import proofs.«01_k».proof.Proof.Gen.Glu.Points
public import proofs.«01_k».proof.Proof.Gen.Glu.Frame
public import proofs.«01_k».proof.Proof.Gen.GluIdeal
public import proofs.«01_k».proof.Proof.Gen.GluIdeal.Skeleton
public import proofs.«01_k».proof.Proof.Gen.GluIdeal.Launch
public import proofs.«01_k».proof.Proof.Gen.GluIdeal.Points
public import proofs.«01_k».proof.Proof.Gen.GluIdeal.Frame
public import proofs.«01_k».proof.Proof.Gen.GluIdeal.Value
public import proofs.«01_k».proof.Proof.Gen.GluRefIdeal
public import proofs.«01_k».proof.Proof.Gen.GluRefIdeal.Run
public import proofs.«01_k».proof.Proof.RestValue
public import proofs.«01_k».proof.Proof.GluValue
public import proofs.«01_k».proof.Proof.OutValue
public import proofs.«01_k».proof.Proof.FoxRun
public import proofs.«01_k».proof.Proof.FoxBitsRun
public import proofs.«01_k».proof.Proof.FoxValue
public import proofs.«01_k».proof.Proof.FoxFinite
public import proofs.«01_k».proof.Proof.ProjRun
public import proofs.«01_k».proof.Proof.ProjBitsRun
public import proofs.«01_k».proof.Proof.ProjValue
public import proofs.«01_k».proof.Proof.NormValue
public import proofs.«01_k».proof.Proof.PostValue
public import proofs.«01_k».proof.Proof.PostLastValue
public import Idealize.ShloMosaic.Adequacy
public import Idealize.ShloMosaic.Init

@[expose] public section

noncomputable section

namespace Cert.Proof

open Idealize.ShloMosaic Idealize.ShloMosaic.TcCoe Idealize.SL.Sem

/-- The remaining input projection computes the reference's product. -/
theorem rest : @Cert.algebraic_RestProjIdeal_RestProjRefIdeal Cert.RestProjIdeal.Gen.facts Cert.RestProjRefIdeal.Gen.facts := by
  intro m ρ m' ρ' _ hagree
  refine ⟨fun c => Cert.RestProjIdeal.Value.REF (m ((c.tc : Thread Cert.RestProjIdeal.nD Cert.RestProjIdeal.τ).loc Cert.RestProjIdeal.main_arg0))
    (m ((c.tc : Thread Cert.RestProjIdeal.nD Cert.RestProjIdeal.τ).loc Cert.RestProjIdeal.main_arg1)), ?_, ?_⟩
  · exact (θ_run _ _ _).mono (fun _ h c => ⟨(h c).1.trans (Cert.RestProjIdeal.Value.final m c), (h c).2⟩)
      (Cert.RestProjIdeal.Value.run_blocks m ρ)
  · refine (θ_run _ _ _).mono (fun _ h c => ⟨(h c).1.trans ?_, (h c).2⟩) (Cert.RestProjRefIdeal.Value.run m' ρ')
    rw [(hagree c).1, (hagree c).2]

/-- The output projection computes the reference's product. -/
theorem out : @Cert.algebraic_OutProjIdeal_OutProjRefIdeal Cert.OutProjIdeal.Gen.facts Cert.OutProjRefIdeal.Gen.facts := by
  intro m ρ m' ρ' _ hagree
  refine ⟨fun c => Cert.OutProjIdeal.Value.REF (m ((c.tc : Thread Cert.OutProjIdeal.nD Cert.OutProjIdeal.τ).loc Cert.OutProjIdeal.main_arg0))
    (m ((c.tc : Thread Cert.OutProjIdeal.nD Cert.OutProjIdeal.τ).loc Cert.OutProjIdeal.main_arg1))
    (m ((c.tc : Thread Cert.OutProjIdeal.nD Cert.OutProjIdeal.τ).loc Cert.OutProjIdeal.main_arg2))
    (m ((c.tc : Thread Cert.OutProjIdeal.nD Cert.OutProjIdeal.τ).loc Cert.OutProjIdeal.main_arg3))
    (m ((c.tc : Thread Cert.OutProjIdeal.nD Cert.OutProjIdeal.τ).loc Cert.OutProjIdeal.main_arg4)), ?_, ?_⟩
  · exact (θ_run _ _ _).mono (fun _ h c => ⟨(h c).1.trans (Cert.OutProjIdeal.Value.final m c), (h c).2⟩)
      (Cert.OutProjIdeal.Value.run_blocks m ρ)
  · refine (θ_run _ _ _).mono (fun _ h c => ⟨(h c).1.trans ?_, (h c).2⟩) (Cert.OutProjRefIdeal.Value.run m' ρ')
    rw [(hagree c).1, (hagree c).2.1, (hagree c).2.2.1, (hagree c).2.2.2.1, (hagree c).2.2.2.2]

/-- The forgetting attention computes the reference's attention, its queries and keys finite. -/
theorem fox : @Cert.algebraic_FoxIdeal_FoxRefIdeal_pre_finite Cert.FoxIdeal.Gen.facts Cert.FoxRefIdeal.Gen.facts Cert.FoxFinite.facts := by
  intro m ρ m' ρ' hpre hagree
  refine ⟨fun c => Cert.FoxRefIdeal.Attn.REF (m ((c.tc : Thread Cert.FoxIdeal.nD Cert.FoxIdeal.τ).loc Cert.FoxIdeal.main_arg0))
    (m ((c.tc : Thread Cert.FoxIdeal.nD Cert.FoxIdeal.τ).loc Cert.FoxIdeal.main_arg1))
    (m ((c.tc : Thread Cert.FoxIdeal.nD Cert.FoxIdeal.τ).loc Cert.FoxIdeal.main_arg2)), ?_, ?_⟩
  · exact (θ_run _ _ _).mono (fun _ h c => ⟨(h c).1.trans (Cert.FoxIdeal.Attn.final m (Cert.FoxFinite.realScores hpre) c), (h c).2⟩)
      (Cert.FoxIdeal.Attn.run_value m ρ)
  · refine (θ_run _ _ _).mono (fun _ h c => ⟨(h c).1.trans ?_, (h c).2⟩) (Cert.FoxRefIdeal.Value.run m' ρ')
    refine (Cert.FoxRefIdeal.Attn.res_eq m' c).trans ?_
    rw [(hagree c).1, (hagree c).2.1, (hagree c).2.2]

/-- The attention's reference runs, its arguments unchanged. -/
theorem foxRef : @Cert.quiescent_FoxRefIdeal Cert.FoxRefIdeal.Gen.facts := fun m ρ _ =>
  (θ_run Cert.FoxRefIdeal.defs _ _).mono (fun r h => ⟨fun c => (h c).2, sem_eq_zero_of_no_sems (by decide) r.2⟩)
    (Cert.FoxRefIdeal.Value.run m ρ)

/-- The projection to the attention's columns computes the reference's product and its log forget gates. -/
theorem foxProj : @Cert.algebraic_FoxProjIdeal_FoxProjRefIdeal Cert.FoxProjIdeal.Gen.facts Cert.FoxProjRefIdeal.Gen.facts := by
  intro m ρ m' ρ' _ hagree
  refine ⟨fun c => Cert.FoxProjIdeal.Proj.REFP (m ((c.tc : Thread Cert.FoxProjIdeal.nD Cert.FoxProjIdeal.τ).loc Cert.FoxProjIdeal.main_arg0))
      (m ((c.tc : Thread Cert.FoxProjIdeal.nD Cert.FoxProjIdeal.τ).loc Cert.FoxProjIdeal.main_arg1)),
    fun c => Cert.FoxProjIdeal.Proj.REFL (m ((c.tc : Thread Cert.FoxProjIdeal.nD Cert.FoxProjIdeal.τ).loc Cert.FoxProjIdeal.main_arg0))
      (m ((c.tc : Thread Cert.FoxProjIdeal.nD Cert.FoxProjIdeal.τ).loc Cert.FoxProjIdeal.main_arg2))
      (m ((c.tc : Thread Cert.FoxProjIdeal.nD Cert.FoxProjIdeal.τ).loc Cert.FoxProjIdeal.main_arg3)),
    Cert.FoxProjIdeal.Proj.run_value m ρ, ?_⟩
  refine (θ_run _ _ _).mono (fun _ h c => ⟨(h c).1.trans ?_, (h c).2.1.trans ?_, (h c).2.2⟩) (Cert.FoxProjRefIdeal.Value.run m' ρ')
  · rw [(hagree c).1, (hagree c).2.1]
  · rw [(hagree c).1, (hagree c).2.2.1, (hagree c).2.2.2]

/-- The first normalisation computes the reference's. -/
theorem norm : @Cert.algebraic_NormIdeal_NormRefIdeal Cert.NormIdeal.Gen.facts Cert.NormRefIdeal.Gen.facts := by
  intro m ρ m' ρ' _ hagree
  refine ⟨fun c => Cert.NormIdeal.Value.REF (m ((c.tc : Thread Cert.NormIdeal.nD Cert.NormIdeal.τ).loc Cert.NormIdeal.main_arg0))
    (m ((c.tc : Thread Cert.NormIdeal.nD Cert.NormIdeal.τ).loc Cert.NormIdeal.main_arg1)), ?_, ?_⟩
  · exact (θ_run _ _ _).mono (fun _ h c => ⟨(h c).1.trans (Cert.NormIdeal.Value.final m c), (h c).2⟩)
      (Cert.NormIdeal.Value.run_blocks m ρ)
  · refine (θ_run _ _ _).mono (fun _ h c => ⟨(h c).1.trans ?_, (h c).2⟩) (Cert.NormRefIdeal.Value.run m' ρ')
    rw [(hagree c).1, (hagree c).2]

/-- A layer's closing step computes the reference's residual stream and its normalisation. -/
theorem post : @Cert.algebraic_PostIdeal_PostRefIdeal Cert.PostIdeal.Gen.facts Cert.PostRefIdeal.Gen.facts := by
  intro m ρ m' ρ' _ hagree
  refine ⟨fun c => Cert.PostIdeal.Value.REFH (m ((c.tc : Thread Cert.PostIdeal.nD Cert.PostIdeal.τ).loc Cert.PostIdeal.main_arg0))
      (m ((c.tc : Thread Cert.PostIdeal.nD Cert.PostIdeal.τ).loc Cert.PostIdeal.main_arg1)) (m ((c.tc : Thread Cert.PostIdeal.nD Cert.PostIdeal.τ).loc Cert.PostIdeal.main_arg2)),
    fun c => Cert.PostIdeal.Value.REFU (m ((c.tc : Thread Cert.PostIdeal.nD Cert.PostIdeal.τ).loc Cert.PostIdeal.main_arg0))
      (m ((c.tc : Thread Cert.PostIdeal.nD Cert.PostIdeal.τ).loc Cert.PostIdeal.main_arg1)) (m ((c.tc : Thread Cert.PostIdeal.nD Cert.PostIdeal.τ).loc Cert.PostIdeal.main_arg2))
      (m ((c.tc : Thread Cert.PostIdeal.nD Cert.PostIdeal.τ).loc Cert.PostIdeal.main_arg3)), ?_, ?_⟩
  · exact (θ_run _ _ _).mono (fun _ h c => ⟨(h c).1.trans (Cert.PostIdeal.Value.finalH m c), (h c).2.1.trans (Cert.PostIdeal.Value.finalU m c), (h c).2.2⟩)
      (Cert.PostIdeal.Value.run_blocks m ρ)
  · refine (θ_run _ _ _).mono (fun _ h c => ⟨(h c).1.trans ?_, (h c).2.1.trans ?_, (h c).2.2⟩) (Cert.PostRefIdeal.Value.run m' ρ')
    · rw [(hagree c).1, (hagree c).2.1, (hagree c).2.2.1]
    · rw [(hagree c).1, (hagree c).2.1, (hagree c).2.2.1, (hagree c).2.2.2]

/-- The last layer's closing step computes the reference's result. -/
theorem postLast : @Cert.algebraic_PostLastIdeal_PostLastRefIdeal Cert.PostLastIdeal.Gen.facts Cert.PostLastRefIdeal.Gen.facts := by
  intro m ρ m' ρ' _ hagree
  refine ⟨fun c => Cert.PostLastIdeal.Value.REF (m ((c.tc : Thread Cert.PostLastIdeal.nD Cert.PostLastIdeal.τ).loc Cert.PostLastIdeal.main_arg0))
    (m ((c.tc : Thread Cert.PostLastIdeal.nD Cert.PostLastIdeal.τ).loc Cert.PostLastIdeal.main_arg1)) (m ((c.tc : Thread Cert.PostLastIdeal.nD Cert.PostLastIdeal.τ).loc Cert.PostLastIdeal.main_arg2)), ?_, ?_⟩
  · exact (θ_run _ _ _).mono (fun _ h c => ⟨(h c).1.trans (Cert.PostLastIdeal.Value.final m c), (h c).2⟩)
      (Cert.PostLastIdeal.Value.run_blocks m ρ)
  · refine (θ_run _ _ _).mono (fun _ h c => ⟨(h c).1.trans ?_, (h c).2⟩) (Cert.PostLastRefIdeal.Value.run m' ρ')
    rw [(hagree c).1, (hagree c).2.1, (hagree c).2.2]

/-- The gated unit of the state-space branch computes the reference's. -/
theorem glu : @Cert.algebraic_GluIdeal_GluRefIdeal Cert.GluIdeal.Gen.facts Cert.GluRefIdeal.Gen.facts := by
  intro m ρ m' ρ' _ hagree
  refine ⟨fun c => Cert.GluRefIdeal.Value.GLU (m ((c.tc : Thread Cert.GluIdeal.nD Cert.GluIdeal.τ).loc Cert.GluIdeal.main_arg0))
    (m ((c.tc : Thread Cert.GluIdeal.nD Cert.GluIdeal.τ).loc Cert.GluIdeal.main_arg1)) (m ((c.tc : Thread Cert.GluIdeal.nD Cert.GluIdeal.τ).loc Cert.GluIdeal.main_arg2))
    (m ((c.tc : Thread Cert.GluIdeal.nD Cert.GluIdeal.τ).loc Cert.GluIdeal.main_arg3)) (m ((c.tc : Thread Cert.GluIdeal.nD Cert.GluIdeal.τ).loc Cert.GluIdeal.main_arg4)), ?_, ?_⟩
  · exact (θ_run _ _ _).mono (fun _ h c => ⟨(h c).1.trans (Cert.GluIdeal.Value.final m c), (h c).2⟩)
      (Cert.GluIdeal.Value.run_blocks m ρ)
  · refine (θ_run _ _ _).mono (fun _ h c => ⟨(h c).1.trans ?_, (h c).2⟩) (Cert.GluRefIdeal.Value.run m' ρ')
    rw [Cert.GluRefIdeal.Value.res_main_v38, (hagree c).1, (hagree c).2.1, (hagree c).2.2.1, (hagree c).2.2.2.1, (hagree c).2.2.2.2]

theorem claim : Cert.Claim :=
  ⟨Cert.Fox.Gen.facts, Cert.FoxIdeal.Gen.facts, Cert.FoxRefIdeal.Gen.facts,
    Cert.RestProj.Gen.facts, Cert.RestProjIdeal.Gen.facts, Cert.RestProjRefIdeal.Gen.facts,
    Cert.OutProj.Gen.facts, Cert.OutProjIdeal.Gen.facts, Cert.OutProjRefIdeal.Gen.facts,
    Cert.FoxProj.Gen.facts, Cert.FoxProjIdeal.Gen.facts, Cert.FoxProjRefIdeal.Gen.facts,
    Cert.Norm.Gen.facts, Cert.NormIdeal.Gen.facts, Cert.NormRefIdeal.Gen.facts,
    Cert.Post.Gen.facts, Cert.PostIdeal.Gen.facts, Cert.PostRefIdeal.Gen.facts,
    Cert.PostLast.Gen.facts, Cert.PostLastIdeal.Gen.facts, Cert.PostLastRefIdeal.Gen.facts,
    Cert.Glu.Gen.facts, Cert.GluIdeal.Gen.facts, Cert.GluRefIdeal.Gen.facts,
    Cert.FoxFinite.facts,
    fun m ρ _ => Cert.Fox.Attn.frame_run m ρ, fun m ρ _ => Cert.FoxIdeal.Attn.frame_run m ρ,
    fun m ρ _ => Cert.FoxIdeal.Attn.frame_run m ρ, foxRef, fun m ρ _ => foxRef m ρ trivial,
    fun m ρ _ => Cert.RestProj.Gen.frame m ρ, fun m ρ _ => Cert.RestProjIdeal.Gen.frame m ρ,
    fun m ρ _ => (θ_run Cert.RestProjRefIdeal.defs _ _).mono
      (fun r h => ⟨fun c => (h c).2, sem_eq_zero_of_no_sems (by decide) r.2⟩) (Cert.RestProjRefIdeal.Value.run m ρ),
    fun m ρ _ => Cert.OutProj.Gen.frame m ρ, fun m ρ _ => Cert.OutProjIdeal.Gen.frame m ρ,
    fun m ρ _ => (θ_run Cert.OutProjRefIdeal.defs _ _).mono
      (fun r h => ⟨fun c => (h c).2, sem_eq_zero_of_no_sems (by decide) r.2⟩) (Cert.OutProjRefIdeal.Value.run m ρ),
    fun m ρ _ => Cert.FoxProj.Proj.frame_run m ρ, fun m ρ _ => Cert.FoxProjIdeal.Proj.frame_run m ρ,
    fun m ρ _ => (θ_run Cert.FoxProjRefIdeal.defs _ _).mono
      (fun r h => ⟨fun c => (h c).2.2, sem_eq_zero_of_no_sems (by decide) r.2⟩) (Cert.FoxProjRefIdeal.Value.run m ρ),
    fun m ρ _ => Cert.Norm.Gen.frame m ρ, fun m ρ _ => Cert.NormIdeal.Gen.frame m ρ,
    fun m ρ _ => (θ_run Cert.NormRefIdeal.defs _ _).mono
      (fun r h => ⟨fun c => (h c).2, sem_eq_zero_of_no_sems (by decide) r.2⟩) (Cert.NormRefIdeal.Value.run m ρ),
    fun m ρ _ => Cert.Post.Gen.frame m ρ, fun m ρ _ => Cert.PostIdeal.Gen.frame m ρ,
    fun m ρ _ => (θ_run Cert.PostRefIdeal.defs _ _).mono
      (fun r h => ⟨fun c => (h c).2.2, sem_eq_zero_of_no_sems (by decide) r.2⟩) (Cert.PostRefIdeal.Value.run m ρ),
    fun m ρ _ => Cert.PostLast.Gen.frame m ρ, fun m ρ _ => Cert.PostLastIdeal.Gen.frame m ρ,
    fun m ρ _ => (θ_run Cert.PostLastRefIdeal.defs _ _).mono
      (fun r h => ⟨fun c => (h c).2, sem_eq_zero_of_no_sems (by decide) r.2⟩) (Cert.PostLastRefIdeal.Value.run m ρ),
    fun m ρ _ => Cert.Glu.Gen.frame m ρ, fun m ρ _ => Cert.GluIdeal.Gen.frame m ρ,
    fun m ρ _ => (θ_run Cert.GluRefIdeal.defs _ _).mono
      (fun r h => ⟨fun c => (h c).2, sem_eq_zero_of_no_sems (by decide) r.2⟩) (Cert.GluRefIdeal.Value.run m ρ),
    IdealRules.named_const.statement Cert.FoxIdeal.κ "mask" .f32 0xF149F2CA#32 ⊥ rfl, fox,
    trivial, rest, trivial, out, trivial, foxProj,
    trivial, norm, trivial, post, trivial, postLast, trivial, glu⟩

end Cert.Proof

end
